-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ff2Bwd (m : (ℓ : Loc Cert.Ff2Bwd.nD Cert.Ff2Bwd.τ Cert.Ff2Bwd.sig) → Buf (Elt Bits) ℓ) : Prop :=
  True

def Pre_Ff2BwdIdeal (m : (ℓ : Loc Cert.Ff2BwdIdeal.nD Cert.Ff2BwdIdeal.τ Cert.Ff2BwdIdeal.sig) → Buf (Elt Ideal) ℓ) : Prop :=
  True

def Pre_Ff2BwdRefIdeal (m : (ℓ : Loc Cert.Ff2BwdRefIdeal.nD Cert.Ff2BwdRefIdeal.τ Cert.Ff2BwdRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_Ff1Bwd (m : (ℓ : Loc Cert.Ff1Bwd.nD Cert.Ff1Bwd.τ Cert.Ff1Bwd.sig) → Buf (Elt Bits) ℓ) : Prop :=
  True

def Pre_Ff1BwdIdeal (m : (ℓ : Loc Cert.Ff1BwdIdeal.nD Cert.Ff1BwdIdeal.τ Cert.Ff1BwdIdeal.sig) → Buf (Elt Ideal) ℓ) : Prop :=
  True

def Pre_Ff1BwdRefIdeal (m : (ℓ : Loc Cert.Ff1BwdRefIdeal.nD Cert.Ff1BwdRefIdeal.τ Cert.Ff1BwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcRefIdeal (m : (ℓ : Loc Cert.ProjXbcRefIdeal.nD Cert.ProjXbcRefIdeal.τ Cert.ProjXbcRefIdeal.sig) → Buf (Elt Ideal) ℓ) : Prop :=
  True

def Pre_ProjUzdt (m : (ℓ : Loc Cert.ProjUzdt.nD Cert.ProjUzdt.τ Cert.ProjUzdt.sig) → Buf (Elt Bits) ℓ) : Prop :=
  True

def Pre_ProjUzdtIdeal (m : (ℓ : Loc Cert.ProjUzdtIdeal.nD Cert.ProjUzdtIdeal.τ Cert.ProjUzdtIdeal.sig) → Buf (Elt Ideal) ℓ) : Prop :=
  True

def Pre_ProjUzdtRefIdeal (m : (ℓ : Loc Cert.ProjUzdtRefIdeal.nD Cert.ProjUzdtRefIdeal.τ Cert.ProjUzdtRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_rows [hPre_finite_rows : Cert.Pre_finite_rows.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_rows.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_rows [hPre_finite_rows : Cert.Pre_finite_rows.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_rows.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))) = (fun _ => 1#1)

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradRefIdeal (m : (ℓ : Loc Cert.InputGradRefIdeal.nD Cert.InputGradRefIdeal.τ Cert.InputGradRefIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumRefIdeal (m : (ℓ : Loc Cert.ChipSumRefIdeal.nD Cert.ChipSumRefIdeal.τ Cert.ChipSumRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ff2Bwd [hFf2Bwd : Cert.Ff2Bwd.Facts] : Prop :=
  ∀ (m : (ℓ : Loc Cert.Ff2Bwd.nD Cert.Ff2Bwd.τ Cert.Ff2Bwd.sig) → Buf (Elt Bits) ℓ) (g : Dev Cert.Ff2Bwd.nD → PrngReg), Pre_Ff2Bwd m →
    θ_run (Cert.Ff2Bwd.defs (F := Bits)) (onTc (τ := Cert.Ff2Bwd.τ) (Cert.Ff2Bwd.main (F := Bits))) ⟨m, fun _ => 0, g⟩ (fun r => (∀ c : Dev Cert.Ff2Bwd.nD,
      r.2.mem ((c.tc : Thread Cert.Ff2Bwd.nD Cert.Ff2Bwd.τ).loc Cert.Ff2Bwd.main_arg0) = m ((c.tc : Thread Cert.Ff2Bwd.nD Cert.Ff2Bwd.τ).loc Cert.Ff2Bwd.main_arg0)
      ∧ r.2.mem ((c.tc : Thread Cert.Ff2Bwd.nD Cert.Ff2Bwd.τ).loc Cert.Ff2Bwd.main_arg1) = m ((c.tc : Thread Cert.Ff2Bwd.nD Cert.Ff2Bwd.τ).loc Cert.Ff2Bwd.main_arg1)
      ∧ r.2.mem ((c.tc : Thread Cert.Ff2Bwd.nD Cert.Ff2Bwd.τ).loc Cert.Ff2Bwd.main_arg2) = m ((c.tc : Thread Cert.Ff2Bwd.nD Cert.Ff2Bwd.τ).loc Cert.Ff2Bwd.main_arg2))
      ∧ r.2.sem = fun _ => 0)

def quiescent_Ff2BwdIdeal [hFf2BwdIdeal : Cert.Ff2BwdIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg), Pre_Ff2BwdIdeal m →
    θ_run (Cert.Ff2BwdIdeal.defs (F := Ideal)) (onTc (τ := Cert.Ff2BwdIdeal.τ) (Cert.Ff2BwdIdeal.main (F := Ideal))) ⟨m, fun _ => 0, g⟩ (fun r => (∀ c : Dev Cert.Ff2BwdIdeal.nD,
      r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
      ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
      ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ r.2.sem = fun _ => 0)

def quiescent_Ff2BwdRefIdeal [hFf2BwdRefIdeal : Cert.Ff2BwdRefIdeal.Facts] : Prop :=
  ∀ (m : (ℓ : Loc Cert.Ff2BwdRefIdeal.nD Cert.Ff2BwdRefIdeal.τ Cert.Ff2BwdRefIdeal.sig) → Buf (Elt Ideal) ℓ) (g : Dev Cert.Ff2BwdRefIdeal.nD → PrngReg), Pre_Ff2BwdRefIdeal m →
    θ_run (Cert.Ff2BwdRefIdeal.defs (F := Ideal)) (onTc (τ := Cert.Ff2BwdRefIdeal.τ) (Cert.Ff2BwdRefIdeal.main (F := Ideal))) ⟨m, fun _ => 0, g⟩ (fun r => (∀ c : Dev Cert.Ff2BwdRefIdeal.nD,
      r.2.mem ((c.tc : Thread Cert.Ff2BwdRefIdeal.nD Cert.Ff2BwdRefIdeal.τ).loc Cert.Ff2BwdRefIdeal.main_arg0) = m ((c.tc : Thread Cert.Ff2BwdRefIdeal.nD Cert.Ff2BwdRefIdeal.τ).loc Cert.Ff2BwdRefIdeal.main_arg0)
      ∧ r.2.mem ((c.tc : Thread Cert.Ff2BwdRefIdeal.nD Cert.Ff2BwdRefIdeal.τ).loc Cert.Ff2BwdRefIdeal.main_arg1) = m ((c.tc : Thread Cert.Ff2BwdRefIdeal.nD Cert.Ff2BwdRefIdeal.τ).loc Cert.Ff2BwdRefIdeal.main_arg1)
      ∧ r.2.mem ((c.tc : Thread Cert.Ff2BwdRefIdeal.nD Cert.Ff2BwdRefIdeal.τ).loc Cert.Ff2BwdRefIdeal.main_arg2) = m ((c.tc : Thread Cert.Ff2BwdRefIdeal.nD Cert.Ff2BwdRefIdeal.τ).loc Cert.Ff2BwdRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_Ff1Bwd [hFf1Bwd : Cert.Ff1Bwd.Facts] : Prop :=
  ∀ (m : (ℓ : Loc Cert.Ff1Bwd.nD Cert.Ff1Bwd.τ Cert.Ff1Bwd.sig) → Buf (Elt Bits) ℓ) (g : Dev Cert.Ff1Bwd.nD → PrngReg), Pre_Ff1Bwd m →
    θ_run (Cert.Ff1Bwd.defs (F := Bits)) (onTc (τ := Cert.Ff1Bwd.τ) (Cert.Ff1Bwd.main (F := Bits))) ⟨m, fun _ => 0, g⟩ (fun r => (∀ c : Dev Cert.Ff1Bwd.nD,
      r.2.mem ((c.tc : Thread Cert.Ff1Bwd.nD Cert.Ff1Bwd.τ).loc Cert.Ff1Bwd.main_arg0) = m ((c.tc : Thread Cert.Ff1Bwd.nD Cert.Ff1Bwd.τ).loc Cert.Ff1Bwd.main_arg0)
      ∧ r.2.mem ((c.tc : Thread Cert.Ff1Bwd.nD Cert.Ff1Bwd.τ).loc Cert.Ff1Bwd.main_arg1) = m ((c.tc : Thread Cert.Ff1Bwd.nD Cert.Ff1Bwd.τ).loc Cert.Ff1Bwd.main_arg1)
      ∧ r.2.mem ((c.tc : Thread Cert.Ff1Bwd.nD Cert.Ff1Bwd.τ).loc Cert.Ff1Bwd.main_arg2) = m ((c.tc : Thread Cert.Ff1Bwd.nD Cert.Ff1Bwd.τ).loc Cert.Ff1Bwd.main_arg2)
      ∧ r.2.mem ((c.tc : Thread Cert.Ff1Bwd.nD Cert.Ff1Bwd.τ).loc Cert.Ff1Bwd.main_arg3) = m ((c.tc : Thread Cert.Ff1Bwd.nD Cert.Ff1Bwd.τ).loc Cert.Ff1Bwd.main_arg3)
      ∧ r.2.mem ((c.tc : Thread Cert.Ff1Bwd.nD Cert.Ff1Bwd.τ).loc Cert.Ff1Bwd.main_arg4) = m ((c.tc : Thread Cert.Ff1Bwd.nD Cert.Ff1Bwd.τ).loc Cert.Ff1Bwd.main_arg4))
      ∧ r.2.sem = fun _ => 0)

def quiescent_Ff1BwdIdeal [hFf1BwdIdeal : Cert.Ff1BwdIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg), Pre_Ff1BwdIdeal m →
    θ_run (Cert.Ff1BwdIdeal.defs (F := Ideal)) (onTc (τ := Cert.Ff1BwdIdeal.τ) (Cert.Ff1BwdIdeal.main (F := Ideal))) ⟨m, fun _ => 0, g⟩ (fun r => (∀ c : Dev Cert.Ff1BwdIdeal.nD,
      r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
      ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
      ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
      ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3)
      ∧ r.2.mem ((c.tc : Thread Cert.Ff1BwdIdeal.nD Cert.Ff1BwdIdeal.τ).loc Cert.Ff1BwdIdeal.main_arg4) = m ((c.tc : Thread Cert.Ff1BwdIdeal.nD Cert.Ff1BwdIdeal.τ).loc Cert.Ff1BwdIdeal.main_arg4))
      ∧ r.2.sem = fun _ => 0)

def quiescent_Ff1BwdRefIdeal [hFf1BwdRefIdeal : Cert.Ff1BwdRefIdeal.Facts] : Prop :=
  ∀ (m : (ℓ : Loc Cert.Ff1BwdRefIdeal.nD Cert.Ff1BwdRefIdeal.τ Cert.Ff1BwdRefIdeal.sig) → Buf (Elt Ideal) ℓ) (g : Dev Cert.Ff1BwdRefIdeal.nD → PrngReg), Pre_Ff1BwdRefIdeal m →
    θ_run (Cert.Ff1BwdRefIdeal.defs (F := Ideal)) (onTc (τ := Cert.Ff1BwdRefIdeal.τ) (Cert.Ff1BwdRefIdeal.main (F := Ideal))) ⟨m, fun _ => 0, g⟩ (fun r => (∀ c : Dev Cert.Ff1BwdRefIdeal.nD,
      r.2.mem ((c.tc : Thread Cert.Ff1BwdRefIdeal.nD Cert.Ff1BwdRefIdeal.τ).loc Cert.Ff1BwdRefIdeal.main_arg0) = m ((c.tc : Thread Cert.Ff1BwdRefIdeal.nD Cert.Ff1BwdRefIdeal.τ).loc Cert.Ff1BwdRefIdeal.main_arg0)
      ∧ r.2.mem ((c.tc : Thread Cert.Ff1BwdRefIdeal.nD Cert.Ff1BwdRefIdeal.τ).loc Cert.Ff1BwdRefIdeal.main_arg1) = m ((c.tc : Thread Cert.Ff1BwdRefIdeal.nD Cert.Ff1BwdRefIdeal.τ).loc Cert.Ff1BwdRefIdeal.main_arg1)
      ∧ r.2.mem ((c.tc : Thread Cert.Ff1BwdRefIdeal.nD Cert.Ff1BwdRefIdeal.τ).loc Cert.Ff1BwdRefIdeal.main_arg2) = m ((c.tc : Thread Cert.Ff1BwdRefIdeal.nD Cert.Ff1BwdRefIdeal.τ).loc Cert.Ff1BwdRefIdeal.main_arg2)
      ∧ r.2.mem ((c.tc : Thread Cert.Ff1BwdRefIdeal.nD Cert.Ff1BwdRefIdeal.τ).loc Cert.Ff1BwdRefIdeal.main_arg3) = m ((c.tc : Thread Cert.Ff1BwdRefIdeal.nD Cert.Ff1BwdRefIdeal.τ).loc Cert.Ff1BwdRefIdeal.main_arg3)
      ∧ r.2.mem ((c.tc : Thread Cert.Ff1BwdRefIdeal.nD Cert.Ff1BwdRefIdeal.τ).loc Cert.Ff1BwdRefIdeal.main_arg4) = m ((c.tc : Thread Cert.Ff1BwdRefIdeal.nD Cert.Ff1BwdRefIdeal.τ).loc Cert.Ff1BwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1)
      ∧ r.2.mem ((c.tc : Thread Cert.ProjXbc.nD Cert.ProjXbc.τ).loc Cert.ProjXbc.main_arg2) = m ((c.tc : Thread Cert.ProjXbc.nD Cert.ProjXbc.τ).loc Cert.ProjXbc.main_arg2)
      ∧ r.2.mem ((c.tc : Thread Cert.ProjXbc.nD Cert.ProjXbc.τ).loc Cert.ProjXbc.main_arg3) = m ((c.tc : Thread Cert.ProjXbc.nD Cert.ProjXbc.τ).loc Cert.ProjXbc.main_arg3))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1)
      ∧ r.2.mem ((c.tc : Thread Cert.ProjXbcIdeal.nD Cert.ProjXbcIdeal.τ).loc Cert.ProjXbcIdeal.main_arg2) = m ((c.tc : Thread Cert.ProjXbcIdeal.nD Cert.ProjXbcIdeal.τ).loc Cert.ProjXbcIdeal.main_arg2)
      ∧ r.2.mem ((c.tc : Thread Cert.ProjXbcIdeal.nD Cert.ProjXbcIdeal.τ).loc Cert.ProjXbcIdeal.main_arg3) = m ((c.tc : Thread Cert.ProjXbcIdeal.nD Cert.ProjXbcIdeal.τ).loc Cert.ProjXbcIdeal.main_arg3))
      ∧ r.2.sem = fun _ => 0)

def quiescent_ProjXbcRefIdeal [hProjXbcRefIdeal : Cert.ProjXbcRefIdeal.Facts] : Prop :=
  ∀ (m : (ℓ : Loc Cert.ProjXbcRefIdeal.nD Cert.ProjXbcRefIdeal.τ Cert.ProjXbcRefIdeal.sig) → Buf (Elt Ideal) ℓ) (g : Dev Cert.ProjXbcRefIdeal.nD → PrngReg), Pre_ProjXbcRefIdeal m →
    θ_run (Cert.ProjXbcRefIdeal.defs (F := Ideal)) (onTc (τ := Cert.ProjXbcRefIdeal.τ) (Cert.ProjXbcRefIdeal.main (F := Ideal))) ⟨m, fun _ => 0, g⟩ (fun r => (∀ c : Dev Cert.ProjXbcRefIdeal.nD,
      r.2.mem ((c.tc : Thread Cert.ProjXbcRefIdeal.nD Cert.ProjXbcRefIdeal.τ).loc Cert.ProjXbcRefIdeal.main_arg0) = m ((c.tc : Thread Cert.ProjXbcRefIdeal.nD Cert.ProjXbcRefIdeal.τ).loc Cert.ProjXbcRefIdeal.main_arg0)
      ∧ r.2.mem ((c.tc : Thread Cert.ProjXbcRefIdeal.nD Cert.ProjXbcRefIdeal.τ).loc Cert.ProjXbcRefIdeal.main_arg1) = m ((c.tc : Thread Cert.ProjXbcRefIdeal.nD Cert.ProjXbcRefIdeal.τ).loc Cert.ProjXbcRefIdeal.main_arg1)
      ∧ r.2.mem ((c.tc : Thread Cert.ProjXbcRefIdeal.nD Cert.ProjXbcRefIdeal.τ).loc Cert.ProjXbcRefIdeal.main_arg2) = m ((c.tc : Thread Cert.ProjXbcRefIdeal.nD Cert.ProjXbcRefIdeal.τ).loc Cert.ProjXbcRefIdeal.main_arg2)
      ∧ r.2.mem ((c.tc : Thread Cert.ProjXbcRefIdeal.nD Cert.ProjXbcRefIdeal.τ).loc Cert.ProjXbcRefIdeal.main_arg3) = m ((c.tc : Thread Cert.ProjXbcRefIdeal.nD Cert.ProjXbcRefIdeal.τ).loc Cert.ProjXbcRefIdeal.main_arg3))
      ∧ r.2.sem = fun _ => 0)

def quiescent_ProjUzdt [hProjUzdt : Cert.ProjUzdt.Facts] : Prop :=
  ∀ (m : (ℓ : Loc Cert.ProjUzdt.nD Cert.ProjUzdt.τ Cert.ProjUzdt.sig) → Buf (Elt Bits) ℓ) (g : Dev Cert.ProjUzdt.nD → PrngReg), Pre_ProjUzdt m →
    θ_run (Cert.ProjUzdt.defs (F := Bits)) (onTc (τ := Cert.ProjUzdt.τ) (Cert.ProjUzdt.main (F := Bits))) ⟨m, fun _ => 0, g⟩ (fun r => (∀ c : Dev Cert.ProjUzdt.nD,
      r.2.mem ((c.tc : Thread Cert.ProjUzdt.nD Cert.ProjUzdt.τ).loc Cert.ProjUzdt.main_arg0) = m ((c.tc : Thread Cert.ProjUzdt.nD Cert.ProjUzdt.τ).loc Cert.ProjUzdt.main_arg0)
      ∧ r.2.mem ((c.tc : Thread Cert.ProjUzdt.nD Cert.ProjUzdt.τ).loc Cert.ProjUzdt.main_arg1) = m ((c.tc : Thread Cert.ProjUzdt.nD Cert.ProjUzdt.τ).loc Cert.ProjUzdt.main_arg1)
      ∧ r.2.mem ((c.tc : Thread Cert.ProjUzdt.nD Cert.ProjUzdt.τ).loc Cert.ProjUzdt.main_arg2) = m ((c.tc : Thread Cert.ProjUzdt.nD Cert.ProjUzdt.τ).loc Cert.ProjUzdt.main_arg2)
      ∧ r.2.mem ((c.tc : Thread Cert.ProjUzdt.nD Cert.ProjUzdt.τ).loc Cert.ProjUzdt.main_arg3) = m ((c.tc : Thread Cert.ProjUzdt.nD Cert.ProjUzdt.τ).loc Cert.ProjUzdt.main_arg3)
      ∧ r.2.mem ((c.tc : Thread Cert.ProjUzdt.nD Cert.ProjUzdt.τ).loc Cert.ProjUzdt.main_arg4) = m ((c.tc : Thread Cert.ProjUzdt.nD Cert.ProjUzdt.τ).loc Cert.ProjUzdt.main_arg4)
      ∧ r.2.mem ((c.tc : Thread Cert.ProjUzdt.nD Cert.ProjUzdt.τ).loc Cert.ProjUzdt.main_arg5) = m ((c.tc : Thread Cert.ProjUzdt.nD Cert.ProjUzdt.τ).loc Cert.ProjUzdt.main_arg5))
      ∧ r.2.sem = fun _ => 0)

def quiescent_ProjUzdtIdeal [hProjUzdtIdeal : Cert.ProjUzdtIdeal.Facts] : Prop :=
  ∀ (m : (ℓ : Loc Cert.ProjUzdtIdeal.nD Cert.ProjUzdtIdeal.τ Cert.ProjUzdtIdeal.sig) → Buf (Elt Ideal) ℓ) (g : Dev Cert.ProjUzdtIdeal.nD → PrngReg), Pre_ProjUzdtIdeal m →
    θ_run (Cert.ProjUzdtIdeal.defs (F := Ideal)) (onTc (τ := Cert.ProjUzdtIdeal.τ) (Cert.ProjUzdtIdeal.main (F := Ideal))) ⟨m, fun _ => 0, g⟩ (fun r => (∀ c : Dev Cert.ProjUzdtIdeal.nD,
      r.2.mem ((c.tc : Thread Cert.ProjUzdtIdeal.nD Cert.ProjUzdtIdeal.τ).loc Cert.ProjUzdtIdeal.main_arg0) = m ((c.tc : Thread Cert.ProjUzdtIdeal.nD Cert.ProjUzdtIdeal.τ).loc Cert.ProjUzdtIdeal.main_arg0)
      ∧ r.2.mem ((c.tc : Thread Cert.ProjUzdtIdeal.nD Cert.ProjUzdtIdeal.τ).loc Cert.ProjUzdtIdeal.main_arg1) = m ((c.tc : Thread Cert.ProjUzdtIdeal.nD Cert.ProjUzdtIdeal.τ).loc Cert.ProjUzdtIdeal.main_arg1)
      ∧ r.2.mem ((c.tc : Thread Cert.ProjUzdtIdeal.nD Cert.ProjUzdtIdeal.τ).loc Cert.ProjUzdtIdeal.main_arg2) = m ((c.tc : Thread Cert.ProjUzdtIdeal.nD Cert.ProjUzdtIdeal.τ).loc Cert.ProjUzdtIdeal.main_arg2)
      ∧ r.2.mem ((c.tc : Thread Cert.ProjUzdtIdeal.nD Cert.ProjUzdtIdeal.τ).loc Cert.ProjUzdtIdeal.main_arg3) = m ((c.tc : Thread Cert.ProjUzdtIdeal.nD Cert.ProjUzdtIdeal.τ).loc Cert.ProjUzdtIdeal.main_arg3)
      ∧ r.2.mem ((c.tc : Thread Cert.ProjUzdtIdeal.nD Cert.ProjUzdtIdeal.τ).loc Cert.ProjUzdtIdeal.main_arg4) = m ((c.tc : Thread Cert.ProjUzdtIdeal.nD Cert.ProjUzdtIdeal.τ).loc Cert.ProjUzdtIdeal.main_arg4)
      ∧ r.2.mem ((c.tc : Thread Cert.ProjUzdtIdeal.nD Cert.ProjUzdtIdeal.τ).loc Cert.ProjUzdtIdeal.main_arg5) = m ((c.tc : Thread Cert.ProjUzdtIdeal.nD Cert.ProjUzdtIdeal.τ).loc Cert.ProjUzdtIdeal.main_arg5))
      ∧ r.2.sem = fun _ => 0)

def quiescent_ProjUzdtRefIdeal [hProjUzdtRefIdeal : Cert.ProjUzdtRefIdeal.Facts] : Prop :=
  ∀ (m : (ℓ : Loc Cert.ProjUzdtRefIdeal.nD Cert.ProjUzdtRefIdeal.τ Cert.ProjUzdtRefIdeal.sig) → Buf (Elt Ideal) ℓ) (g : Dev Cert.ProjUzdtRefIdeal.nD → PrngReg), Pre_ProjUzdtRefIdeal m →
    θ_run (Cert.ProjUzdtRefIdeal.defs (F := Ideal)) (onTc (τ := Cert.ProjUzdtRefIdeal.τ) (Cert.ProjUzdtRefIdeal.main (F := Ideal))) ⟨m, fun _ => 0, g⟩ (fun r => (∀ c : Dev Cert.ProjUzdtRefIdeal.nD,
      r.2.mem ((c.tc : Thread Cert.ProjUzdtRefIdeal.nD Cert.ProjUzdtRefIdeal.τ).loc Cert.ProjUzdtRefIdeal.main_arg0) = m ((c.tc : Thread Cert.ProjUzdtRefIdeal.nD Cert.ProjUzdtRefIdeal.τ).loc Cert.ProjUzdtRefIdeal.main_arg0)
      ∧ r.2.mem ((c.tc : Thread Cert.ProjUzdtRefIdeal.nD Cert.ProjUzdtRefIdeal.τ).loc Cert.ProjUzdtRefIdeal.main_arg1) = m ((c.tc : Thread Cert.ProjUzdtRefIdeal.nD Cert.ProjUzdtRefIdeal.τ).loc Cert.ProjUzdtRefIdeal.main_arg1)
      ∧ r.2.mem ((c.tc : Thread Cert.ProjUzdtRefIdeal.nD Cert.ProjUzdtRefIdeal.τ).loc Cert.ProjUzdtRefIdeal.main_arg2) = m ((c.tc : Thread Cert.ProjUzdtRefIdeal.nD Cert.ProjUzdtRefIdeal.τ).loc Cert.ProjUzdtRefIdeal.main_arg2)
      ∧ r.2.mem ((c.tc : Thread Cert.ProjUzdtRefIdeal.nD Cert.ProjUzdtRefIdeal.τ).loc Cert.ProjUzdtRefIdeal.main_arg3) = m ((c.tc : Thread Cert.ProjUzdtRefIdeal.nD Cert.ProjUzdtRefIdeal.τ).loc Cert.ProjUzdtRefIdeal.main_arg3)
      ∧ r.2.mem ((c.tc : Thread Cert.ProjUzdtRefIdeal.nD Cert.ProjUzdtRefIdeal.τ).loc Cert.ProjUzdtRefIdeal.main_arg4) = m ((c.tc : Thread Cert.ProjUzdtRefIdeal.nD Cert.ProjUzdtRefIdeal.τ).loc Cert.ProjUzdtRefIdeal.main_arg4)
      ∧ r.2.mem ((c.tc : Thread Cert.ProjUzdtRefIdeal.nD Cert.ProjUzdtRefIdeal.τ).loc Cert.ProjUzdtRefIdeal.main_arg5) = m ((c.tc : Thread Cert.ProjUzdtRefIdeal.nD Cert.ProjUzdtRefIdeal.τ).loc Cert.ProjUzdtRefIdeal.main_arg5))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_finite_rows [hPoolFwdIdeal : Cert.PoolFwdIdeal.Facts] [hPre_finite_rows : Cert.Pre_finite_rows.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_rows m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_finite_rows [hPoolFwdRefIdeal : Cert.PoolFwdRefIdeal.Facts] [hPre_finite_rows : Cert.Pre_finite_rows.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_rows m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2)
      ∧ r.2.mem ((c.tc : Thread Cert.InputGrad.nD Cert.InputGrad.τ).loc Cert.InputGrad.main_arg3) = m ((c.tc : Thread Cert.InputGrad.nD Cert.InputGrad.τ).loc Cert.InputGrad.main_arg3))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
      ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ r.2.sem = fun _ => 0)

def quiescent_InputGradRefIdeal [hInputGradRefIdeal : Cert.InputGradRefIdeal.Facts] : Prop :=
  ∀ (m : (ℓ : Loc Cert.InputGradRefIdeal.nD Cert.InputGradRefIdeal.τ Cert.InputGradRefIdeal.sig) → Buf (Elt Ideal) ℓ) (g : Dev Cert.InputGradRefIdeal.nD → PrngReg), Pre_InputGradRefIdeal m →
    θ_run (Cert.InputGradRefIdeal.defs (F := Ideal)) (onTc (τ := Cert.InputGradRefIdeal.τ) (Cert.InputGradRefIdeal.main (F := Ideal))) ⟨m, fun _ => 0, g⟩ (fun r => (∀ c : Dev Cert.InputGradRefIdeal.nD,
      r.2.mem ((c.tc : Thread Cert.InputGradRefIdeal.nD Cert.InputGradRefIdeal.τ).loc Cert.InputGradRefIdeal.main_arg0) = m ((c.tc : Thread Cert.InputGradRefIdeal.nD Cert.InputGradRefIdeal.τ).loc Cert.InputGradRefIdeal.main_arg0)
      ∧ r.2.mem ((c.tc : Thread Cert.InputGradRefIdeal.nD Cert.InputGradRefIdeal.τ).loc Cert.InputGradRefIdeal.main_arg1) = m ((c.tc : Thread Cert.InputGradRefIdeal.nD Cert.InputGradRefIdeal.τ).loc Cert.InputGradRefIdeal.main_arg1)
      ∧ r.2.mem ((c.tc : Thread Cert.InputGradRefIdeal.nD Cert.InputGradRefIdeal.τ).loc Cert.InputGradRefIdeal.main_arg2) = m ((c.tc : Thread Cert.InputGradRefIdeal.nD Cert.InputGradRefIdeal.τ).loc Cert.InputGradRefIdeal.main_arg2)
      ∧ r.2.mem ((c.tc : Thread Cert.InputGradRefIdeal.nD Cert.InputGradRefIdeal.τ).loc Cert.InputGradRefIdeal.main_arg3) = m ((c.tc : Thread Cert.InputGradRefIdeal.nD Cert.InputGradRefIdeal.τ).loc Cert.InputGradRefIdeal.main_arg3))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumRefIdeal [hChipSumRefIdeal : Cert.ChipSumRefIdeal.Facts] : Prop :=
  ∀ (m : (ℓ : Loc Cert.ChipSumRefIdeal.nD Cert.ChipSumRefIdeal.τ Cert.ChipSumRefIdeal.sig) → Buf (Elt Ideal) ℓ) (g : Dev Cert.ChipSumRefIdeal.nD → PrngReg), Pre_ChipSumRefIdeal m →
    θ_run (Cert.ChipSumRefIdeal.defs (F := Ideal)) (onTc (τ := Cert.ChipSumRefIdeal.τ) (Cert.ChipSumRefIdeal.main (F := Ideal))) ⟨m, fun _ => 0, g⟩ (fun r => (∀ c : Dev Cert.ChipSumRefIdeal.nD,
      r.2.mem ((c.tc : Thread Cert.ChipSumRefIdeal.nD Cert.ChipSumRefIdeal.τ).loc Cert.ChipSumRefIdeal.main_arg0) = m ((c.tc : Thread Cert.ChipSumRefIdeal.nD Cert.ChipSumRefIdeal.τ).loc Cert.ChipSumRefIdeal.main_arg0))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ff2Bwd_Ff2BwdIdeal : Prop :=
  True

def algebraic_Ff2BwdIdeal_Ff2BwdRefIdeal [hFf2BwdIdeal : Cert.Ff2BwdIdeal.Facts] [hFf2BwdRefIdeal : Cert.Ff2BwdRefIdeal.Facts] : Prop :=
  ∀ (m : (ℓ : Loc Cert.Ff2BwdIdeal.nD Cert.Ff2BwdIdeal.τ Cert.Ff2BwdIdeal.sig) → Buf (Elt Ideal) ℓ) (g : Dev Cert.Ff2BwdIdeal.nD → PrngReg)
    (m' : (ℓ : Loc Cert.Ff2BwdRefIdeal.nD Cert.Ff2BwdRefIdeal.τ Cert.Ff2BwdRefIdeal.sig) → Buf (Elt Ideal) ℓ) (g' : Dev Cert.Ff2BwdRefIdeal.nD → PrngReg), Pre_Ff2BwdIdeal m →
    (∀ c : Dev Cert.Ff2BwdIdeal.nD,
      m' ((c.tc : Thread Cert.Ff2BwdRefIdeal.nD Cert.Ff2BwdRefIdeal.τ).loc Cert.Ff2BwdRefIdeal.main_arg0) = m ((c.tc : Thread Cert.Ff2BwdIdeal.nD Cert.Ff2BwdIdeal.τ).loc Cert.Ff2BwdIdeal.main_arg0)
      ∧ m' ((c.tc : Thread Cert.Ff2BwdRefIdeal.nD Cert.Ff2BwdRefIdeal.τ).loc Cert.Ff2BwdRefIdeal.main_arg1) = m ((c.tc : Thread Cert.Ff2BwdIdeal.nD Cert.Ff2BwdIdeal.τ).loc Cert.Ff2BwdIdeal.main_arg1)
      ∧ m' ((c.tc : Thread Cert.Ff2BwdRefIdeal.nD Cert.Ff2BwdRefIdeal.τ).loc Cert.Ff2BwdRefIdeal.main_arg2) = m ((c.tc : Thread Cert.Ff2BwdIdeal.nD Cert.Ff2BwdIdeal.τ).loc Cert.Ff2BwdIdeal.main_arg2)) →
    ∃ (v0 : (c : Dev Cert.Ff2BwdIdeal.nD) → Buf (Elt Ideal) ((c.tc : Thread Cert.Ff2BwdIdeal.nD Cert.Ff2BwdIdeal.τ).loc Cert.Ff2BwdIdeal.main_v0)),
      θ_run (Cert.Ff2BwdIdeal.defs (F := Ideal)) (onTc (τ := Cert.Ff2BwdIdeal.τ) (Cert.Ff2BwdIdeal.main (F := Ideal))) ⟨m, fun _ => 0, g⟩ (fun r => ∀ c : Dev Cert.Ff2BwdIdeal.nD,
          r.2.mem ((c.tc : Thread Cert.Ff2BwdIdeal.nD Cert.Ff2BwdIdeal.τ).loc Cert.Ff2BwdIdeal.main_v0) = v0 c
          ∧ r.2.mem ((c.tc : Thread Cert.Ff2BwdIdeal.nD Cert.Ff2BwdIdeal.τ).loc Cert.Ff2BwdIdeal.main_arg0) = m ((c.tc : Thread Cert.Ff2BwdIdeal.nD Cert.Ff2BwdIdeal.τ).loc Cert.Ff2BwdIdeal.main_arg0)
          ∧ r.2.mem ((c.tc : Thread Cert.Ff2BwdIdeal.nD Cert.Ff2BwdIdeal.τ).loc Cert.Ff2BwdIdeal.main_arg1) = m ((c.tc : Thread Cert.Ff2BwdIdeal.nD Cert.Ff2BwdIdeal.τ).loc Cert.Ff2BwdIdeal.main_arg1)
          ∧ r.2.mem ((c.tc : Thread Cert.Ff2BwdIdeal.nD Cert.Ff2BwdIdeal.τ).loc Cert.Ff2BwdIdeal.main_arg2) = m ((c.tc : Thread Cert.Ff2BwdIdeal.nD Cert.Ff2BwdIdeal.τ).loc Cert.Ff2BwdIdeal.main_arg2))
      ∧ θ_run (Cert.Ff2BwdRefIdeal.defs (F := Ideal)) (onTc (τ := Cert.Ff2BwdRefIdeal.τ) (Cert.Ff2BwdRefIdeal.main (F := Ideal))) ⟨m', fun _ => 0, g'⟩ (fun r => ∀ c : Dev Cert.Ff2BwdRefIdeal.nD,
          r.2.mem ((c.tc : Thread Cert.Ff2BwdRefIdeal.nD Cert.Ff2BwdRefIdeal.τ).loc Cert.Ff2BwdRefIdeal.main_v15) = v0 c
          ∧ r.2.mem ((c.tc : Thread Cert.Ff2BwdRefIdeal.nD Cert.Ff2BwdRefIdeal.τ).loc Cert.Ff2BwdRefIdeal.main_arg0) = m' ((c.tc : Thread Cert.Ff2BwdRefIdeal.nD Cert.Ff2BwdRefIdeal.τ).loc Cert.Ff2BwdRefIdeal.main_arg0)
          ∧ r.2.mem ((c.tc : Thread Cert.Ff2BwdRefIdeal.nD Cert.Ff2BwdRefIdeal.τ).loc Cert.Ff2BwdRefIdeal.main_arg1) = m' ((c.tc : Thread Cert.Ff2BwdRefIdeal.nD Cert.Ff2BwdRefIdeal.τ).loc Cert.Ff2BwdRefIdeal.main_arg1)
          ∧ r.2.mem ((c.tc : Thread Cert.Ff2BwdRefIdeal.nD Cert.Ff2BwdRefIdeal.τ).loc Cert.Ff2BwdRefIdeal.main_arg2) = m' ((c.tc : Thread Cert.Ff2BwdRefIdeal.nD Cert.Ff2BwdRefIdeal.τ).loc Cert.Ff2BwdRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v8) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v10) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_Ff1Bwd_Ff1BwdIdeal : Prop :=
  True

def algebraic_Ff1BwdIdeal_Ff1BwdRefIdeal [hFf1BwdIdeal : Cert.Ff1BwdIdeal.Facts] [hFf1BwdRefIdeal : Cert.Ff1BwdRefIdeal.Facts] : Prop :=
  ∀ (m : (ℓ : Loc Cert.Ff1BwdIdeal.nD Cert.Ff1BwdIdeal.τ Cert.Ff1BwdIdeal.sig) → Buf (Elt Ideal) ℓ) (g : Dev Cert.Ff1BwdIdeal.nD → PrngReg)
    (m' : (ℓ : Loc Cert.Ff1BwdRefIdeal.nD Cert.Ff1BwdRefIdeal.τ Cert.Ff1BwdRefIdeal.sig) → Buf (Elt Ideal) ℓ) (g' : Dev Cert.Ff1BwdRefIdeal.nD → PrngReg), Pre_Ff1BwdIdeal m →
    (∀ c : Dev Cert.Ff1BwdIdeal.nD,
      m' ((c.tc : Thread Cert.Ff1BwdRefIdeal.nD Cert.Ff1BwdRefIdeal.τ).loc Cert.Ff1BwdRefIdeal.main_arg0) = m ((c.tc : Thread Cert.Ff1BwdIdeal.nD Cert.Ff1BwdIdeal.τ).loc Cert.Ff1BwdIdeal.main_arg0)
      ∧ m' ((c.tc : Thread Cert.Ff1BwdRefIdeal.nD Cert.Ff1BwdRefIdeal.τ).loc Cert.Ff1BwdRefIdeal.main_arg1) = m ((c.tc : Thread Cert.Ff1BwdIdeal.nD Cert.Ff1BwdIdeal.τ).loc Cert.Ff1BwdIdeal.main_arg1)
      ∧ m' ((c.tc : Thread Cert.Ff1BwdRefIdeal.nD Cert.Ff1BwdRefIdeal.τ).loc Cert.Ff1BwdRefIdeal.main_arg2) = m ((c.tc : Thread Cert.Ff1BwdIdeal.nD Cert.Ff1BwdIdeal.τ).loc Cert.Ff1BwdIdeal.main_arg2)
      ∧ m' ((c.tc : Thread Cert.Ff1BwdRefIdeal.nD Cert.Ff1BwdRefIdeal.τ).loc Cert.Ff1BwdRefIdeal.main_arg3) = m ((c.tc : Thread Cert.Ff1BwdIdeal.nD Cert.Ff1BwdIdeal.τ).loc Cert.Ff1BwdIdeal.main_arg3)
      ∧ m' ((c.tc : Thread Cert.Ff1BwdRefIdeal.nD Cert.Ff1BwdRefIdeal.τ).loc Cert.Ff1BwdRefIdeal.main_arg4) = m ((c.tc : Thread Cert.Ff1BwdIdeal.nD Cert.Ff1BwdIdeal.τ).loc Cert.Ff1BwdIdeal.main_arg4)) →
    ∃ (v0 : (c : Dev Cert.Ff1BwdIdeal.nD) → Buf (Elt Ideal) ((c.tc : Thread Cert.Ff1BwdIdeal.nD Cert.Ff1BwdIdeal.τ).loc Cert.Ff1BwdIdeal.main_v0_0)) (v1 : (c : Dev Cert.Ff1BwdIdeal.nD) → Buf (Elt Ideal) ((c.tc : Thread Cert.Ff1BwdIdeal.nD Cert.Ff1BwdIdeal.τ).loc Cert.Ff1BwdIdeal.main_v0_1)) (v2 : (c : Dev Cert.Ff1BwdIdeal.nD) → Buf (Elt Ideal) ((c.tc : Thread Cert.Ff1BwdIdeal.nD Cert.Ff1BwdIdeal.τ).loc Cert.Ff1BwdIdeal.main_v0_2)),
      θ_run (Cert.Ff1BwdIdeal.defs (F := Ideal)) (onTc (τ := Cert.Ff1BwdIdeal.τ) (Cert.Ff1BwdIdeal.main (F := Ideal))) ⟨m, fun _ => 0, g⟩ (fun r => ∀ c : Dev Cert.Ff1BwdIdeal.nD,
          r.2.mem ((c.tc : Thread Cert.Ff1BwdIdeal.nD Cert.Ff1BwdIdeal.τ).loc Cert.Ff1BwdIdeal.main_v0_0) = v0 c
          ∧ r.2.mem ((c.tc : Thread Cert.Ff1BwdIdeal.nD Cert.Ff1BwdIdeal.τ).loc Cert.Ff1BwdIdeal.main_v0_1) = v1 c
          ∧ r.2.mem ((c.tc : Thread Cert.Ff1BwdIdeal.nD Cert.Ff1BwdIdeal.τ).loc Cert.Ff1BwdIdeal.main_v0_2) = v2 c
          ∧ r.2.mem ((c.tc : Thread Cert.Ff1BwdIdeal.nD Cert.Ff1BwdIdeal.τ).loc Cert.Ff1BwdIdeal.main_arg0) = m ((c.tc : Thread Cert.Ff1BwdIdeal.nD Cert.Ff1BwdIdeal.τ).loc Cert.Ff1BwdIdeal.main_arg0)
          ∧ r.2.mem ((c.tc : Thread Cert.Ff1BwdIdeal.nD Cert.Ff1BwdIdeal.τ).loc Cert.Ff1BwdIdeal.main_arg1) = m ((c.tc : Thread Cert.Ff1BwdIdeal.nD Cert.Ff1BwdIdeal.τ).loc Cert.Ff1BwdIdeal.main_arg1)
          ∧ r.2.mem ((c.tc : Thread Cert.Ff1BwdIdeal.nD Cert.Ff1BwdIdeal.τ).loc Cert.Ff1BwdIdeal.main_arg2) = m ((c.tc : Thread Cert.Ff1BwdIdeal.nD Cert.Ff1BwdIdeal.τ).loc Cert.Ff1BwdIdeal.main_arg2)
          ∧ r.2.mem ((c.tc : Thread Cert.Ff1BwdIdeal.nD Cert.Ff1BwdIdeal.τ).loc Cert.Ff1BwdIdeal.main_arg3) = m ((c.tc : Thread Cert.Ff1BwdIdeal.nD Cert.Ff1BwdIdeal.τ).loc Cert.Ff1BwdIdeal.main_arg3)
          ∧ r.2.mem ((c.tc : Thread Cert.Ff1BwdIdeal.nD Cert.Ff1BwdIdeal.τ).loc Cert.Ff1BwdIdeal.main_arg4) = m ((c.tc : Thread Cert.Ff1BwdIdeal.nD Cert.Ff1BwdIdeal.τ).loc Cert.Ff1BwdIdeal.main_arg4))
      ∧ θ_run (Cert.Ff1BwdRefIdeal.defs (F := Ideal)) (onTc (τ := Cert.Ff1BwdRefIdeal.τ) (Cert.Ff1BwdRefIdeal.main (F := Ideal))) ⟨m', fun _ => 0, g'⟩ (fun r => ∀ c : Dev Cert.Ff1BwdRefIdeal.nD,
          r.2.mem ((c.tc : Thread Cert.Ff1BwdRefIdeal.nD Cert.Ff1BwdRefIdeal.τ).loc Cert.Ff1BwdRefIdeal.main_v43) = v0 c
          ∧ r.2.mem ((c.tc : Thread Cert.Ff1BwdRefIdeal.nD Cert.Ff1BwdRefIdeal.τ).loc Cert.Ff1BwdRefIdeal.main_v45) = v1 c
          ∧ r.2.mem ((c.tc : Thread Cert.Ff1BwdRefIdeal.nD Cert.Ff1BwdRefIdeal.τ).loc Cert.Ff1BwdRefIdeal.main_v44) = v2 c
          ∧ r.2.mem ((c.tc : Thread Cert.Ff1BwdRefIdeal.nD Cert.Ff1BwdRefIdeal.τ).loc Cert.Ff1BwdRefIdeal.main_arg0) = m' ((c.tc : Thread Cert.Ff1BwdRefIdeal.nD Cert.Ff1BwdRefIdeal.τ).loc Cert.Ff1BwdRefIdeal.main_arg0)
          ∧ r.2.mem ((c.tc : Thread Cert.Ff1BwdRefIdeal.nD Cert.Ff1BwdRefIdeal.τ).loc Cert.Ff1BwdRefIdeal.main_arg1) = m' ((c.tc : Thread Cert.Ff1BwdRefIdeal.nD Cert.Ff1BwdRefIdeal.τ).loc Cert.Ff1BwdRefIdeal.main_arg1)
          ∧ r.2.mem ((c.tc : Thread Cert.Ff1BwdRefIdeal.nD Cert.Ff1BwdRefIdeal.τ).loc Cert.Ff1BwdRefIdeal.main_arg2) = m' ((c.tc : Thread Cert.Ff1BwdRefIdeal.nD Cert.Ff1BwdRefIdeal.τ).loc Cert.Ff1BwdRefIdeal.main_arg2)
          ∧ r.2.mem ((c.tc : Thread Cert.Ff1BwdRefIdeal.nD Cert.Ff1BwdRefIdeal.τ).loc Cert.Ff1BwdRefIdeal.main_arg3) = m' ((c.tc : Thread Cert.Ff1BwdRefIdeal.nD Cert.Ff1BwdRefIdeal.τ).loc Cert.Ff1BwdRefIdeal.main_arg3)
          ∧ r.2.mem ((c.tc : Thread Cert.Ff1BwdRefIdeal.nD Cert.Ff1BwdRefIdeal.τ).loc Cert.Ff1BwdRefIdeal.main_arg4) = m' ((c.tc : Thread Cert.Ff1BwdRefIdeal.nD Cert.Ff1BwdRefIdeal.τ).loc Cert.Ff1BwdRefIdeal.main_arg4))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v2_0)) (v1 : (c : Dev Cert.OutBwdIdeal.nD) → Buf (Elt Ideal) ((c.tc : Thread Cert.OutBwdIdeal.nD Cert.OutBwdIdeal.τ).loc Cert.OutBwdIdeal.main_v2_1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v2_0) = v0 c
          ∧ r.2.mem ((c.tc : Thread Cert.OutBwdIdeal.nD Cert.OutBwdIdeal.τ).loc Cert.OutBwdIdeal.main_v2_1) = v1 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v7) = v0 c
          ∧ r.2.mem ((c.tc : Thread Cert.OutBwdRefIdeal.nD Cert.OutBwdRefIdeal.τ).loc Cert.OutBwdRefIdeal.main_v8) = v1 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v8) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v15) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v5) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_ProjXbc_ProjXbcIdeal : Prop :=
  True

def algebraic_ProjXbcIdeal_ProjXbcRefIdeal [hProjXbcIdeal : Cert.ProjXbcIdeal.Facts] [hProjXbcRefIdeal : Cert.ProjXbcRefIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcRefIdeal.nD Cert.ProjXbcRefIdeal.τ Cert.ProjXbcRefIdeal.sig) → Buf (Elt Ideal) ℓ) (g' : Dev Cert.ProjXbcRefIdeal.nD → PrngReg), Pre_ProjXbcIdeal m →
    (∀ c : Dev Cert.ProjXbcIdeal.nD,
      m' ((c.tc : Thread Cert.ProjXbcRefIdeal.nD Cert.ProjXbcRefIdeal.τ).loc Cert.ProjXbcRefIdeal.main_arg0) = m ((c.tc : Thread Cert.ProjXbcIdeal.nD Cert.ProjXbcIdeal.τ).loc Cert.ProjXbcIdeal.main_arg0)
      ∧ m' ((c.tc : Thread Cert.ProjXbcRefIdeal.nD Cert.ProjXbcRefIdeal.τ).loc Cert.ProjXbcRefIdeal.main_arg1) = m ((c.tc : Thread Cert.ProjXbcIdeal.nD Cert.ProjXbcIdeal.τ).loc Cert.ProjXbcIdeal.main_arg1)
      ∧ m' ((c.tc : Thread Cert.ProjXbcRefIdeal.nD Cert.ProjXbcRefIdeal.τ).loc Cert.ProjXbcRefIdeal.main_arg2) = m ((c.tc : Thread Cert.ProjXbcIdeal.nD Cert.ProjXbcIdeal.τ).loc Cert.ProjXbcIdeal.main_arg2)
      ∧ m' ((c.tc : Thread Cert.ProjXbcRefIdeal.nD Cert.ProjXbcRefIdeal.τ).loc Cert.ProjXbcRefIdeal.main_arg3) = m ((c.tc : Thread Cert.ProjXbcIdeal.nD Cert.ProjXbcIdeal.τ).loc Cert.ProjXbcIdeal.main_arg3)) →
    ∃ (v0 : (c : Dev Cert.ProjXbcIdeal.nD) → Buf (Elt Ideal) ((c.tc : Thread Cert.ProjXbcIdeal.nD Cert.ProjXbcIdeal.τ).loc Cert.ProjXbcIdeal.main_v0_0)) (v1 : (c : Dev Cert.ProjXbcIdeal.nD) → Buf (Elt Ideal) ((c.tc : Thread Cert.ProjXbcIdeal.nD Cert.ProjXbcIdeal.τ).loc Cert.ProjXbcIdeal.main_v0_1)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v0_0) = v0 c
          ∧ r.2.mem ((c.tc : Thread Cert.ProjXbcIdeal.nD Cert.ProjXbcIdeal.τ).loc Cert.ProjXbcIdeal.main_v0_1) = v1 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1)
          ∧ r.2.mem ((c.tc : Thread Cert.ProjXbcIdeal.nD Cert.ProjXbcIdeal.τ).loc Cert.ProjXbcIdeal.main_arg2) = m ((c.tc : Thread Cert.ProjXbcIdeal.nD Cert.ProjXbcIdeal.τ).loc Cert.ProjXbcIdeal.main_arg2)
          ∧ r.2.mem ((c.tc : Thread Cert.ProjXbcIdeal.nD Cert.ProjXbcIdeal.τ).loc Cert.ProjXbcIdeal.main_arg3) = m ((c.tc : Thread Cert.ProjXbcIdeal.nD Cert.ProjXbcIdeal.τ).loc Cert.ProjXbcIdeal.main_arg3))
      ∧ θ_run (Cert.ProjXbcRefIdeal.defs (F := Ideal)) (onTc (τ := Cert.ProjXbcRefIdeal.τ) (Cert.ProjXbcRefIdeal.main (F := Ideal))) ⟨m', fun _ => 0, g'⟩ (fun r => ∀ c : Dev Cert.ProjXbcRefIdeal.nD,
          r.2.mem ((c.tc : Thread Cert.ProjXbcRefIdeal.nD Cert.ProjXbcRefIdeal.τ).loc Cert.ProjXbcRefIdeal.main_v2) = v0 c
          ∧ r.2.mem ((c.tc : Thread Cert.ProjXbcRefIdeal.nD Cert.ProjXbcRefIdeal.τ).loc Cert.ProjXbcRefIdeal.main_v39) = v1 c
          ∧ r.2.mem ((c.tc : Thread Cert.ProjXbcRefIdeal.nD Cert.ProjXbcRefIdeal.τ).loc Cert.ProjXbcRefIdeal.main_arg0) = m' ((c.tc : Thread Cert.ProjXbcRefIdeal.nD Cert.ProjXbcRefIdeal.τ).loc Cert.ProjXbcRefIdeal.main_arg0)
          ∧ r.2.mem ((c.tc : Thread Cert.ProjXbcRefIdeal.nD Cert.ProjXbcRefIdeal.τ).loc Cert.ProjXbcRefIdeal.main_arg1) = m' ((c.tc : Thread Cert.ProjXbcRefIdeal.nD Cert.ProjXbcRefIdeal.τ).loc Cert.ProjXbcRefIdeal.main_arg1)
          ∧ r.2.mem ((c.tc : Thread Cert.ProjXbcRefIdeal.nD Cert.ProjXbcRefIdeal.τ).loc Cert.ProjXbcRefIdeal.main_arg2) = m' ((c.tc : Thread Cert.ProjXbcRefIdeal.nD Cert.ProjXbcRefIdeal.τ).loc Cert.ProjXbcRefIdeal.main_arg2)
          ∧ r.2.mem ((c.tc : Thread Cert.ProjXbcRefIdeal.nD Cert.ProjXbcRefIdeal.τ).loc Cert.ProjXbcRefIdeal.main_arg3) = m' ((c.tc : Thread Cert.ProjXbcRefIdeal.nD Cert.ProjXbcRefIdeal.τ).loc Cert.ProjXbcRefIdeal.main_arg3))

def preserves_ProjUzdt_ProjUzdtIdeal : Prop :=
  True

def algebraic_ProjUzdtIdeal_ProjUzdtRefIdeal [hProjUzdtIdeal : Cert.ProjUzdtIdeal.Facts] [hProjUzdtRefIdeal : Cert.ProjUzdtRefIdeal.Facts] : Prop :=
  ∀ (m : (ℓ : Loc Cert.ProjUzdtIdeal.nD Cert.ProjUzdtIdeal.τ Cert.ProjUzdtIdeal.sig) → Buf (Elt Ideal) ℓ) (g : Dev Cert.ProjUzdtIdeal.nD → PrngReg)
    (m' : (ℓ : Loc Cert.ProjUzdtRefIdeal.nD Cert.ProjUzdtRefIdeal.τ Cert.ProjUzdtRefIdeal.sig) → Buf (Elt Ideal) ℓ) (g' : Dev Cert.ProjUzdtRefIdeal.nD → PrngReg), Pre_ProjUzdtIdeal m →
    (∀ c : Dev Cert.ProjUzdtIdeal.nD,
      m' ((c.tc : Thread Cert.ProjUzdtRefIdeal.nD Cert.ProjUzdtRefIdeal.τ).loc Cert.ProjUzdtRefIdeal.main_arg0) = m ((c.tc : Thread Cert.ProjUzdtIdeal.nD Cert.ProjUzdtIdeal.τ).loc Cert.ProjUzdtIdeal.main_arg0)
      ∧ m' ((c.tc : Thread Cert.ProjUzdtRefIdeal.nD Cert.ProjUzdtRefIdeal.τ).loc Cert.ProjUzdtRefIdeal.main_arg1) = m ((c.tc : Thread Cert.ProjUzdtIdeal.nD Cert.ProjUzdtIdeal.τ).loc Cert.ProjUzdtIdeal.main_arg1)
      ∧ m' ((c.tc : Thread Cert.ProjUzdtRefIdeal.nD Cert.ProjUzdtRefIdeal.τ).loc Cert.ProjUzdtRefIdeal.main_arg2) = m ((c.tc : Thread Cert.ProjUzdtIdeal.nD Cert.ProjUzdtIdeal.τ).loc Cert.ProjUzdtIdeal.main_arg2)
      ∧ m' ((c.tc : Thread Cert.ProjUzdtRefIdeal.nD Cert.ProjUzdtRefIdeal.τ).loc Cert.ProjUzdtRefIdeal.main_arg3) = m ((c.tc : Thread Cert.ProjUzdtIdeal.nD Cert.ProjUzdtIdeal.τ).loc Cert.ProjUzdtIdeal.main_arg3)
      ∧ m' ((c.tc : Thread Cert.ProjUzdtRefIdeal.nD Cert.ProjUzdtRefIdeal.τ).loc Cert.ProjUzdtRefIdeal.main_arg4) = m ((c.tc : Thread Cert.ProjUzdtIdeal.nD Cert.ProjUzdtIdeal.τ).loc Cert.ProjUzdtIdeal.main_arg4)
      ∧ m' ((c.tc : Thread Cert.ProjUzdtRefIdeal.nD Cert.ProjUzdtRefIdeal.τ).loc Cert.ProjUzdtRefIdeal.main_arg5) = m ((c.tc : Thread Cert.ProjUzdtIdeal.nD Cert.ProjUzdtIdeal.τ).loc Cert.ProjUzdtIdeal.main_arg5)) →
    ∃ (v0 : (c : Dev Cert.ProjUzdtIdeal.nD) → Buf (Elt Ideal) ((c.tc : Thread Cert.ProjUzdtIdeal.nD Cert.ProjUzdtIdeal.τ).loc Cert.ProjUzdtIdeal.main_v0_0)) (v1 : (c : Dev Cert.ProjUzdtIdeal.nD) → Buf (Elt Ideal) ((c.tc : Thread Cert.ProjUzdtIdeal.nD Cert.ProjUzdtIdeal.τ).loc Cert.ProjUzdtIdeal.main_v0_1)) (v2 : (c : Dev Cert.ProjUzdtIdeal.nD) → Buf (Elt Ideal) ((c.tc : Thread Cert.ProjUzdtIdeal.nD Cert.ProjUzdtIdeal.τ).loc Cert.ProjUzdtIdeal.main_v0_2)) (v3 : (c : Dev Cert.ProjUzdtIdeal.nD) → Buf (Elt Ideal) ((c.tc : Thread Cert.ProjUzdtIdeal.nD Cert.ProjUzdtIdeal.τ).loc Cert.ProjUzdtIdeal.main_v0_3)) (v4 : (c : Dev Cert.ProjUzdtIdeal.nD) → Buf (Elt Ideal) ((c.tc : Thread Cert.ProjUzdtIdeal.nD Cert.ProjUzdtIdeal.τ).loc Cert.ProjUzdtIdeal.main_v0_4)) (v5 : (c : Dev Cert.ProjUzdtIdeal.nD) → Buf (Elt Ideal) ((c.tc : Thread Cert.ProjUzdtIdeal.nD Cert.ProjUzdtIdeal.τ).loc Cert.ProjUzdtIdeal.main_v0_5)),
      θ_run (Cert.ProjUzdtIdeal.defs (F := Ideal)) (onTc (τ := Cert.ProjUzdtIdeal.τ) (Cert.ProjUzdtIdeal.main (F := Ideal))) ⟨m, fun _ => 0, g⟩ (fun r => ∀ c : Dev Cert.ProjUzdtIdeal.nD,
          r.2.mem ((c.tc : Thread Cert.ProjUzdtIdeal.nD Cert.ProjUzdtIdeal.τ).loc Cert.ProjUzdtIdeal.main_v0_0) = v0 c
          ∧ r.2.mem ((c.tc : Thread Cert.ProjUzdtIdeal.nD Cert.ProjUzdtIdeal.τ).loc Cert.ProjUzdtIdeal.main_v0_1) = v1 c
          ∧ r.2.mem ((c.tc : Thread Cert.ProjUzdtIdeal.nD Cert.ProjUzdtIdeal.τ).loc Cert.ProjUzdtIdeal.main_v0_2) = v2 c
          ∧ r.2.mem ((c.tc : Thread Cert.ProjUzdtIdeal.nD Cert.ProjUzdtIdeal.τ).loc Cert.ProjUzdtIdeal.main_v0_3) = v3 c
          ∧ r.2.mem ((c.tc : Thread Cert.ProjUzdtIdeal.nD Cert.ProjUzdtIdeal.τ).loc Cert.ProjUzdtIdeal.main_v0_4) = v4 c
          ∧ r.2.mem ((c.tc : Thread Cert.ProjUzdtIdeal.nD Cert.ProjUzdtIdeal.τ).loc Cert.ProjUzdtIdeal.main_v0_5) = v5 c
          ∧ r.2.mem ((c.tc : Thread Cert.ProjUzdtIdeal.nD Cert.ProjUzdtIdeal.τ).loc Cert.ProjUzdtIdeal.main_arg0) = m ((c.tc : Thread Cert.ProjUzdtIdeal.nD Cert.ProjUzdtIdeal.τ).loc Cert.ProjUzdtIdeal.main_arg0)
          ∧ r.2.mem ((c.tc : Thread Cert.ProjUzdtIdeal.nD Cert.ProjUzdtIdeal.τ).loc Cert.ProjUzdtIdeal.main_arg1) = m ((c.tc : Thread Cert.ProjUzdtIdeal.nD Cert.ProjUzdtIdeal.τ).loc Cert.ProjUzdtIdeal.main_arg1)
          ∧ r.2.mem ((c.tc : Thread Cert.ProjUzdtIdeal.nD Cert.ProjUzdtIdeal.τ).loc Cert.ProjUzdtIdeal.main_arg2) = m ((c.tc : Thread Cert.ProjUzdtIdeal.nD Cert.ProjUzdtIdeal.τ).loc Cert.ProjUzdtIdeal.main_arg2)
          ∧ r.2.mem ((c.tc : Thread Cert.ProjUzdtIdeal.nD Cert.ProjUzdtIdeal.τ).loc Cert.ProjUzdtIdeal.main_arg3) = m ((c.tc : Thread Cert.ProjUzdtIdeal.nD Cert.ProjUzdtIdeal.τ).loc Cert.ProjUzdtIdeal.main_arg3)
          ∧ r.2.mem ((c.tc : Thread Cert.ProjUzdtIdeal.nD Cert.ProjUzdtIdeal.τ).loc Cert.ProjUzdtIdeal.main_arg4) = m ((c.tc : Thread Cert.ProjUzdtIdeal.nD Cert.ProjUzdtIdeal.τ).loc Cert.ProjUzdtIdeal.main_arg4)
          ∧ r.2.mem ((c.tc : Thread Cert.ProjUzdtIdeal.nD Cert.ProjUzdtIdeal.τ).loc Cert.ProjUzdtIdeal.main_arg5) = m ((c.tc : Thread Cert.ProjUzdtIdeal.nD Cert.ProjUzdtIdeal.τ).loc Cert.ProjUzdtIdeal.main_arg5))
      ∧ θ_run (Cert.ProjUzdtRefIdeal.defs (F := Ideal)) (onTc (τ := Cert.ProjUzdtRefIdeal.τ) (Cert.ProjUzdtRefIdeal.main (F := Ideal))) ⟨m', fun _ => 0, g'⟩ (fun r => ∀ c : Dev Cert.ProjUzdtRefIdeal.nD,
          r.2.mem ((c.tc : Thread Cert.ProjUzdtRefIdeal.nD Cert.ProjUzdtRefIdeal.τ).loc Cert.ProjUzdtRefIdeal.main_v2) = v0 c
          ∧ r.2.mem ((c.tc : Thread Cert.ProjUzdtRefIdeal.nD Cert.ProjUzdtRefIdeal.τ).loc Cert.ProjUzdtRefIdeal.main_v5) = v1 c
          ∧ r.2.mem ((c.tc : Thread Cert.ProjUzdtRefIdeal.nD Cert.ProjUzdtRefIdeal.τ).loc Cert.ProjUzdtRefIdeal.main_v8) = v2 c
          ∧ r.2.mem ((c.tc : Thread Cert.ProjUzdtRefIdeal.nD Cert.ProjUzdtRefIdeal.τ).loc Cert.ProjUzdtRefIdeal.main_v40) = v3 c
          ∧ r.2.mem ((c.tc : Thread Cert.ProjUzdtRefIdeal.nD Cert.ProjUzdtRefIdeal.τ).loc Cert.ProjUzdtRefIdeal.main_v41) = v4 c
          ∧ r.2.mem ((c.tc : Thread Cert.ProjUzdtRefIdeal.nD Cert.ProjUzdtRefIdeal.τ).loc Cert.ProjUzdtRefIdeal.main_v39) = v5 c
          ∧ r.2.mem ((c.tc : Thread Cert.ProjUzdtRefIdeal.nD Cert.ProjUzdtRefIdeal.τ).loc Cert.ProjUzdtRefIdeal.main_arg0) = m' ((c.tc : Thread Cert.ProjUzdtRefIdeal.nD Cert.ProjUzdtRefIdeal.τ).loc Cert.ProjUzdtRefIdeal.main_arg0)
          ∧ r.2.mem ((c.tc : Thread Cert.ProjUzdtRefIdeal.nD Cert.ProjUzdtRefIdeal.τ).loc Cert.ProjUzdtRefIdeal.main_arg1) = m' ((c.tc : Thread Cert.ProjUzdtRefIdeal.nD Cert.ProjUzdtRefIdeal.τ).loc Cert.ProjUzdtRefIdeal.main_arg1)
          ∧ r.2.mem ((c.tc : Thread Cert.ProjUzdtRefIdeal.nD Cert.ProjUzdtRefIdeal.τ).loc Cert.ProjUzdtRefIdeal.main_arg2) = m' ((c.tc : Thread Cert.ProjUzdtRefIdeal.nD Cert.ProjUzdtRefIdeal.τ).loc Cert.ProjUzdtRefIdeal.main_arg2)
          ∧ r.2.mem ((c.tc : Thread Cert.ProjUzdtRefIdeal.nD Cert.ProjUzdtRefIdeal.τ).loc Cert.ProjUzdtRefIdeal.main_arg3) = m' ((c.tc : Thread Cert.ProjUzdtRefIdeal.nD Cert.ProjUzdtRefIdeal.τ).loc Cert.ProjUzdtRefIdeal.main_arg3)
          ∧ r.2.mem ((c.tc : Thread Cert.ProjUzdtRefIdeal.nD Cert.ProjUzdtRefIdeal.τ).loc Cert.ProjUzdtRefIdeal.main_arg4) = m' ((c.tc : Thread Cert.ProjUzdtRefIdeal.nD Cert.ProjUzdtRefIdeal.τ).loc Cert.ProjUzdtRefIdeal.main_arg4)
          ∧ r.2.mem ((c.tc : Thread Cert.ProjUzdtRefIdeal.nD Cert.ProjUzdtRefIdeal.τ).loc Cert.ProjUzdtRefIdeal.main_arg5) = m' ((c.tc : Thread Cert.ProjUzdtRefIdeal.nD Cert.ProjUzdtRefIdeal.τ).loc Cert.ProjUzdtRefIdeal.main_arg5))

def preserves_PoolFwd_PoolFwdIdeal : Prop :=
  True

def algebraic_PoolFwdIdeal_PoolFwdRefIdeal_pre_finite_rows [hPoolFwdIdeal : Cert.PoolFwdIdeal.Facts] [hPoolFwdRefIdeal : Cert.PoolFwdRefIdeal.Facts] [hPre_finite_rows : Cert.Pre_finite_rows.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_rows m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v1)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v1) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v80) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_InputGrad_InputGradIdeal : Prop :=
  True

def algebraic_InputGradIdeal_InputGradRefIdeal [hInputGradIdeal : Cert.InputGradIdeal.Facts] [hInputGradRefIdeal : Cert.InputGradRefIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradRefIdeal.nD Cert.InputGradRefIdeal.τ Cert.InputGradRefIdeal.sig) → Buf (Elt Ideal) ℓ) (g' : Dev Cert.InputGradRefIdeal.nD → PrngReg), Pre_InputGradIdeal m →
    (∀ c : Dev Cert.InputGradIdeal.nD,
      m' ((c.tc : Thread Cert.InputGradRefIdeal.nD Cert.InputGradRefIdeal.τ).loc Cert.InputGradRefIdeal.main_arg0) = m ((c.tc : Thread Cert.InputGradIdeal.nD Cert.InputGradIdeal.τ).loc Cert.InputGradIdeal.main_arg0)
      ∧ m' ((c.tc : Thread Cert.InputGradRefIdeal.nD Cert.InputGradRefIdeal.τ).loc Cert.InputGradRefIdeal.main_arg1) = m ((c.tc : Thread Cert.InputGradIdeal.nD Cert.InputGradIdeal.τ).loc Cert.InputGradIdeal.main_arg1)
      ∧ m' ((c.tc : Thread Cert.InputGradRefIdeal.nD Cert.InputGradRefIdeal.τ).loc Cert.InputGradRefIdeal.main_arg2) = m ((c.tc : Thread Cert.InputGradIdeal.nD Cert.InputGradIdeal.τ).loc Cert.InputGradIdeal.main_arg2)
      ∧ m' ((c.tc : Thread Cert.InputGradRefIdeal.nD Cert.InputGradRefIdeal.τ).loc Cert.InputGradRefIdeal.main_arg3) = m ((c.tc : Thread Cert.InputGradIdeal.nD Cert.InputGradIdeal.τ).loc Cert.InputGradIdeal.main_arg3)) →
    ∃ (v0 : (c : Dev Cert.InputGradIdeal.nD) → Buf (Elt Ideal) ((c.tc : Thread Cert.InputGradIdeal.nD Cert.InputGradIdeal.τ).loc Cert.InputGradIdeal.main_v0_0)) (v1 : (c : Dev Cert.InputGradIdeal.nD) → Buf (Elt Ideal) ((c.tc : Thread Cert.InputGradIdeal.nD Cert.InputGradIdeal.τ).loc Cert.InputGradIdeal.main_v0_1)) (v2 : (c : Dev Cert.InputGradIdeal.nD) → Buf (Elt Ideal) ((c.tc : Thread Cert.InputGradIdeal.nD Cert.InputGradIdeal.τ).loc Cert.InputGradIdeal.main_v0_2)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0_0) = v0 c
          ∧ r.2.mem ((c.tc : Thread Cert.InputGradIdeal.nD Cert.InputGradIdeal.τ).loc Cert.InputGradIdeal.main_v0_1) = v1 c
          ∧ r.2.mem ((c.tc : Thread Cert.InputGradIdeal.nD Cert.InputGradIdeal.τ).loc Cert.InputGradIdeal.main_v0_2) = v2 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2)
          ∧ r.2.mem ((c.tc : Thread Cert.InputGradIdeal.nD Cert.InputGradIdeal.τ).loc Cert.InputGradIdeal.main_arg3) = m ((c.tc : Thread Cert.InputGradIdeal.nD Cert.InputGradIdeal.τ).loc Cert.InputGradIdeal.main_arg3))
      ∧ θ_run (Cert.InputGradRefIdeal.defs (F := Ideal)) (onTc (τ := Cert.InputGradRefIdeal.τ) (Cert.InputGradRefIdeal.main (F := Ideal))) ⟨m', fun _ => 0, g'⟩ (fun r => ∀ c : Dev Cert.InputGradRefIdeal.nD,
          r.2.mem ((c.tc : Thread Cert.InputGradRefIdeal.nD Cert.InputGradRefIdeal.τ).loc Cert.InputGradRefIdeal.main_v39) = v0 c
          ∧ r.2.mem ((c.tc : Thread Cert.InputGradRefIdeal.nD Cert.InputGradRefIdeal.τ).loc Cert.InputGradRefIdeal.main_v40) = v1 c
          ∧ r.2.mem ((c.tc : Thread Cert.InputGradRefIdeal.nD Cert.InputGradRefIdeal.τ).loc Cert.InputGradRefIdeal.main_v38) = v2 c
          ∧ r.2.mem ((c.tc : Thread Cert.InputGradRefIdeal.nD Cert.InputGradRefIdeal.τ).loc Cert.InputGradRefIdeal.main_arg0) = m' ((c.tc : Thread Cert.InputGradRefIdeal.nD Cert.InputGradRefIdeal.τ).loc Cert.InputGradRefIdeal.main_arg0)
          ∧ r.2.mem ((c.tc : Thread Cert.InputGradRefIdeal.nD Cert.InputGradRefIdeal.τ).loc Cert.InputGradRefIdeal.main_arg1) = m' ((c.tc : Thread Cert.InputGradRefIdeal.nD Cert.InputGradRefIdeal.τ).loc Cert.InputGradRefIdeal.main_arg1)
          ∧ r.2.mem ((c.tc : Thread Cert.InputGradRefIdeal.nD Cert.InputGradRefIdeal.τ).loc Cert.InputGradRefIdeal.main_arg2) = m' ((c.tc : Thread Cert.InputGradRefIdeal.nD Cert.InputGradRefIdeal.τ).loc Cert.InputGradRefIdeal.main_arg2)
          ∧ r.2.mem ((c.tc : Thread Cert.InputGradRefIdeal.nD Cert.InputGradRefIdeal.τ).loc Cert.InputGradRefIdeal.main_arg3) = m' ((c.tc : Thread Cert.InputGradRefIdeal.nD Cert.InputGradRefIdeal.τ).loc Cert.InputGradRefIdeal.main_arg3))

def preserves_ChipSum_ChipSumIdeal : Prop :=
  True

def algebraic_ChipSumIdeal_ChipSumRefIdeal [hChipSumIdeal : Cert.ChipSumIdeal.Facts] [hChipSumRefIdeal : Cert.ChipSumRefIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumRefIdeal.nD Cert.ChipSumRefIdeal.τ Cert.ChipSumRefIdeal.sig) → Buf (Elt Ideal) ℓ) (g' : Dev Cert.ChipSumRefIdeal.nD → PrngReg), Pre_ChipSumIdeal m →
    (∀ c : Dev Cert.ChipSumIdeal.nD,
      m' ((c.tc : Thread Cert.ChipSumRefIdeal.nD Cert.ChipSumRefIdeal.τ).loc Cert.ChipSumRefIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumRefIdeal.defs (F := Ideal)) (onTc (τ := Cert.ChipSumRefIdeal.τ) (Cert.ChipSumRefIdeal.main (F := Ideal))) ⟨m', fun _ => 0, g'⟩ (fun r => ∀ c : Dev Cert.ChipSumRefIdeal.nD,
          r.2.mem ((c.tc : Thread Cert.ChipSumRefIdeal.nD Cert.ChipSumRefIdeal.τ).loc Cert.ChipSumRefIdeal.main_v1) = v0 c
          ∧ r.2.mem ((c.tc : Thread Cert.ChipSumRefIdeal.nD Cert.ChipSumRefIdeal.τ).loc Cert.ChipSumRefIdeal.main_arg0) = m' ((c.tc : Thread Cert.ChipSumRefIdeal.nD Cert.ChipSumRefIdeal.τ).loc Cert.ChipSumRefIdeal.main_arg0))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v0) = v0 c
          ∧ r.2.mem ((c.tc : Thread Cert.AdamwRefIdeal.nD Cert.AdamwRefIdeal.τ).loc Cert.AdamwRefIdeal.main_v24) = v1 c
          ∧ r.2.mem ((c.tc : Thread Cert.AdamwRefIdeal.nD Cert.AdamwRefIdeal.τ).loc Cert.AdamwRefIdeal.main_v5) = v2 c
          ∧ r.2.mem ((c.tc : Thread Cert.AdamwRefIdeal.nD Cert.AdamwRefIdeal.τ).loc Cert.AdamwRefIdeal.main_v11) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def Claim : Prop :=
  ∃ (hKernel : Cert.Kernel.Facts) (hKernelIdeal : Cert.KernelIdeal.Facts) (hReferenceIdeal : Cert.ReferenceIdeal.Facts) (hFf2Bwd : Cert.Ff2Bwd.Facts) (hFf2BwdIdeal : Cert.Ff2BwdIdeal.Facts) (hFf2BwdRefIdeal : Cert.Ff2BwdRefIdeal.Facts) (hFf2Dw : Cert.Ff2Dw.Facts) (hFf2DwIdeal : Cert.Ff2DwIdeal.Facts) (hFf2DwRefIdeal : Cert.Ff2DwRefIdeal.Facts) (hFf1Dw : Cert.Ff1Dw.Facts) (hFf1DwIdeal : Cert.Ff1DwIdeal.Facts) (hFf1DwRefIdeal : Cert.Ff1DwRefIdeal.Facts) (hFf1Bwd : Cert.Ff1Bwd.Facts) (hFf1BwdIdeal : Cert.Ff1BwdIdeal.Facts) (hFf1BwdRefIdeal : Cert.Ff1BwdRefIdeal.Facts) (hOutBwd : Cert.OutBwd.Facts) (hOutBwdIdeal : Cert.OutBwdIdeal.Facts) (hOutBwdRefIdeal : Cert.OutBwdRefIdeal.Facts) (hOutDw : Cert.OutDw.Facts) (hOutDwIdeal : Cert.OutDwIdeal.Facts) (hOutDwRefIdeal : Cert.OutDwRefIdeal.Facts) (hInDw : Cert.InDw.Facts) (hInDwIdeal : Cert.InDwIdeal.Facts) (hInDwRefIdeal : Cert.InDwRefIdeal.Facts) (hFf1 : Cert.Ff1.Facts) (hFf1Ideal : Cert.Ff1Ideal.Facts) (hFf1RefIdeal : Cert.Ff1RefIdeal.Facts) (hOutProj : Cert.OutProj.Facts) (hOutProjIdeal : Cert.OutProjIdeal.Facts) (hOutProjRefIdeal : Cert.OutProjRefIdeal.Facts) (hProjXbc : Cert.ProjXbc.Facts) (hProjXbcIdeal : Cert.ProjXbcIdeal.Facts) (hProjXbcRefIdeal : Cert.ProjXbcRefIdeal.Facts) (hProjUzdt : Cert.ProjUzdt.Facts) (hProjUzdtIdeal : Cert.ProjUzdtIdeal.Facts) (hProjUzdtRefIdeal : Cert.ProjUzdtRefIdeal.Facts) (hPoolFwd : Cert.PoolFwd.Facts) (hPoolFwdIdeal : Cert.PoolFwdIdeal.Facts) (hPoolFwdRefIdeal : Cert.PoolFwdRefIdeal.Facts) (hInputGrad : Cert.InputGrad.Facts) (hInputGradIdeal : Cert.InputGradIdeal.Facts) (hInputGradRefIdeal : Cert.InputGradRefIdeal.Facts) (hChipSum : Cert.ChipSum.Facts) (hChipSumIdeal : Cert.ChipSumIdeal.Facts) (hChipSumRefIdeal : Cert.ChipSumRefIdeal.Facts) (hAdamw : Cert.Adamw.Facts) (hAdamwIdeal : Cert.AdamwIdeal.Facts) (hAdamwRefIdeal : Cert.AdamwRefIdeal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff2Bwd (hFf2Bwd := hFf2Bwd)
    ∧ quiescent_Ff2BwdIdeal (hFf2BwdIdeal := hFf2BwdIdeal)
    ∧ quiescent_Ff2BwdRefIdeal (hFf2BwdRefIdeal := hFf2BwdRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_Ff1Bwd (hFf1Bwd := hFf1Bwd)
    ∧ quiescent_Ff1BwdIdeal (hFf1BwdIdeal := hFf1BwdIdeal)
    ∧ quiescent_Ff1BwdRefIdeal (hFf1BwdRefIdeal := hFf1BwdRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjXbc (hProjXbc := hProjXbc)
    ∧ quiescent_ProjXbcIdeal (hProjXbcIdeal := hProjXbcIdeal)
    ∧ quiescent_ProjXbcRefIdeal (hProjXbcRefIdeal := hProjXbcRefIdeal)
    ∧ quiescent_ProjUzdt (hProjUzdt := hProjUzdt)
    ∧ quiescent_ProjUzdtIdeal (hProjUzdtIdeal := hProjUzdtIdeal)
    ∧ quiescent_ProjUzdtRefIdeal (hProjUzdtRefIdeal := hProjUzdtRefIdeal)
    ∧ quiescent_PoolFwd (hPoolFwd := hPoolFwd)
    ∧ quiescent_PoolFwdIdeal (hPoolFwdIdeal := hPoolFwdIdeal)
    ∧ quiescent_PoolFwdIdeal_pre_finite_rows (hPoolFwdIdeal := hPoolFwdIdeal) (hPre_finite_rows := hPre_finite_rows)
    ∧ quiescent_PoolFwdRefIdeal (hPoolFwdRefIdeal := hPoolFwdRefIdeal)
    ∧ quiescent_PoolFwdRefIdeal_pre_finite_rows (hPoolFwdRefIdeal := hPoolFwdRefIdeal) (hPre_finite_rows := hPre_finite_rows)
    ∧ quiescent_InputGrad (hInputGrad := hInputGrad)
    ∧ quiescent_InputGradIdeal (hInputGradIdeal := hInputGradIdeal)
    ∧ quiescent_InputGradRefIdeal (hInputGradRefIdeal := hInputGradRefIdeal)
    ∧ quiescent_ChipSum (hChipSum := hChipSum)
    ∧ quiescent_ChipSumIdeal (hChipSumIdeal := hChipSumIdeal)
    ∧ quiescent_ChipSumRefIdeal (hChipSumRefIdeal := hChipSumRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff2Bwd_Ff2BwdIdeal
    ∧ algebraic_Ff2BwdIdeal_Ff2BwdRefIdeal (hFf2BwdIdeal := hFf2BwdIdeal) (hFf2BwdRefIdeal := hFf2BwdRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_Ff1Bwd_Ff1BwdIdeal
    ∧ algebraic_Ff1BwdIdeal_Ff1BwdRefIdeal (hFf1BwdIdeal := hFf1BwdIdeal) (hFf1BwdRefIdeal := hFf1BwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutDw_OutDwIdeal
    ∧ algebraic_OutDwIdeal_OutDwRefIdeal (hOutDwIdeal := hOutDwIdeal) (hOutDwRefIdeal := hOutDwRefIdeal)
    ∧ preserves_InDw_InDwIdeal
    ∧ algebraic_InDwIdeal_InDwRefIdeal (hInDwIdeal := hInDwIdeal) (hInDwRefIdeal := hInDwRefIdeal)
    ∧ preserves_Ff1_Ff1Ideal
    ∧ algebraic_Ff1Ideal_Ff1RefIdeal (hFf1Ideal := hFf1Ideal) (hFf1RefIdeal := hFf1RefIdeal)
    ∧ preserves_OutProj_OutProjIdeal
    ∧ algebraic_OutProjIdeal_OutProjRefIdeal (hOutProjIdeal := hOutProjIdeal) (hOutProjRefIdeal := hOutProjRefIdeal)
    ∧ preserves_ProjXbc_ProjXbcIdeal
    ∧ algebraic_ProjXbcIdeal_ProjXbcRefIdeal (hProjXbcIdeal := hProjXbcIdeal) (hProjXbcRefIdeal := hProjXbcRefIdeal)
    ∧ preserves_ProjUzdt_ProjUzdtIdeal
    ∧ algebraic_ProjUzdtIdeal_ProjUzdtRefIdeal (hProjUzdtIdeal := hProjUzdtIdeal) (hProjUzdtRefIdeal := hProjUzdtRefIdeal)
    ∧ preserves_PoolFwd_PoolFwdIdeal
    ∧ algebraic_PoolFwdIdeal_PoolFwdRefIdeal_pre_finite_rows (hPoolFwdIdeal := hPoolFwdIdeal) (hPoolFwdRefIdeal := hPoolFwdRefIdeal) (hPre_finite_rows := hPre_finite_rows)
    ∧ preserves_InputGrad_InputGradIdeal
    ∧ algebraic_InputGradIdeal_InputGradRefIdeal (hInputGradIdeal := hInputGradIdeal) (hInputGradRefIdeal := hInputGradRefIdeal)
    ∧ preserves_ChipSum_ChipSumIdeal
    ∧ algebraic_ChipSumIdeal_ChipSumRefIdeal (hChipSumIdeal := hChipSumIdeal) (hChipSumRefIdeal := hChipSumRefIdeal)
    ∧ preserves_Adamw_AdamwIdeal
    ∧ algebraic_AdamwIdeal_AdamwRefIdeal (hAdamwIdeal := hAdamwIdeal) (hAdamwRefIdeal := hAdamwRefIdeal)
-- ==== Pre_finite.lean ====
abbrev S2x4224x512 : Shape := ⟨3, ![2, 4224, 512]⟩
abbrev S1x4x128x128 : Shape := ⟨4, ![1, 4, 128, 128]⟩
abbrev S1x512 : Shape := ⟨2, ![1, 512]⟩
abbrev S_ : Shape := ⟨0, ![]⟩

class Facts : Prop where
  bcast_S_S2x4224x512 : S_.BroadcastsInDim S2x4224x512 (![] : Fin 0 → Fin S2x4224x512.rank)
  reducesTo_S2x4224x512_S_d0_1_2 : S2x4224x512.ReducesTo [0, 1, 2] S_
  h_S_ : 0 < S_.numel
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  main_v18

def fn {F : FTy → Type} [FloatOps F] (main_arg0 : FVec F S2x4224x512 .f32) (main_arg1 : FVec F S2x4224x512 .f32) (main_arg2 : FVec F S1x4x128x128 .f32) (main_arg3 : FVec F S1x512 .f32) : IVec S_ 1 :=
  let main_v0 : FVec F S2x4224x512 .f32 := Host.absf main_arg0
  let main_cst : FVec F S_ .f32 := constant S_ .f32 0x7F800000#32
  let main_v1 : FVec F S2x4224x512 .f32 := broadcastInDim S2x4224x512 ![] bcast_S_S2x4224x512 main_cst
  let main_v2 : IVec S2x4224x512 1 := cmpf .olt main_v0 main_v1
  let main_c : IVec S_ 1 := constantI S_ 1 1#1
  let main_v3 : IVec S_ 1 := (fun x v => Host.reduce IntOp.andi x v reducesTo_S2x4224x512_S_d0_1_2 h_S_) main_v2 main_c
  let main_v4 : FVec F S2x4224x512 .f32 := Host.absf main_arg1
  let main_cst_0 : FVec F S_ .f32 := constant S_ .f32 0x7F800000#32
  let main_v5 : FVec F S2x4224x512 .f32 := broadcastInDim S2x4224x512 ![] bcast_S_S2x4224x512 main_cst_0
  let main_v6 : IVec S2x4224x512 1 := cmpf .olt main_v4 main_v5
  let main_c_1 : IVec S_ 1 := constantI S_ 1 1#1
  let main_v7 : IVec S_ 1 := (fun x v => Host.reduce IntOp.andi x v reducesTo_S2x4224x512_S_d0_1_2 h_S_) main_v6 main_c_1
  let main_v8 : IVec S_ 1 := andi main_v3 main_v7
  let main_v9 : FVec F S1x4x128x128 .f32 := Host.absf main_arg2
  let main_cst_2 : FVec F S_ .f32 := constant S_ .f32 0x7F800000#32
  let main_v10 : FVec F S1x4x128x128 .f32 := broadcastInDim S1x4x128x128 ![] bcast_S_S1x4x128x128 main_cst_2
  let main_v11 : IVec S1x4x128x128 1 := cmpf .olt main_v9 main_v10
  let main_c_3 : IVec S_ 1 := constantI S_ 1 1#1
  let main_v12 : IVec S_ 1 := (fun x v => Host.reduce IntOp.andi x v reducesTo_S1x4x128x128_S_d0_1_2_3 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_v13 main_v16
-- ==== Pre_finite_rows.lean ====
abbrev S2x4224x512 : Shape := ⟨3, ![2, 4224, 512]⟩
abbrev S1x4x128x128 : Shape := ⟨4, ![1, 4, 128, 128]⟩
abbrev S1x512 : Shape := ⟨2, ![1, 512]⟩
abbrev S_ : Shape := ⟨0, ![]⟩

class Facts : Prop where
  bcast_S_S2x4224x512 : S_.BroadcastsInDim S2x4224x512 (![] : Fin 0 → Fin S2x4224x512.rank)
  reducesTo_S2x4224x512_S_d0_1_2 : S2x4224x512.ReducesTo [0, 1, 2] S_
  h_S_ : 0 < S_.numel

variable [Facts]

def fn {F : FTy → Type} [FloatOps F] (main_arg0 : FVec F S2x4224x512 .f32) (main_arg1 : FVec F S1x4x128x128 .f32) (main_arg2 : FVec F S1x512 .f32) : IVec S_ 1 :=
  let main_v0 : FVec F S2x4224x512 .f32 := Host.absf main_arg0
  let main_cst : FVec F S_ .f32 := constant S_ .f32 0x7F800000#32
  let main_v1 : FVec F S2x4224x512 .f32 := broadcastInDim S2x4224x512 ![] bcast_S_S2x4224x512 main_cst
  let main_v2 : IVec S2x4224x512 1 := cmpf .olt main_v0 main_v1
  let main_c : IVec S_ 1 := constantI S_ 1 1#1
  let main_v3 : IVec S_ 1 := (fun x v => Host.reduce IntOp.andi x v reducesTo_S2x4224x512_S_d0_1_2 h_S_) main_v2 main_c
  main_v3
-- ==== Kernel.lean ====
abbrev S2x4224x512 : Shape := ⟨3, ![2, 4224, 512]⟩
abbrev S1x4x128x128 : Shape := ⟨4, ![1, 4, 128, 128]⟩
abbrev S1x512 : Shape := ⟨2, ![1, 512]⟩
abbrev S4x128x128 : Shape := ⟨3, ![4, 128, 128]⟩
abbrev S2x128x512 : Shape := ⟨3, ![2, 128, 512]⟩
abbrev S128x256 : Shape := ⟨2, ![128, 256]⟩
abbrev S128x1 : Shape := ⟨2, ![128, 1]⟩
abbrev S1x128x128 : Shape := ⟨3, ![1, 128, 128]⟩
abbrev S128x128 : Shape := ⟨2, ![128, 128]⟩
abbrev S256x128 : Shape := ⟨2, ![256, 128]⟩
abbrev S1x128 : Shape := ⟨2, ![1, 128]⟩
abbrev S128 : Shape := ⟨1, ![128]⟩

abbrev nBuf : Space → Nat
  | .hbm => 8
  | .vmem => 14
  | .smem => 0
  | _ => 0

abbrev bufTy : (tb : Table) → Fin (tcTables nBuf tb) → BufTy
  | .hbm, ⟨0, _⟩ => ⟨S2x4224x512, .f32⟩
  | .hbm, ⟨1, _⟩ => ⟨S2x4224x512, .f32⟩
  | .hbm, ⟨2, _⟩ => ⟨S1x4x128x128, .f32⟩
  | .hbm, ⟨3, _⟩ => ⟨S1x512, .f32⟩
  | .hbm, ⟨4, _⟩ => ⟨S4x128x128, .f32⟩
  | .hbm, ⟨5, _⟩ => ⟨S2x4224x512, .bf16⟩
  | .hbm, ⟨6, _⟩ => ⟨S4x128x128, .f32⟩
  | .hbm, ⟨7, _⟩ => ⟨S1x512, .f32⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .vmem, ⟨7, _⟩ => ⟨S2x128x512, .f32⟩
  | .local _ .vmem, ⟨8, _⟩ => ⟨S4x128x128, .f32⟩
  | .local _ .vmem, ⟨9, _⟩ => ⟨S1x512, .f32⟩
  | .local _ .vmem, ⟨10, _⟩ => ⟨S2x128x512, .bf16⟩
  | .local _ .vmem, ⟨11, _⟩ => ⟨S2x128x512, .bf16⟩
  | .local _ .vmem, ⟨12, _⟩ => ⟨S4x128x128, .f32⟩
  | .local _ .vmem, ⟨13, _⟩ => ⟨S1x512, .f32⟩
  | _, _ => ⟨S2x4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.minsi v0 c32_i32
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x4224x512 : Shape := ⟨3, ![2, 4224, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S2x4224x4x128 : Shape := ⟨4, ![2, 4224, 4, 128]⟩
abbrev S_ : Shape := ⟨0, ![]⟩
abbrev S2x16x4x128 : Shape := ⟨4, ![2, 16, 4, 128]⟩
abbrev S2x4240x4x128 : Shape := ⟨4, ![2, 4240, 4, 128]⟩
abbrev S4224 : Shape := ⟨1, ![4224]⟩
abbrev S2x4224x1x128 : Shape := ⟨4, ![2, 4224, 1, 128]⟩
abbrev S2x4224x128 : Shape := ⟨3, ![2, 4224, 128]⟩
abbrev S1x4224x1 : Shape := ⟨3, ![1, 4224, 1]⟩
abbrev S4x128x2x4224 : Shape := ⟨4, ![4, 128, 2, 4224]⟩
abbrev S1x1x512 : Shape := ⟨3, ![1, 1, 512]⟩
abbrev S4x2x4224x128 : Shape := ⟨4, ![4, 2, 4224, 128]⟩

abbrev nBuf : Space → Nat
  | .hbm => 217
  | .vmem => 0
  | .smem => 0
  | _ => 0

abbrev hbmTy0_0 (i : Nat) : BufTy := match i % 128 with
  | 0 => ⟨S2x4224x512, .f32⟩
  | 1 => ⟨S2x4224x512, .f32⟩
  | 2 => ⟨S1x4x128x128, .f32⟩
  | 3 => ⟨S1x512, .f32⟩
  | 4 => ⟨S4x128x128, .f32⟩
  | 5 => ⟨S512, .f32⟩
  | 6 => ⟨S2x4224x4x128, .f32⟩
  | 7 => ⟨S_, .f32⟩
  | 8 => ⟨S_, .f32⟩
  | 9 => ⟨S2x4224x4x128, .f32⟩
  | 10 => ⟨S_, .f32⟩
  | 11 => ⟨S2x16x4x128, .f32⟩
  | 12 => ⟨S2x4240x4x128, .f32⟩
  | 13 => ⟨S_, .f32⟩
  | 14 => ⟨S2x16x4x128, .f32⟩
  | 15 => ⟨S4224, .i32⟩
  | 16 => ⟨S_, .i32⟩
  | 17 => ⟨S4224, .i32⟩
  | 18 => ⟨S4224, .i32⟩
  | 19 => ⟨S2x4224x1x128, .f32⟩
  | 20 => ⟨S2x4224x128, .f32⟩
  | 21 => ⟨S2x4224x1x128, .f32⟩
  | 22 => ⟨S2x4224x128, .f32⟩
  | 23 => ⟨S2x4224x128, .f32⟩
  | 24 => ⟨S_, .i32⟩
  | 25 => ⟨S4224, .i32⟩
  | 26 => ⟨S4224, .i32⟩
  | 27 => ⟨S_, .i32⟩
  | 28 => ⟨S_, .i32⟩
  | 29 => ⟨S_, .i32⟩
  | 30 => ⟨S4224, .i32⟩
  | 31 => ⟨S4224, .i32⟩
  | 32 => ⟨S_, .i32⟩
  | 33 => ⟨S4224, .i32⟩
  | 34 => ⟨S4224, .i32⟩
  | 35 => ⟨S4224, .f32⟩
  | 36 => ⟨S1x4224x1, .f32⟩
  | 37 => ⟨S2x4224x128, .f32⟩
  | 38 => ⟨S2x4224x128, .f32⟩
  | 39 => ⟨S2x4224x1x128, .f32⟩
  | 40 => ⟨S2x4224x128, .f32⟩
  | 41 => ⟨S2x4224x128, .f32⟩
  | 42 => ⟨S2x4224x1x128, .f32⟩
  | 43 => ⟨S2x4224x128, .f32⟩
  | 44 => ⟨S2x4224x1x128, .f32⟩
  | 45 => ⟨S2x4224x128, .f32⟩
  | 46 => ⟨S2x4224x128, .f32⟩
  | 47 => ⟨S_, .i32⟩
  | 48 => ⟨S4224, .i32⟩
  | 49 => ⟨S4224, .i32⟩
  | 50 => ⟨S_, .i32⟩
  | 51 => ⟨S_, .i32⟩
  | 52 => ⟨S_, .i32⟩
  | 53 => ⟨S4224, .i32⟩
  | 54 => ⟨S4224, .i32⟩
  | 55 => ⟨S_, .i32⟩
  | 56 => ⟨S4224, .i32⟩
  | 57 => ⟨S4224, .i32⟩
  | 58 => ⟨S4224, .f32⟩
  | 59 => ⟨S1x4224x1, .f32⟩
  | 60 => ⟨S2x4224x128, .f32⟩
  | 61 => ⟨S2x4224x128, .f32⟩
  | 62 => ⟨S2x4224x1x128, .f32⟩
  | 63 => ⟨S2x4224x128, .f32⟩
  | 64 => ⟨S2x4224x128, .f32⟩
  | 65 => ⟨S2x4224x1x128, .f32⟩
  | 66 => ⟨S2x4224x128, .f32⟩
  | 67 => ⟨S2x4224x1x128, .f32⟩
  | 68 => ⟨S2x4224x128, .f32⟩
  | 69 => ⟨S2x4224x128, .f32⟩
  | 70 => ⟨S_, .i32⟩
  | 71 => ⟨S4224, .i32⟩
  | 72 => ⟨S4224, .i32⟩
  | 73 => ⟨S_, .i32⟩
  | 74 => ⟨S_, .i32⟩
  | 75 => ⟨S_, .i32⟩
  | 76 => ⟨S4224, .i32⟩
  | 77 => ⟨S4224, .i32⟩
  | 78 => ⟨S_, .i32⟩
  | 79 => ⟨S4224, .i32⟩
  | 80 => ⟨S4224, .i32⟩
  | 81 => ⟨S4224, .f32⟩
  | 82 => ⟨S1x4224x1, .f32⟩
  | 83 => ⟨S2x4224x128, .f32⟩
  | 84 => ⟨S2x4224x128, .f32⟩
  | 85 => ⟨S2x4224x1x128, .f32⟩
  | 86 => ⟨S2x4224x128, .f32⟩
  | 87 => ⟨S2x4224x128, .f32⟩
  | 88 => ⟨S2x4224x1x128, .f32⟩
  | 89 => ⟨S2x4224x128, .f32⟩
  | 90 => ⟨S2x4224x1x128, .f32⟩
  | 91 => ⟨S2x4224x128, .f32⟩
  | 92 => ⟨S2x4224x128, .f32⟩
  | 93 => ⟨S_, .i32⟩
  | 94 => ⟨S4224, .i32⟩
  | 95 => ⟨S4224, .i32⟩
  | 96 => ⟨S_, .i32⟩
  | 97 => ⟨S_, .i32⟩
  | 98 => ⟨S_, .i32⟩
  | 99 => ⟨S4224, .i32⟩
  | 100 => ⟨S4224, .i32⟩
  | 101 => ⟨S_, .i32⟩
  | 102 => ⟨S4224, .i32⟩
  | 103 => ⟨S4224, .i32⟩
  | 104 => ⟨S4224, .f32⟩
  | 105 => ⟨S1x4224x1, .f32⟩
  | 106 => ⟨S2x4224x128, .f32⟩
  | 107 => ⟨S2x4224x128, .f32⟩
  | 108 => ⟨S2x4224x1x128, .f32⟩
  | 109 => ⟨S2x4224x128, .f32⟩
  | 110 => ⟨S2x4224x128, .f32⟩
  | 111 => ⟨S2x4224x1x128, .f32⟩
  | 112 => ⟨S2x4224x1x128, .f32⟩
  | 113 => ⟨S2x4224x1x128, .f32⟩
  | 114 => ⟨S2x4224x1x128, .f32⟩
  | 115 => ⟨S2x4224x4x128, .f32⟩
  | 116 => ⟨S4x128x2x4224, .f32⟩
  | 117 => ⟨S2x4224x4x128, .f32⟩
  | 118 => ⟨S2x4224x512, .f32⟩
  | 119 => ⟨S1x1x512, .f32⟩
  | 120 => ⟨S2x4224x512, .f32⟩
  | 121 => ⟨S2x4224x512, .f32⟩
  | 122 => ⟨S2x4224x512, .f32⟩
  | 123 => ⟨S_, .f32⟩
  | 124 => ⟨S512, .f32⟩
  | 125 => ⟨S1x1x512, .f32⟩
  | 126 => ⟨S2x4224x512, .f32⟩
  | 127 => ⟨S2x4224x512, .f32⟩
  | _ => ⟨S2x4224x512, .f32⟩

abbrev hbmTy0_1 (i : Nat) : BufTy := match i % 128 with
  | 0 => ⟨S_, .f32⟩
  | 1 => ⟨S512, .f32⟩
  | 2 => ⟨S2x4224x4x128, .f32⟩
  | 3 => ⟨S4x128x2x4224, .f32⟩
  | 4 => ⟨S4x2x4224x128, .f32⟩
  | 5 => ⟨S2x4224x4x128, .f32⟩
  | 6 => ⟨S4x128x128, .f32⟩
  | 7 => ⟨S4x128x128, .f32⟩
  | 8 => ⟨S2x4224x1x128, .f32⟩
  | 9 => ⟨S2x4224x128, .f32⟩
  | 10 => ⟨S2x4224x1x128, .f32⟩
  | 11 => ⟨S2x4224x128, .f32⟩
  | 12 => ⟨S2x4224x1x128, .f32⟩
  | 13 => ⟨S2x4224x128, .f32⟩
  | 14 => ⟨S2x4224x1x128, .f32⟩
  | 15 => ⟨S2x4224x128, .f32⟩
  | 16 => ⟨S2x4224x128, .f32⟩
  | 17 => ⟨S2x4224x1x128, .f32⟩
  | 18 => ⟨S_, .f32⟩
  | 19 => ⟨S2x4224x4x128, .f32⟩
  | 20 => ⟨S2x4224x128, .f32⟩
  | 21 => ⟨S2x4224x128, .f32⟩
  | 22 => ⟨S2x4224x128, .f32⟩
  | 23 => ⟨S2x4224x1x128, .f32⟩
  | 24 => ⟨S_, .f32⟩
  | 25 => ⟨S2x4240x4x128, .f32⟩
  | 26 => ⟨S2x4224x1x128, .f32⟩
  | 27 => ⟨S_, .f32⟩
  | 28 => ⟨S2x4240x4x128, .f32⟩
  | 29 => ⟨S2x4240x4x128, .f32⟩
  | 30 => ⟨S2x4224x128, .f32⟩
  | 31 => ⟨S2x4224x1x128, .f32⟩
  | 32 => ⟨S_, .f32⟩
  | 33 => ⟨S2x4224x4x128, .f32⟩
  | 34 => ⟨S2x4224x4x128, .f32⟩
  | 35 => ⟨S2x4224x128, .f32⟩
  | 36 => ⟨S2x4224x128, .f32⟩
  | 37 => ⟨S2x4224x128, .f32⟩
  | 38 => ⟨S2x4224x1x128, .f32⟩
  | 39 => ⟨S_, .f32⟩
  | 40 => ⟨S2x4240x4x128, .f32⟩
  | 41 => ⟨S2x4240x4x128, .f32⟩
  | 42 => ⟨S2x4224x1x128, .f32⟩
  | 43 => ⟨S_, .f32⟩
  | 44 => ⟨S2x4240x4x128, .f32⟩
  | 45 => ⟨S2x4240x4x128, .f32⟩
  | 46 => ⟨S2x4224x128, .f32⟩
  | 47 => ⟨S2x4224x1x128, .f32⟩
  | 48 => ⟨S_, .f32⟩
  | 49 => ⟨S2x4224x4x128, .f32⟩
  | 50 => ⟨S2x4224x4x128, .f32⟩
  | 51 => ⟨S2x4224x128, .f32⟩
  | 52 => ⟨S2x4224x128, .f32⟩
  | 53 => ⟨S2x4224x128, .f32⟩
  | 54 => ⟨S2x4224x1x128, .f32⟩
  | 55 => ⟨S_, .f32⟩
  | 56 => ⟨S2x4240x4x128, .f32⟩
  | 57 => ⟨S2x4240x4x128, .f32⟩
  | 58 => ⟨S2x4224x1x128, .f32⟩
  | 59 => ⟨S_, .f32⟩
  | 60 => ⟨S2x4240x4x128, .f32⟩
  | 61 => ⟨S2x4240x4x128, .f32⟩
  | 62 => ⟨S2x4224x128, .f32⟩
  | 63 => ⟨S2x4224x1x128, .f32⟩
  | 64 => ⟨S_, .f32⟩
  | 65 => ⟨S2x4224x4x128, .f32⟩
  | 66 => ⟨S2x4224x4x128, .f32⟩
  | 67 => ⟨S2x4224x128, .f32⟩
  | 68 => ⟨S2x4224x128, .f32⟩
  | 69 => ⟨S2x4224x128, .f32⟩
  | 70 => ⟨S2x4224x1x128, .f32⟩
  | 71 => ⟨S_, .f32⟩
  | 72 => ⟨S2x4240x4x128, .f32⟩
  | 73 => ⟨S2x4240x4x128, .f32⟩
  | 74 => ⟨S2x4224x1x128, .f32⟩
  | 75 => ⟨S_, .f32⟩
  | 76 => ⟨S2x4240x4x128, .f32⟩
  | 77 => ⟨S2x4240x4x128, .f32⟩
  | 78 => ⟨S2x16x4x128, .f32⟩
  | 79 => ⟨S2x4224x4x128, .f32⟩
  | 80 => ⟨S_, .f32⟩
  | 81 => ⟨S_, .f32⟩
  | 82 => ⟨S2x4224x4x128, .f32⟩
  | 83 => ⟨S2x4224x4x128, .f32⟩
  | 84 => ⟨S2x4224x512, .f32⟩
  | 85 => ⟨S1x512, .f32⟩
  | 86 => ⟨S1x4x128x128, .f32⟩
  | 87 => ⟨S2x4224x512, .bf16⟩
  | 88 => ⟨S4x128x128, .f32⟩
  | _ => ⟨S2x4224x512, .f32⟩

abbrev hbmTy (i : Nat) : BufTy := match i / 128 with
  | 0 => hbmTy0_0 i
  | 1 => hbmTy0_1 i
  | _ => ⟨S2x4224x512, .f32⟩

abbrev bufTy : (tb : Table) → Fin (tcTables nBuf tb) → BufTy
  | .hbm, ⟨i, _⟩ => hbmTy i
  | _, _ => ⟨S2x4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_c_3 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_c_9 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_10 : Ref sig .tc := ⟨.hbm, 93, rfl⟩
abbrev main_v60 : Ref sig .tc := ⟨.hbm, 94, rfl⟩
abbrev main_v61 : Ref sig .tc := ⟨.hbm, 95, rfl⟩
abbrev main_c_11 : Ref sig .tc := ⟨.hbm, 96, rfl⟩
abbrev main_c_12 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_14 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_15 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_16 : Ref sig .tc := ⟨.hbm, 152, rfl⟩
abbrev main_v108 : Ref sig .tc := ⟨.hbm, 153, rfl⟩
abbrev main_v109 : Ref sig .tc := ⟨.hbm, 154, rfl⟩
abbrev main_cst_17 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_18 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_19 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_20 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_21 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_22 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_23 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_24 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_cst_25 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_26 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_call5_call0_cst : Ref sig .tc := ⟨.hbm, 208, rfl⟩
abbrev main_call5_call0_v0 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩

abbrev nD : Nat := 1
abbrev τ : Topo := Topo.v7x

variable {F : FTy → Type} [FloatOps F]
-- ==== Ff2Bwd.lean ====
abbrev S8448x1024 : Shape := ⟨2, ![8448, 1024]⟩
abbrev S4096x1024 : Shape := ⟨2, ![4096, 1024]⟩
abbrev S8448x4096 : Shape := ⟨2, ![8448, 4096]⟩
abbrev S768x1024 : Shape := ⟨2, ![768, 1024]⟩
abbrev S768x4096 : Shape := ⟨2, ![768, 4096]⟩
abbrev S512x1024 : Shape := ⟨2, ![512, 1024]⟩
abbrev S768x512 : Shape := ⟨2, ![768, 512]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4096x1024, .bf16⟩
  | .hbm, ⟨2, _⟩ => ⟨S8448x4096, .bf16⟩
  | .hbm, ⟨3, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S4096x1024, .bf16⟩
  | .local _ .vmem, ⟨3, _⟩ => ⟨S768x4096, .bf16⟩
  | .local _ .vmem, ⟨4, _⟩ => ⟨S768x4096, .bf16⟩
  | .local _ .vmem, ⟨5, _⟩ => ⟨S768x4096, .bf16⟩
  | .local _ .vmem, ⟨6, _⟩ => ⟨S768x4096, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ff2BwdRefIdeal.lean ====
abbrev S8448x1024 : Shape := ⟨2, ![8448, 1024]⟩
abbrev S4096x1024 : Shape := ⟨2, ![4096, 1024]⟩
abbrev S8448x4096 : Shape := ⟨2, ![8448, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4096x1024, .bf16⟩
  | .hbm, ⟨2, _⟩ => ⟨S8448x4096, .bf16⟩
  | .hbm, ⟨3, _⟩ => ⟨S8448x4096, .f32⟩
  | .hbm, ⟨4, _⟩ => ⟨S_, .f32⟩
  | .hbm, ⟨5, _⟩ => ⟨S8448x4096, .f32⟩
  | .hbm, ⟨6, _⟩ => ⟨S8448x4096, .f32⟩
  | .hbm, ⟨7, _⟩ => ⟨S_, .f32⟩
  | .hbm, ⟨8, _⟩ => ⟨S8448x4096, .f32⟩
  | .hbm, ⟨9, _⟩ => ⟨S8448x4096, .i1⟩
  | .hbm, ⟨10, _⟩ => ⟨S_, .f32⟩
  | .hbm, ⟨11, _⟩ => ⟨S8448x4096, .f32⟩
  | .hbm, ⟨12, _⟩ => ⟨S8448x4096, .f32⟩
  | .hbm, ⟨13, _⟩ => ⟨S_, .f32⟩
  | .hbm, ⟨14, _⟩ => ⟨S8448x4096, .f32⟩
  | .hbm, ⟨15, _⟩ => ⟨S8448x4096, .f32⟩
  | .hbm, ⟨16, _⟩ => ⟨S4096x1024, .f32⟩
  | .hbm, ⟨17, _⟩ => ⟨S8448x1024, .f32⟩
  | .hbm, ⟨18, _⟩ => ⟨S8448x1024, .f32⟩
  | .hbm, ⟨19, _⟩ => ⟨S8448x4096, .f32⟩
  | .hbm, ⟨20, _⟩ => ⟨S8448x4096, .f32⟩
  | .hbm, ⟨21, _⟩ => ⟨S_, .f32⟩
  | .hbm, ⟨22, _⟩ => ⟨S8448x4096, .f32⟩
  | .hbm, ⟨23, _⟩ => ⟨S8448x4096, .f32⟩
  | .hbm, ⟨24, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Ff2Dw.lean ====
abbrev S8448x4096 : Shape := ⟨2, ![8448, 4096]⟩
abbrev S8448x1024 : Shape := ⟨2, ![8448, 1024]⟩
abbrev S4096x1024 : Shape := ⟨2, ![4096, 1024]⟩
abbrev S768x2048 : Shape := ⟨2, ![768, 2048]⟩
abbrev S768x1024 : Shape := ⟨2, ![768, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S4096x1024, .bf16⟩
  | .local _ .vmem, ⟨0, _⟩ => ⟨S768x2048, .bf16⟩
  | .local _ .vmem, ⟨1, _⟩ => ⟨S768x2048, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v14 : BitVec 1 := Scalar.cmpi .eq arg2 c10_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S8448x4096 : Shape := ⟨2, ![8448, 4096]⟩
abbrev S8448x1024 : Shape := ⟨2, ![8448, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x1024, .bf16⟩
  | .hbm, ⟨2, _⟩ => ⟨S_, .f32⟩
  | .hbm, ⟨3, _⟩ => ⟨S4096x1024, .f32⟩
  | .hbm, ⟨4, _⟩ => ⟨S8448x4096, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S8448x4096, .f32⟩
  | .hbm, ⟨9, _⟩ => ⟨S8448x1024, .f32⟩
  | .hbm, ⟨10, _⟩ => ⟨S8448x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Ff1Dw.lean ====
abbrev S8448x1024 : Shape := ⟨2, ![8448, 1024]⟩
abbrev S8448x4096 : Shape := ⟨2, ![8448, 4096]⟩
abbrev S4x1024x1024 : Shape := ⟨3, ![4, 1024, 1024]⟩
abbrev S768x1024 : Shape := ⟨2, ![768, 1024]⟩
abbrev S768x2048 : Shape := ⟨2, ![768, 2048]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S4x1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S2x1024x1024, .bf16⟩
  | .local _ .vmem, ⟨5, _⟩ => ⟨S2x1024x1024, .bf16⟩
  | .local _ .vmem, ⟨6, _⟩ => ⟨S2x1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v20 : BitVec 1 := Scalar.cmpi .eq arg2 c10_i32
  let v21 : BitVec 32 := Scalar.extui v20
  let c0_i32_17 : BitVec 32 := 0#32
  let v22 : BitVec 1 := Scalar.cmpi .ne v21 c0_i32_17
  v22

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S8448x1024 : Shape := ⟨2, ![8448, 1024]⟩
abbrev S8448x4096 : Shape := ⟨2, ![8448, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .bf16⟩
  | .hbm, ⟨2, _⟩ => ⟨S_, .f32⟩
  | .hbm, ⟨3, _⟩ => ⟨S4x1024x1024, .f32⟩
  | .hbm, ⟨4, _⟩ => ⟨S8448x1024, .f32⟩
  | .hbm, ⟨5, _⟩ => ⟨S1024x4x1024, .f32⟩
  | .hbm, ⟨6, _⟩ => ⟨S1024x4096, .f32⟩
  | .hbm, ⟨7, _⟩ => ⟨S8448x4096, .f32⟩
  | .hbm, ⟨8, _⟩ => ⟨S8448x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Ff1Bwd.lean ====
abbrev S8448x4096 : Shape := ⟨2, ![8448, 4096]⟩
abbrev S4x1024x1024 : Shape := ⟨3, ![4, 1024, 1024]⟩
abbrev S8448x1024 : Shape := ⟨2, ![8448, 1024]⟩
abbrev S1x1024 : Shape := ⟨2, ![1, 1024]⟩
abbrev S384x4096 : Shape := ⟨2, ![384, 4096]⟩
abbrev S384x1024 : Shape := ⟨2, ![384, 1024]⟩
abbrev S1x1024x1024 : Shape := ⟨3, ![1, 1024, 1024]⟩
abbrev S1024x1024 : Shape := ⟨2, ![1024, 1024]⟩
abbrev S384 : Shape := ⟨1, ![384]⟩
abbrev S384x1 : Shape := ⟨2, ![384, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8448x4096, .bf16⟩
  | .hbm, ⟨1, _⟩ => ⟨S4x1024x1024, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .bf16⟩
  | .hbm, ⟨7, _⟩ => ⟨S1x1024, .f32⟩
  | .local _ .vmem, ⟨0, _⟩ => ⟨S384x4096, .bf16⟩
  | .local _ .vmem, ⟨1, _⟩ => ⟨S384x4096, .bf16⟩
  | .local _ .vmem, ⟨2, _⟩ => ⟨S4x1024x1024, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S1x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Ff1BwdRefIdeal.lean ====
abbrev S8448x4096 : Shape := ⟨2, ![8448, 4096]⟩
abbrev S4x1024x1024 : Shape := ⟨3, ![4, 1024, 1024]⟩
abbrev S8448x1024 : Shape := ⟨2, ![8448, 1024]⟩
abbrev S1x1024 : Shape := ⟨2, ![1, 1024]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 60
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x1024x1024, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S1024, .f32⟩
  | .hbm, ⟨9, _⟩ => ⟨S8448x1024, .f32⟩
  | .hbm, ⟨10, _⟩ => ⟨S_, .f32⟩
  | .hbm, ⟨11, _⟩ => ⟨S8448, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1, .f32⟩
  | .hbm, ⟨20, _⟩ => ⟨S8448x1, .f32⟩
  | .hbm, ⟨21, _⟩ => ⟨S_, .f32⟩
  | .hbm, ⟨22, _⟩ => ⟨S8448x1, .f32⟩
  | .hbm, ⟨23, _⟩ => ⟨S8448x1, .f32⟩
  | .hbm, ⟨24, _⟩ => ⟨S8448x1024, .f32⟩
  | .hbm, ⟨25, _⟩ => ⟨S8448x1024, .f32⟩
  | .hbm, ⟨26, _⟩ => ⟨S1x1024, .f32⟩
  | .hbm, ⟨27, _⟩ => ⟨S8448x1024, .f32⟩
  | .hbm, ⟨28, _⟩ => ⟨S8448x1024, .f32⟩
  | .hbm, ⟨29, _⟩ => ⟨S8448x4096, .f32⟩
  | .hbm, ⟨30, _⟩ => ⟨S8448x4096, .f32⟩
  | .hbm, ⟨31, _⟩ => ⟨S8448x1024, .f32⟩
  | .hbm, ⟨32, _⟩ => ⟨S8448x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S1024, .f32⟩
  | .hbm, ⟨40, _⟩ => ⟨S8448x1024, .f32⟩
  | .hbm, ⟨41, _⟩ => ⟨S_, .f32⟩
  | .hbm, ⟨42, _⟩ => ⟨S8448, .f32⟩
  | .hbm, ⟨43, _⟩ => ⟨S8448x1, .f32⟩
  | .hbm, ⟨44, _⟩ => ⟨S8448x1024, .f32⟩
  | .hbm, ⟨45, _⟩ => ⟨S8448x1024, .f32⟩
  | .hbm, ⟨46, _⟩ => ⟨S8448x1024, .f32⟩
  | .hbm, ⟨47, _⟩ => ⟨S8448x1, .f32⟩
  | .hbm, ⟨48, _⟩ => ⟨S_, .f32⟩
  | .hbm, ⟨49, _⟩ => ⟨S8448x1, .f32⟩
  | .hbm, ⟨50, _⟩ => ⟨S8448x1, .f32⟩
  | .hbm, ⟨51, _⟩ => ⟨S_, .f32⟩
  | .hbm, ⟨52, _⟩ => ⟨S8448, .f32⟩
  | .hbm, ⟨53, _⟩ => ⟨S8448x1024, .f32⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S1x1024, .f32⟩
  | .hbm, ⟨59, _⟩ => ⟨S8448x1024, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== OutBwd.lean ====
abbrev S8448x1024 : Shape := ⟨2, ![8448, 1024]⟩
abbrev S2048x1024 : Shape := ⟨2, ![2048, 1024]⟩
abbrev S512x1024 : Shape := ⟨2, ![512, 1024]⟩
abbrev S1536x1024 : Shape := ⟨2, ![1536, 1024]⟩
abbrev S8448x512 : Shape := ⟨2, ![8448, 512]⟩
abbrev S8448x1536 : Shape := ⟨2, ![8448, 1536]⟩
abbrev S1056x1024 : Shape := ⟨2, ![1056, 1024]⟩
abbrev S1056x512 : Shape := ⟨2, ![1056, 512]⟩
abbrev S1056x1536 : Shape := ⟨2, ![1056, 1536]⟩

abbrev nBuf : Space → Nat
  | .hbm => 6
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S512x1024, .bf16⟩
  | .hbm, ⟨3, _⟩ => ⟨S1536x1024, .bf16⟩
  | .hbm, ⟨4, _⟩ => ⟨S8448x512, .f32⟩
  | .hbm, ⟨5, _⟩ => ⟨S8448x1536, .f32⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S1536x1024, .bf16⟩
  | .local _ .vmem, ⟨4, _⟩ => ⟨S1056x512, .f32⟩
  | .local _ .vmem, ⟨5, _⟩ => ⟨S1056x512, .f32⟩
  | .local _ .vmem, ⟨6, _⟩ => ⟨S1056x1536, .f32⟩
  | .local _ .vmem, ⟨7, _⟩ => ⟨S1056x1536, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1056x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutBwdRefIdeal.lean ====
abbrev S8448x1024 : Shape := ⟨2, ![8448, 1024]⟩
abbrev S2048x1024 : Shape := ⟨2, ![2048, 1024]⟩
abbrev S_ : Shape := ⟨0, ![]⟩
abbrev S8448x512 : Shape := ⟨2, ![8448, 512]⟩
abbrev S8448x1536 : Shape := ⟨2, ![8448, 1536]⟩
abbrev S8448x2048 : Shape := ⟨2, ![8448, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S_, .f32⟩
  | .hbm, ⟨3, _⟩ => ⟨S8448x512, .f32⟩
  | .hbm, ⟨4, _⟩ => ⟨S_, .f32⟩
  | .hbm, ⟨5, _⟩ => ⟨S8448x1536, .f32⟩
  | .hbm, ⟨6, _⟩ => ⟨S8448x2048, .f32⟩
  | .hbm, ⟨7, _⟩ => ⟨S2048x1024, .f32⟩
  | .hbm, ⟨8, _⟩ => ⟨S8448x1024, .f32⟩
  | .hbm, ⟨9, _⟩ => ⟨S8448x1024, .f32⟩
  | .hbm, ⟨10, _⟩ => ⟨S8448x2048, .f32⟩
  | .hbm, ⟨11, _⟩ => ⟨S8448x512, .f32⟩
  | .hbm, ⟨12, _⟩ => ⟨S8448x1536, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== OutDw.lean ====
abbrev S8448x512 : Shape := ⟨2, ![8448, 512]⟩
abbrev S8448x1536 : Shape := ⟨2, ![8448, 1536]⟩
abbrev S8448x1024 : Shape := ⟨2, ![8448, 1024]⟩
abbrev S2048x1024 : Shape := ⟨2, ![2048, 1024]⟩
abbrev S768x512 : Shape := ⟨2, ![768, 512]⟩
abbrev S768x1536 : Shape := ⟨2, ![768, 1536]⟩
abbrev S768x1024 : Shape := ⟨2, ![768, 1024]⟩
abbrev S512x1024 : Shape := ⟨2, ![512, 1024]⟩
abbrev S1536x1024 : Shape := ⟨2, ![1536, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S8448x1024, .bf16⟩
  | .hbm, ⟨3, _⟩ => ⟨S2048x1024, .bf16⟩
  | .local _ .vmem, ⟨0, _⟩ => ⟨S768x512, .bf16⟩
  | .local _ .vmem, ⟨1, _⟩ => ⟨S768x512, .bf16⟩
  | .local _ .vmem, ⟨2, _⟩ => ⟨S768x1536, .bf16⟩
  | .local _ .vmem, ⟨3, _⟩ => ⟨S768x1536, .bf16⟩
  | .local _ .vmem, ⟨4, _⟩ => ⟨S768x1024, .bf16⟩
  | .local _ .vmem, ⟨5, _⟩ => ⟨S768x1024, .bf16⟩
  | .local _ .vmem, ⟨6, _⟩ => ⟨S2048x1024, .bf16⟩
  | .local _ .vmem, ⟨7, _⟩ => ⟨S2048x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v18 : BitVec 1 := Scalar.cmpi .eq arg0 c10_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutDwRefIdeal.lean ====
abbrev S8448x512 : Shape := ⟨2, ![8448, 512]⟩
abbrev S8448x1536 : Shape := ⟨2, ![8448, 1536]⟩
abbrev S8448x1024 : Shape := ⟨2, ![8448, 1024]⟩
abbrev S_ : Shape := ⟨0, ![]⟩
abbrev S2048x1024 : Shape := ⟨2, ![2048, 1024]⟩
abbrev S8448x2048 : Shape := ⟨2, ![8448, 2048]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S8448x1024, .bf16⟩
  | .hbm, ⟨3, _⟩ => ⟨S_, .f32⟩
  | .hbm, ⟨4, _⟩ => ⟨S2048x1024, .f32⟩
  | .hbm, ⟨5, _⟩ => ⟨S8448x512, .f32⟩
  | .hbm, ⟨6, _⟩ => ⟨S8448x1536, .f32⟩
  | .hbm, ⟨7, _⟩ => ⟨S8448x2048, .f32⟩
  | .hbm, ⟨8, _⟩ => ⟨S8448x1024, .f32⟩
  | .hbm, ⟨9, _⟩ => ⟨S8448x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InDw.lean ====
abbrev S8448x512 : Shape := ⟨2, ![8448, 512]⟩
abbrev S8448x1536 : Shape := ⟨2, ![8448, 1536]⟩
abbrev S8448x1024 : Shape := ⟨2, ![8448, 1024]⟩
abbrev S2560x1024 : Shape := ⟨2, ![2560, 1024]⟩
abbrev S1056x512 : Shape := ⟨2, ![1056, 512]⟩
abbrev S1056x1536 : Shape := ⟨2, ![1056, 1536]⟩
abbrev S1056x1024 : Shape := ⟨2, ![1056, 1024]⟩
abbrev S512x1024 : Shape := ⟨2, ![512, 1024]⟩
abbrev S1536x1024 : Shape := ⟨2, ![1536, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S8448x512, .bf16⟩
  | .hbm, ⟨3, _⟩ => ⟨S8448x1024, .bf16⟩
  | .hbm, ⟨4, _⟩ => ⟨S2560x1024, .bf16⟩
  | .local _ .vmem, ⟨0, _⟩ => ⟨S1056x512, .bf16⟩
  | .local _ .vmem, ⟨1, _⟩ => ⟨S1056x512, .bf16⟩
  | .local _ .vmem, ⟨2, _⟩ => ⟨S1056x1536, .bf16⟩
  | .local _ .vmem, ⟨3, _⟩ => ⟨S1056x1536, .bf16⟩
  | .local _ .vmem, ⟨4, _⟩ => ⟨S1056x512, .bf16⟩
  | .local _ .vmem, ⟨5, _⟩ => ⟨S1056x512, .bf16⟩
  | .local _ .vmem, ⟨6, _⟩ => ⟨S1056x1024, .bf16⟩
  | .local _ .vmem, ⟨7, _⟩ => ⟨S1056x1024, .bf16⟩
  | .local _ .vmem, ⟨8, _⟩ => ⟨S2560x1024, .bf16⟩
  | .local _ .vmem, ⟨9, _⟩ => ⟨S2560x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_20 : BitVec 32 := 0#32
  let v27 : BitVec 1 := Scalar.cmpi .ne v26 c0_i32_20
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1056x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== InDwRefIdeal.lean ====
abbrev S8448x512 : Shape := ⟨2, ![8448, 512]⟩
abbrev S8448x1536 : Shape := ⟨2, ![8448, 1536]⟩
abbrev S8448x1024 : Shape := ⟨2, ![8448, 1024]⟩
abbrev S_ : Shape := ⟨0, ![]⟩
abbrev S2560x1024 : Shape := ⟨2, ![2560, 1024]⟩
abbrev S8448x2560 : Shape := ⟨2, ![8448, 2560]⟩

abbrev nBuf : Space → Nat
  | .hbm => 24
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S8448x512, .bf16⟩
  | .hbm, ⟨3, _⟩ => ⟨S8448x1024, .bf16⟩
  | .hbm, ⟨4, _⟩ => ⟨S_, .f32⟩
  | .hbm, ⟨5, _⟩ => ⟨S2560x1024, .f32⟩
  | .hbm, ⟨6, _⟩ => ⟨S8448x1024, .f32⟩
  | .hbm, ⟨7, _⟩ => ⟨S8448x2560, .f32⟩
  | .hbm, ⟨8, _⟩ => ⟨S8448x512, .f32⟩
  | .hbm, ⟨9, _⟩ => ⟨S8448x1536, .f32⟩
  | .hbm, ⟨10, _⟩ => ⟨S8448x512, .f32⟩
  | .hbm, ⟨11, _⟩ => ⟨S8448x512, .f32⟩
  | .hbm, ⟨12, _⟩ => ⟨S8448x1536, .f32⟩
  | .hbm, ⟨13, _⟩ => ⟨S8448x512, .f32⟩
  | .hbm, ⟨14, _⟩ => ⟨S_, .f32⟩
  | .hbm, ⟨15, _⟩ => ⟨S8448x2560, .f32⟩
  | .hbm, ⟨16, _⟩ => ⟨S_, .f32⟩
  | .hbm, ⟨17, _⟩ => ⟨S8448x2560, .f32⟩
  | .hbm, ⟨18, _⟩ => ⟨S8448x2560, .f32⟩
  | .hbm, ⟨19, _⟩ => ⟨S_, .f32⟩
  | .hbm, ⟨20, _⟩ => ⟨S8448x2560, .f32⟩
  | .hbm, ⟨21, _⟩ => ⟨S8448x2560, .f32⟩
  | .hbm, ⟨22, _⟩ => ⟨S2560x1024, .f32⟩
  | .hbm, ⟨23, _⟩ => ⟨S2560x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Ff1.lean ====
abbrev S8448x1024 : Shape := ⟨2, ![8448, 1024]⟩
abbrev S4x1024x1024 : Shape := ⟨3, ![4, 1024, 1024]⟩
abbrev S8448x4096 : Shape := ⟨2, ![8448, 4096]⟩
abbrev S1056x1024 : Shape := ⟨2, ![1056, 1024]⟩
abbrev S1056x4096 : Shape := ⟨2, ![1056, 4096]⟩
abbrev S1x1024x512 : Shape := ⟨3, ![1, 1024, 512]⟩
abbrev S1024x512 : Shape := ⟨2, ![1024, 512]⟩
abbrev S1056x512 : Shape := ⟨2, ![1056, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S4x1024x1024, .bf16⟩
  | .hbm, ⟨2, _⟩ => ⟨S8448x4096, .bf16⟩
  | .local _ .vmem, ⟨0, _⟩ => ⟨S1056x1024, .bf16⟩
  | .local _ .vmem, ⟨1, _⟩ => ⟨S1056x1024, .bf16⟩
  | .local _ .vmem, ⟨2, _⟩ => ⟨S4x1024x1024, .bf16⟩
  | .local _ .vmem, ⟨3, _⟩ => ⟨S1056x4096, .bf16⟩
  | .local _ .vmem, ⟨4, _⟩ => ⟨S1056x4096, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Ff1RefIdeal.lean ====
abbrev S8448x1024 : Shape := ⟨2, ![8448, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S8448x4096 : Shape := ⟨2, ![8448, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x1024, .bf16⟩
  | .hbm, ⟨2, _⟩ => ⟨S4x1024x1024, .f32⟩
  | .hbm, ⟨3, _⟩ => ⟨S1024x4x1024, .f32⟩
  | .hbm, ⟨4, _⟩ => ⟨S1024x4096, .f32⟩
  | .hbm, ⟨5, _⟩ => ⟨S8448x1024, .f32⟩
  | .hbm, ⟨6, _⟩ => ⟨S8448x4096, .f32⟩
  | .hbm, ⟨7, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S8448x512 : Shape := ⟨2, ![8448, 512]⟩
abbrev S8448x1536 : Shape := ⟨2, ![8448, 1536]⟩
abbrev S2048x1024 : Shape := ⟨2, ![2048, 1024]⟩
abbrev S8448x1024 : Shape := ⟨2, ![8448, 1024]⟩
abbrev S1x1024 : Shape := ⟨2, ![1, 1024]⟩
abbrev S512x1024 : Shape := ⟨2, ![512, 1024]⟩
abbrev S1536x1024 : Shape := ⟨2, ![1536, 1024]⟩
abbrev S1056x512 : Shape := ⟨2, ![1056, 512]⟩
abbrev S1056x1536 : Shape := ⟨2, ![1056, 1536]⟩
abbrev S1056x1024 : Shape := ⟨2, ![1056, 1024]⟩
abbrev S512x512 : Shape := ⟨2, ![512, 512]⟩
abbrev S1536x512 : Shape := ⟨2, ![1536, 512]⟩
abbrev S1056 : Shape := ⟨1, ![1056]⟩
abbrev S1056x1 : Shape := ⟨2, ![1056, 1]⟩

abbrev nBuf : Space → Nat
  | .hbm => 9
  | .vmem => 13
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S2048x1024, .bf16⟩
  | .hbm, ⟨3, _⟩ => ⟨S8448x1024, .f32⟩
  | .hbm, ⟨4, _⟩ => ⟨S1x1024, .f32⟩
  | .hbm, ⟨5, _⟩ => ⟨S512x1024, .bf16⟩
  | .hbm, ⟨6, _⟩ => ⟨S1536x1024, .bf16⟩
  | .hbm, ⟨7, _⟩ => ⟨S8448x1024, .f32⟩
  | .hbm, ⟨8, _⟩ => ⟨S8448x1024, .bf16⟩
  | .local _ .vmem, ⟨0, _⟩ => ⟨S1056x512, .bf16⟩
  | .local _ .vmem, ⟨1, _⟩ => ⟨S1056x512, .bf16⟩
  | .local _ .vmem, ⟨2, _⟩ => ⟨S1056x1536, .bf16⟩
  | .local _ .vmem, ⟨3, _⟩ => ⟨S1056x1536, .bf16⟩
  | .local _ .vmem, ⟨4, _⟩ => ⟨S512x1024, .bf16⟩
  | .local _ .vmem, ⟨5, _⟩ => ⟨S1536x1024, .bf16⟩
  | .local _ .vmem, ⟨6, _⟩ => ⟨S1056x1024, .f32⟩
  | .local _ .vmem, ⟨7, _⟩ => ⟨S1056x1024, .f32⟩
  | .local _ .vmem, ⟨8, _⟩ => ⟨S1x1024, .f32⟩
  | .local _ .vmem, ⟨9, _⟩ => ⟨S1056x1024, .f32⟩
  | .local _ .vmem, ⟨10, _⟩ => ⟨S1056x1024, .f32⟩
  | .local _ .vmem, ⟨11, _⟩ => ⟨S1056x1024, .bf16⟩
  | .local _ .vmem, ⟨12, _⟩ => ⟨S1056x1024, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1056x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1056x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1056x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1056x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjRefIdeal.lean ====
abbrev S8448x512 : Shape := ⟨2, ![8448, 512]⟩
abbrev S8448x1536 : Shape := ⟨2, ![8448, 1536]⟩
abbrev S2048x1024 : Shape := ⟨2, ![2048, 1024]⟩
abbrev S8448x1024 : Shape := ⟨2, ![8448, 1024]⟩
abbrev S1x1024 : Shape := ⟨2, ![1, 1024]⟩
abbrev S8448x2048 : Shape := ⟨2, ![8448, 2048]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 29
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1536, .bf16⟩
  | .hbm, ⟨2, _⟩ => ⟨S2048x1024, .bf16⟩
  | .hbm, ⟨3, _⟩ => ⟨S8448x1024, .f32⟩
  | .hbm, ⟨4, _⟩ => ⟨S1x1024, .f32⟩
  | .hbm, ⟨5, _⟩ => ⟨S8448x512, .f32⟩
  | .hbm, ⟨6, _⟩ => ⟨S8448x1536, .f32⟩
  | .hbm, ⟨7, _⟩ => ⟨S8448x2048, .f32⟩
  | .hbm, ⟨8, _⟩ => ⟨S2048x1024, .f32⟩
  | .hbm, ⟨9, _⟩ => ⟨S8448x1024, .f32⟩
  | .hbm, ⟨10, _⟩ => ⟨S8448x1024, .f32⟩
  | .hbm, ⟨11, _⟩ => ⟨S1024, .f32⟩
  | .hbm, ⟨12, _⟩ => ⟨S8448x1024, .f32⟩
  | .hbm, ⟨13, _⟩ => ⟨S_, .f32⟩
  | .hbm, ⟨14, _⟩ => ⟨S8448, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S_, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S8448x1024, .f32⟩
  | .hbm, ⟨24, _⟩ => ⟨S8448x1024, .f32⟩
  | .hbm, ⟨25, _⟩ => ⟨S1x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ProjXbc.lean ====
abbrev S8448x1024 : Shape := ⟨2, ![8448, 1024]⟩
abbrev S2560x1024 : Shape := ⟨2, ![2560, 1024]⟩
abbrev S4x2560 : Shape := ⟨2, ![4, 2560]⟩
abbrev S1x2560 : Shape := ⟨2, ![1, 2560]⟩
abbrev S8448x2560 : Shape := ⟨2, ![8448, 2560]⟩
abbrev S768x1024 : Shape := ⟨2, ![768, 1024]⟩
abbrev S768x2560 : Shape := ⟨2, ![768, 2560]⟩
abbrev S8x2560 : Shape := ⟨2, ![8, 2560]⟩
abbrev S512x1024 : Shape := ⟨2, ![512, 1024]⟩
abbrev S768x512 : Shape := ⟨2, ![768, 512]⟩
abbrev S8x512 : Shape := ⟨2, ![8, 512]⟩
abbrev S776x512 : Shape := ⟨2, ![776, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S2560x1024, .bf16⟩
  | .hbm, ⟨2, _⟩ => ⟨S4x2560, .f32⟩
  | .hbm, ⟨3, _⟩ => ⟨S1x2560, .f32⟩
  | .hbm, ⟨4, _⟩ => ⟨S8448x2560, .f32⟩
  | .hbm, ⟨5, _⟩ => ⟨S8448x2560, .bf16⟩
  | .local _ .vmem, ⟨0, _⟩ => ⟨S768x1024, .bf16⟩
  | .local _ .vmem, ⟨1, _⟩ => ⟨S768x1024, .bf16⟩
  | .local _ .vmem, ⟨2, _⟩ => ⟨S2560x1024, .bf16⟩
  | .local _ .vmem, ⟨3, _⟩ => ⟨S4x2560, .f32⟩
  | .local _ .vmem, ⟨4, _⟩ => ⟨S1x2560, .f32⟩
  | .local _ .vmem, ⟨5, _⟩ => ⟨S768x2560, .f32⟩
  | .local _ .vmem, ⟨6, _⟩ => ⟨S768x2560, .f32⟩
  | .local _ .vmem, ⟨7, _⟩ => ⟨S768x2560, .bf16⟩
  | .local _ .vmem, ⟨8, _⟩ => ⟨S768x2560, .bf16⟩
  | .local _ .vmem, ⟨9, _⟩ => ⟨S8x2560, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjXbcRefIdeal.lean ====
abbrev S8448x1024 : Shape := ⟨2, ![8448, 1024]⟩
abbrev S2560x1024 : Shape := ⟨2, ![2560, 1024]⟩
abbrev S4x2560 : Shape := ⟨2, ![4, 2560]⟩
abbrev S1x2560 : Shape := ⟨2, ![1, 2560]⟩
abbrev S8448x2560 : Shape := ⟨2, ![8448, 2560]⟩
abbrev S2560 : Shape := ⟨1, ![2560]⟩
abbrev S_ : Shape := ⟨0, ![]⟩
abbrev S3x2560 : Shape := ⟨2, ![3, 2560]⟩
abbrev S8451x2560 : Shape := ⟨2, ![8451, 2560]⟩

abbrev nBuf : Space → Nat
  | .hbm => 54
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2560x1024, .bf16⟩
  | .hbm, ⟨2, _⟩ => ⟨S4x2560, .f32⟩
  | .hbm, ⟨3, _⟩ => ⟨S1x2560, .f32⟩
  | .hbm, ⟨4, _⟩ => ⟨S8448x1024, .f32⟩
  | .hbm, ⟨5, _⟩ => ⟨S2560x1024, .f32⟩
  | .hbm, ⟨6, _⟩ => ⟨S8448x2560, .f32⟩
  | .hbm, ⟨7, _⟩ => ⟨S2560, .f32⟩
  | .hbm, ⟨8, _⟩ => ⟨S_, .f32⟩
  | .hbm, ⟨9, _⟩ => ⟨S3x2560, .f32⟩
  | .hbm, ⟨10, _⟩ => ⟨S8451x2560, .f32⟩
  | .hbm, ⟨11, _⟩ => ⟨S8448x2560, .f32⟩
  | .hbm, ⟨12, _⟩ => ⟨S1x2560, .f32⟩
  | .hbm, ⟨13, _⟩ => ⟨S2560, .f32⟩
  | .hbm, ⟨14, _⟩ => ⟨S1x2560, .f32⟩
  | .hbm, ⟨15, _⟩ => ⟨S8448x2560, .f32⟩
  | .hbm, ⟨16, _⟩ => ⟨S8448x2560, .f32⟩
  | .hbm, ⟨17, _⟩ => ⟨S_, .f32⟩
  | .hbm, ⟨18, _⟩ => ⟨S8448x2560, .f32⟩
  | .hbm, ⟨19, _⟩ => ⟨S8448x2560, .f32⟩
  | .hbm, ⟨20, _⟩ => ⟨S8448x2560, .f32⟩
  | .hbm, ⟨21, _⟩ => ⟨S1x2560, .f32⟩
  | .hbm, ⟨22, _⟩ => ⟨S2560, .f32⟩
  | .hbm, ⟨23, _⟩ => ⟨S1x2560, .f32⟩
  | .hbm, ⟨24, _⟩ => ⟨S8448x2560, .f32⟩
  | .hbm, ⟨25, _⟩ => ⟨S8448x2560, .f32⟩
  | .hbm, ⟨26, _⟩ => ⟨S8448x2560, .f32⟩
  | .hbm, ⟨27, _⟩ => ⟨S8448x2560, .f32⟩
  | .hbm, ⟨28, _⟩ => ⟨S1x2560, .f32⟩
  | .hbm, ⟨29, _⟩ => ⟨S2560, .f32⟩
  | .hbm, ⟨30, _⟩ => ⟨S1x2560, .f32⟩
  | .hbm, ⟨31, _⟩ => ⟨S8448x2560, .f32⟩
  | .hbm, ⟨32, _⟩ => ⟨S8448x2560, .f32⟩
  | .hbm, ⟨33, _⟩ => ⟨S8448x2560, .f32⟩
  | .hbm, ⟨34, _⟩ => ⟨S8448x2560, .f32⟩
  | .hbm, ⟨35, _⟩ => ⟨S1x2560, .f32⟩
  | .hbm, ⟨36, _⟩ => ⟨S2560, .f32⟩
  | .hbm, ⟨37, _⟩ => ⟨S1x2560, .f32⟩
  | .hbm, ⟨38, _⟩ => ⟨S8448x2560, .f32⟩
  | .hbm, ⟨39, _⟩ => ⟨S8448x2560, .f32⟩
  | .hbm, ⟨40, _⟩ => ⟨S8448x2560, .f32⟩
  | .hbm, ⟨41, _⟩ => ⟨S1x2560, .f32⟩
  | .hbm, ⟨42, _⟩ => ⟨S8448x2560, .f32⟩
  | .hbm, ⟨43, _⟩ => ⟨S8448x2560, .f32⟩
  | .hbm, ⟨44, _⟩ => ⟨S8448x2560, .f32⟩
  | .hbm, ⟨45, _⟩ => ⟨S8448x2560, .f32⟩
  | .hbm, ⟨46, _⟩ => ⟨S_, .f32⟩
  | .hbm, ⟨47, _⟩ => ⟨S8448x2560, .f32⟩
  | .hbm, ⟨48, _⟩ => ⟨S8448x2560, .f32⟩
  | .hbm, ⟨49, _⟩ => ⟨S_, .f32⟩
  | .hbm, ⟨50, _⟩ => ⟨S8448x2560, .f32⟩
  | .hbm, ⟨51, _⟩ => ⟨S8448x2560, .f32⟩
  | .hbm, ⟨52, _⟩ => ⟨S8448x2560, .f32⟩
  | .hbm, ⟨53, _⟩ => ⟨S8448x2560, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== ProjUzdt.lean ====
abbrev S8448x1024 : Shape := ⟨2, ![8448, 1024]⟩
abbrev S512x1024 : Shape := ⟨2, ![512, 1024]⟩
abbrev S1536x1024 : Shape := ⟨2, ![1536, 1024]⟩
abbrev S4x1x128 : Shape := ⟨3, ![4, 1, 128]⟩
abbrev S8448x512 : Shape := ⟨2, ![8448, 512]⟩
abbrev S8448x1536 : Shape := ⟨2, ![8448, 1536]⟩
abbrev S66x4x16x128 : Shape := ⟨4, ![66, 4, 16, 128]⟩
abbrev S768x1024 : Shape := ⟨2, ![768, 1024]⟩
abbrev S768x512 : Shape := ⟨2, ![768, 512]⟩
abbrev S768x1536 : Shape := ⟨2, ![768, 1536]⟩
abbrev S6x4x16x128 : Shape := ⟨4, ![6, 4, 16, 128]⟩
abbrev S128x128 : Shape := ⟨2, ![128, 128]⟩
abbrev S1x1x128 : Shape := ⟨3, ![1, 1, 128]⟩
abbrev S1x128 : Shape := ⟨2, ![1, 128]⟩
abbrev S8x128 : Shape := ⟨2, ![8, 128]⟩
abbrev S1x1x8x128 : Shape := ⟨4, ![1, 1, 8, 128]⟩

abbrev nBuf : Space → Nat
  | .hbm => 12
  | .vmem => 19
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S1536x1024, .bf16⟩
  | .hbm, ⟨3, _⟩ => ⟨S512x1024, .bf16⟩
  | .hbm, ⟨4, _⟩ => ⟨S4x1x128, .f32⟩
  | .hbm, ⟨5, _⟩ => ⟨S4x1x128, .f32⟩
  | .hbm, ⟨6, _⟩ => ⟨S8448x512, .f32⟩
  | .hbm, ⟨7, _⟩ => ⟨S8448x1536, .f32⟩
  | .hbm, ⟨8, _⟩ => ⟨S8448x512, .f32⟩
  | .hbm, ⟨9, _⟩ => ⟨S8448x512, .f32⟩
  | .hbm, ⟨10, _⟩ => ⟨S8448x512, .f32⟩
  | .hbm, ⟨11, _⟩ => ⟨S66x4x16x128, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S1536x1024, .bf16⟩
  | .local _ .vmem, ⟨4, _⟩ => ⟨S512x1024, .bf16⟩
  | .local _ .vmem, ⟨5, _⟩ => ⟨S4x1x128, .f32⟩
  | .local _ .vmem, ⟨6, _⟩ => ⟨S4x1x128, .f32⟩
  | .local _ .vmem, ⟨7, _⟩ => ⟨S768x512, .f32⟩
  | .local _ .vmem, ⟨8, _⟩ => ⟨S768x512, .f32⟩
  | .local _ .vmem, ⟨9, _⟩ => ⟨S768x1536, .f32⟩
  | .local _ .vmem, ⟨10, _⟩ => ⟨S768x1536, .f32⟩
  | .local _ .vmem, ⟨11, _⟩ => ⟨S768x512, .f32⟩
  | .local _ .vmem, ⟨12, _⟩ => ⟨S768x512, .f32⟩
  | .local _ .vmem, ⟨13, _⟩ => ⟨S768x512, .f32⟩
  | .local _ .vmem, ⟨14, _⟩ => ⟨S768x512, .f32⟩
  | .local _ .vmem, ⟨15, _⟩ => ⟨S768x512, .f32⟩
  | .local _ .vmem, ⟨16, _⟩ => ⟨S768x512, .f32⟩
  | .local _ .vmem, ⟨17, _⟩ => ⟨S6x4x16x128, .f32⟩
  | .local _ .vmem, ⟨18, _⟩ => ⟨S6x4x16x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S768x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S768x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S6x4x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjUzdtRefIdeal.lean ====
abbrev S8448x1024 : Shape := ⟨2, ![8448, 1024]⟩
abbrev S512x1024 : Shape := ⟨2, ![512, 1024]⟩
abbrev S1536x1024 : Shape := ⟨2, ![1536, 1024]⟩
abbrev S4x1x128 : Shape := ⟨3, ![4, 1, 128]⟩
abbrev S8448x512 : Shape := ⟨2, ![8448, 512]⟩
abbrev S8448x1536 : Shape := ⟨2, ![8448, 1536]⟩
abbrev S8448 : Shape := ⟨1, ![8448]⟩
abbrev S_ : Shape := ⟨0, ![]⟩
abbrev S8448x1x1 : Shape := ⟨3, ![8448, 1, 1]⟩
abbrev S128 : Shape := ⟨1, ![128]⟩
abbrev S1x1x128 : Shape := ⟨3, ![1, 1, 128]⟩
abbrev S8448x1x128 : Shape := ⟨3, ![8448, 1, 128]⟩
abbrev S8448x4x128 : Shape := ⟨3, ![8448, 4, 128]⟩
abbrev S4x128 : Shape := ⟨2, ![4, 128]⟩
abbrev S1x4x128 : Shape := ⟨3, ![1, 4, 128]⟩
abbrev S66x128x4x128 : Shape := ⟨4, ![66, 128, 4, 128]⟩
abbrev S1x1x4x128 : Shape := ⟨4, ![1, 1, 4, 128]⟩
abbrev S66x128x4x8 : Shape := ⟨4, ![66, 128, 4, 8]⟩
abbrev S66x128x4x16 : Shape := ⟨4, ![66, 128, 4, 16]⟩
abbrev S66x4x16x128 : Shape := ⟨4, ![66, 4, 16, 128]⟩

abbrev nBuf : Space → Nat
  | .hbm => 90
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S1536x1024, .bf16⟩
  | .hbm, ⟨3, _⟩ => ⟨S512x1024, .bf16⟩
  | .hbm, ⟨4, _⟩ => ⟨S4x1x128, .f32⟩
  | .hbm, ⟨5, _⟩ => ⟨S4x1x128, .f32⟩
  | .hbm, ⟨6, _⟩ => ⟨S8448x1024, .f32⟩
  | .hbm, ⟨7, _⟩ => ⟨S512x1024, .f32⟩
  | .hbm, ⟨8, _⟩ => ⟨S8448x512, .f32⟩
  | .hbm, ⟨9, _⟩ => ⟨S8448x1024, .f32⟩
  | .hbm, ⟨10, _⟩ => ⟨S1536x1024, .f32⟩
  | .hbm, ⟨11, _⟩ => ⟨S8448x1536, .f32⟩
  | .hbm, ⟨12, _⟩ => ⟨S8448x1024, .f32⟩
  | .hbm, ⟨13, _⟩ => ⟨S512x1024, .f32⟩
  | .hbm, ⟨14, _⟩ => ⟨S8448x512, .f32⟩
  | .hbm, ⟨15, _⟩ => ⟨S8448, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S8448, .i32⟩
  | .hbm, ⟨23, _⟩ => ⟨S8448, .i32⟩
  | .hbm, ⟨24, _⟩ => ⟨S_, .i32⟩
  | .hbm, ⟨25, _⟩ => ⟨S8448, .i32⟩
  | .hbm, ⟨26, _⟩ => ⟨S8448, .i1⟩
  | .hbm, ⟨27, _⟩ => ⟨S_, .i32⟩
  | .hbm, ⟨28, _⟩ => ⟨S8448, .i32⟩
  | .hbm, ⟨29, _⟩ => ⟨S8448, .i1⟩
  | .hbm, ⟨30, _⟩ => ⟨S_, .i32⟩
  | .hbm, ⟨31, _⟩ => ⟨S_, .i1⟩
  | .hbm, ⟨32, _⟩ => ⟨S8448, .i1⟩
  | .hbm, ⟨33, _⟩ => ⟨S8448, .i1⟩
  | .hbm, ⟨34, _⟩ => ⟨S8448, .i1⟩
  | .hbm, ⟨35, _⟩ => ⟨S8448, .i32⟩
  | .hbm, ⟨36, _⟩ => ⟨S8448, .i32⟩
  | .hbm, ⟨37, _⟩ => ⟨S8448, .i32⟩
  | .hbm, ⟨38, _⟩ => ⟨S_, .i32⟩
  | .hbm, ⟨39, _⟩ => ⟨S8448, .i32⟩
  | .hbm, ⟨40, _⟩ => ⟨S8448, .i1⟩
  | .hbm, ⟨41, _⟩ => ⟨S8448x1x1, .i1⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S1x1x128, .i1⟩
  | .hbm, ⟨47, _⟩ => ⟨S8448x1x128, .i1⟩
  | .hbm, ⟨48, _⟩ => ⟨S8448x1x128, .i1⟩
  | .hbm, ⟨49, _⟩ => ⟨S8448x1x128, .i1⟩
  | .hbm, ⟨50, _⟩ => ⟨S8448x4x128, .f32⟩
  | .hbm, ⟨51, _⟩ => ⟨S4x128, .f32⟩
  | .hbm, ⟨52, _⟩ => ⟨S1x4x128, .f32⟩
  | .hbm, ⟨53, _⟩ => ⟨S8448x4x128, .f32⟩
  | .hbm, ⟨54, _⟩ => ⟨S8448x4x128, .f32⟩
  | .hbm, ⟨55, _⟩ => ⟨S_, .f32⟩
  | .hbm, ⟨56, _⟩ => ⟨S8448x4x128, .f32⟩
  | .hbm, ⟨57, _⟩ => ⟨S8448x4x128, .f32⟩
  | .hbm, ⟨58, _⟩ => ⟨S8448x4x128, .f32⟩
  | .hbm, ⟨59, _⟩ => ⟨S8448x4x128, .f32⟩
  | .hbm, ⟨60, _⟩ => ⟨S8448x4x128, .i1⟩
  | .hbm, ⟨61, _⟩ => ⟨S8448x4x128, .f32⟩
  | .hbm, ⟨62, _⟩ => ⟨S8448x4x128, .f32⟩
  | .hbm, ⟨63, _⟩ => ⟨S8448x4x128, .f32⟩
  | .hbm, ⟨64, _⟩ => ⟨S8448x4x128, .f32⟩
  | .hbm, ⟨65, _⟩ => ⟨S8448x4x128, .f32⟩
  | .hbm, ⟨66, _⟩ => ⟨S8448x4x128, .f32⟩
  | .hbm, ⟨67, _⟩ => ⟨S8448x4x128, .f32⟩
  | .hbm, ⟨68, _⟩ => ⟨S8448x4x128, .f32⟩
  | .hbm, ⟨69, _⟩ => ⟨S_, .f32⟩
  | .hbm, ⟨70, _⟩ => ⟨S_, .f32⟩
  | .hbm, ⟨71, _⟩ => ⟨S8448x4x128, .i1⟩
  | .hbm, ⟨72, _⟩ => ⟨S8448x4x128, .f32⟩
  | .hbm, ⟨73, _⟩ => ⟨S8448x4x128, .f32⟩
  | .hbm, ⟨74, _⟩ => ⟨S66x128x4x128, .f32⟩
  | .hbm, ⟨75, _⟩ => ⟨S4x128, .f32⟩
  | .hbm, ⟨76, _⟩ => ⟨S4x128, .f32⟩
  | .hbm, ⟨77, _⟩ => ⟨S4x128, .f32⟩
  | .hbm, ⟨78, _⟩ => ⟨S1x1x4x128, .f32⟩
  | .hbm, ⟨79, _⟩ => ⟨S66x128x4x128, .f32⟩
  | .hbm, ⟨80, _⟩ => ⟨S66x128x4x128, .f32⟩
  | .hbm, ⟨81, _⟩ => ⟨S_, .f32⟩
  | .hbm, ⟨82, _⟩ => ⟨S_, .f32⟩
  | .hbm, ⟨83, _⟩ => ⟨S66x128x4x128, .f32⟩
  | .hbm, ⟨84, _⟩ => ⟨S66x128x4x8, .f32⟩
  | .hbm, ⟨85, _⟩ => ⟨S66x128x4x8, .f32⟩
  | .hbm, ⟨86, _⟩ => ⟨S66x128x4x16, .f32⟩
  | .hbm, ⟨87, _⟩ => ⟨S66x4x16x128, .f32⟩
  | .hbm, ⟨88, _⟩ => ⟨S8448x512, .f32⟩
  | .hbm, ⟨89, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v10 : Ref sig .tc := ⟨.hbm, 37, rfl⟩
abbrev main_c_0 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_1 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v26 : Ref sig .tc := ⟨.hbm, 68, rfl⟩
abbrev main_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call3_call0_cst : Ref sig .tc := ⟨.hbm, 81, rfl⟩
abbrev main_call3_call0_v0 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩

abbrev nD : Nat := 1
abbrev τ : Topo := Topo.v7x

variable {F : FTy → Type} [FloatOps F]
-- ==== PoolFwd.lean ====
abbrev S2x4224x512 : Shape := ⟨3, ![2, 4224, 512]⟩
abbrev S1x4x128x128 : Shape := ⟨4, ![1, 4, 128, 128]⟩
abbrev S1x512 : Shape := ⟨2, ![1, 512]⟩
abbrev S4x128x128 : Shape := ⟨3, ![4, 128, 128]⟩
abbrev S2x128x512 : Shape := ⟨3, ![2, 128, 512]⟩
abbrev S128x256 : Shape := ⟨2, ![128, 256]⟩
abbrev S128x1 : Shape := ⟨2, ![128, 1]⟩
abbrev S1x128x128 : Shape := ⟨3, ![1, 128, 128]⟩
abbrev S128x128 : Shape := ⟨2, ![128, 128]⟩
abbrev S256x128 : Shape := ⟨2, ![256, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S2x4224x512, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S2x4224x512, .bf16⟩
  | .local _ .vmem, ⟨0, _⟩ => ⟨S2x128x512, .f32⟩
  | .local _ .vmem, ⟨1, _⟩ => ⟨S2x128x512, .f32⟩
  | .local _ .vmem, ⟨2, _⟩ => ⟨S2x128x512, .f32⟩
  | .local _ .vmem, ⟨3, _⟩ => ⟨S2x128x512, .f32⟩
  | .local _ .vmem, ⟨4, _⟩ => ⟨S4x128x128, .f32⟩
  | .local _ .vmem, ⟨5, _⟩ => ⟨S1x512, .f32⟩
  | .local _ .vmem, ⟨6, _⟩ => ⟨S2x128x512, .bf16⟩
  | .local _ .vmem, ⟨7, _⟩ => ⟨S2x128x512, .bf16⟩
  | _, _ => ⟨S2x4224x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S2x4224x512 : Shape := ⟨3, ![2, 4224, 512]⟩
abbrev S1x4x128x128 : Shape := ⟨4, ![1, 4, 128, 128]⟩
abbrev S1x512 : Shape := ⟨2, ![1, 512]⟩
abbrev S4x128x128 : Shape := ⟨3, ![4, 128, 128]⟩
abbrev S512 : Shape := ⟨1, ![512]⟩
abbrev S2x4224x4x128 : Shape := ⟨4, ![2, 4224, 4, 128]⟩
abbrev S_ : Shape := ⟨0, ![]⟩
abbrev S2x16x4x128 : Shape := ⟨4, ![2, 16, 4, 128]⟩
abbrev S2x4240x4x128 : Shape := ⟨4, ![2, 4240, 4, 128]⟩
abbrev S4224 : Shape := ⟨1, ![4224]⟩
abbrev S2x4224x1x128 : Shape := ⟨4, ![2, 4224, 1, 128]⟩
abbrev S2x4224x128 : Shape := ⟨3, ![2, 4224, 128]⟩
abbrev S1x4224x1 : Shape := ⟨3, ![1, 4224, 1]⟩
abbrev S4x128x2x4224 : Shape := ⟨4, ![4, 128, 2, 4224]⟩
abbrev S1x1x512 : Shape := ⟨3, ![1, 1, 512]⟩

abbrev nBuf : Space → Nat
  | .hbm => 120
  | .vmem => 0
  | .smem => 0
  | _ => 0

abbrev bufTy : (tb : Table) → Fin (tcTables nBuf tb) → BufTy
  | .hbm, ⟨0, _⟩ => ⟨S2x4224x512, .f32⟩
  | .hbm, ⟨1, _⟩ => ⟨S1x4x128x128, .f32⟩
  | .hbm, ⟨2, _⟩ => ⟨S1x512, .f32⟩
  | .hbm, ⟨3, _⟩ => ⟨S4x128x128, .f32⟩
  | .hbm, ⟨4, _⟩ => ⟨S512, .f32⟩
  | .hbm, ⟨5, _⟩ => ⟨S2x4224x4x128, .f32⟩
  | .hbm, ⟨6, _⟩ => ⟨S_, .f32⟩
  | .hbm, ⟨7, _⟩ => ⟨S_, .f32⟩
  | .hbm, ⟨8, _⟩ => ⟨S2x4224x4x128, .f32⟩
  | .hbm, ⟨9, _⟩ => ⟨S_, .f32⟩
  | .hbm, ⟨10, _⟩ => ⟨S2x16x4x128, .f32⟩
  | .hbm, ⟨11, _⟩ => ⟨S2x4240x4x128, .f32⟩
  | .hbm, ⟨12, _⟩ => ⟨S4224, .i32⟩
  | .hbm, ⟨13, _⟩ => ⟨S_, .i32⟩
  | .hbm, ⟨14, _⟩ => ⟨S4224, .i32⟩
  | .hbm, ⟨15, _⟩ => ⟨S4224, .i32⟩
  | .hbm, ⟨16, _⟩ => ⟨S2x4224x1x128, .f32⟩
  | .hbm, ⟨17, _⟩ => ⟨S2x4224x128, .f32⟩
  | .hbm, ⟨18, _⟩ => ⟨S2x4224x1x128, .f32⟩
  | .hbm, ⟨19, _⟩ => ⟨S2x4224x128, .f32⟩
  | .hbm, ⟨20, _⟩ => ⟨S2x4224x128, .f32⟩
  | .hbm, ⟨21, _⟩ => ⟨S_, .i32⟩
  | .hbm, ⟨22, _⟩ => ⟨S4224, .i32⟩
  | .hbm, ⟨23, _⟩ => ⟨S4224, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4224, .i32⟩
  | .hbm, ⟨28, _⟩ => ⟨S4224, .i32⟩
  | .hbm, ⟨29, _⟩ => ⟨S_, .i32⟩
  | .hbm, ⟨30, _⟩ => ⟨S4224, .i32⟩
  | .hbm, ⟨31, _⟩ => ⟨S4224, .i32⟩
  | .hbm, ⟨32, _⟩ => ⟨S4224, .f32⟩
  | .hbm, ⟨33, _⟩ => ⟨S1x4224x1, .f32⟩
  | .hbm, ⟨34, _⟩ => ⟨S2x4224x128, .f32⟩
  | .hbm, ⟨35, _⟩ => ⟨S2x4224x128, .f32⟩
  | .hbm, ⟨36, _⟩ => ⟨S2x4224x1x128, .f32⟩
  | .hbm, ⟨37, _⟩ => ⟨S2x4224x128, .f32⟩
  | .hbm, ⟨38, _⟩ => ⟨S2x4224x128, .f32⟩
  | .hbm, ⟨39, _⟩ => ⟨S2x4224x1x128, .f32⟩
  | .hbm, ⟨40, _⟩ => ⟨S2x4224x128, .f32⟩
  | .hbm, ⟨41, _⟩ => ⟨S2x4224x1x128, .f32⟩
  | .hbm, ⟨42, _⟩ => ⟨S2x4224x128, .f32⟩
  | .hbm, ⟨43, _⟩ => ⟨S2x4224x128, .f32⟩
  | .hbm, ⟨44, _⟩ => ⟨S_, .i32⟩
  | .hbm, ⟨45, _⟩ => ⟨S4224, .i32⟩
  | .hbm, ⟨46, _⟩ => ⟨S4224, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4224, .i32⟩
  | .hbm, ⟨51, _⟩ => ⟨S4224, .i32⟩
  | .hbm, ⟨52, _⟩ => ⟨S_, .i32⟩
  | .hbm, ⟨53, _⟩ => ⟨S4224, .i32⟩
  | .hbm, ⟨54, _⟩ => ⟨S4224, .i32⟩
  | .hbm, ⟨55, _⟩ => ⟨S4224, .f32⟩
  | .hbm, ⟨56, _⟩ => ⟨S1x4224x1, .f32⟩
  | .hbm, ⟨57, _⟩ => ⟨S2x4224x128, .f32⟩
  | .hbm, ⟨58, _⟩ => ⟨S2x4224x128, .f32⟩
  | .hbm, ⟨59, _⟩ => ⟨S2x4224x1x128, .f32⟩
  | .hbm, ⟨60, _⟩ => ⟨S2x4224x128, .f32⟩
  | .hbm, ⟨61, _⟩ => ⟨S2x4224x128, .f32⟩
  | .hbm, ⟨62, _⟩ => ⟨S2x4224x1x128, .f32⟩
  | .hbm, ⟨63, _⟩ => ⟨S2x4224x128, .f32⟩
  | .hbm, ⟨64, _⟩ => ⟨S2x4224x1x128, .f32⟩
  | .hbm, ⟨65, _⟩ => ⟨S2x4224x128, .f32⟩
  | .hbm, ⟨66, _⟩ => ⟨S2x4224x128, .f32⟩
  | .hbm, ⟨67, _⟩ => ⟨S_, .i32⟩
  | .hbm, ⟨68, _⟩ => ⟨S4224, .i32⟩
  | .hbm, ⟨69, _⟩ => ⟨S4224, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4224, .i32⟩
  | .hbm, ⟨74, _⟩ => ⟨S4224, .i32⟩
  | .hbm, ⟨75, _⟩ => ⟨S_, .i32⟩
  | .hbm, ⟨76, _⟩ => ⟨S4224, .i32⟩
  | .hbm, ⟨77, _⟩ => ⟨S4224, .i32⟩
  | .hbm, ⟨78, _⟩ => ⟨S4224, .f32⟩
  | .hbm, ⟨79, _⟩ => ⟨S1x4224x1, .f32⟩
  | .hbm, ⟨80, _⟩ => ⟨S2x4224x128, .f32⟩
  | .hbm, ⟨81, _⟩ => ⟨S2x4224x128, .f32⟩
  | .hbm, ⟨82, _⟩ => ⟨S2x4224x1x128, .f32⟩
  | .hbm, ⟨83, _⟩ => ⟨S2x4224x128, .f32⟩
  | .hbm, ⟨84, _⟩ => ⟨S2x4224x128, .f32⟩
  | .hbm, ⟨85, _⟩ => ⟨S2x4224x1x128, .f32⟩
  | .hbm, ⟨86, _⟩ => ⟨S2x4224x128, .f32⟩
  | .hbm, ⟨87, _⟩ => ⟨S2x4224x1x128, .f32⟩
  | .hbm, ⟨88, _⟩ => ⟨S2x4224x128, .f32⟩
  | .hbm, ⟨89, _⟩ => ⟨S2x4224x128, .f32⟩
  | .hbm, ⟨90, _⟩ => ⟨S_, .i32⟩
  | .hbm, ⟨91, _⟩ => ⟨S4224, .i32⟩
  | .hbm, ⟨92, _⟩ => ⟨S4224, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S4224, .i32⟩
  | .hbm, ⟨97, _⟩ => ⟨S4224, .i32⟩
  | .hbm, ⟨98, _⟩ => ⟨S_, .i32⟩
  | .hbm, ⟨99, _⟩ => ⟨S4224, .i32⟩
  | .hbm, ⟨100, _⟩ => ⟨S4224, .i32⟩
  | .hbm, ⟨101, _⟩ => ⟨S4224, .f32⟩
  | .hbm, ⟨102, _⟩ => ⟨S1x4224x1, .f32⟩
  | .hbm, ⟨103, _⟩ => ⟨S2x4224x128, .f32⟩
  | .hbm, ⟨104, _⟩ => ⟨S2x4224x128, .f32⟩
  | .hbm, ⟨105, _⟩ => ⟨S2x4224x1x128, .f32⟩
  | .hbm, ⟨106, _⟩ => ⟨S2x4224x128, .f32⟩
  | .hbm, ⟨107, _⟩ => ⟨S2x4224x128, .f32⟩
  | .hbm, ⟨108, _⟩ => ⟨S2x4224x1x128, .f32⟩
  | .hbm, ⟨109, _⟩ => ⟨S2x4224x1x128, .f32⟩
  | .hbm, ⟨110, _⟩ => ⟨S2x4224x1x128, .f32⟩
  | .hbm, ⟨111, _⟩ => ⟨S2x4224x1x128, .f32⟩
  | .hbm, ⟨112, _⟩ => ⟨S2x4224x4x128, .f32⟩
  | .hbm, ⟨113, _⟩ => ⟨S4x128x2x4224, .f32⟩
  | .hbm, ⟨114, _⟩ => ⟨S2x4224x4x128, .f32⟩
  | .hbm, ⟨115, _⟩ => ⟨S2x4224x512, .f32⟩
  | .hbm, ⟨116, _⟩ => ⟨S1x1x512, .f32⟩
  | .hbm, ⟨117, _⟩ => ⟨S2x4224x512, .f32⟩
  | .hbm, ⟨118, _⟩ => ⟨S2x4224x512, .f32⟩
  | .hbm, ⟨119, _⟩ => ⟨S2x4224x512, .bf16⟩
  | _, _ => ⟨S2x4224x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_c_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_6 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_c_8 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_c_11 : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== InputGrad.lean ====
abbrev S2x4224x1024 : Shape := ⟨3, ![2, 4224, 1024]⟩
abbrev S1x1024 : Shape := ⟨2, ![1, 1024]⟩
abbrev S2x4096x1024 : Shape := ⟨3, ![2, 4096, 1024]⟩
abbrev S2x128x1024 : Shape := ⟨3, ![2, 128, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2x4224x1024, .f32⟩
  | .hbm, ⟨1, _⟩ => ⟨S2x4224x1024, .f32⟩
  | .hbm, ⟨2, _⟩ => ⟨S1x1024, .f32⟩
  | .hbm, ⟨3, _⟩ => ⟨S2x4224x1024, .f32⟩
  | .hbm, ⟨4, _⟩ => ⟨S2x4096x1024, .f32⟩
  | .hbm, ⟨5, _⟩ => ⟨S2x128x1024, .f32⟩
  | .hbm, ⟨6, _⟩ => ⟨S1x1024, .f32⟩
  | .local _ .vmem, ⟨0, _⟩ => ⟨S2x128x1024, .f32⟩
  | .local _ .vmem, ⟨1, _⟩ => ⟨S2x128x1024, .f32⟩
  | .local _ .vmem, ⟨2, _⟩ => ⟨S2x128x1024, .f32⟩
  | .local _ .vmem, ⟨3, _⟩ => ⟨S2x128x1024, .f32⟩
  | .local _ .vmem, ⟨4, _⟩ => ⟨S1x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S1x1024, .f32⟩
  | _, _ => ⟨S2x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_46 : BitVec 32 := 0#32
  let v89 : BitVec 1 := Scalar.cmpi .eq arg0 c0_i32_46
  let v90 : BitVec 32 := Scalar.extui v89
  let c0_i32_47 : BitVec 32 := 0#32
  let v91 : BitVec 1 := Scalar.cmpi .ne v90 c0_i32_47
  v91

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InputGradRefIdeal.lean ====
abbrev S2x4224x1024 : Shape := ⟨3, ![2, 4224, 1024]⟩
abbrev S1x1024 : Shape := ⟨2, ![1, 1024]⟩
abbrev S1024 : Shape := ⟨1, ![1024]⟩
abbrev S_ : Shape := ⟨0, ![]⟩
abbrev S2x4224 : Shape := ⟨2, ![2, 4224]⟩
abbrev S2x4224x1 : Shape := ⟨3, ![2, 4224, 1]⟩
abbrev S1x1x1024 : Shape := ⟨3, ![1, 1, 1024]⟩
abbrev S2x4096x1024 : Shape := ⟨3, ![2, 4096, 1024]⟩
abbrev S2x128x1024 : Shape := ⟨3, ![2, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2x4224x1024, .f32⟩
  | .hbm, ⟨1, _⟩ => ⟨S2x4224x1024, .f32⟩
  | .hbm, ⟨2, _⟩ => ⟨S1x1024, .f32⟩
  | .hbm, ⟨3, _⟩ => ⟨S2x4224x1024, .f32⟩
  | .hbm, ⟨4, _⟩ => ⟨S1024, .f32⟩
  | .hbm, ⟨5, _⟩ => ⟨S2x4224x1024, .f32⟩
  | .hbm, ⟨6, _⟩ => ⟨S_, .f32⟩
  | .hbm, ⟨7, _⟩ => ⟨S2x4224, .f32⟩
  | .hbm, ⟨8, _⟩ => ⟨S2x4224x1, .f32⟩
  | .hbm, ⟨9, _⟩ => ⟨S_, .f32⟩
  | .hbm, ⟨10, _⟩ => ⟨S2x4224x1, .f32⟩
  | .hbm, ⟨11, _⟩ => ⟨S2x4224x1, .f32⟩
  | .hbm, ⟨12, _⟩ => ⟨S_, .f32⟩
  | .hbm, ⟨13, _⟩ => ⟨S2x4224x1, .f32⟩
  | .hbm, ⟨14, _⟩ => ⟨S2x4224x1, .f32⟩
  | .hbm, ⟨15, _⟩ => ⟨S2x4224x1, .f32⟩
  | .hbm, ⟨16, _⟩ => ⟨S2x4224x1, .f32⟩
  | .hbm, ⟨17, _⟩ => ⟨S_, .f32⟩
  | .hbm, ⟨18, _⟩ => ⟨S2x4224x1, .f32⟩
  | .hbm, ⟨19, _⟩ => ⟨S2x4224x1, .f32⟩
  | .hbm, ⟨20, _⟩ => ⟨S2x4224x1024, .f32⟩
  | .hbm, ⟨21, _⟩ => ⟨S2x4224x1024, .f32⟩
  | .hbm, ⟨22, _⟩ => ⟨S1x1x1024, .f32⟩
  | .hbm, ⟨23, _⟩ => ⟨S2x4224x1024, .f32⟩
  | .hbm, ⟨24, _⟩ => ⟨S2x4224x1024, .f32⟩
  | .hbm, ⟨25, _⟩ => ⟨S2x4224x1024, .f32⟩
  | .hbm, ⟨26, _⟩ => ⟨S_, .f32⟩
  | .hbm, ⟨27, _⟩ => ⟨S1024, .f32⟩
  | .hbm, ⟨28, _⟩ => ⟨S1x1x1024, .f32⟩
  | .hbm, ⟨29, _⟩ => ⟨S2x4224x1024, .f32⟩
  | .hbm, ⟨30, _⟩ => ⟨S2x4224x1024, .f32⟩
  | .hbm, ⟨31, _⟩ => ⟨S_, .f32⟩
  | .hbm, ⟨32, _⟩ => ⟨S1024, .f32⟩
  | .hbm, ⟨33, _⟩ => ⟨S2x4224x1024, .f32⟩
  | .hbm, ⟨34, _⟩ => ⟨S_, .f32⟩
  | .hbm, ⟨35, _⟩ => ⟨S2x4224, .f32⟩
  | .hbm, ⟨36, _⟩ => ⟨S2x4224x1, .f32⟩
  | .hbm, ⟨37, _⟩ => ⟨S2x4224x1024, .f32⟩
  | .hbm, ⟨38, _⟩ => ⟨S2x4224x1024, .f32⟩
  | .hbm, ⟨39, _⟩ => ⟨S2x4224x1024, .f32⟩
  | .hbm, ⟨40, _⟩ => ⟨S2x4224x1, .f32⟩
  | .hbm, ⟨41, _⟩ => ⟨S_, .f32⟩
  | .hbm, ⟨42, _⟩ => ⟨S2x4224x1, .f32⟩
  | .hbm, ⟨43, _⟩ => ⟨S2x4224x1, .f32⟩
  | .hbm, ⟨44, _⟩ => ⟨S_, .f32⟩
  | .hbm, ⟨45, _⟩ => ⟨S2x4224, .f32⟩
  | .hbm, ⟨46, _⟩ => ⟨S2x4224x1024, .f32⟩
  | .hbm, ⟨47, _⟩ => ⟨S2x4224x1024, .f32⟩
  | .hbm, ⟨48, _⟩ => ⟨S2x4224x1024, .f32⟩
  | .hbm, ⟨49, _⟩ => ⟨S2x4224x1024, .f32⟩
  | .hbm, ⟨50, _⟩ => ⟨S2x4224x1024, .f32⟩
  | .hbm, ⟨51, _⟩ => ⟨S1x1024, .f32⟩
  | .hbm, ⟨52, _⟩ => ⟨S2x4096x1024, .f32⟩
  | .hbm, ⟨53, _⟩ => ⟨S2x128x1024, .f32⟩
  | _, _ => ⟨S2x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== ChipSum.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumRefIdeal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .f32⟩
  | .hbm, ⟨2, _⟩ => ⟨S_, .f32⟩
  | .hbm, ⟨3, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adamw.lean ====
abbrev S1024x1024 : Shape := ⟨2, ![1024, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwRefIdeal.lean ====
abbrev S1024x1024 : Shape := ⟨2, ![1024, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Unit.lean ====
module
public import proofs.«01_k».proof.Proof.Gen.KernelIdeal.Value
public import Idealize.ShloMosaic.Lib.Pointwise
@[expose] public section
set_option maxRecDepth 16384
noncomputable section
open Idealize.ShloMosaic Idealize.ShloMosaic.TcCoe Idealize.SL.Sem
namespace Cert.KernelIdeal.PoolBwd
open Cert.KernelIdeal Cert.KernelIdeal.Gen

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

theorem div_real {y : ℝ} (h : y ≠ 0) (x : ℝ) : Ideal.div (x : EReal) (y : EReal) = ((x / y : ℝ) : EReal) := by
  rw [Ideal.div_coe h, ← EReal.coe_mul, mul_one_div]

theorem toInt_nat (n : ℕ) (h : n < 2 ^ 31) : (BitVec.ofNat 32 n).toInt = n := by
  have e : (BitVec.ofNat 32 n).toNat = n := by rw [BitVec.toNat_ofNat]; omega
  rw [BitVec.toInt_eq_toNat_of_lt (by rw [e]; omega), e]
theorem toInt_subi (a b : BitVec 32) (x y : ℤ) (ha : a.toInt = x) (hb : b.toInt = y) (h : -2 ^ 31 ≤ x - y) (h' : x - y < 2 ^ 31) :
    (IntOp.subi a b).toInt = x - y := by
  show (a - b).toInt = _
  rw [BitVec.toInt_sub, ha, hb, Int.bmod_eq_of_le] <;> omega
theorem toInt_addi (a b : BitVec 32) (x y : ℤ) (ha : a.toInt = x) (hb : b.toInt = y) (h : -2 ^ 31 ≤ x + y) (h' : x + y < 2 ^ 31) :
    (IntOp.addi a b).toInt = x + y := by
  show (a + b).toInt = _
  rw [BitVec.toInt_add, ha, hb, Int.bmod_eq_of_le] <;> omega
theorem muli_nat (t : ℕ) (h : t < 2 ^ 20) : (Scalar.muli (BitVec.ofNat 32 t) 128#32) = BitVec.ofNat 32 (128 * t) := by
  show BitVec.ofNat 32 t * BitVec.ofNat 32 128 = _
  rw [← BitVec.ofNat_mul, mul_comm]
theorem ofBool_one (p : Prop) [Decidable p] : BitVec.ofBool (decide p) = 1#1 ↔ p := by
  by_cases h : p <;> simp [h]
theorem andi_one (a b : BitVec 1) : IntOp.andi a b = 1#1 ↔ a = 1#1 ∧ b = 1#1 := by
  revert a b; decide
/-- A bit widened and read as a number is 1 or 0. -/
theorem bit_real (b : BitVec 1) (p : Prop) [Decidable p] (h : b = 1#1 ↔ p) :
    (FloatOps.sitofp FTy.f32 (BitVec.setWidth 32 b) : Ideal .f32) = (((if p then 1 else 0 : ℝ)) : EReal) := by
  show (((BitVec.setWidth 32 b).toInt : ℝ) : EReal) = _
  by_cases hp : p
  · rw [h.mpr hp, if_pos hp]; norm_num
  · have hb : b = 0#1 := by
      have h' := mt h.mp hp
      clear h hp
      revert b; decide
    rw [hb, if_neg hp]; norm_num

theorem fwd_word (t a k w : ℕ) (ht : t < 33) (ha : a < 128) (hk : k < 256) (hw : w ≤ 16) :
    (IntOp.andi
          (IntOp.andi (IntOp.cmpi CmpIPredicate.sle (IntOp.subi (BitVec.ofNat 32 k) 128#32) (BitVec.ofNat 32 a))
            (IntOp.cmpi CmpIPredicate.sgt (IntOp.subi (BitVec.ofNat 32 k) 128#32)
              (IntOp.subi (BitVec.ofNat 32 a) (BitVec.ofNat 32 w))))
          (IntOp.cmpi CmpIPredicate.sge
            (IntOp.addi (IntOp.subi (BitVec.ofNat 32 k) 128#32) (Scalar.muli (BitVec.ofNat 32 t) 128#32)) 0#32)) = 1#1
      ↔ k ≤ a + 128 ∧ a + 128 < k + w ∧ 128 ≤ k + 128 * t := by
  have h1 : (IntOp.subi (BitVec.ofNat 32 k) 128#32).toInt = (k : ℤ) - 128 :=
    toInt_subi _ _ _ _ (toInt_nat k (by omega)) (toInt_nat 128 (by omega)) (by omega) (by omega)
  have h2 : (IntOp.subi (BitVec.ofNat 32 a) (BitVec.ofNat 32 w)).toInt = (a : ℤ) - w :=
    toInt_subi _ _ _ _ (toInt_nat a (by omega)) (toInt_nat w (by omega)) (by omega) (by omega)
  have h3 : (IntOp.addi (IntOp.subi (BitVec.ofNat 32 k) 128#32) (Scalar.muli (BitVec.ofNat 32 t) 128#32)).toInt
      = ((k : ℤ) - 128) + (128 * t : ℕ) := by
    rw [muli_nat t (by omega)]
    exact toInt_addi _ _ _ _ h1 (toInt_nat _ (by omega)) (by omega) (by omega)
  have h4 : (0#32 : BitVec 32).toInt = 0 := by decide
  rw [andi_one, andi_one, WordCmp.cmpi_sle_eq, WordCmp.cmpi_sgt_eq, WordCmp.cmpi_sge_eq, ofBool_one, ofBool_one, ofBool_one, h1, h2, h3, h4,
    toInt_nat a (by omega)]
  omega
theorem bwd_word (a k w : ℕ) (ha : a < 128) (hk : k < 256) (hw : w ≤ 16) :
    (IntOp.andi (IntOp.cmpi CmpIPredicate.sge (BitVec.ofNat 32 k) (BitVec.ofNat 32 a))
          (IntOp.cmpi CmpIPredicate.slt (BitVec.ofNat 32 k) (IntOp.addi (BitVec.ofNat 32 a) (BitVec.ofNat 32 w)))) = 1#1
      ↔ a ≤ k ∧ k < a + w := by
  have h2 : (IntOp.addi (BitVec.ofNat 32 a) (BitVec.ofNat 32 w)).toInt = (a : ℤ) + w :=
    toInt_addi _ _ _ _ (toInt_nat a (by omega)) (toInt_nat w (by omega)) (by omega) (by omega)
  rw [andi_one, WordCmp.cmpi_sge_eq, WordCmp.cmpi_slt_eq, ofBool_one, ofBool_one, h2, toInt_nat a (by omega), toInt_nat k (by omega)]
  omega
theorem maxsi_toInt (a b : BitVec 32) : (IntOp.maxsi a b).toInt = max a.toInt b.toInt := by
  unfold IntOp.maxsi
  split_ifs with h
  · rw [BitVec.slt_iff_toInt_lt] at h; omega
  · rw [BitVec.slt_iff_toInt_lt] at h; omega
theorem minsi_toInt (a b : BitVec 32) : (IntOp.minsi a b).toInt = min a.toInt b.toInt := by
  unfold IntOp.minsi
  split_ifs with h
  · rw [BitVec.slt_iff_toInt_lt] at h; omega
  · rw [BitVec.slt_iff_toInt_lt] at h; omega
def cnt (w s : ℕ) : ℝ := ((min w (max 1 (s - 111)) : ℕ) : ℝ)
theorem cnt_ne (w s : ℕ) (hw : 0 < w) : cnt w s ≠ 0 := by
  unfold cnt
  rw [Nat.cast_ne_zero]; omega
/-- The clamped count of a row, whatever word holds the row. -/
theorem cnt_word (w s : ℕ) (v : BitVec 32) (hw : w ≤ 16) (hs : s < 2 ^ 20) (hv : v.toInt = s) :
    (FloatOps.sitofp FTy.f32 (IntOp.minsi (BitVec.ofNat 32 w) (IntOp.maxsi (1#32) (IntOp.addi (IntOp.subi v 112#32) 1#32))) : Ideal .f32)
      = ((cnt w s : ℝ) : EReal) := by
  show (((IntOp.minsi (BitVec.ofNat 32 w) (IntOp.maxsi (1#32) (IntOp.addi (IntOp.subi v 112#32) 1#32))).toInt : ℝ) : EReal) = _
  have h1 : (IntOp.subi v 112#32).toInt = (s : ℤ) - 112 :=
    toInt_subi _ _ _ _ hv (toInt_nat 112 (by omega)) (by omega) (by omega)
  have h2 : (IntOp.addi (IntOp.subi v 112#32) 1#32).toInt = (s : ℤ) - 112 + 1 :=
    toInt_addi _ _ _ _ h1 (toInt_nat 1 (by omega)) (by omega) (by omega)
  have h3 : (1#32 : BitVec 32).toInt = 1 := by decide
  rw [minsi_toInt, maxsi_toInt, h2, h3, toInt_nat w (by omega)]
  unfold cnt
  congr 1
  have : min (w : ℤ) (max 1 ((s : ℤ) - 112 + 1)) = ((min w (max 1 (s - 111)) : ℕ) : ℤ) := by omega
  rw [this]; norm_num

def toV (f : Fin 128 → Fin 128 → ℝ) : FVec Ideal S128x128 .f32 := fun y => ((f (y 0) (y 1) : ℝ) : EReal)
def toV2 (f : Fin 256 → Fin 128 → ℝ) : FVec Ideal S256x128 .f32 := fun y => ((f (y 0) (y 1) : ℝ) : EReal)
def toM (f : Fin 128 → Fin 256 → ℝ) : FVec Ideal S128x256 .f32 := fun y => ((f (y 0) (y 1) : ℝ) : EReal)
def toC (f : Fin 128 → ℝ) : FVec Ideal S128x1 .f32 := fun y => ((f (y 0) : ℝ) : EReal)
def toR (f : Fin 128 → ℝ) : FVec Ideal S1x128 .f32 := fun y => ((f (y 1) : ℝ) : EReal)
def toP (f : Fin 128 → Fin 128 → ℝ) : FVec Ideal S1x128x128 .f32 := fun y => ((f (y 1) (y 2) : ℝ) : EReal)

/-- Two chunks one above the other. -/
def stack (p q : Fin 128 → Fin 128 → ℝ) (k : Fin 256) (c : Fin 128) : ℝ :=
  if h : k.val < 128 then p ⟨k.val, h⟩ c else q ⟨k.val - 128, by omega⟩ c

theorem win_real (m : Fin 128 → Fin 256 → ℝ) (b : Fin 256 → Fin 128 → ℝ) :
    k0_pay41 (toM m) (toV2 b) = toV fun r c => ∑ k : Fin 256, m r k * b k c := by
  funext y
  idx_vars y
  pointwise [k0_pay41, toM, toV2, toV]
  simp only [← EReal.coe_sub, ← EReal.coe_mul, coe_sum, ← EReal.coe_add, sub_self, mul_zero, Finset.sum_const_zero, add_zero]

theorem pooled_real (n : Fin 128 → ℝ) (c w : Fin 128 → Fin 128 → ℝ) (hn : ∀ r, n r ≠ 0) :
    k0_pay49 (toC n) (toV c) (toV w) = toV fun r k => w r k / n r - c r k := by
  funext y
  idx_vars y
  pointwise [k0_pay49, toC, toV]
  rw [div_real (hn _), EReal.coe_sub]
theorem mixed_real (p w : Fin 128 → Fin 128 → ℝ) :
    k0_pay69 (toV p) (toP w) = toV fun r d => ∑ k, p r k * w k d := by
  funext y
  idx_vars y
  pointwise [k0_pay69, toP, toV]
  simp only [← EReal.coe_mul, coe_sum]
theorem cast_real (p : Fin 128 → Fin 128 → ℝ) : k0_pay25 (toP p) = toV p := by
  funext y
  idx_vars y
  pointwise [k0_pay25, toP, toV]
theorem both_real (p c : Fin 128 → Fin 128 → ℝ) :
    k0_pay36 (toV c) (toP p) = toV2 (stack p c) := by
  funext y
  idx_vars y
  pointwise [k0_pay36, toP, toV, toV2, stack]
  split_ifs <;> rfl
theorem dm_real (d : Fin 128 → Fin 128 → ℝ) (s : Fin 128 → ℝ) :
    k0_pay76 (toV d) (toR s) = toV fun r c => d r c * s c := by
  funext y
  idx_vars y
  pointwise [k0_pay76, toR, toV]
  rw [EReal.coe_mul]
theorem dmNext_real (b : BitVec 1) (d : Fin 128 → Fin 128 → ℝ) (s : Fin 128 → ℝ) :
    k0_pay84 b (toP d) (toR s) = toV fun r c => (if b = 1#1 then d r c else 0) * s c := by
  funext y
  idx_vars y
  by_cases h : b = 1#1
  · subst h
    have e : ∀ x y : FVec Ideal S128x128 .f32, Scalar.select (1#1) x y = x := fun _ _ => rfl
    simp only [k0_pay84, e]
    pointwise [toR, toP, toV]
    simp
  · have h0 : b = 0#1 := by revert h; revert b; decide
    subst h0
    have e : ∀ x y : FVec Ideal S128x128 .f32, Scalar.select (0#1) x y = y := fun _ _ => rfl
    simp only [k0_pay84, e]
    pointwise [toR, toP, toV]
    simp
theorem dpw_real (p d : Fin 128 → Fin 128 → ℝ) :
    k0_pay93 (toV p) (toV d) = toV fun c e => ∑ r, p r c * d r e := by
  funext y
  idx_vars y
  pointwise [k0_pay93, toV]
  simp only [← EReal.coe_mul, coe_sum]
theorem dpooled_real (d w : Fin 128 → Fin 128 → ℝ) :
    k0_pay103 (toV d) (toP w) = toV fun r c => ∑ e, d r e * w c e := by
  funext y
  idx_vars y
  pointwise [k0_pay103, toV, toP]
  simp only [← EReal.coe_mul, coe_sum]
theorem spread_real (n n' : Fin 128 → ℝ) (p q : Fin 128 → Fin 128 → ℝ) (hn : ∀ r, n r ≠ 0) (hn' : ∀ r, n' r ≠ 0) :
    k0_pay117 (toC n) (toC n') (toV p) (toV q) = toV2 (stack (fun r c => p r c / n r) (fun r c => q r c / n' r)) := by
  funext y
  idx_vars y
  pointwise [k0_pay117, toV, toV2, toC, stack]
  by_cases h : y0.val < 128
  · simp only [dif_pos h, if_pos h, div_real (hn _)]
  · simp only [dif_neg h, if_neg h]
    exact div_real (hn' _) _
theorem du_real (p b : Fin 128 → Fin 128 → ℝ) :
    k0_pay138 (toV p) (toV b) = toP fun r c => b r c - p r c := by
  funext y
  idx_vars y
  pointwise [k0_pay138, toV, toP]
  rw [EReal.coe_sub]
theorem dw_store_real (p q : Fin 128 → Fin 128 → ℝ) (o : Vec Ideal S1x128x128 .f32) (j : S1x128x128.Idx) :
    k0_pay151 (toV p) (toV q) o j = o j + toP (fun r c => p r c + q r c) j := by
  idx_vars j
  obtain rfl : j0 = 0 := Subsingleton.elim _ _
  pointwise [k0_pay151, toV, toP]
  rw [EReal.coe_add]
theorem dsc_store_real (y0 y1 m0 m1 : Fin 128 → Fin 128 → ℝ) (o : Vec Ideal S1x128 .f32) (j : S1x128.Idx) :
    k0_pay150 (toV y0) (toV y1) (toV m0) (toV m1) o j
      = o j + toR (fun c => (∑ r, y0 r c * m0 r c) + ∑ r, y1 r c * m1 r c) j := by
  idx_vars j
  obtain rfl : j0 = 0 := Subsingleton.elim _ _
  pointwise [k0_pay150, toV, toR]
  simp only [← EReal.coe_mul, coe_sum, ← EReal.coe_add]

/-- The window of `w` rows that ends at a row, cut at the first row of the sequence. -/
def fwdMask (w t : ℕ) (r : Fin 128) (k : Fin 256) : ℝ :=
  if k.val ≤ r.val + 128 ∧ r.val + 128 < k.val + w ∧ 128 ≤ k.val + 128 * t then 1 else 0
def bwdMask (w : ℕ) (r : Fin 128) (k : Fin 256) : ℝ :=
  if r.val ≤ k.val ∧ k.val < r.val + w then 1 else 0

theorem pay4_eq (i : grid0.Coords) : (k0_pay4 i : FVec Ideal _ _) = toM (fwdMask 2 (i 0).val) := by
  funext y
  idx_vars y
  pointwise [k0_pay4, toM, fwdMask]
  exact bit_real _ _ (fwd_word _ _ _ 2 (i 0).isLt y0.isLt y1.isLt (by omega))
theorem pay5_eq (i : grid0.Coords) : (k0_pay5 i : FVec Ideal _ _) = toM (fwdMask 4 (i 0).val) := by
  funext y
  idx_vars y
  pointwise [k0_pay5, toM, fwdMask]
  exact bit_real _ _ (fwd_word _ _ _ 4 (i 0).isLt y0.isLt y1.isLt (by omega))
theorem pay9_eq (i : grid0.Coords) : (k0_pay9 k0_pay7 (k0_pay8 i) : FVec Ideal _ _) = toM (fwdMask 8 (i 0).val) := by
  funext y
  idx_vars y
  pointwise [k0_pay9, k0_pay7, k0_pay8, k0_pay6, toM, fwdMask]
  exact bit_real _ _ (fwd_word _ _ _ 8 (i 0).isLt y0.isLt y1.isLt (by omega))
theorem pay10_eq (i : grid0.Coords) : (k0_pay10 (BitVec.ofNat 32 (i 0).val) (iota .tc S128x256 32 [0] iota_S128x256_d0_w32)
    (iota .tc S128x256 32 [1] iota_S128x256_d1_w32) : FVec Ideal _ _) = toM (fwdMask 16 (i 0).val) := by
  funext y
  idx_vars y
  pointwise [k0_pay10, toM, fwdMask]
  exact bit_real _ _ (fwd_word _ _ _ 16 (i 0).isLt y0.isLt y1.isLt (by omega))
theorem pay10_eq' (i : grid0.Coords) : (k0_pay10 (BitVec.ofNat 32 (i 0).val) (iota .tc S128x256 32 ([0] : List (Fin 2)) iota_S128x256_d0_w32)
    (iota .tc S128x256 32 ([1] : List (Fin 2)) iota_S128x256_d1_w32) : FVec Ideal _ _) = toM (fwdMask 16 (i 0).val) := pay10_eq i
theorem pay11_eq : (k0_pay11 : FVec Ideal _ _) = toM (bwdMask 2) := by
  funext y
  idx_vars y
  pointwise [k0_pay11, toM, bwdMask]
  exact bit_real _ _ (bwd_word _ _ 2 y0.isLt y1.isLt (by omega))
theorem pay12_eq : (k0_pay12 : FVec Ideal _ _) = toM (bwdMask 4) := by
  funext y
  idx_vars y
  pointwise [k0_pay12, toM, bwdMask]
  exact bit_real _ _ (bwd_word _ _ 4 y0.isLt y1.isLt (by omega))
theorem pay13_eq : (k0_pay13 : FVec Ideal _ _) = toM (bwdMask 8) := by
  funext y
  idx_vars y
  pointwise [k0_pay13, toM, bwdMask]
  exact bit_real _ _ (bwd_word _ _ 8 y0.isLt y1.isLt (by omega))
theorem pay14_eq : (k0_pay14 : FVec Ideal _ _) = toM (bwdMask 16) := by
  funext y
  idx_vars y
  pointwise [k0_pay14, toM, bwdMask]
  exact bit_real _ _ (bwd_word _ _ 16 y0.isLt y1.isLt (by omega))

theorem row_word (t a : ℕ) (ht : t < 33) (ha : a < 128) :
    (IntOp.addi (Scalar.muli (BitVec.ofNat 32 t) 128#32) (BitVec.ofNat 32 a)).toInt = ((128 * t + a : ℕ) : ℤ) := by
  rw [muli_nat t (by omega), toInt_addi _ _ _ _ (toInt_nat _ (by omega)) (toInt_nat a (by omega)) (by omega) (by omega)]
  omega
theorem next_word (t a : ℕ) (ht : t < 33) (ha : a < 128) :
    (IntOp.addi (IntOp.addi (Scalar.muli (BitVec.ofNat 32 t) 128#32) (BitVec.ofNat 32 a)) 128#32).toInt = ((128 * (t + 1) + a : ℕ) : ℤ) := by
  rw [toInt_addi _ _ _ _ (row_word t a ht ha) (toInt_nat 128 (by omega)) (by omega) (by omega)]
  omega
def cntC (w t : ℕ) : FVec Ideal S128x1 .f32 := toC fun r => cnt w (128 * t + r.val)
theorem pay16_eq (i : grid0.Coords) : (k0_pay16 (BitVec.ofNat 32 (i 0).val) 128#32 : FVec Ideal _ _) = cntC 2 (i 0).val := by
  funext y
  idx_vars y
  pointwise [k0_pay16, k0_pay15, cntC, toC]
  exact cnt_word 2 _ _ (by omega) (by have := (i 0).isLt; have : (i 0).val < 33 := this; omega) (row_word _ _ (i 0).isLt y0.isLt)
theorem pay17_eq (i : grid0.Coords) : (k0_pay17 (BitVec.ofNat 32 (i 0).val) 128#32 : FVec Ideal _ _) = cntC 4 (i 0).val := by
  funext y
  idx_vars y
  pointwise [k0_pay17, k0_pay15, cntC, toC]
  exact cnt_word 4 _ _ (by omega) (by have := (i 0).isLt; have : (i 0).val < 33 := this; omega) (row_word _ _ (i 0).isLt y0.isLt)
theorem pay18_eq (i : grid0.Coords) : (k0_pay18 (BitVec.ofNat 32 (i 0).val) 128#32 : FVec Ideal _ _) = cntC 8 (i 0).val := by
  funext y
  idx_vars y
  pointwise [k0_pay18, k0_pay15, cntC, toC]
  exact cnt_word 8 _ _ (by omega) (by have := (i 0).isLt; have : (i 0).val < 33 := this; omega) (row_word _ _ (i 0).isLt y0.isLt)
theorem pay19_eq (i : grid0.Coords) : (k0_pay19 (BitVec.ofNat 32 (i 0).val) 128#32 : FVec Ideal _ _) = cntC 16 (i 0).val := by
  funext y
  idx_vars y
  pointwise [k0_pay19, k0_pay15, cntC, toC]
  exact cnt_word 16 _ _ (by omega) (by have := (i 0).isLt; have : (i 0).val < 33 := this; omega) (row_word _ _ (i 0).isLt y0.isLt)
theorem pay21_eq (i : grid0.Coords) : (k0_pay21 (k0_pay20 (BitVec.ofNat 32 (i 0).val) 128#32) 112#32 : FVec Ideal _ _) = cntC 2 ((i 0).val + 1) := by
  funext y
  idx_vars y
  pointwise [k0_pay21, k0_pay20, k0_pay15, cntC, toC]
  exact cnt_word 2 _ _ (by omega) (by have := (i 0).isLt; have : (i 0).val < 33 := this; omega) (next_word _ _ (i 0).isLt y0.isLt)
theorem pay22_eq (i : grid0.Coords) : (k0_pay22 (k0_pay15 (BitVec.ofNat 32 (i 0).val) 128#32) : FVec Ideal _ _) = cntC 4 ((i 0).val + 1) := by
  funext y
  idx_vars y
  pointwise [k0_pay22, k0_pay20, k0_pay15, cntC, toC]
  exact cnt_word 4 _ _ (by omega) (by have := (i 0).isLt; have : (i 0).val < 33 := this; omega) (next_word _ _ (i 0).isLt y0.isLt)
theorem pay23_eq (i : grid0.Coords) : (k0_pay23 (k0_pay15 (BitVec.ofNat 32 (i 0).val) 128#32) : FVec Ideal _ _) = cntC 8 ((i 0).val + 1) := by
  funext y
  idx_vars y
  pointwise [k0_pay23, k0_pay20, k0_pay15, cntC, toC]
  exact cnt_word 8 _ _ (by omega) (by have := (i 0).isLt; have : (i 0).val < 33 := this; omega) (next_word _ _ (i 0).isLt y0.isLt)
theorem pay24_eq (i : grid0.Coords) : (k0_pay24 (k0_pay15 (BitVec.ofNat 32 (i 0).val) 128#32) : FVec Ideal _ _) = cntC 16 ((i 0).val + 1) := by
  funext y
  idx_vars y
  pointwise [k0_pay24, k0_pay20, k0_pay15, cntC, toC]
  exact cnt_word 16 _ _ (by omega) (by have := (i 0).isLt; have : (i 0).val < 33 := this; omega) (next_word _ _ (i 0).isLt y0.isLt)
theorem pay26_is : k0_pay26 (F := Ideal) = k0_pay25 := rfl
theorem pay27_is : k0_pay27 (F := Ideal) = k0_pay25 := rfl
theorem pay28_is : k0_pay28 (F := Ideal) = k0_pay25 := rfl
theorem pay29_is : k0_pay29 (F := Ideal) = k0_pay25 := rfl
theorem pay30_is : k0_pay30 (F := Ideal) = k0_pay25 := rfl
theorem pay31_is : k0_pay31 (F := Ideal) = k0_pay25 := rfl
theorem pay32_is : k0_pay32 (F := Ideal) = k0_pay25 := rfl
theorem pay58_is : k0_pay58 (F := Ideal) = k0_pay25 := rfl
theorem pay59_is : k0_pay59 (F := Ideal) = k0_pay25 := rfl
theorem pay60_is : k0_pay60 (F := Ideal) = k0_pay25 := rfl
theorem pay61_is : k0_pay61 (F := Ideal) = k0_pay25 := rfl
theorem pay62_is : k0_pay62 (F := Ideal) = k0_pay25 := rfl
theorem pay63_is : k0_pay63 (F := Ideal) = k0_pay25 := rfl
theorem pay64_is : k0_pay64 (F := Ideal) = k0_pay25 := rfl
theorem pay65_is : k0_pay65 (F := Ideal) = k0_pay25 := rfl
theorem pay66_is : k0_pay66 (F := Ideal) = k0_pay25 := rfl
theorem pay37_is : k0_pay37 (F := Ideal) = k0_pay36 := rfl
theorem pay38_is : k0_pay38 (F := Ideal) = k0_pay36 := rfl
theorem pay39_is : k0_pay39 (F := Ideal) = k0_pay36 := rfl
theorem pay40_is : k0_pay40 (F := Ideal) = k0_pay36 := rfl
theorem pay42_is : k0_pay42 (F := Ideal) = k0_pay41 := rfl
theorem pay43_is : k0_pay43 (F := Ideal) = k0_pay41 := rfl
theorem pay44_is : k0_pay44 (F := Ideal) = k0_pay41 := rfl
theorem pay45_is : k0_pay45 (F := Ideal) = k0_pay41 := rfl
theorem pay46_is : k0_pay46 (F := Ideal) = k0_pay41 := rfl
theorem pay47_is : k0_pay47 (F := Ideal) = k0_pay41 := rfl
theorem pay48_is : k0_pay48 (F := Ideal) = k0_pay41 := rfl
theorem pay127_is : k0_pay127 (F := Ideal) = k0_pay41 := rfl
theorem pay128_is : k0_pay128 (F := Ideal) = k0_pay41 := rfl
theorem pay129_is : k0_pay129 (F := Ideal) = k0_pay41 := rfl
theorem pay130_is : k0_pay130 (F := Ideal) = k0_pay41 := rfl
theorem pay131_is : k0_pay131 (F := Ideal) = k0_pay41 := rfl
theorem pay136_is : k0_pay136 (F := Ideal) = k0_pay41 := rfl
theorem pay137_is : k0_pay137 (F := Ideal) = k0_pay41 := rfl
theorem pay50_is : k0_pay50 (F := Ideal) = k0_pay49 := rfl
theorem pay51_is : k0_pay51 (F := Ideal) = k0_pay49 := rfl
theorem pay54_is : k0_pay54 (F := Ideal) = k0_pay49 := rfl
theorem pay55_is : k0_pay55 (F := Ideal) = k0_pay49 := rfl
theorem pay56_is : k0_pay56 (F := Ideal) = k0_pay49 := rfl
theorem pay57_is : k0_pay57 (F := Ideal) = k0_pay49 := rfl
theorem pay70_is : k0_pay70 (F := Ideal) = k0_pay69 := rfl
theorem pay71_is : k0_pay71 (F := Ideal) = k0_pay69 := rfl
theorem pay72_is : k0_pay72 (F := Ideal) = k0_pay69 := rfl
theorem pay73_is : k0_pay73 (F := Ideal) = k0_pay69 := rfl
theorem pay74_is : k0_pay74 (F := Ideal) = k0_pay69 := rfl
theorem pay75_is : k0_pay75 (F := Ideal) = k0_pay69 := rfl
theorem pay77_is : k0_pay77 (F := Ideal) = k0_pay76 := rfl
theorem pay78_is : k0_pay78 (F := Ideal) = k0_pay76 := rfl
theorem pay79_is : k0_pay79 (F := Ideal) = k0_pay76 := rfl
theorem pay80_is : k0_pay80 (F := Ideal) = k0_pay76 := rfl
theorem pay81_is : k0_pay81 (F := Ideal) = k0_pay76 := rfl
theorem pay82_is : k0_pay82 (F := Ideal) = k0_pay76 := rfl
theorem pay83_is : k0_pay83 (F := Ideal) = k0_pay76 := rfl
theorem pay85_is : k0_pay85 (F := Ideal) = k0_pay84 := rfl
theorem pay86_is : k0_pay86 (F := Ideal) = k0_pay84 := rfl
theorem pay87_is : k0_pay87 (F := Ideal) = k0_pay84 := rfl
theorem pay88_is : k0_pay88 (F := Ideal) = k0_pay84 := rfl
theorem pay91_is : k0_pay91 (F := Ideal) = k0_pay84 := rfl
theorem pay92_is : k0_pay92 (F := Ideal) = k0_pay84 := rfl
theorem pay94_is : k0_pay94 (F := Ideal) = k0_pay93 := rfl
theorem pay95_is : k0_pay95 (F := Ideal) = k0_pay93 := rfl
theorem pay96_is : k0_pay96 (F := Ideal) = k0_pay93 := rfl
theorem pay97_is : k0_pay97 (F := Ideal) = k0_pay93 := rfl
theorem pay98_is : k0_pay98 (F := Ideal) = k0_pay93 := rfl
theorem pay99_is : k0_pay99 (F := Ideal) = k0_pay93 := rfl
theorem pay104_is : k0_pay104 (F := Ideal) = k0_pay103 := rfl
theorem pay105_is : k0_pay105 (F := Ideal) = k0_pay103 := rfl
theorem pay106_is : k0_pay106 (F := Ideal) = k0_pay103 := rfl
theorem pay107_is : k0_pay107 (F := Ideal) = k0_pay103 := rfl
theorem pay108_is : k0_pay108 (F := Ideal) = k0_pay103 := rfl
theorem pay109_is : k0_pay109 (F := Ideal) = k0_pay103 := rfl
theorem pay110_is : k0_pay110 (F := Ideal) = k0_pay103 := rfl
theorem pay111_is : k0_pay111 (F := Ideal) = k0_pay103 := rfl
theorem pay112_is : k0_pay112 (F := Ideal) = k0_pay103 := rfl
theorem pay113_is : k0_pay113 (F := Ideal) = k0_pay103 := rfl
theorem pay114_is : k0_pay114 (F := Ideal) = k0_pay103 := rfl
theorem pay115_is : k0_pay115 (F := Ideal) = k0_pay103 := rfl
theorem pay116_is : k0_pay116 (F := Ideal) = k0_pay103 := rfl
theorem pay118_is : k0_pay118 (F := Ideal) = k0_pay117 := rfl
theorem pay119_is : k0_pay119 (F := Ideal) = k0_pay117 := rfl
theorem pay120_is : k0_pay120 (F := Ideal) = k0_pay117 := rfl
theorem pay121_is : k0_pay121 (F := Ideal) = k0_pay117 := rfl
theorem pay126_is : k0_pay126 (F := Ideal) = k0_pay117 := rfl
theorem pay139_is : k0_pay139 (F := Ideal) = k0_pay138 := rfl
theorem pay140_is : k0_pay140 (F := Ideal) = k0_pay138 := rfl
theorem pay143_is : k0_pay143 (F := Ideal) = k0_pay138 := rfl
theorem pay144_is : k0_pay144 (F := Ideal) = k0_pay138 := rfl
theorem pay145_is : k0_pay145 (F := Ideal) = k0_pay138 := rfl
theorem pay146_is : k0_pay146 (F := Ideal) = k0_pay138 := rfl
theorem pay148_is : k0_pay148 (F := Ideal) = k0_pay150 := rfl
theorem pay153_is : k0_pay153 (F := Ideal) = k0_pay150 := rfl
theorem pay53_is (n : FVec Ideal S128x1 .f32) (c v : FVec Ideal S128x128 .f32) : k0_pay53 c v (k0_pay52 n) = k0_pay49 n c v := rfl
theorem pay68_is' (v : FVec Ideal S128x128 .f32) (x : Vec Ideal S1x128x128 .f32) : k0_pay68 (k0_pay25 x) (k0_pay67 v) = k0_pay69 v x := rfl
theorem pay90_is (b : BitVec 1) (x : Vec Ideal S1x128x128 .f32) (s : Vec Ideal S1x128 .f32) : k0_pay90 (k0_pay89 b x) s = k0_pay84 b x s := rfl
theorem pay102_is (v w : FVec Ideal S128x128 .f32) : k0_pay102 (k0_pay100 v) (k0_pay101 w) = k0_pay93 v w := rfl
theorem pay122_is (n n' : FVec Ideal S128x1 .f32) (d p : FVec Ideal S128x128 .f32) (x : Vec Ideal S1x128x128 .f32) :
    k0_pay122 n n' d p x = k0_pay117 n n' p (k0_pay103 d x) := rfl
theorem pay125_is (n n' : FVec Ideal S128x1 .f32) (d p : FVec Ideal S128x128 .f32) (x : Vec Ideal S1x128x128 .f32) :
    k0_pay125 (k0_pay123 n p) (k0_pay124 n' d x) = k0_pay117 n n' p (k0_pay103 d x) := rfl
theorem pay135_is (m : FVec Ideal S128x256 .f32) (b : FVec Ideal S256x128 .f32) :
    k0_pay135 (k0_pay132 m) (k0_pay133 b) (k0_pay134 b) = k0_pay41 m b := rfl
theorem pay142_is (p b : FVec Ideal S128x128 .f32) : k0_pay142 (k0_pay141 p b) = k0_pay138 p b := rfl
theorem pay149_is (p q : FVec Ideal S128x128 .f32) (o : Vec Ideal S1x128x128 .f32) : k0_pay149 (k0_pay147 p q) o = k0_pay151 p q o := rfl
theorem pay154_is (p q : FVec Ideal S128x128 .f32) (o : Vec Ideal S1x128x128 .f32) : k0_pay154 (k0_pay152 p q) o = k0_pay151 p q o := rfl
theorem pay1_is (p q : FVec Ideal S128x128 .f32) (o : Vec Ideal S1x128x128 .f32) : k0_pay1 (k0_pay156 p q o) = k0_pay151 p q o := rfl
theorem pay155_is : k0_pay155 (F := Ideal) = k0_pay150 := rfl
theorem raw_is (x y : FVec Ideal S1x128x128 .f32) : (concatenate (α := Ideal .f32) S256x128 0
    [⟨S128x128, (shapeCast (α := Ideal .f32) S128x128 x shapeCasts_S1x128x128_S128x128)⟩,
      ⟨S128x128, (shapeCast (α := Ideal .f32) S128x128 y shapeCasts_S1x128x128_S128x128)⟩] concatenates_S128x128_S128x128_S256x128_d0 : FVec Ideal S256x128 .f32)
    = k0_pay36 (k0_pay25 y) x := rfl
theorem rawCast_is (x : FVec Ideal S1x128x128 .f32) : (shapeCast (α := Ideal .f32) S128x128 x shapeCasts_S1x128x128_S128x128 : FVec Ideal S128x128 .f32)
    = k0_pay25 x := rfl
end Cert.KernelIdeal.PoolBwd
end
-- ==== Proof.Block.lean ====
module
public import proofs.«01_k».proof.Proof.Unit
public import Idealize.ShloMosaic.Lib.Pipeline.ReadBack
@[expose] public section
set_option maxRecDepth 16384
noncomputable section
open Idealize.ShloMosaic Idealize.ShloMosaic.TcCoe Idealize.SL.Sem
namespace Cert.KernelIdeal.PoolBwd
open Cert.KernelIdeal Cert.KernelIdeal.Gen

def ch (g : Fin 4) (c : Fin 128) : Fin 512 := ⟨128 * g.val + c.val, by omega⟩
def gOf (k : Fin 512) : Fin 4 := ⟨k.val / 128, by omega⟩
def cOf (k : Fin 512) : Fin 128 := ⟨k.val % 128, by omega⟩
theorem gOf_ch (g : Fin 4) (c : Fin 128) : gOf (ch g c) = g := by
  apply Fin.ext; simp only [gOf, ch]; omega
theorem cOf_ch (g : Fin 4) (c : Fin 128) : cOf (ch g c) = c := by
  apply Fin.ext; simp only [cOf, ch]; omega
theorem ch_of (k : Fin 512) : ch (gOf k) (cOf k) = k := by
  apply Fin.ext; simp only [gOf, cOf, ch]; omega

abbrev Chunk := Fin 2 → Fin 128 → Fin 512 → ℝ
def toX (f : Chunk) : Vec Ideal S2x128x512 .f32 := fun y => ((f (y 0) (y 1) (y 2) : ℝ) : EReal)
def toW (f : Fin 4 → Fin 128 → Fin 128 → ℝ) : Vec Ideal S4x128x128 .f32 := fun y => ((f (y 0) (y 1) (y 2) : ℝ) : EReal)
def toS (f : Fin 512 → ℝ) : Vec Ideal S1x512 .f32 := fun y => ((f (y 1) : ℝ) : EReal)

theorem ldX (f : Chunk) (e : Fin 2) (g : Fin 4) (off : Fin 3 → ℕ) (inb : ∀ a, off a + ![1, 128, 128] a ≤ S2x128x512.size a)
    (h0 : off 0 = e.val) (h1 : off 1 = 0) (h2 : off 2 = 128 * g.val) :
    View.ld (toX f) (Rect.unit (s := S2x128x512) off ![1, 128, 128] inb) = toP fun r c => f e r (ch g c) := by
  funext y
  idx_vars y
  show ((f _ _ _ : ℝ) : EReal) = ((f _ _ _ : ℝ) : EReal)
  congr 2
  · apply Fin.ext; simp [Rect.emb_apply, h0]
  · apply Fin.ext; simp [h1]
  · apply Fin.ext; simp [h2, ch]
theorem ldW (f : Fin 4 → Fin 128 → Fin 128 → ℝ) (g : Fin 4) (off : Fin 3 → ℕ) (inb : ∀ a, off a + ![1, 128, 128] a ≤ S4x128x128.size a)
    (h0 : off 0 = g.val) (h1 : off 1 = 0) (h2 : off 2 = 0) :
    View.ld (toW f) (Rect.unit (s := S4x128x128) off ![1, 128, 128] inb) = toP fun r c => f g r c := by
  funext y
  idx_vars y
  show ((f _ _ _ : ℝ) : EReal) = ((f _ _ _ : ℝ) : EReal)
  congr 2
  · apply Fin.ext; simp [h0]
  · apply Fin.ext; simp [h1]
  · apply Fin.ext; simp [h2]
theorem ldS (f : Fin 512 → ℝ) (g : Fin 4) (off : Fin 2 → ℕ) (inb : ∀ a, off a + ![1, 128] a ≤ S1x512.size a)
    (h0 : off 0 = 0) (h2 : off 1 = 128 * g.val) :
    View.ld (toS f) (Rect.unit (s := S1x512) off ![1, 128] inb) = toR fun c => f (ch g c) := by
  funext y
  idx_vars y
  show ((f _ : ℝ) : EReal) = ((f _ : ℝ) : EReal)
  congr 2
  apply Fin.ext; simp [h2, ch]
theorem emb6 (f : Fin 2 → Fin 4 → Fin 128 → Fin 128 → ℝ) (e : Fin 2) (g : Fin 4) (off : Fin 3 → ℕ) (inb : ∀ a, off a + ![1, 128, 128] a ≤ S2x128x512.size a)
    (h0 : off 0 = e.val) (h1 : off 1 = 0) (h2 : off 2 = 128 * g.val) (y : S1x128x128.Idx) :
    toP (f e g) y = toX (fun e r k => f e (gOf k) r (cOf k)) ((Rect.unit (s := S2x128x512) off ![1, 128, 128] inb).emb y) := by
  idx_vars y
  show ((f _ _ _ _ : ℝ) : EReal) = ((f _ _ _ _ : ℝ) : EReal)
  congr 2
  · apply Fin.ext; simp [Rect.emb_apply, h0]
  · apply Fin.ext; simp [h2, gOf]; omega
  · apply Fin.ext; simp [h1]
  · apply Fin.ext; simp [h2, cOf]; omega
/-! ## What one grid point computes, in real numbers -/

def WIN (g : Fin 4) : ℕ := ![2, 4, 8, 16] g
/-- The pooled chunk of batch `e`, group `g`: the window's mean less the row. -/
def pooledB (t : ℕ) (p q : Chunk) (e : Fin 2) (g : Fin 4) (r k : Fin 128) : ℝ :=
  (∑ l : Fin 256, fwdMask (WIN g) t r l * stack (fun r c => p e r (ch g c)) (fun r c => q e r (ch g c)) l k) / cnt (WIN g) (128 * t + r.val)
    - q e r (ch g k)
def dmB (d : Chunk) (s : Fin 512 → ℝ) (e : Fin 2) (g : Fin 4) (r k : Fin 128) : ℝ := d e r (ch g k) * s (ch g k)
def dmNextB (t : ℕ) (n : Chunk) (s : Fin 512 → ℝ) (e : Fin 2) (g : Fin 4) (r k : Fin 128) : ℝ :=
  (if Scalar.cmpi CmpIPredicate.slt (BitVec.ofNat 32 t) 32#32 = 1#1 then n e r (ch g k) else 0) * s (ch g k)
def mixB (w : Fin 4 → Fin 128 → Fin 128 → ℝ) (g : Fin 4) (a : Fin 128 → Fin 128 → ℝ) (r d : Fin 128) : ℝ := ∑ k, a r k * w g k d
def backB (w : Fin 4 → Fin 128 → Fin 128 → ℝ) (g : Fin 4) (a : Fin 128 → Fin 128 → ℝ) (r k : Fin 128) : ℝ := ∑ d, a r d * w g k d
def duB (t : ℕ) (d n : Chunk) (w : Fin 4 → Fin 128 → Fin 128 → ℝ) (s : Fin 512 → ℝ) (e : Fin 2) (g : Fin 4) (r k : Fin 128) : ℝ :=
  (∑ l : Fin 256, bwdMask (WIN g) r l * stack (fun r k => backB w g (dmB d s e g) r k / cnt (WIN g) (128 * t + r.val))
    (fun r k => backB w g (dmNextB t n s e g) r k / cnt (WIN g) (128 * (t + 1) + r.val)) l k) - backB w g (dmB d s e g) r k

theorem pooled_at (t : ℕ) (p q : Chunk) (e : Fin 2) (g : Fin 4) :
    k0_pay49 (cntC (WIN g) t) (toV fun r c => q e r (ch g c)) (toV fun r c => ∑ l : Fin 256, fwdMask (WIN g) t r l
      * stack (fun r c => p e r (ch g c)) (fun r c => q e r (ch g c)) l c) = toV (pooledB t p q e g) :=
  pooled_real _ _ _ fun r => cnt_ne _ _ (by fin_cases g <;> decide)
theorem spread_at (t : ℕ) (g : Fin 4) (a b : Fin 128 → Fin 128 → ℝ) :
    k0_pay117 (cntC (WIN g) t) (cntC (WIN g) (t + 1)) (toV a) (toV b)
      = toV2 (stack (fun r c => a r c / cnt (WIN g) (128 * t + r.val)) (fun r c => b r c / cnt (WIN g) (128 * (t + 1) + r.val))) :=
  spread_real _ _ _ _ (fun r => cnt_ne _ _ (by fin_cases g <;> decide)) (fun r => cnt_ne _ _ (by fin_cases g <;> decide))

theorem du_at (t : ℕ) (d n : Chunk) (w : Fin 4 → Fin 128 → Fin 128 → ℝ) (s : Fin 512 → ℝ) (e : Fin 2) (g : Fin 4) :
    k0_pay138 (toV (backB w g (dmB d s e g))) (k0_pay41 (toM (bwdMask (WIN g))) (k0_pay117 (cntC (WIN g) t) (cntC (WIN g) (t + 1))
      (toV (backB w g (dmB d s e g))) (toV (backB w g (dmNextB t n s e g))))) = toP (duB t d n w s e g) := by
  rw [spread_at, win_real, du_real]
  rfl
def dwB (t : ℕ) (p q d : Chunk) (s : Fin 512 → ℝ) (g : Fin 4) (c k : Fin 128) : ℝ :=
  (∑ r, pooledB t p q 0 g r c * dmB d s 0 g r k) + ∑ r, pooledB t p q 1 g r c * dmB d s 1 g r k
def dscB (t : ℕ) (p q d : Chunk) (w : Fin 4 → Fin 128 → Fin 128 → ℝ) (g : Fin 4) (k : Fin 128) : ℝ :=
  (∑ r, d 0 r (ch g k) * mixB w g (pooledB t p q 0 g) r k) + ∑ r, d 1 r (ch g k) * mixB w g (pooledB t p q 1 g) r k
/-- The rank-3 and rank-2 sums an accumulating store leaves. -/
def addW (X : Vec Ideal S4x128x128 .f32) (f : Fin 4 → Fin 128 → Fin 128 → ℝ) : Vec Ideal S4x128x128 .f32 := fun y => X y + toW f y
def addS (X : Vec Ideal S1x512 .f32) (f : Fin 512 → ℝ) : Vec Ideal S1x512 .f32 := fun y => X y + toS f y
def dscS (t : ℕ) (p q d : Chunk) (w : Fin 4 → Fin 128 → Fin 128 → ℝ) (k : Fin 512) : ℝ := dscB t p q d w (gOf k) (cOf k)
theorem dw_at (X : Vec Ideal S4x128x128 .f32) (t : ℕ) (p q d : Chunk) (s : Fin 512 → ℝ) (g : Fin 4)
    (off : Fin 3 → ℕ) (inb : ∀ a, off a + ![1, 128, 128] a ≤ S4x128x128.size a) (h0 : off 0 = g.val) (h1 : off 1 = 0) (h2 : off 2 = 0) (j : S1x128x128.Idx) :
    k0_pay151 (toV fun c k => ∑ r, pooledB t p q 0 g r c * dmB d s 0 g r k) (toV fun c k => ∑ r, pooledB t p q 1 g r c * dmB d s 1 g r k)
        (View.ld X (Rect.unit (s := S4x128x128) off ![1, 128, 128] inb)) j
      = addW X (dwB t p q d s) ((Rect.unit (s := S4x128x128) off ![1, 128, 128] inb).emb j) := by
  have e := congrFun (ldW (dwB t p q d s) g off inb h0 h1 h2) j
  have e' : toW (dwB t p q d s) ((Rect.unit (s := S4x128x128) off ![1, 128, 128] inb).emb j) = toP (dwB t p q d s g) j := e
  show _ = X _ + toW _ _
  rw [e']
  exact dw_store_real _ _ (View.ld X (Rect.unit (s := S4x128x128) off ![1, 128, 128] inb)) j
theorem dsc_at (X : Vec Ideal S1x512 .f32) (t : ℕ) (p q d : Chunk) (w : Fin 4 → Fin 128 → Fin 128 → ℝ) (g : Fin 4)
    (off : Fin 2 → ℕ) (inb : ∀ a, off a + ![1, 128] a ≤ S1x512.size a) (h0 : off 0 = 0) (h1 : off 1 = 128 * g.val) (j : S1x128.Idx) :
    k0_pay150 (toV fun r c => d 0 r (ch g c)) (toV fun r c => d 1 r (ch g c)) (toV (mixB w g (pooledB t p q 0 g))) (toV (mixB w g (pooledB t p q 1 g)))
        (View.ld X (Rect.unit (s := S1x512) off ![1, 128] inb)) j
      = addS X (dscS t p q d w) ((Rect.unit (s := S1x512) off ![1, 128] inb).emb j) := by
  have e := congrFun (ldS (dscS t p q d w) g off inb h0 h1) j
  have e' : toS (dscS t p q d w) ((Rect.unit (s := S1x512) off ![1, 128] inb).emb j) = toR (fun c => dscS t p q d w (ch g c)) j := e
  show _ = X _ + toS _ _
  rw [e']
  simp only [dscS, gOf_ch, cOf_ch]
  exact dsc_store_real _ _ _ _ (View.ld X (Rect.unit (s := S1x512) off ![1, 128] inb)) j

theorem pay2_eq : (k0_pay2 : FVec Ideal _ _) = toW fun _ _ _ => 0 := by
  funext y
  idx_vars y
  pointwise [k0_pay2, toW]
  rfl
theorem pay3_eq : (k0_pay3 : FVec Ideal _ _) = toS fun _ => 0 := by
  funext y
  idx_vars y
  pointwise [k0_pay3, toS]
  rfl

theorem pooled_at0 (t : ℕ) (p q : Chunk) (e : Fin 2) : k0_pay49 (cntC 2 t) (toV fun r c => q e r (ch 0 c))
    (toV fun r c => ∑ l : Fin 256, fwdMask 2 t r l * stack (fun r c => p e r (ch 0 c)) (fun r c => q e r (ch 0 c)) l c)
    = toV (pooledB t p q e 0) := pooled_at t p q e 0
theorem pooled_at1 (t : ℕ) (p q : Chunk) (e : Fin 2) : k0_pay49 (cntC 4 t) (toV fun r c => q e r (ch 1 c))
    (toV fun r c => ∑ l : Fin 256, fwdMask 4 t r l * stack (fun r c => p e r (ch 1 c)) (fun r c => q e r (ch 1 c)) l c)
    = toV (pooledB t p q e 1) := pooled_at t p q e 1
theorem pooled_at2 (t : ℕ) (p q : Chunk) (e : Fin 2) : k0_pay49 (cntC 8 t) (toV fun r c => q e r (ch 2 c))
    (toV fun r c => ∑ l : Fin 256, fwdMask 8 t r l * stack (fun r c => p e r (ch 2 c)) (fun r c => q e r (ch 2 c)) l c)
    = toV (pooledB t p q e 2) := pooled_at t p q e 2
theorem pooled_at3 (t : ℕ) (p q : Chunk) (e : Fin 2) : k0_pay49 (cntC 16 t) (toV fun r c => q e r (ch 3 c))
    (toV fun r c => ∑ l : Fin 256, fwdMask 16 t r l * stack (fun r c => p e r (ch 3 c)) (fun r c => q e r (ch 3 c)) l c)
    = toV (pooledB t p q e 3) := pooled_at t p q e 3

set_option maxHeartbeats 4000000 in
theorem outB6 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : ¬cond0_0 i)
    (p q d n : Chunk) (w : Fin 4 → Fin 128 → Fin 128 → ℝ) (s : Fin 512 → ℝ) (xo7 : Vec Ideal S4x128x128 .f32) (xo8 : Vec Ideal S1x512 .f32) :
    out0_B_6 c i a1 h1 a2 h2 a3 h3 a4 h4 a5 h5 a6 h6 a7 h7 a8 h8 a9 h9 hc (toX p) (toX q) (toX d) (toX n) (toW w) (toS s) xo7 xo8
      = toX fun e r k => duB (i 0).val d n w s e (gOf k) r (cOf k) := by
  unfold out0_B_6
  rw [View.read_writes_junk_eq_canon]
  have hcov := cover0_B_6 c i a1 h1 a2 h2 a3 h3 a4 h4 a5 h5 a6 h6 a7 h7 a8 h8 a9 h9 hc (toX p) (toX q) (toX d) (toX n) (toW w) (toS s) xo7 xo8
  revert hcov
  unfold kernelRun0_B
  dsimp only
  sl_unfold_words
  simp only [View.readAt_eq_ld]
  simp only [h1.read_unread, h2.read_unread, h3.read_unread, h4.read_unread, h5.read_unread, h6.read_unread, h8.read_unread, h9.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  intro hcov
  funext y
  refine View.canon_apply_of_pieces _ _ (fun pc hp j => ?_) y (hcov y)
  clear hcov
  simp only [List.mem_cons, List.mem_nil_iff, or_false] at hp
  rcases hp with rfl | rfl | rfl | rfl | rfl | rfl | rfl | rfl
  · exact (congrFun (du_at (i 0).val d n w s 1 3) j).trans (emb6 (duB (i 0).val d n w s) 1 3 ![1, 0, 384] inb_S2x128x512_S1x128x128_1_0_384 rfl rfl rfl j)
  · exact (congrFun (du_at (i 0).val d n w s 1 2) j).trans (emb6 (duB (i 0).val d n w s) 1 2 ![1, 0, 256] inb_S2x128x512_S1x128x128_1_0_256 rfl rfl rfl j)
  · exact (congrFun (du_at (i 0).val d n w s 1 1) j).trans (emb6 (duB (i 0).val d n w s) 1 1 ![1, 0, 128] inb_S2x128x512_S1x128x128_1_0_128 rfl rfl rfl j)
  · exact (congrFun (du_at (i 0).val d n w s 1 0) j).trans (emb6 (duB (i 0).val d n w s) 1 0 ![1, 0, 0] inb_S2x128x512_S1x128x128_1_0_0 rfl rfl rfl j)
  · exact (congrFun (du_at (i 0).val d n w s 0 3) j).trans (emb6 (duB (i 0).val d n w s) 0 3 ![0, 0, 384] inb_S2x128x512_S1x128x128_0_0_384 rfl rfl rfl j)
  · exact (congrFun (du_at (i 0).val d n w s 0 2) j).trans (emb6 (duB (i 0).val d n w s) 0 2 ![0, 0, 256] inb_S2x128x512_S1x128x128_0_0_256 rfl rfl rfl j)
  · exact (congrFun (du_at (i 0).val d n w s 0 1) j).trans (emb6 (duB (i 0).val d n w s) 0 1 ![0, 0, 128] inb_S2x128x512_S1x128x128_0_0_128 rfl rfl rfl j)
  · exact (congrFun (du_at (i 0).val d n w s 0 0) j).trans (emb6 (duB (i 0).val d n w s) 0 0 ![0, 0, 0] inb_S2x128x512_S1x128x128_0_0_0 rfl rfl rfl j)

set_option maxHeartbeats 4000000 in
theorem outB7 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : ¬cond0_0 i)
    (p q d n : Chunk) (w : Fin 4 → Fin 128 → Fin 128 → ℝ) (s : Fin 512 → ℝ) (xo7 : Vec Ideal S4x128x128 .f32) (xo8 : Vec Ideal S1x512 .f32) :
    out0_B_7 c i a1 h1 a2 h2 a3 h3 a4 h4 a5 h5 a6 h6 a7 h7 a8 h8 a9 h9 hc (toX p) (toX q) (toX d) (toX n) (toW w) (toS s) xo7 xo8
      = addW xo7 (dwB (i 0).val p q d s) := by
  unfold out0_B_7
  rw [View.read_writes_junk_eq_canon]
  have hcov := cover0_B_7 c i a1 h1 a2 h2 a3 h3 a4 h4 a5 h5 a6 h6 a7 h7 a8 h8 a9 h9 hc (toX p) (toX q) (toX d) (toX n) (toW w) (toS s) xo7 xo8
  revert hcov
  unfold kernelRun0_B
  dsimp only
  sl_unfold_words
  simp only [View.readAt_eq_ld]
  rw [h1.read_unread, h2.read_unread]
  simp only [raw_is]
  simp only [rawCast_is]
  simp only [h1.read_unread, h2.read_unread, h3.read_unread, h4.read_unread, h5.read_unread, h6.read_unread, h8.read_unread, h9.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  simp only [pooled_at0, pooled_at1, pooled_at2, pooled_at3, dpw_real, mixed_real]
  intro hcov
  funext y
  refine View.canon_apply_of_pieces _ _ (fun pc hp j => ?_) y (hcov y)
  clear hcov
  simp only [List.mem_cons, List.mem_nil_iff, or_false] at hp
  rcases hp with rfl | rfl | rfl | rfl
  · exact dw_at xo7 (i 0).val p q d s 3 ![3, 0, 0] inb_S4x128x128_S1x128x128_3_0_0 rfl rfl rfl j
  · exact dw_at xo7 (i 0).val p q d s 2 ![2, 0, 0] inb_S4x128x128_S1x128x128_2_0_0 rfl rfl rfl j
  · exact dw_at xo7 (i 0).val p q d s 1 ![1, 0, 0] inb_S4x128x128_S1x128x128_1_0_0 rfl rfl rfl j
  · exact dw_at xo7 (i 0).val p q d s 0 ![0, 0, 0] inb_S4x128x128_S1x128x128_0_0_0 rfl rfl rfl j

set_option maxHeartbeats 4000000 in
theorem outB8 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : ¬cond0_0 i)
    (p q d n : Chunk) (w : Fin 4 → Fin 128 → Fin 128 → ℝ) (s : Fin 512 → ℝ) (xo7 : Vec Ideal S4x128x128 .f32) (xo8 : Vec Ideal S1x512 .f32) :
    out0_B_8 c i a1 h1 a2 h2 a3 h3 a4 h4 a5 h5 a6 h6 a7 h7 a8 h8 a9 h9 hc (toX p) (toX q) (toX d) (toX n) (toW w) (toS s) xo7 xo8
      = addS xo8 (dscS (i 0).val p q d w) := by
  unfold out0_B_8
  rw [View.read_writes_junk_eq_canon]
  have hcov := cover0_B_8 c i a1 h1 a2 h2 a3 h3 a4 h4 a5 h5 a6 h6 a7 h7 a8 h8 a9 h9 hc (toX p) (toX q) (toX d) (toX n) (toW w) (toS s) xo7 xo8
  revert hcov
  unfold kernelRun0_B
  dsimp only
  sl_unfold_words
  simp only [View.readAt_eq_ld]
  rw [h1.read_unread, h2.read_unread]
  simp only [raw_is]
  simp only [rawCast_is]
  simp only [h1.read_unread, h2.read_unread, h3.read_unread, h4.read_unread, h5.read_unread, h6.read_unread, h8.read_unread, h9.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  simp only [pooled_at0, pooled_at1, pooled_at2, pooled_at3, dpw_real, mixed_real]
  intro hcov
  funext y
  refine View.canon_apply_of_pieces _ _ (fun pc hp j => ?_) y (hcov y)
  clear hcov
  simp only [List.mem_cons, List.mem_nil_iff, or_false] at hp
  rcases hp with rfl | rfl | rfl | rfl
  · exact dsc_at xo8 (i 0).val p q d w 3 ![0, 384] inb_S1x512_S1x128_0_384 rfl rfl j
  · exact dsc_at xo8 (i 0).val p q d w 2 ![0, 256] inb_S1x512_S1x128_0_256 rfl rfl j
  · exact dsc_at xo8 (i 0).val p q d w 1 ![0, 128] inb_S1x512_S1x128_0_128 rfl rfl j
  · exact dsc_at xo8 (i 0).val p q d w 0 ![0, 0] inb_S1x512_S1x128_0_0 rfl rfl j

set_option maxHeartbeats 4000000 in
theorem outA6 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : cond0_0 i)
    (p q d n : Chunk) (w : Fin 4 → Fin 128 → Fin 128 → ℝ) (s : Fin 512 → ℝ) :
    out0_A_6 c i a1 h1 a2 h2 a3 h3 a4 h4 a5 h5 a6 h6 a7 h7 a8 h8 a9 h9 hc (toX p) (toX q) (toX d) (toX n) (toW w) (toS s)
      = toX fun e r k => duB (i 0).val d n w s e (gOf k) r (cOf k) := by
  unfold out0_A_6
  rw [View.read_writes_junk_eq_canon]
  have hcov := cover0_A_6 c i a1 h1 a2 h2 a3 h3 a4 h4 a5 h5 a6 h6 a7 h7 a8 h8 a9 h9 hc (toX p) (toX q) (toX d) (toX n) (toW w) (toS s)
  revert hcov
  unfold kernelRun0_A
  dsimp only
  sl_unfold_words
  simp only [View.readAt_eq_ld]
  simp only [h1.read_unread, h2.read_unread, h3.read_unread, h4.read_unread, h5.read_unread, h6.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  intro hcov
  funext y
  refine View.canon_apply_of_pieces _ _ (fun pc hp j => ?_) y (hcov y)
  clear hcov
  simp only [List.mem_cons, List.mem_nil_iff, or_false] at hp
  rcases hp with rfl | rfl | rfl | rfl | rfl | rfl | rfl | rfl
  · exact (congrFun (du_at (i 0).val d n w s 1 3) j).trans (emb6 (duB (i 0).val d n w s) 1 3 ![1, 0, 384] inb_S2x128x512_S1x128x128_1_0_384 rfl rfl rfl j)
  · exact (congrFun (du_at (i 0).val d n w s 1 2) j).trans (emb6 (duB (i 0).val d n w s) 1 2 ![1, 0, 256] inb_S2x128x512_S1x128x128_1_0_256 rfl rfl rfl j)
  · exact (congrFun (du_at (i 0).val d n w s 1 1) j).trans (emb6 (duB (i 0).val d n w s) 1 1 ![1, 0, 128] inb_S2x128x512_S1x128x128_1_0_128 rfl rfl rfl j)
  · exact (congrFun (du_at (i 0).val d n w s 1 0) j).trans (emb6 (duB (i 0).val d n w s) 1 0 ![1, 0, 0] inb_S2x128x512_S1x128x128_1_0_0 rfl rfl rfl j)
  · exact (congrFun (du_at (i 0).val d n w s 0 3) j).trans (emb6 (duB (i 0).val d n w s) 0 3 ![0, 0, 384] inb_S2x128x512_S1x128x128_0_0_384 rfl rfl rfl j)
  · exact (congrFun (du_at (i 0).val d n w s 0 2) j).trans (emb6 (duB (i 0).val d n w s) 0 2 ![0, 0, 256] inb_S2x128x512_S1x128x128_0_0_256 rfl rfl rfl j)
  · exact (congrFun (du_at (i 0).val d n w s 0 1) j).trans (emb6 (duB (i 0).val d n w s) 0 1 ![0, 0, 128] inb_S2x128x512_S1x128x128_0_0_128 rfl rfl rfl j)
  · exact (congrFun (du_at (i 0).val d n w s 0 0) j).trans (emb6 (duB (i 0).val d n w s) 0 0 ![0, 0, 0] inb_S2x128x512_S1x128x128_0_0_0 rfl rfl rfl j)

set_option maxHeartbeats 4000000 in
theorem outA7 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : cond0_0 i)
    (p q d n : Chunk) (w : Fin 4 → Fin 128 → Fin 128 → ℝ) (s : Fin 512 → ℝ) :
    out0_A_7 c i a1 h1 a2 h2 a3 h3 a4 h4 a5 h5 a6 h6 a7 h7 a8 h8 a9 h9 hc (toX p) (toX q) (toX d) (toX n) (toW w) (toS s)
      = addW (toW fun _ _ _ => 0) (dwB (i 0).val p q d s) := by
  unfold out0_A_7
  rw [View.read_writes_junk_eq_canon]
  have hcov := cover0_A_7 c i a1 h1 a2 h2 a3 h3 a4 h4 a5 h5 a6 h6 a7 h7 a8 h8 a9 h9 hc (toX p) (toX q) (toX d) (toX n) (toW w) (toS s)
  revert hcov
  unfold kernelRun0_A
  dsimp only
  sl_unfold_words
  simp only [View.readAt_eq_ld]
  rw [h1.read_unread, h2.read_unread]
  simp only [raw_is]
  simp only [rawCast_is]
  simp only [h1.read_unread, h2.read_unread, h3.read_unread, h4.read_unread, h5.read_unread, h6.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  simp only [pooled_at0, pooled_at1, pooled_at2, pooled_at3, dpw_real, mixed_real]
  simp (disch := first | decide | (intro a; fin_cases a <;> rfl)) only [View.readCov_skip, View.readCov_fill, pay2_eq, pay3_eq]
  intro hcov
  funext y
  refine View.canon_append_of_piecesOf _ [_] [_, _, _, _] ⟨fun j => ?_, fun j => ?_, fun j => ?_, fun j => ?_, trivial⟩ y (View.cover_of_tiledBy _ ![1, 128, 128] (by sl_kernel_rfl) y)
  · exact dw_at _ (i 0).val p q d s 3 ![3, 0, 0] inb_S4x128x128_S1x128x128_3_0_0 rfl rfl rfl j
  · exact dw_at _ (i 0).val p q d s 2 ![2, 0, 0] inb_S4x128x128_S1x128x128_2_0_0 rfl rfl rfl j
  · exact dw_at _ (i 0).val p q d s 1 ![1, 0, 0] inb_S4x128x128_S1x128x128_1_0_0 rfl rfl rfl j
  · exact dw_at _ (i 0).val p q d s 0 ![0, 0, 0] inb_S4x128x128_S1x128x128_0_0_0 rfl rfl rfl j

set_option maxHeartbeats 4000000 in
theorem outA8 (c : Dev nD) (i : grid0.Coords) (a1 : Memref sig .tc .vmem S2x128x512 .f32) (h1 : a1.IsWhole) (a2 : Memref sig .tc .vmem S2x128x512 .f32) (h2 : a2.IsWhole) (a3 : Memref sig .tc .vmem S2x128x512 .f32) (h3 : a3.IsWhole) (a4 : Memref sig .tc .vmem S2x128x512 .f32) (h4 : a4.IsWhole) (a5 : Memref sig .tc .vmem S4x128x128 .f32) (h5 : a5.IsWhole) (a6 : Memref sig .tc .vmem S1x512 .f32) (h6 : a6.IsWhole) (a7 : Memref sig .tc .vmem S2x128x512 .bf16) (h7 : a7.IsWhole) (a8 : Memref sig .tc .vmem S4x128x128 .f32) (h8 : a8.IsWhole) (a9 : Memref sig .tc .vmem S1x512 .f32) (h9 : a9.IsWhole) (hc : cond0_0 i)
    (p q d n : Chunk) (w : Fin 4 → Fin 128 → Fin 128 → ℝ) (s : Fin 512 → ℝ) :
    out0_A_8 c i a1 h1 a2 h2 a3 h3 a4 h4 a5 h5 a6 h6 a7 h7 a8 h8 a9 h9 hc (toX p) (toX q) (toX d) (toX n) (toW w) (toS s)
      = addS (toS fun _ => 0) (dscS (i 0).val p q d w) := by
  unfold out0_A_8
  rw [View.read_writes_junk_eq_canon]
  have hcov := cover0_A_8 c i a1 h1 a2 h2 a3 h3 a4 h4 a5 h5 a6 h6 a7 h7 a8 h8 a9 h9 hc (toX p) (toX q) (toX d) (toX n) (toW w) (toS s)
  revert hcov
  unfold kernelRun0_A
  dsimp only
  sl_unfold_words
  simp only [View.readAt_eq_ld]
  rw [h1.read_unread, h2.read_unread]
  simp only [raw_is]
  simp only [rawCast_is]
  simp only [h1.read_unread, h2.read_unread, h3.read_unread, h4.read_unread, h5.read_unread, h6.read_unread]
  simp only [
    ldX _ 0 0 ![0, 0, 0] inb_S2x128x512_S1x128x128_0_0_0 rfl rfl rfl,
    ldX _ 0 1 ![0, 0, 128] inb_S2x128x512_S1x128x128_0_0_128 rfl rfl rfl,
    ldX _ 0 2 ![0, 0, 256] inb_S2x128x512_S1x128x128_0_0_256 rfl rfl rfl,
    ldX _ 0 3 ![0, 0, 384] inb_S2x128x512_S1x128x128_0_0_384 rfl rfl rfl,
    ldX _ 1 0 ![1, 0, 0] inb_S2x128x512_S1x128x128_1_0_0 rfl rfl rfl,
    ldX _ 1 1 ![1, 0, 128] inb_S2x128x512_S1x128x128_1_0_128 rfl rfl rfl,
    ldX _ 1 2 ![1, 0, 256] inb_S2x128x512_S1x128x128_1_0_256 rfl rfl rfl,
    ldX _ 1 3 ![1, 0, 384] inb_S2x128x512_S1x128x128_1_0_384 rfl rfl rfl,
    ldW _ 0 ![0, 0, 0] inb_S4x128x128_S1x128x128_0_0_0 rfl rfl rfl,
    ldW _ 1 ![1, 0, 0] inb_S4x128x128_S1x128x128_1_0_0 rfl rfl rfl,
    ldW _ 2 ![2, 0, 0] inb_S4x128x128_S1x128x128_2_0_0 rfl rfl rfl,
    ldW _ 3 ![3, 0, 0] inb_S4x128x128_S1x128x128_3_0_0 rfl rfl rfl,
    ldS _ 0 ![0, 0] inb_S1x512_S1x128_0_0 rfl rfl,
    ldS _ 1 ![0, 128] inb_S1x512_S1x128_0_128 rfl rfl,
    ldS _ 2 ![0, 256] inb_S1x512_S1x128_0_256 rfl rfl,
    ldS _ 3 ![0, 384] inb_S1x512_S1x128_0_384 rfl rfl]
  simp only [pay26_is, pay27_is, pay28_is, pay29_is, pay30_is, pay31_is, pay32_is, pay58_is, pay59_is, pay60_is, pay61_is, pay62_is, pay63_is, pay64_is, pay65_is, pay66_is, pay37_is, pay38_is, pay39_is, pay40_is, pay42_is, pay43_is, pay44_is, pay45_is, pay46_is, pay47_is, pay48_is, pay127_is, pay128_is, pay129_is, pay130_is, pay131_is, pay136_is, pay137_is, pay50_is, pay51_is, pay54_is, pay55_is, pay56_is, pay57_is, pay70_is, pay71_is, pay72_is, pay73_is, pay74_is, pay75_is, pay77_is, pay78_is, pay79_is, pay80_is, pay81_is, pay82_is, pay83_is, pay85_is, pay86_is, pay87_is, pay88_is, pay91_is, pay92_is, pay94_is, pay95_is, pay96_is, pay97_is, pay98_is, pay99_is, pay104_is, pay105_is, pay106_is, pay107_is, pay108_is, pay109_is, pay110_is, pay111_is, pay112_is, pay113_is, pay114_is, pay115_is, pay116_is, pay118_is, pay119_is, pay120_is, pay121_is, pay126_is, pay139_is, pay140_is, pay143_is, pay144_is, pay145_is, pay146_is, pay148_is, pay153_is, pay53_is, pay90_is, pay102_is, pay122_is, pay125_is, pay135_is, pay142_is, pay149_is, pay154_is, pay1_is, pay155_is, pay68_is']
  simp only [pay4_eq, pay5_eq, pay9_eq, pay10_eq, pay10_eq', pay11_eq, pay12_eq, pay13_eq, pay14_eq, pay16_eq, pay17_eq, pay18_eq, pay19_eq, pay21_eq, pay22_eq, pay23_eq, pay24_eq, cast_real, both_real, win_real, dm_real, dmNext_real, dpw_real, mixed_real, dpooled_real]
  simp only [pooled_at0, pooled_at1, pooled_at2, pooled_at3, dpw_real, mixed_real]
  simp (disch := first | decide | (intro a; fin_cases a <;> rfl)) only [View.readCov_skip, View.readCov_fill, pay2_eq, pay3_eq]
  intro hcov
  funext y
  refine View.canon_append_of_piecesOf _ [_] [_, _, _, _] ⟨fun j => ?_, fun j => ?_, fun j => ?_, fun j => ?_, trivial⟩ y (View.cover_of_tiledBy _ ![1, 128] (by sl_kernel_rfl) y)
  · exact dsc_at _ (i 0).val p q d w 3 ![0, 384] inb_S1x512_S1x128_0_384 rfl rfl j
  · exact dsc_at _ (i 0).val p q d w 2 ![0, 256] inb_S1x512_S1x128_0_256 rfl rfl j
  · exact dsc_at _ (i 0).val p q d w 1 ![0, 128] inb_S1x512_S1x128_0_128 rfl rfl j
  · exact dsc_at _ (i 0).val p q d w 0 ![0, 0] inb_S1x512_S1x128_0_0 rfl rfl j

end Cert.KernelIdeal.PoolBwd
end
-- ==== Proof.Cumsum.lean ====
module
public import proofs.«01_k».proof.Proof.Block
public import proofs.«01_k».proof.Proof.Gen.ReferenceIdeal.Run
@[expose] public section
set_option maxRecDepth 16384
noncomputable section
open Idealize.ShloMosaic Idealize.ShloMosaic.TcCoe Idealize.SL.Sem
namespace Cert.ReferenceIdeal.PoolBwd
open Cert.ReferenceIdeal Cert.ReferenceIdeal.Gen

/-! ## Running sums along the sequence

The reference sums a sequence with a window of its whole length: padded low by one less it sums a prefix, padded high by one less a suffix. -/

/-- A batch of grouped sequences, the rows numbered by naturals. -/
abbrev A4 := Fin 2 → ℕ → Fin 4 → Fin 128 → ℝ
def to4 (f : A4) : FVec Ideal S2x4224x4x128 .f32 := fun y => ((f (y 0) (y 1).val (y 2) (y 3) : ℝ) : EReal)

/-- The window: the whole sequence and one of every other axis. -/
abbrev Win : Shape := ⟨4, ![1, 4224, 1, 1]⟩
theorem numel_win : Win.numel = 4224 := by
  show ∏ a : Fin 4, (![1, 4224, 1, 1] : Fin 4 → ℕ) a = _
  simp [Fin.prod_univ_succ]
/-- Position `n` of the window lies `n` rows down. -/
theorem win_pos (n : Fin Win.numel) : ((Win.rowMajor.symm n) 1).val = n.val := by
  have e : (Win.rowMajor (Win.rowMajor.symm n)).val = n.val := by rw [Equiv.apply_symm_apply]
  rw [Shape.rowMajor_val_four] at e
  have h0 : ((Win.rowMajor.symm n) 0).val < 1 := ((Win.rowMajor.symm n) 0).isLt
  have h2 : ((Win.rowMajor.symm n) 2).val < 1 := ((Win.rowMajor.symm n) 2).isLt
  have h3 : ((Win.rowMajor.symm n) 3).val < 1 := ((Win.rowMajor.symm n) 3).isLt
  simp at e
  omega

theorem foldl_real {ι : Type} (l : List ι) (g : ι → EReal) (f : ι → ℝ) (hg : ∀ a, g a = ((f a : ℝ) : EReal)) :
    ∀ z : ℝ, l.foldl (fun r a => r + g a) (z : EReal) = ((z + (l.map f).sum : ℝ) : EReal) := by
  induction l with
  | nil => intro z; simp
  | cons a l ih =>
    intro z
    rw [List.foldl_cons, hg a, ← EReal.coe_add, ih, List.map_cons, List.sum_cons, add_assoc]
theorem list_sum (M : ℕ) (F : ℕ → ℝ) : ((List.finRange M).map fun n => F n.val).sum = ∑ n ∈ Finset.range M, F n := by
  rw [Finset.sum_range, Fin.sum_univ_def]

theorem prefix_sum (f : ℕ → ℝ) (s : ℕ) (hs : s < 4224) :
    (∑ n ∈ Finset.range 4224, if 4223 ≤ s + n ∧ s + n - 4223 < 4224 then f (s + n - 4223) else 0) = ∑ i ∈ Finset.range (s + 1), f i := by
  rw [← Finset.sum_filter]
  refine Finset.sum_nbij' (fun n => s + n - 4223) (fun i => i + 4223 - s) ?_ ?_ ?_ ?_ ?_
  all_goals intro a ha; simp only [Finset.mem_filter, Finset.mem_range] at ha ⊢
  all_goals omega
theorem suffix_sum (f : ℕ → ℝ) (s : ℕ) (hs : s < 4224) :
    (∑ n ∈ Finset.range 4224, if 0 ≤ s + n ∧ s + n - 0 < 4224 then f (s + n - 0) else 0) = ∑ i ∈ Finset.Ico s 4224, f i := by
  rw [← Finset.sum_filter]
  refine Finset.sum_nbij' (fun n => s + n) (fun i => i - s) ?_ ?_ ?_ ?_ ?_
  all_goals intro a ha; simp only [Finset.mem_filter, Finset.mem_range, Finset.mem_Ico, Nat.sub_zero] at ha ⊢
  all_goals first | omega | rfl

/-- A window of the whole sequence, `lo` rows padded above and `hi` below, at row `s`: the rows `s + n - lo` that exist. -/
theorem window_sum (f : A4) (lo hi : ℕ) (init : FVec Ideal S_ .f32) (hinit : ∀ y, init y = 0)
    (h : S2x4224x4x128.ReduceWindows (![1, 4224, 1, 1] : Fin 4 → ℕ) ![1, 1, 1, 1] ![0, lo, 0, 0] ![0, hi, 0, 0] S2x4224x4x128) (hu : 0 < S_.numel) :
    Host.reduceWindowAdd ![1, 4224, 1, 1] ![1, 1, 1, 1] ![0, lo, 0, 0] ![0, hi, 0, 0] (to4 f) init h hu
      = to4 fun e s g c => ∑ n ∈ Finset.range 4224, if lo ≤ s + n ∧ s + n - lo < 4224 then f e (s + n - lo) g c else 0 := by
  funext j
  unfold Host.reduceWindowAdd
  rw [Ideal.hostReduceWindowAdd_def, hinit]
  unfold Ideal.hostReduceWindowAdd Host.reduceWindow
  dsimp only
  rw [← EReal.coe_zero]
  set F : ℕ → ℝ := fun n : ℕ => if lo ≤ (j 1).val + n ∧ (j 1).val + n - lo < 4224 then f (j 0) ((j 1).val + n - lo) (j 2) (j 3) else 0 with hF
  refine Eq.trans (foldl_real (List.finRange (⟨4, ![1, 4224, 1, 1]⟩ : Shape).numel) _ (fun n => F n.val) (fun n => ?_) 0) ?_
  rotate_left
  · rw [list_sum Win.numel F, numel_win, zero_add]
    rfl
  · have hw := win_pos n
    have h0 : ((Win.rowMajor.symm n) 0).val < 1 := ((Win.rowMajor.symm n) 0).isLt
    have h2 : ((Win.rowMajor.symm n) 2).val < 1 := ((Win.rowMajor.symm n) 2).isLt
    have h3 : ((Win.rowMajor.symm n) 3).val < 1 := ((Win.rowMajor.symm n) 3).isLt
    have b0 : (j 0).val < 2 := (j 0).isLt
    have b2 : (j 2).val < 4 := (j 2).isLt
    have b3 : (j 3).val < 128 := (j 3).isLt
    split
    · next hin =>
      have h1 := hin 1
      change lo ≤ (j 1).val * 1 + ((Win.rowMajor.symm n) 1).val ∧ (j 1).val * 1 + ((Win.rowMajor.symm n) 1).val - lo < 4224 at h1
      rw [hw, Nat.mul_one] at h1
      rw [hF]; dsimp only; rw [if_pos h1]
      show ((f _ _ _ _ : ℝ) : EReal) = ((f _ _ _ _ : ℝ) : EReal)
      congr 2
      · apply Fin.ext
        show (j 0).val * 1 + ((Win.rowMajor.symm n) 0).val - 0 = (j 0).val
        omega
      · show (j 1).val * 1 + ((Win.rowMajor.symm n) 1).val - lo = _
        rw [hw, Nat.mul_one]
      · apply Fin.ext
        show (j 2).val * 1 + ((Win.rowMajor.symm n) 2).val - 0 = (j 2).val
        omega
      · apply Fin.ext
        show (j 3).val * 1 + ((Win.rowMajor.symm n) 3).val - 0 = (j 3).val
        omega
    · next hin =>
      rw [hF]; dsimp only; rw [if_neg fun hle => hin fun a => by
        match a with
        | ⟨0, _⟩ =>
          show 0 ≤ (j 0).val * 1 + ((Win.rowMajor.symm n) 0).val ∧ (j 0).val * 1 + ((Win.rowMajor.symm n) 0).val - 0 < 2
          omega
        | ⟨1, _⟩ =>
          show lo ≤ (j 1).val * 1 + ((Win.rowMajor.symm n) 1).val ∧ (j 1).val * 1 + ((Win.rowMajor.symm n) 1).val - lo < 4224
          rw [hw, Nat.mul_one]
          exact hle
        | ⟨2, _⟩ =>
          show 0 ≤ (j 2).val * 1 + ((Win.rowMajor.symm n) 2).val ∧ (j 2).val * 1 + ((Win.rowMajor.symm n) 2).val - 0 < 4
          omega
        | ⟨3, _⟩ =>
          show 0 ≤ (j 3).val * 1 + ((Win.rowMajor.symm n) 3).val ∧ (j 3).val * 1 + ((Win.rowMajor.symm n) 3).val - 0 < 128
          omega]

/-- Padded above by one less than the sequence: row `s` holds the sum of the rows up to it. -/
theorem cumsum_real (f : A4) (init : FVec Ideal S_ .f32) (hinit : ∀ y, init y = 0)
    (h : S2x4224x4x128.ReduceWindows (![1, 4224, 1, 1] : Fin 4 → ℕ) ![1, 1, 1, 1] ![0, 4223, 0, 0] ![0, 0, 0, 0] S2x4224x4x128) (hu : 0 < S_.numel) :
    Host.reduceWindowAdd ![1, 4224, 1, 1] ![1, 1, 1, 1] ![0, 4223, 0, 0] ![0, 0, 0, 0] (to4 f) init h hu
      = to4 fun e s g c => ∑ i ∈ Finset.range (s + 1), f e i g c := by
  rw [window_sum f 4223 0 init hinit h hu]
  funext j
  exact congrArg _ (prefix_sum (fun i => f (j 0) i (j 2) (j 3)) _ (j 1).isLt)
/-- Padded below: row `s` holds the sum of the rows from it on. -/
theorem revsum_real (f : A4) (init : FVec Ideal S_ .f32) (hinit : ∀ y, init y = 0)
    (h : S2x4224x4x128.ReduceWindows (![1, 4224, 1, 1] : Fin 4 → ℕ) ![1, 1, 1, 1] ![0, 0, 0, 0] ![0, 4223, 0, 0] S2x4224x4x128) (hu : 0 < S_.numel) :
    Host.reduceWindowAdd ![1, 4224, 1, 1] ![1, 1, 1, 1] ![0, 0, 0, 0] ![0, 4223, 0, 0] (to4 f) init h hu
      = to4 fun e s g c => ∑ i ∈ Finset.Ico s 4224, f e i g c := by
  rw [window_sum f 0 4223 init hinit h hu]
  funext j
  exact congrArg _ (suffix_sum (fun i => f (j 0) i (j 2) (j 3)) _ (j 1).isLt)

end Cert.ReferenceIdeal.PoolBwd
end
-- ==== Proof.Arrays.lean ====
module
public import proofs.«01_k».proof.Proof.Block
public import proofs.«01_k».proof.Proof.Gen.KernelIdeal.Value
public import Idealize.ShloMosaic.Lib.Pipeline.ValueKit
@[expose] public section
set_option maxRecDepth 16384
noncomputable section
open Idealize.ShloMosaic Idealize.ShloMosaic.TcCoe Idealize.SL.Sem
namespace Cert.KernelIdeal.PoolBwd
open Cert.KernelIdeal Cert.KernelIdeal.Gen

/-- A whole sequence array: batch, row, channel. -/
abbrev Arr := Fin 2 → ℕ → Fin 512 → ℝ
def toA (U : Arr) : FVec Ideal S2x4224x512 .f32 := fun y => ((U (y 0) (y 1).val (y 2) : ℝ) : EReal)
def chunkAt (U : Arr) (t : ℕ) : Chunk := fun e r k => U e (128 * t + r.val) k

theorem idx0 : ∀ t : Fin cfg0.N, win0_0.index t = ![0, t.val - 1, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, min (t.val + 1) 32, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, t.val, 0] := (by decide +kernel : ∀ t : Fin grid0.N, _)
theorem coord0 : ∀ t : Fin cfg0.N, ((grid0.coords t) 0).val = t.val := (by decide +kernel : ∀ t : Fin grid0.N, _)

variable (m : (ℓ : Loc nD τ sig) → Buf (Elt Ideal) ℓ) (c : Dev nD)
variable (U D : Arr) (W : Fin 4 → Fin 128 → Fin 128 → ℝ) (S : Fin 512 → ℝ)

/-- The arguments hold the given real numbers. -/
structure Holds : Prop where
  u : m ((c : Thread nD τ).loc main_arg0) = toA U
  d : m ((c : Thread nD τ).loc main_arg1) = toA D
  w : m ((c : Thread nD τ).loc main_arg2) = fun y : S1x4x128x128.Idx => ((W (y 1) (y 2) (y 3) : ℝ) : EReal)
  s : m ((c : Thread nD τ).loc main_arg3) = toS S

variable {m c U D W S}
theorem V_v0 (h : Holds m c U D W S) : V m c main_v0 = toW W := by
  have e : V m c main_v0 = shapeCast S4x128x128 (m ((c : Thread nD τ).loc main_arg2)) shapeCasts_S1x4x128x128_S4x128x128 := by
    unfold V hostOps0
    after_results
    rfl
  rw [e, h.w]
  funext y
  unfold shapeCast
  have hj : Shape.reshapeEquiv shapeCasts_S1x4x128x128_S4x128x128 y = (ix4 0 (y 0) (y 1) (y 2) : S1x4x128x128.Idx) := by
    apply Shape.reshapeEquiv_eq_of_rowMajor
    show (Shape.rowMajorPi _ _).val = (Shape.rowMajorPi _ _).val
    rw [Shape.rowMajorPi_succ_val, Shape.rowMajorPi_succ_val, Shape.rowMajorPi_succ_val, Shape.rowMajorPi_succ_val, Shape.rowMajorPi_succ_val, Shape.rowMajorPi_succ_val, Shape.rowMajorPi_succ_val]
    simp [Fin.prod_univ_succ, Shape.rowMajorPi_zero]
  rw [hj]
  rfl

theorem blk0 (h : Holds m c U D W S) (t : Fin cfg0.N) : iblk m c 0 t = toX (chunkAt U (t.val - 1)) := by
  funext y
  have hi := idx0 t
  show V m c main_arg0 ((win0_0.blk t).view.emb y) = _
  rw [V_main_arg0, h.u]
  show ((U _ _ _ : ℝ) : EReal) = ((U _ _ _ : ℝ) : EReal)
  congr 2
  · apply Fin.ext; blk_simp [hi]
  · blk_simp [hi]; omega
  · apply Fin.ext; blk_simp [hi]
theorem blk1 (h : Holds m c U D W S) (t : Fin cfg0.N) : iblk m c 1 t = toX (chunkAt U (t.val)) := by
  funext y
  have hi := idx1 t
  show V m c main_arg0 ((win0_1.blk t).view.emb y) = _
  rw [V_main_arg0, h.u]
  show ((U _ _ _ : ℝ) : EReal) = ((U _ _ _ : ℝ) : EReal)
  congr 2
  · apply Fin.ext; blk_simp [hi]
  · blk_simp [hi]; omega
  · apply Fin.ext; blk_simp [hi]
theorem blk2 (h : Holds m c U D W S) (t : Fin cfg0.N) : iblk m c 2 t = toX (chunkAt D (t.val)) := by
  funext y
  have hi := idx2 t
  show V m c main_arg1 ((win0_2.blk t).view.emb y) = _
  rw [V_main_arg1, h.d]
  show ((D _ _ _ : ℝ) : EReal) = ((D _ _ _ : ℝ) : EReal)
  congr 2
  · apply Fin.ext; blk_simp [hi]
  · blk_simp [hi]; omega
  · apply Fin.ext; blk_simp [hi]
theorem blk3 (h : Holds m c U D W S) (t : Fin cfg0.N) : iblk m c 3 t = toX (chunkAt D (min (t.val + 1) 32)) := by
  funext y
  have hi := idx3 t
  show V m c main_arg1 ((win0_3.blk t).view.emb y) = _
  rw [V_main_arg1, h.d]
  show ((D _ _ _ : ℝ) : EReal) = ((D _ _ _ : ℝ) : EReal)
  congr 2
  · apply Fin.ext; blk_simp [hi]
  · blk_simp [hi]; omega
  · apply Fin.ext; blk_simp [hi]
theorem blk4 (h : Holds m c U D W S) (t : Fin cfg0.N) : iblk m c 4 t = toW W := by
  funext y
  have hi := idx4 t
  show V m c main_v0 ((win0_4.blk t).view.emb y) = _
  rw [V_v0 h]
  show ((W _ _ _ : ℝ) : EReal) = ((W _ _ _ : ℝ) : EReal)
  congr 2
  · apply Fin.ext; blk_simp [hi]
  · apply Fin.ext; blk_simp [hi]
  · apply Fin.ext; blk_simp [hi]
theorem blk5 (h : Holds m c U D W S) (t : Fin cfg0.N) : iblk m c 5 t = toS S := by
  funext y
  have hi := idx5 t
  show V m c main_arg3 ((win0_5.blk t).view.emb y) = _
  rw [V_main_arg3, h.s]
  show ((S _ : ℝ) : EReal) = ((S _ : ℝ) : EReal)
  congr 2
  apply Fin.ext; blk_simp [hi]

/-! ## What the points leave -/

/-- The gradient of the mixer's input, group by group, as the points compute it. -/
def duT (t : ℕ) (D : Arr) (W : Fin 4 → Fin 128 → Fin 128 → ℝ) (S : Fin 512 → ℝ) (e : Fin 2) (r : Fin 128) (k : Fin 512) : ℝ :=
  duB t (chunkAt D t) (chunkAt D (min (t + 1) 32)) W S e (gOf k) r (cOf k)
def dwT (t : ℕ) (U D : Arr) (S : Fin 512 → ℝ) : Fin 4 → Fin 128 → Fin 128 → ℝ := dwB t (chunkAt U (t - 1)) (chunkAt U t) (chunkAt D t) S
def dscT (t : ℕ) (U D : Arr) (W : Fin 4 → Fin 128 → Fin 128 → ℝ) : Fin 512 → ℝ := dscS t (chunkAt U (t - 1)) (chunkAt U t) (chunkAt D t) W

theorem add_toW (f g : Fin 4 → Fin 128 → Fin 128 → ℝ) : addW (toW f) g = toW fun a b c => f a b c + g a b c := by
  funext y; exact (EReal.coe_add _ _).symm
theorem add_toS (f g : Fin 512 → ℝ) : addS (toS f) g = toS fun a => f a + g a := by
  funext y; exact (EReal.coe_add _ _).symm

theorem outs_du (h : Holds m c U D W S) (t : Fin cfg0.N) : (outsAt0 m c t.val t.isLt).1 = toX (duT t.val D W S) := by
  by_cases h0 : t.val % 33 = 0
  · rw [outsAt0_A m c t h0]
    dsimp only
    rw [blk0 h, blk1 h, blk2 h, blk3 h, blk4 h, blk5 h, outA6, coord0]
    rfl
  · rw [outsAt0_B m c t h0]
    dsimp only
    rw [blk0 h, blk1 h, blk2 h, blk3 h, blk4 h, blk5 h, outB6, coord0]
    rfl
theorem outs_acc (h : Holds m c U D W S) : ∀ (n : ℕ) (hn : n < cfg0.N),
    (outsAt0 m c n hn).2.1 = toW (fun g a b => ∑ t ∈ Finset.range (n + 1), dwT t U D S g a b)
    ∧ (outsAt0 m c n hn).2.2 = toS (fun k => ∑ t ∈ Finset.range (n + 1), dscT t U D W k)
  | 0, hn => by
    have e := outsAt0_A m c ⟨0, hn⟩ rfl
    have e' : outsAt0 m c 0 hn = _ := e
    rw [e']
    dsimp only
    rw [blk0 h, blk1 h, blk2 h, blk3 h, blk4 h, blk5 h, outA7, outA8, coord0, add_toW, add_toS]
    constructor
    · congr 1; funext g a b; simp [dwT]
    · congr 1; funext k; simp [dscT]
  | n + 1, hn => by
    have hN : n + 1 < 33 := lt_of_lt_of_eq hn N_0
    obtain ⟨i1, i2⟩ := outs_acc h n (by omega)
    have e := outsAt0_B m c ⟨n + 1, hn⟩ (by show ¬(n + 1) % 33 = 0; omega)
    have e' : outsAt0 m c (n + 1) hn = _ := e
    rw [e']
    dsimp only
    rw [blk0 h, blk1 h, blk2 h, blk3 h, blk4 h, blk5 h, outB7, outB8, coord0]
    have j1 : (outsAt0 m c (n + 1 - 1) (by omega)).2.1 = _ := i1
    have j2 : (outsAt0 m c (n + 1 - 1) (by omega)).2.2 = _ := i2
    rw [j1, j2, add_toW, add_toS]
    constructor
    · congr 1; funext g a b; rw [Finset.sum_range_succ _ (n + 1)]; rfl
    · congr 1; funext k; rw [Finset.sum_range_succ _ (n + 1)]; rfl

def duFun (D : Arr) (W : Fin 4 → Fin 128 → Fin 128 → ℝ) (S : Fin 512 → ℝ) : Arr :=
  fun e s k => duT (s / 128) D W S e ⟨s % 128, by omega⟩ k

theorem duT_congr {t t' : ℕ} {e e' : Fin 2} {r r' : Fin 128} {k k' : Fin 512} (ht : t = t') (he : e = e') (hr : r.val = r'.val) (hk : k = k') :
    duT t D W S e r k = duT t' D W S e' r' k' := by
  subst ht he hk
  rw [Fin.ext hr]

theorem final6 (h : Holds m c U D W S) : (dats m 0 c).arrAt 6 cfg0.N = toA (duFun D W S) := by
  refine (dats m 0 c).arrAt_eq_of_covers 6 _ (by decide +kernel) fun t hf y => ?_
  have hi := idx6 t
  rw [after0_6, outs_du h]
  show ((duT _ _ _ _ _ _ _ : ℝ) : EReal) = ((duFun _ _ _ _ _ _ : ℝ) : EReal)
  unfold duFun
  have e0 : ((win0_6.blk t).view.emb y) 0 = y 0 := by apply Fin.ext; blk_simp [hi]
  have e2 : ((win0_6.blk t).view.emb y) 2 = y 2 := by apply Fin.ext; blk_simp [hi]
  have e1 : (((win0_6.blk t).view.emb y) 1).val = 128 * t.val + (y 1).val := by blk_simp [hi]; omega
  congr 1
  refine duT_congr ?_ e0.symm ?_ e2.symm
  · show t.val = (((win0_6.blk t).view.emb y) 1).val / 128
    rw [e1]
    have : (y 1).val < 128 := (y 1).isLt
    omega
  · show (y 1).val = (((win0_6.blk t).view.emb y) 1).val % 128
    rw [e1]
    have : (y 1).val < 128 := (y 1).isLt
    omega
theorem final7 (h : Holds m c U D W S) : (dats m 0 c).arrAt 7 cfg0.N = toW (fun g a b => ∑ t ∈ Finset.range 33, dwT t U D S g a b) := by
  refine (dats m 0 c).arrAt_eq_of_after_last 7 ⟨32, by decide +kernel⟩ (by decide +kernel) _ fun j => ?_
  rw [after0_7, (outs_acc h 32 (by decide +kernel)).1]
  rfl
theorem final8 (h : Holds m c U D W S) : (dats m 0 c).arrAt 8 cfg0.N = toS (fun k => ∑ t ∈ Finset.range 33, dscT t U D W k) := by
  refine (dats m 0 c).arrAt_eq_of_after_last 8 ⟨32, by decide +kernel⟩ (by decide +kernel) _ fun j => ?_
  rw [after0_8, (outs_acc h 32 (by decide +kernel)).2]
  rfl

end Cert.KernelIdeal.PoolBwd
end
-- ==== Proof.Sums.lean ====
module
public import proofs.«01_k».proof.Proof.Arrays
@[expose] public section
set_option maxRecDepth 16384
noncomputable section
open Idealize.ShloMosaic Idealize.ShloMosaic.TcCoe Idealize.SL.Sem
namespace Cert.KernelIdeal.PoolBwd
open Cert.KernelIdeal Cert.KernelIdeal.Gen

/-! ## The chunks' masked sums are windows of the whole sequence -/

/-- A window of `w` rows ending at row `s`, as the difference of two prefixes. -/
theorem window_prefix (V : ℕ → ℝ) (s w : ℕ) :
    (∑ i ∈ Finset.range (s + 1), V i) - ∑ i ∈ Finset.range (s + 1 - w), V i = ∑ i ∈ Finset.Ico (s + 1 - w) (s + 1), V i := by
  rw [Finset.sum_Ico_eq_sub _ (by omega)]
/-- A window of `w` rows from row `s` on, of a sequence that is zero from row `n` on, as the difference of two suffixes. -/
theorem window_suffix (V : ℕ → ℝ) (n s w : ℕ) (hs : s < n) (hV : ∀ i, n ≤ i → V i = 0) :
    (∑ i ∈ Finset.Ico s n, (V i - V (i + w))) = ∑ i ∈ Finset.Ico s (s + w), V i := by
  have e : (∑ i ∈ Finset.Ico s n, V (i + w)) = ∑ i ∈ Finset.Ico (s + w) (n + w), V i := by
    rw [← Finset.sum_Ico_add' V s n w]
  have e2 : (∑ i ∈ Finset.Ico s n, V i) = ∑ i ∈ Finset.Ico s (n + w), V i := by
    rw [← Finset.sum_Ico_consecutive V (show s ≤ n by omega) (show n ≤ n + w by omega)]
    rw [Finset.sum_eq_zero (s := Finset.Ico n (n + w)) fun i hi => hV i (Finset.mem_Ico.1 hi).1, add_zero]
  rw [Finset.sum_sub_distrib, e, e2, ← Finset.sum_Ico_consecutive V (show s ≤ s + w by omega) (show s + w ≤ n + w by omega), add_sub_cancel_right]

theorem fwd_window (w t : ℕ) (hw : w ≤ 16) (r : Fin 128) (k : Fin 128) (V : ℕ → Fin 128 → ℝ) :
    (∑ l : Fin 256, fwdMask w t r l * stack (fun r c => V (128 * (t - 1) + r.val) c) (fun r c => V (128 * t + r.val) c) l k)
      = ∑ i ∈ Finset.Ico (128 * t + r.val + 1 - w) (128 * t + r.val + 1), V i k := by
  have e : ∀ l : Fin 256, fwdMask w t r l * stack (fun r c => V (128 * (t - 1) + r.val) c) (fun r c => V (128 * t + r.val) c) l k
      = (fun l : ℕ => if l ≤ r.val + 128 ∧ r.val + 128 < l + w ∧ 128 ≤ l + 128 * t then V (128 * t + l - 128) k else 0) l.val := by
    intro l
    unfold fwdMask stack
    dsimp only
    split
    · next hm =>
      rw [one_mul]
      split
      · congr 1; omega
      · congr 1; omega
    · rw [zero_mul]
  rw [Finset.sum_congr rfl fun l _ => e l, ← Finset.sum_range (fun l : ℕ => if l ≤ r.val + 128 ∧ r.val + 128 < l + w ∧ 128 ≤ l + 128 * t then V (128 * t + l - 128) k else 0), ← Finset.sum_filter]
  have hr := r.isLt
  refine Finset.sum_nbij' (fun l => 128 * t + l - 128) (fun i => i + 128 - 128 * t) ?_ ?_ ?_ ?_ ?_
  all_goals intro a ha; simp only [Finset.mem_filter, Finset.mem_range, Finset.mem_Ico] at ha ⊢
  all_goals omega

theorem bwd_window (w t : ℕ) (hw : w ≤ 16) (r : Fin 128) (k : Fin 128) (V : ℕ → Fin 128 → ℝ) :
    (∑ l : Fin 256, bwdMask w r l * stack (fun r c => V (128 * t + r.val) c) (fun r c => V (128 * (t + 1) + r.val) c) l k)
      = ∑ i ∈ Finset.Ico (128 * t + r.val) (128 * t + r.val + w), V i k := by
  have e : ∀ l : Fin 256, bwdMask w r l * stack (fun r c => V (128 * t + r.val) c) (fun r c => V (128 * (t + 1) + r.val) c) l k
      = (fun l : ℕ => if r.val ≤ l ∧ l < r.val + w then V (128 * t + l) k else 0) l.val := by
    intro l
    unfold bwdMask stack
    dsimp only
    split
    · next hm =>
      rw [one_mul]
      split
      · congr 1
      · congr 1; omega
    · rw [zero_mul]
  rw [Finset.sum_congr rfl fun l _ => e l, ← Finset.sum_range (fun l : ℕ => if r.val ≤ l ∧ l < r.val + w then V (128 * t + l) k else 0), ← Finset.sum_filter]
  have hr := r.isLt
  refine Finset.sum_nbij' (fun l => 128 * t + l) (fun i => i - 128 * t) ?_ ?_ ?_ ?_ ?_
  all_goals intro a ha; simp only [Finset.mem_filter, Finset.mem_range, Finset.mem_Ico] at ha ⊢
  all_goals first | omega | rfl

theorem sum_chunks (F : ℕ → ℝ) : ∀ n : ℕ, (∑ t ∈ Finset.range n, ∑ r : Fin 128, F (128 * t + r.val)) = ∑ s ∈ Finset.range (128 * n), F s
  | 0 => by simp
  | n + 1 => by
    rw [Finset.sum_range_succ, sum_chunks F n, ← Finset.sum_range (fun r => F (128 * n + r)), show 128 * (n + 1) = 128 * n + 128 by omega, Finset.sum_range_add]

/-! ## The gradient on the whole sequence -/

section Seq
variable (U D : Arr) (W : Fin 4 → Fin 128 → Fin 128 → ℝ) (S : Fin 512 → ℝ)

/-- The pooled sequence: the mean of the last rows less the row. -/
def pooledS (e : Fin 2) (s : ℕ) (g : Fin 4) (c : Fin 128) : ℝ :=
  ((∑ i ∈ Finset.range (s + 1), U e i (ch g c)) - ∑ i ∈ Finset.range (s + 1 - WIN g), U e i (ch g c)) / cnt (WIN g) s - U e s (ch g c)
/-- The gradient of the mixed sequence. -/
def dmS (e : Fin 2) (s : ℕ) (g : Fin 4) (c : Fin 128) : ℝ := D e s (ch g c) * S (ch g c)
/-- The gradient of the pooled sequence. -/
def dplS (e : Fin 2) (s : ℕ) (g : Fin 4) (c : Fin 128) : ℝ := ∑ d, dmS D S e s g d * W g c d
/-- The gradient of the window's sum, zero after the last row. -/
def quotS (e : Fin 2) (s : ℕ) (g : Fin 4) (c : Fin 128) : ℝ := if s < 4224 then dplS D W S e s g c / cnt (WIN g) s else 0
/-- The gradient of the mixer's input. -/
def duS (e : Fin 2) (s : ℕ) (g : Fin 4) (c : Fin 128) : ℝ :=
  -dplS D W S e s g c + ∑ i ∈ Finset.Ico s 4224, (quotS D W S e i g c - quotS D W S e (i + WIN g) g c)
def dwS (g : Fin 4) (c d : Fin 128) : ℝ := ∑ e : Fin 2, ∑ s ∈ Finset.range 4224, pooledS U e s g c * dmS D S e s g d
def dscaleS (g : Fin 4) (d : Fin 128) : ℝ := ∑ e : Fin 2, ∑ s ∈ Finset.range 4224, (∑ c, pooledS U e s g c * W g c d) * D e s (ch g d)

theorem WIN_le (g : Fin 4) : WIN g ≤ 16 := by fin_cases g <;> decide

theorem pooledB_seq (t : ℕ) (e : Fin 2) (g : Fin 4) (r k : Fin 128) :
    pooledB t (chunkAt U (t - 1)) (chunkAt U t) e g r k = pooledS U e (128 * t + r.val) g k := by
  unfold pooledB pooledS
  rw [window_prefix]
  have h := fwd_window (WIN g) t (WIN_le g) r k (fun i c => U e i (ch g c))
  have h' : (∑ l : Fin 256, fwdMask (WIN g) t r l * stack (fun r c => chunkAt U (t - 1) e r (ch g c)) (fun r c => chunkAt U t e r (ch g c)) l k) = _ := h
  rw [h']
  rfl
theorem back_seq (t : ℕ) (e : Fin 2) (g : Fin 4) (r k : Fin 128) : backB W g (dmB (chunkAt D t) S e g) r k = dplS D W S e (128 * t + r.val) g k := rfl

theorem slt_iff (t : ℕ) (ht : t < 33) : Scalar.cmpi CmpIPredicate.slt (BitVec.ofNat 32 t) 32#32 = 1#1 ↔ t < 32 := by
  interval_cases t <;> decide

theorem duT_seq (t : ℕ) (ht : t < 33) (e : Fin 2) (r : Fin 128) (k : Fin 512) :
    duT t D W S e r k = duS D W S e (128 * t + r.val) (gOf k) (cOf k) := by
  unfold duT duB duS
  have hr := r.isLt
  generalize gOf k = g
  generalize cOf k = c
  rw [window_suffix (fun i => quotS D W S e i g c) 4224 _ (WIN g) (by omega) (fun i hi => if_neg (by omega))]
  have h := bwd_window (WIN g) t (WIN_le g) r c (fun i c => quotS D W S e i g c)
  have e1 : (fun (r : Fin 128) (k : Fin 128) => backB W g (dmB (chunkAt D t) S e g) r k / cnt (WIN g) (128 * t + r.val))
      = fun r c => quotS D W S e (128 * t + r.val) g c := by
    funext r k
    have hr := r.isLt
    unfold quotS
    rw [if_pos (by omega)]
    rfl
  have e2 : (fun (r : Fin 128) (k : Fin 128) => backB W g (dmNextB t (chunkAt D (min (t + 1) 32)) S e g) r k / cnt (WIN g) (128 * (t + 1) + r.val))
      = fun r c => quotS D W S e (128 * (t + 1) + r.val) g c := by
    funext r k
    have hr := r.isLt
    unfold quotS
    by_cases h32 : t < 32
    · rw [if_pos (by omega)]
      unfold backB dmNextB
      simp only [if_pos ((slt_iff t ht).2 h32)]
      rw [show min (t + 1) 32 = t + 1 by omega]
      rfl
    · rw [if_neg (by omega)]
      unfold backB dmNextB
      simp only [if_neg (fun h => h32 ((slt_iff t ht).1 h))]
      simp
  rw [e1, e2, h, back_seq, sub_eq_neg_add]

theorem dwT_seq (g : Fin 4) (c d : Fin 128) : (∑ t ∈ Finset.range 33, dwT t U D S g c d) = dwS U D S g c d := by
  unfold dwT dwB dwS
  simp only [pooledB_seq, Fin.sum_univ_two, Finset.sum_add_distrib]
  have h := fun e => sum_chunks (fun s => pooledS U e s g c * dmS D S e s g d) 33
  exact congrArg₂ (· + ·) (h 0) (h 1)
theorem dscT_seq (k : Fin 512) : (∑ t ∈ Finset.range 33, dscT t U D W k) = dscaleS U D W (gOf k) (cOf k) := by
  unfold dscT dscS dscB dscaleS mixB
  simp only [pooledB_seq, Fin.sum_univ_two, Finset.sum_add_distrib]
  have h := fun e => sum_chunks (fun s => (∑ c, pooledS U e s (gOf k) c * W (gOf k) c (cOf k)) * D e s (ch (gOf k) (cOf k))) 33
  refine (congrArg₂ (· + ·) ?_ ?_).trans (congrArg₂ (· + ·) (h 0) (h 1))
  all_goals exact Finset.sum_congr rfl fun t _ => Finset.sum_congr rfl fun r _ => mul_comm _ _
end Seq

end Cert.KernelIdeal.PoolBwd
end
-- ==== Proof.Reference.lean ====
module
public import proofs.«01_k».proof.Proof.Cumsum
public import proofs.«01_k».proof.Proof.Sums
@[expose] public section
set_option maxRecDepth 16384
noncomputable section
open Idealize.ShloMosaic Idealize.ShloMosaic.TcCoe Idealize.SL.Sem
namespace Cert.ReferenceIdeal.PoolBwd
open Cert.ReferenceIdeal Cert.ReferenceIdeal.Gen Cert.ReferenceIdeal.Value
open Cert.KernelIdeal.PoolBwd (Arr toA toW toS coe_sum div_real cnt cnt_ne cnt_word ch gOf cOf gOf_ch cOf_ch ch_of WIN WIN_le pooledS dmS dplS quotS duS dwS dscaleS toInt_nat)

/-! ## The reference's arrays -/

def to4w (f : A4) : FVec Ideal S2x4240x4x128 .f32 := fun y => ((f (y 0) (y 1).val (y 2) (y 3) : ℝ) : EReal)
def to3 (f : Fin 2 → ℕ → Fin 128 → ℝ) : FVec Ideal S2x4224x128 .f32 := fun y => ((f (y 0) (y 1).val (y 2) : ℝ) : EReal)
def toN (f : ℕ → ℝ) : FVec Ideal S1x4224x1 .f32 := fun y => ((f (y 1).val : ℝ) : EReal)

/-- What the launch finds in the four arguments. -/
structure Given (V0 : Valuation τ sig (Elt Ideal)) (U D : Arr) (W : Fin 4 → Fin 128 → Fin 128 → ℝ) (S : Fin 512 → ℝ) : Prop where
  u : V0 (Proc.devRef .tc main_arg0) = toA U
  d : V0 (Proc.devRef .tc main_arg1) = toA D
  w : V0 (Proc.devRef .tc main_arg2) = fun y : S1x4x128x128.Idx => ((W (y 1) (y 2) (y 3) : ℝ) : EReal)
  s : V0 (Proc.devRef .tc main_arg3) = toS S

/-- A reshape that splits the channels into groups. -/
theorem split_real (f : Arr) (h : S2x4224x512.ShapeCasts S2x4224x4x128) :
    shapeCast S2x4224x4x128 (toA f) h = to4 fun e s g c => f e s (ch g c) := by
  funext y
  unfold shapeCast
  have hj : Shape.reshapeEquiv h y = (ix3 (y 0) (y 1) (ch (y 2) (y 3)) : S2x4224x512.Idx) := by
    apply Shape.reshapeEquiv_eq_of_rowMajor
    rw [Shape.rowMajor_val_three, Shape.rowMajor_val_four]
    simp [ch]
    omega
  rw [hj]
  rfl
/-- A reshape that joins the groups again. -/
theorem join_real (f : A4) (h : S2x4224x4x128.ShapeCasts S2x4224x512) :
    shapeCast S2x4224x512 (to4 f) h = toA fun e s k => f e s (gOf k) (cOf k) := by
  funext y
  unfold shapeCast
  have hj : Shape.reshapeEquiv h y = (ix4 (y 0) (y 1) (gOf (y 2)) (cOf (y 2)) : S2x4224x4x128.Idx) := by
    apply Shape.reshapeEquiv_eq_of_rowMajor
    rw [Shape.rowMajor_val_three, Shape.rowMajor_val_four]
    simp [gOf, cOf]
    omega
  rw [hj]
  rfl
/-- One group of a window of the rows. -/
theorem slice5_real (f : A4) (a g : ℕ) (hg : g < 4) (h : S2x4240x4x128.Slices ![0, a, g, 0] S2x4224x1x128) (h' : S2x4224x1x128.ShapeCasts S2x4224x128) :
    shapeCast S2x4224x128 (extractStridedSlice S2x4224x1x128 ![0, a, g, 0] (to4w f) h) h' = to3 fun e s c => f e (a + s) ⟨g, hg⟩ c := by
  funext y
  unfold shapeCast
  have hj : Shape.reshapeEquiv h' y = (ix4 (y 0) (y 1) 0 (y 2) : S2x4224x1x128.Idx) := by
    apply Shape.reshapeEquiv_eq_of_rowMajor
    rw [Shape.rowMajor_val_three, Shape.rowMajor_val_four]
    simp
  rw [hj]
  show ((f _ _ _ _ : ℝ) : EReal) = ((f _ _ _ _ : ℝ) : EReal)
  congr 2
  all_goals first | (apply Fin.ext; simp; done) | skip
theorem slice4_real (f : A4) (g : ℕ) (hg : g < 4) (h : S2x4224x4x128.Slices ![0, 0, g, 0] S2x4224x1x128) (h' : S2x4224x1x128.ShapeCasts S2x4224x128) :
    shapeCast S2x4224x128 (extractStridedSlice S2x4224x1x128 ![0, 0, g, 0] (to4 f) h) h' = to3 fun e s c => f e s ⟨g, hg⟩ c := by
  funext y
  unfold shapeCast
  have hj : Shape.reshapeEquiv h' y = (ix4 (y 0) (y 1) 0 (y 2) : S2x4224x1x128.Idx) := by
    apply Shape.reshapeEquiv_eq_of_rowMajor
    rw [Shape.rowMajor_val_three, Shape.rowMajor_val_four]
    simp
  rw [hj]
  show ((f _ _ _ _ : ℝ) : EReal) = ((f _ _ _ _ : ℝ) : EReal)
  congr 2
  all_goals first | (apply Fin.ext; simp; done) | (simp; done) | skip
/-- The rows of the padded sequence that are the sequence's own. -/
theorem sliceRows_real (f : A4) (h : S2x4240x4x128.Slices ![0, 16, 0, 0] S2x4224x4x128) :
    extractStridedSlice S2x4224x4x128 ![0, 16, 0, 0] (to4w f) h = to4 fun e s g c => f e (16 + s) g c := by
  funext y
  show ((f _ _ _ _ : ℝ) : EReal) = ((f _ _ _ _ : ℝ) : EReal)
  congr 2
  all_goals first | (apply Fin.ext; simp; done) | (simp; done) | skip

/-- One group's rows set into the padded sequence of all groups. -/
theorem padRows_real (f : Fin 2 → ℕ → Fin 128 → ℝ) (a b g g' : ℕ) (z : FVec Ideal S_ .f32) (hz : ∀ y, z y = 0)
    (hb : S2x4224x128.BroadcastsInDim S2x4224x1x128 ![0, 1, 3])
    (h : S2x4224x1x128.Pads ![0, a, g, 0] ![0, b, g', 0] ![0, 0, 0, 0] S2x4240x4x128) (hu : 0 < S_.numel) :
    pad S2x4240x4x128 ![0, a, g, 0] ![0, b, g', 0] ![0, 0, 0, 0] (broadcastInDim S2x4224x1x128 ![0, 1, 3] hb (to3 f)) z h hu
      = to4w fun e s k c => if k.val = g ∧ a ≤ s ∧ s < a + 4224 then f e (s - a) c else 0 := by
  funext y
  unfold pad
  have b0 : (y 0).val < 2 := (y 0).isLt
  have b3 : (y 3).val < 128 := (y 3).isLt
  split
  · next hin =>
    have h1 : a ≤ (y 1).val ∧ ((y 1).val - a) % 1 = 0 ∧ ((y 1).val - a) / 1 < 4224 := hin 1
    have h2 : g ≤ (y 2).val ∧ ((y 2).val - g) % 1 = 0 ∧ ((y 2).val - g) / 1 < 1 := hin 2
    show ((f _ _ _ : ℝ) : EReal) = (((if (y 2).val = g ∧ a ≤ (y 1).val ∧ (y 1).val < a + 4224 then f (y 0) ((y 1).val - a) (y 3) else 0 : ℝ)) : EReal)
    rw [if_pos (by omega)]
    congr 2
    · apply Fin.ext; show ((y 0).val - 0) / 1 = (y 0).val; omega
    · show ((y 1).val - a) / 1 = (y 1).val - a; omega
    · apply Fin.ext; show ((y 3).val - 0) / 1 = (y 3).val; omega
  · next hin =>
    show _ = (((if (y 2).val = g ∧ a ≤ (y 1).val ∧ (y 1).val < a + 4224 then f (y 0) ((y 1).val - a) (y 3) else 0 : ℝ)) : EReal)
    rw [if_neg fun hk => hin fun x => by
      match x with
      | ⟨0, _⟩ => show 0 ≤ (y 0).val ∧ ((y 0).val - 0) % 1 = 0 ∧ ((y 0).val - 0) / 1 < 2; omega
      | ⟨1, _⟩ => show a ≤ (y 1).val ∧ ((y 1).val - a) % 1 = 0 ∧ ((y 1).val - a) / 1 < 4224; omega
      | ⟨2, _⟩ => show g ≤ (y 2).val ∧ ((y 2).val - g) % 1 = 0 ∧ ((y 2).val - g) / 1 < 1; omega
      | ⟨3, _⟩ => show 0 ≤ (y 3).val ∧ ((y 3).val - 0) % 1 = 0 ∧ ((y 3).val - 0) / 1 < 128; omega]
    exact hz _
/-- One group's rows set among all groups. -/
theorem padGroup_real (f : Fin 2 → ℕ → Fin 128 → ℝ) (g g' : ℕ) (z : FVec Ideal S_ .f32) (hz : ∀ y, z y = 0)
    (hb : S2x4224x128.BroadcastsInDim S2x4224x1x128 ![0, 1, 3])
    (h : S2x4224x1x128.Pads ![0, 0, g, 0] ![0, 0, g', 0] ![0, 0, 0, 0] S2x4224x4x128) (hu : 0 < S_.numel) :
    pad S2x4224x4x128 ![0, 0, g, 0] ![0, 0, g', 0] ![0, 0, 0, 0] (broadcastInDim S2x4224x1x128 ![0, 1, 3] hb (to3 f)) z h hu
      = to4 fun e s k c => if k.val = g then f e s c else 0 := by
  funext y
  unfold pad
  have b0 : (y 0).val < 2 := (y 0).isLt
  have b1 : (y 1).val < 4224 := (y 1).isLt
  have b3 : (y 3).val < 128 := (y 3).isLt
  split
  · next hin =>
    have h2 : g ≤ (y 2).val ∧ ((y 2).val - g) % 1 = 0 ∧ ((y 2).val - g) / 1 < 1 := hin 2
    show ((f _ _ _ : ℝ) : EReal) = (((if (y 2).val = g then f (y 0) (y 1).val (y 3) else 0 : ℝ)) : EReal)
    rw [if_pos (by omega)]
    congr 2
    · apply Fin.ext; show ((y 0).val - 0) / 1 = (y 0).val; omega
    · show ((y 1).val - 0) / 1 = (y 1).val; omega
    · apply Fin.ext; show ((y 3).val - 0) / 1 = (y 3).val; omega
  · next hin =>
    show _ = (((if (y 2).val = g then f (y 0) (y 1).val (y 3) else 0 : ℝ)) : EReal)
    rw [if_neg fun hk => hin fun x => by
      match x with
      | ⟨0, _⟩ => show 0 ≤ (y 0).val ∧ ((y 0).val - 0) % 1 = 0 ∧ ((y 0).val - 0) / 1 < 2; omega
      | ⟨1, _⟩ => show 0 ≤ (y 1).val ∧ ((y 1).val - 0) % 1 = 0 ∧ ((y 1).val - 0) / 1 < 4224; omega
      | ⟨2, _⟩ => show g ≤ (y 2).val ∧ ((y 2).val - g) % 1 = 0 ∧ ((y 2).val - g) / 1 < 1; omega
      | ⟨3, _⟩ => show 0 ≤ (y 3).val ∧ ((y 3).val - 0) % 1 = 0 ∧ ((y 3).val - 0) / 1 < 128; omega]
    exact hz _

theorem zero_word (y : S_.Idx) : (constant S_ .f32 0x00000000#32 : FVec Ideal S_ .f32) y = 0 := by
  pointwise
theorem zero_word' (y : S_.Idx) : (broadcastInDim S_ ![] bcast_S_S_ (constant S_ .f32 0x00000000#32) : FVec Ideal S_ .f32) y = 0 := by
  pointwise

/-! ## The forward lines -/

theorem add4 (f g : A4) : addf (to4 f) (to4 g) = to4 fun e s k c => f e s k c + g e s k c := by
  funext y; exact (EReal.coe_add _ _).symm
theorem add4w (f g : A4) : addf (to4w f) (to4w g) = to4w fun e s k c => f e s k c + g e s k c := by
  funext y; exact (EReal.coe_add _ _).symm
theorem neg3 (f : Fin 2 → ℕ → Fin 128 → ℝ) : Host.negf (to3 f) = to3 fun e s c => -f e s c := by
  funext y; exact (EReal.coe_neg _).symm
/-- A group's rows over their counts. -/
theorem quot3 (f : Fin 2 → ℕ → Fin 128 → ℝ) (n : ℕ → ℝ) (hn : ∀ s, n s ≠ 0) (hb : S1x4224x1.BroadcastsInDim S2x4224x128 ![0, 1, 2]) :
    Host.divf (to3 f) (broadcastInDim S2x4224x128 ![0, 1, 2] hb (toN n)) = to3 fun e s c => f e s c / n s := by
  funext y
  idx_vars y
  pointwise [to3, toN]
  exact div_real (hn _) _
theorem sub3 (f g : Fin 2 → ℕ → Fin 128 → ℝ) : subf (to3 f) (to3 g) = to3 fun e s c => f e s c - g e s c := by
  funext y; exact (EReal.coe_sub _ _).symm
theorem cat_real (f0 f1 f2 f3 : Fin 2 → ℕ → Fin 128 → ℝ) (hb : S2x4224x128.BroadcastsInDim S2x4224x1x128 ![0, 1, 3])
    (h : Shape.Concatenates [S2x4224x1x128, S2x4224x1x128, S2x4224x1x128, S2x4224x1x128] S2x4224x4x128 2) :
    concatenate S2x4224x4x128 2 [⟨S2x4224x1x128, broadcastInDim S2x4224x1x128 ![0, 1, 3] hb (to3 f0)⟩, ⟨S2x4224x1x128, broadcastInDim S2x4224x1x128 ![0, 1, 3] hb (to3 f1)⟩,
      ⟨S2x4224x1x128, broadcastInDim S2x4224x1x128 ![0, 1, 3] hb (to3 f2)⟩, ⟨S2x4224x1x128, broadcastInDim S2x4224x1x128 ![0, 1, 3] hb (to3 f3)⟩] h
      = to4 fun e s g c => (![f0, f1, f2, f3] g) e s c := by
  funext y
  idx_vars y
  fin_cases y2
  all_goals pointwise [to3, to4]

/-- The padded groups, added up and summed from a row on, are that row's group alone. -/
theorem input_real (D : Arr) (W : Fin 4 → Fin 128 → Fin 128 → ℝ) (S : Fin 512 → ℝ) (e : Fin 2) (s : ℕ) (g : Fin 4) (c : Fin 128) :
    ((((if g.val = 3 then -dplS D W S e s 3 c else 0) + (if g.val = 2 then -dplS D W S e s 2 c else 0)) + (if g.val = 1 then -dplS D W S e s 1 c else 0))
        + (if g.val = 0 then -dplS D W S e s 0 c else 0))
      + ∑ i ∈ Finset.Ico s 4224, ((((((((if g.val = 3 ∧ 0 ≤ 16 + i ∧ 16 + i < 0 + 4224 then -(dplS D W S e (16 + i - 0) 3 c / cnt 16 (16 + i - 0)) else 0)
        + (if g.val = 3 ∧ 16 ≤ 16 + i ∧ 16 + i < 16 + 4224 then (dplS D W S e (16 + i - 16) 3 c / cnt 16 (16 + i - 16)) else 0))
        + (if g.val = 2 ∧ 8 ≤ 16 + i ∧ 16 + i < 8 + 4224 then -(dplS D W S e (16 + i - 8) 2 c / cnt 8 (16 + i - 8)) else 0))
        + (if g.val = 2 ∧ 16 ≤ 16 + i ∧ 16 + i < 16 + 4224 then (dplS D W S e (16 + i - 16) 2 c / cnt 8 (16 + i - 16)) else 0))
        + (if g.val = 1 ∧ 12 ≤ 16 + i ∧ 16 + i < 12 + 4224 then -(dplS D W S e (16 + i - 12) 1 c / cnt 4 (16 + i - 12)) else 0))
        + (if g.val = 1 ∧ 16 ≤ 16 + i ∧ 16 + i < 16 + 4224 then (dplS D W S e (16 + i - 16) 1 c / cnt 4 (16 + i - 16)) else 0))
        + (if g.val = 0 ∧ 14 ≤ 16 + i ∧ 16 + i < 14 + 4224 then -(dplS D W S e (16 + i - 14) 0 c / cnt 2 (16 + i - 14)) else 0))
        + (if g.val = 0 ∧ 16 ≤ 16 + i ∧ 16 + i < 16 + 4224 then (dplS D W S e (16 + i - 16) 0 c / cnt 2 (16 + i - 16)) else 0))
      = duS D W S e s g c := by
  unfold duS quotS
  have k : ∀ (g : Fin 4) (w : ℕ) (i : ℕ), i < 4224 → w ≤ 16 → (if 16 - w ≤ 16 + i ∧ 16 + i < 16 - w + 4224 then -(dplS D W S e (16 + i - (16 - w)) g c / cnt w (16 + i - (16 - w))) else 0)
      + (if 16 ≤ 16 + i ∧ 16 + i < 16 + 4224 then dplS D W S e (16 + i - 16) g c / cnt w (16 + i - 16) else 0)
      = (if i < 4224 then dplS D W S e i g c / cnt w i else 0) - (if i + w < 4224 then dplS D W S e (i + w) g c / cnt w (i + w) else 0) := by
    intro g w i hi hw
    rw [if_pos hi, if_pos (show 16 ≤ 16 + i ∧ 16 + i < 16 + 4224 by omega), show 16 + i - (16 - w) = i + w by omega, show 16 + i - 16 = i by omega]
    by_cases h : i + w < 4224
    · rw [if_pos (by omega), if_pos h]; ring
    · rw [if_neg (by omega), if_neg h]; ring
  have hi : ∀ i ∈ Finset.Ico s 4224, i < 4224 := fun i h => (Finset.mem_Ico.1 h).2
  match g with
  | ⟨0, _⟩ =>
    congr 1
    · simp
    · exact Finset.sum_congr rfl fun i h => Eq.trans (by simp only [true_and, false_and, if_false, zero_add, add_zero, Nat.reduceEqDiff, reduceCtorEq, show ((0 : ℕ) = 0) = True from eq_self _]) (k 0 2 i (hi i h) (by decide))
  | ⟨1, _⟩ =>
    congr 1
    · simp
    · exact Finset.sum_congr rfl fun i h => Eq.trans (by simp only [true_and, false_and, if_false, zero_add, add_zero, Nat.reduceEqDiff, reduceCtorEq, show ((1 : ℕ) = 1) = True from eq_self _]) (k 1 4 i (hi i h) (by decide))
  | ⟨2, _⟩ =>
    congr 1
    · simp
    · exact Finset.sum_congr rfl fun i h => Eq.trans (by simp only [true_and, false_and, if_false, zero_add, add_zero, Nat.reduceEqDiff, reduceCtorEq, show ((2 : ℕ) = 2) = True from eq_self _]) (k 2 8 i (hi i h) (by decide))
  | ⟨3, _⟩ =>
    congr 1
    · simp
    · exact Finset.sum_congr rfl fun i h => Eq.trans (by simp only [true_and, false_and, if_false, zero_add, add_zero, Nat.reduceEqDiff, reduceCtorEq, show ((3 : ℕ) = 3) = True from eq_self _]) (k 3 16 i (hi i h) (by decide))

section Given
variable {V0 : Valuation τ sig (Elt Ideal)} {U D : Arr} {W : Fin 4 → Fin 128 → Fin 128 → ℝ} {S : Fin 512 → ℝ}

theorem v0_eq (h : Given V0 U D W S) : res_main_v0 V0 = toW W := by
  unfold res_main_v0
  rw [h.w]
  funext y
  unfold shapeCast
  have hj : Shape.reshapeEquiv shapeCasts_S1x4x128x128_S4x128x128 y = (ix4 0 (y 0) (y 1) (y 2) : S1x4x128x128.Idx) := by
    apply Shape.reshapeEquiv_eq_of_rowMajor
    rw [Shape.rowMajor_val_three, Shape.rowMajor_val_four]
    simp
  rw [hj]
  rfl
theorem v2_eq (h : Given V0 U D W S) : res_main_v2 V0 = to4 fun e s g c => U e s (ch g c) := by
  unfold res_main_v2
  rw [h.u]
  exact split_real U _
theorem v5_eq (h : Given V0 U D W S) : res_main_v5 V0 = to4w fun e s g c => ∑ i ∈ Finset.range (s - 15), U e i (ch g c) := by
  unfold res_main_v5
  rw [v2_eq h, cumsum_real _ _ zero_word']
  funext y
  idx_vars y
  pointwise [to4, to4w]
  split_ifs with h16
  · rw [show y1.val - 15 = 0 by omega]; simp
  · rw [show y1.val - 16 + 1 = y1.val - 15 by omega]
theorem cnt_eq (V0 : Valuation τ sig (Elt Ideal)) :
    res_main_v19 V0 = toN (cnt 2) ∧ res_main_v34 V0 = toN (cnt 4) ∧ res_main_v49 V0 = toN (cnt 8) ∧ res_main_v64 V0 = toN (cnt 16) := by
  have hv : ∀ y : S1x4224x1.Idx, (BitVec.ofNat 32 (y 1).val).toInt = (y 1).val := fun y => by
    have : (y 1).val < 4224 := (y 1).isLt
    exact toInt_nat _ (by omega)
  have hs : ∀ y : S1x4224x1.Idx, (y 1).val < 2 ^ 20 := fun y => by
    have : (y 1).val < 4224 := (y 1).isLt
    omega
  refine ⟨?_, ?_, ?_, ?_⟩ <;> funext y
  · exact cnt_word 2 (y 1).val (BitVec.ofNat 32 (y 1).val) (by decide) (hs y) (hv y)
  · exact cnt_word 4 (y 1).val (BitVec.ofNat 32 (y 1).val) (by decide) (hs y) (hv y)
  · exact cnt_word 8 (y 1).val (BitVec.ofNat 32 (y 1).val) (by decide) (hs y) (hv y)
  · exact cnt_word 16 (y 1).val (BitVec.ofNat 32 (y 1).val) (by decide) (hs y) (hv y)

/-- The mixed sequence, channels grouped last of all. -/
def to4x (f : Fin 4 → Fin 128 → Fin 2 → ℕ → ℝ) : FVec Ideal S4x128x2x4224 .f32 := fun y => ((f (y 0) (y 1) (y 2) (y 3).val : ℝ) : EReal)

theorem mix_real (f : A4) : Host.dotGeneral (φ₁ := .f32) (φ₂ := .f32) dot_S4x128x128_S2x4224x4x128_S4x128x2x4224_1_3_2_01_0_2 none (toW W : FVec Ideal _ .f32) (to4 f)
    = to4x fun g d e s => ∑ c, f e s g c * W g c d := by
  funext y
  idx_vars y
  pointwise [toW, to4, to4x]
  simp only [← EReal.coe_mul, coe_sum]
  exact congrArg _ (Finset.sum_congr rfl fun _ _ => mul_comm _ _)
theorem back_real (f : A4) : Host.dotGeneral (φ₁ := .f32) (φ₂ := .f32) dot_S4x128x2x4224_S4x128x128_S4x2x4224x128_1_2_23_1_0_0 none (to4x fun g d e s => f e s g d) (toW W : FVec Ideal _ .f32)
    = fun y => ((∑ d, f (y 1) (y 2).val (y 0) d * W (y 0) (y 3) d : ℝ) : EReal) := by
  funext y
  idx_vars y
  pointwise [toW, to4, to4x]
  simp only [← EReal.coe_mul, coe_sum]
theorem outer_real (f k : A4) : Host.dotGeneral (φ₁ := .f32) (φ₂ := .f32) dot_S4x128x2x4224_S2x4224x4x128_S4x128x128_23_01_1_3_0_2 none (to4x fun g d e s => f e s g d) (to4 k)
    = toW fun g d c => ∑ e : Fin 2, ∑ s ∈ Finset.range 4224, f e s g d * k e s g c := by
  funext y
  idx_vars y
  pointwise [toW, to4, to4x]
  simp only [← EReal.coe_mul, coe_sum, Finset.sum_range]

theorem v74_eq (h : Given V0 U D W S) : res_main_v74 V0 = to4 (pooledS U) := by
  obtain ⟨c0, c1, c2, c3⟩ := cnt_eq V0
  unfold res_main_v74
  rw [v5_eq h, v2_eq h, c0, c1, c2, c3]
  have z : ∀ w, 0 < w → ∀ s, cnt w s ≠ 0 := fun w hw s => cnt_ne w s hw
  rw [slice5_real _ 16 0 (by decide), slice5_real _ 14 0 (by decide), slice4_real _ 0 (by decide), sub3, quot3 _ _ (z 2 (by decide)), sub3]
  rw [slice5_real _ 16 1 (by decide), slice5_real _ 12 1 (by decide), slice4_real _ 1 (by decide), sub3, quot3 _ _ (z 4 (by decide)), sub3]
  rw [slice5_real _ 16 2 (by decide), slice5_real _ 8 2 (by decide), slice4_real _ 2 (by decide), sub3, quot3 _ _ (z 8 (by decide)), sub3]
  rw [slice5_real _ 16 3 (by decide), slice5_real _ 0 3 (by decide), slice4_real _ 3 (by decide), sub3, quot3 _ _ (z 16 (by decide)), sub3]
  rw [cat_real]
  congr 1
  funext e s g c
  have k : ∀ (g : Fin 4) (w : ℕ), w ≤ 16 → ((∑ i ∈ Finset.range (16 + s - 15), U e i (ch g c)) - ∑ i ∈ Finset.range (16 - w + s - 15), U e i (ch g c)) / cnt w s - U e s (ch g c)
      = ((∑ i ∈ Finset.range (s + 1), U e i (ch g c)) - ∑ i ∈ Finset.range (s + 1 - w), U e i (ch g c)) / cnt w s - U e s (ch g c) := by
    intro g w hw
    rw [show 16 + s - 15 = s + 1 by omega, show 16 - w + s - 15 = s + 1 - w by omega]
  fin_cases g
  · exact k 0 2 (by decide)
  · exact k 1 4 (by decide)
  · exact k 2 8 (by decide)
  · exact k 3 16 (by decide)
/-- The host's sum over batch and rows. -/
theorem sum_rows_real (f : Arr) : Host.reduceAdd (toA f) (constant S_ .f32 0x00000000#32) reducesTo_S2x4224x512_S512_d0_1 h_S_
    = fun y : S512.Idx => ((∑ e : Fin 2, ∑ s ∈ Finset.range 4224, f e s (y 0) : ℝ) : EReal) := by
  funext j
  show Ideal.hostReduceAdd reducesTo_S2x4224x512_S512_d0_1 (toA f) ((constant S_ .f32 0x00000000#32 : FVec Ideal S_ .f32) (Shape.Idx.first h_S_)) j = _
  rw [zero_word]
  unfold Ideal.hostReduceAdd
  have hd : ∀ i : S2x4224x512.Idx, reducesTo_S2x4224x512_S512_d0_1.drop i = j ↔ i 2 = j 0 := by
    intro i
    constructor
    · intro h; exact congrFun h 0
    · intro h; funext b; obtain rfl : b = 0 := Subsingleton.elim _ _; exact h
  rw [zero_add]
  simp only [Finset.sum_range, ← coe_sum]
  rw [← Fintype.sum_prod_type']
  refine Finset.sum_nbij' (fun i => ((i 0, i 1) : Fin 2 × Fin 4224)) (fun p => ix3 p.1 p.2 (j 0)) ?_ ?_ ?_ ?_ ?_
  · intro i _; exact Finset.mem_univ _
  · intro p _; exact Finset.mem_filter.2 ⟨Finset.mem_univ _, (hd _).2 rfl⟩
  · intro i hi
    have h2 := (hd i).1 (Finset.mem_filter.1 hi).2
    funext a
    match a with
    | ⟨0, _⟩ => rfl
    | ⟨1, _⟩ => rfl
    | ⟨2, _⟩ => exact h2.symm
  · intro p _; rfl
  · intro i hi
    have h2 := (hd i).1 (Finset.mem_filter.1 hi).2
    show ((f _ _ _ : ℝ) : EReal) = ((f _ _ _ : ℝ) : EReal)
    congr 2
/-- The host's sum over two axes of extent one. -/
theorem sum_unit_real (x : FVec Ideal S1x1x512 .f32) (j : S512.Idx) (k : S1x1x512.Idx) (hk : k = ix3 0 0 (j 0)) :
    Ideal.hostReduceAdd reducesTo_S1x1x512_S512_d0_1 x 0 j = x k := by
  unfold Ideal.hostReduceAdd
  have hd : ∀ i : S1x1x512.Idx, reducesTo_S1x1x512_S512_d0_1.drop i = j ↔ i = k := by
    intro i
    subst hk
    constructor
    · intro h
      have h2 : i 2 = j 0 := congrFun h 0
      funext a
      match a with
      | ⟨0, _⟩ => exact Subsingleton.elim (α := Fin 1) _ _
      | ⟨1, _⟩ => exact Subsingleton.elim (α := Fin 1) _ _
      | ⟨2, _⟩ => exact h2
    · rintro rfl; funext b; obtain rfl : b = 0 := Subsingleton.elim _ _; rfl
  have hf : (Finset.univ.filter fun i : S1x1x512.Idx => reducesTo_S1x1x512_S512_d0_1.drop i = j) = {k} := by
    ext i
    simp only [Finset.mem_filter, Finset.mem_univ, true_and, Finset.mem_singleton]
    exact hd i
  rw [zero_add, hf, Finset.sum_singleton]
theorem v77_eq (h : Given V0 U D W S) : res_main_v77 V0 = toA fun e s k => ∑ c, pooledS U e s (gOf k) c * W (gOf k) c (cOf k) := by
  unfold res_main_v77
  rw [v0_eq h, v74_eq h, mix_real]
  exact join_real (fun e s g d => ∑ c, pooledS U e s g c * W g c d) _
theorem scaled_real (h : Given V0 U D W S) : mulf (toA D) (broadcastInDim S2x4224x512 ![0, 1, 2] bcast_S1x1x512_S2x4224x512_0_1_2 (res_main_v78 V0)) = toA fun e s k => D e s k * S k := by
  unfold res_main_v78
  rw [h.s]
  funext y
  idx_vars y
  pointwise [toA, toS]
  exact (EReal.coe_mul _ _).symm
theorem v88_eq (h : Given V0 U D W S) : res_main_v88 V0 = to4x fun g d e s => dmS D S e s g d := by
  unfold res_main_v88
  rw [h.d, scaled_real h, split_real]
  rfl
theorem v90_eq (h : Given V0 U D W S) : res_main_v90 V0 = to4 (dplS D W S) := by
  unfold res_main_v90
  rw [v88_eq h, v0_eq h, back_real (dmS D S)]
  rfl

/-- The third result: the gradient of the scale. -/
theorem scale_eq (h : Given V0 U D W S) :
    broadcastInDim S1x512 ![1] bcast_S512_S1x512_1 (Host.reduceAdd (shapeCast S1x1x512 (Host.reduceAdd (mulf (res_main_v77 V0) (V0 (Proc.devRef .tc main_arg1)))
      (constant S_ .f32 0x00000000#32) reducesTo_S2x4224x512_S512_d0_1 h_S_) shapeCasts_S512_S1x1x512) (constant S_ .f32 0x00000000#32) reducesTo_S1x1x512_S512_d0_1 h_S_)
    = toS fun k => dscaleS U D W (gOf k) (cOf k) := by
  rw [v77_eq h, h.d]
  have e : mulf (toA fun e s k => ∑ c, pooledS U e s (gOf k) c * W (gOf k) c (cOf k)) (toA D)
      = toA fun e s k => (∑ c, pooledS U e s (gOf k) c * W (gOf k) c (cOf k)) * D e s k := by
    funext y; exact (EReal.coe_mul _ _).symm
  rw [e, sum_rows_real]
  funext y
  idx_vars y
  pointwise
  rw [sum_unit_real _ _ (ix3 0 0 y1) rfl]
  have hj : Shape.reshapeEquiv shapeCasts_S512_S1x1x512 (ix3 0 0 y1 : S1x1x512.Idx) = (ix1 y1 : S512.Idx) := by
    apply Shape.reshapeEquiv_eq_of_rowMajor
    rw [Shape.rowMajor_val_three, Shape.rowMajor_val_one]
    simp
  unfold shapeCast
  rw [hj]
  show ((∑ e : Fin 2, ∑ s ∈ Finset.range 4224, (∑ c, pooledS U e s (gOf y1) c * W (gOf y1) c (cOf y1)) * D e s y1 : ℝ) : EReal) = ((dscaleS U D W (gOf y1) (cOf y1) : ℝ) : EReal)
  unfold dscaleS
  rw [ch_of]
/-- The second result: the gradient of the mixing weights. -/
theorem weight_eq (h : Given V0 U D W S) :
    shapeCast S4x128x128 (broadcastInDim S1x4x128x128 ![1, 2, 3] bcast_S4x128x128_S1x4x128x128_1_2_3 (transpose S4x128x128 [0, 2, 1]
      (Host.dotGeneral (φ₁ := .f32) (φ₂ := .f32) dot_S4x128x2x4224_S2x4224x4x128_S4x128x128_23_01_1_3_0_2 none (res_main_v88 V0) (res_main_v74 V0))
      transposes_S4x128x128_S4x128x128_0_2_1)) shapeCasts_S1x4x128x128_S4x128x128 = toW (dwS U D S) := by
  rw [v88_eq h, v74_eq h, outer_real (dmS D S)]
  funext y
  unfold shapeCast
  have hj : Shape.reshapeEquiv shapeCasts_S1x4x128x128_S4x128x128 y = (ix4 0 (y 0) (y 1) (y 2) : S1x4x128x128.Idx) := by
    apply Shape.reshapeEquiv_eq_of_rowMajor
    rw [Shape.rowMajor_val_three, Shape.rowMajor_val_four]
    simp
  rw [hj]
  show ((∑ e : Fin 2, ∑ s ∈ Finset.range 4224, dmS D S e s (y 0) (y 2) * pooledS U e s (y 0) (y 1) : ℝ) : EReal) = ((∑ e : Fin 2, ∑ s ∈ Finset.range 4224, pooledS U e s (y 0) (y 1) * dmS D S e s (y 0) (y 2) : ℝ) : EReal)
  exact congrArg _ (Finset.sum_congr rfl fun _ _ => Finset.sum_congr rfl fun _ _ => mul_comm _ _)

theorem rows_eq (h : Given V0 U D W S) :
    res_main_v94 V0 = to3 (fun e s c => dplS D W S e s 0 c) ∧ res_main_v96 V0 = to3 (fun e s c => dplS D W S e s 1 c)
    ∧ res_main_v98 V0 = to3 (fun e s c => dplS D W S e s 2 c) ∧ res_main_v100 V0 = to3 (fun e s c => dplS D W S e s 3 c) := by
  unfold res_main_v94 res_main_v96 res_main_v98 res_main_v100
  rw [v90_eq h]
  exact ⟨slice4_real _ 0 (by decide) _ _, slice4_real _ 1 (by decide) _ _, slice4_real _ 2 (by decide) _ _, slice4_real _ 3 (by decide) _ _⟩
theorem quots_eq (h : Given V0 U D W S) :
    res_main_v143 V0 = to3 (fun e s c => dplS D W S e s 0 c / cnt 2 s) ∧ res_main_v130 V0 = to3 (fun e s c => dplS D W S e s 1 c / cnt 4 s)
    ∧ res_main_v117 V0 = to3 (fun e s c => dplS D W S e s 2 c / cnt 8 s) ∧ res_main_v105 V0 = to3 (fun e s c => dplS D W S e s 3 c / cnt 16 s) := by
  obtain ⟨c0, c1, c2, c3⟩ := cnt_eq V0
  obtain ⟨r0, r1, r2, r3⟩ := rows_eq h
  unfold res_main_v143 res_main_v130 res_main_v117 res_main_v105
  rw [c0, c1, c2, c3, r0, r1, r2, r3]
  have z : ∀ w, 0 < w → ∀ s, cnt w s ≠ 0 := fun w hw s => cnt_ne w s hw
  exact ⟨quot3 _ _ (z 2 (by decide)) _, quot3 _ _ (z 4 (by decide)) _, quot3 _ _ (z 8 (by decide)) _, quot3 _ _ (z 16 (by decide)) _⟩

/-- The first result: the gradient of the mixer's input. -/
theorem input_eq (h : Given V0 U D W S) :
    (truncf .bf16 (shapeCast S2x4224x512 (addf (addf (addf (addf (pad S2x4224x4x128 ![0, 0, 3, 0] ![0, 0, 0, 0] ![0, 0, 0, 0] (broadcastInDim S2x4224x1x128 ![0, 1, 3] bcast_S2x4224x128_S2x4224x1x128_0_1_3 (Host.negf (res_main_v100 V0))) (constant S_ .f32 0x00000000#32) pads_S2x4224x1x128_S2x4224x4x128_000_000_300_000 h_S_) (pad S2x4224x4x128 ![0, 0, 2, 0] ![0, 0, 1, 0] ![0, 0, 0, 0] (broadcastInDim S2x4224x1x128 ![0, 1, 3] bcast_S2x4224x128_S2x4224x1x128_0_1_3 (Host.negf (res_main_v98 V0))) (constant S_ .f32 0x00000000#32) pads_S2x4224x1x128_S2x4224x4x128_000_000_210_000 h_S_)) (pad S2x4224x4x128 ![0, 0, 1, 0] ![0, 0, 2, 0] ![0, 0, 0, 0] (broadcastInDim S2x4224x1x128 ![0, 1, 3] bcast_S2x4224x128_S2x4224x1x128_0_1_3 (Host.negf (res_main_v96 V0))) (constant S_ .f32 0x00000000#32) pads_S2x4224x1x128_S2x4224x4x128_000_000_120_000 h_S_)) (pad S2x4224x4x128 ![0, 0, 0, 0] ![0, 0, 3, 0] ![0, 0, 0, 0] (broadcastInDim S2x4224x1x128 ![0, 1, 3] bcast_S2x4224x128_S2x4224x1x128_0_1_3 (Host.negf (res_main_v94 V0))) (constant S_ .f32 0x00000000#32) pads_S2x4224x1x128_S2x4224x4x128_000_000_030_000 h_S_))
      (Host.reduceWindowAdd ![1, 4224, 1, 1] ![1, 1, 1, 1] ![0, 0, 0, 0] ![0, 4223, 0, 0] (extractStridedSlice S2x4224x4x128 ![0, 16, 0, 0] (res_main_v150 V0) slices_S2x4240x4x128_S2x4224x4x128_0_16_0_0) (broadcastInDim S_ ![] bcast_S_S_ (constant S_ .f32 0x00000000#32)) reduceWindows_S2x4224x4x128_S2x4224x4x128_w1s1p0_0_w4224s1p0_4223_w1s1p0_0_w1s1p0_0 h_S_)) shapeCasts_S2x4224x4x128_S2x4224x512) bitsLt_bf16_f32 : FVec Ideal S2x4224x512 .bf16)
    = toA fun e s k => duS D W S e s (gOf k) (cOf k) := by
  obtain ⟨r0, r1, r2, r3⟩ := rows_eq h
  obtain ⟨q0, q1, q2, q3⟩ := quots_eq h
  unfold res_main_v150
  rw [r0, r1, r2, r3, q0, q1, q2, q3]
  simp only [neg3]
  rw [padRows_real _ 0 16 3 0 _ zero_word, padRows_real _ 16 0 3 0 _ zero_word, padRows_real _ 8 8 2 1 _ zero_word, padRows_real _ 16 0 2 1 _ zero_word,
    padRows_real _ 12 4 1 2 _ zero_word, padRows_real _ 16 0 1 2 _ zero_word, padRows_real _ 14 2 0 3 _ zero_word, padRows_real _ 16 0 0 3 _ zero_word]
  simp only [add4w]
  rw [sliceRows_real, revsum_real _ _ zero_word']
  rw [padGroup_real _ 3 0 _ zero_word, padGroup_real _ 2 1 _ zero_word, padGroup_real _ 1 2 _ zero_word, padGroup_real _ 0 3 _ zero_word]
  simp only [add4]
  rw [join_real]
  exact congrArg toA (funext fun e => funext fun s => funext fun k => input_real D W S e s (gOf k) (cOf k))
end Given

end Cert.ReferenceIdeal.PoolBwd
end
-- ==== Proof.Finite.lean ====
module
public import proofs.«01_k».proof.Proof.Reference
public import proofs.«01_k».proof.Proof.Gen.Pre_finite
public import Idealize.ShloMosaic.Lib.ReduceAll
@[expose] public section
set_option maxRecDepth 16384
noncomputable section
open Idealize.ShloMosaic Idealize.ShloMosaic.TcCoe Idealize.SL.Sem

/-! The precondition, read: no argument holds an infinity, so each of them is an array of real numbers. -/

namespace Cert.Finite

theorem inf_word : Ideal.ofBits .f32 0x7F800000#32 = ⊤ := by
  simp [Ideal.ofBits, Ideal.ieee]

/-- A value whose absolute value lies below the infinity is a real number. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have h' : max x (-x) < ⊤ := by
    have e : BitVec.ofBool (decide (max x (-x) < Ideal.ofBits .f32 0x7F800000#32)) = 1#1 := h
    rw [inf_word] at e
    by_contra hc
    rw [decide_eq_false hc] at e
    exact absurd e (by decide)
  refine EReal.coe_toReal (fun e => ?_) (fun e => ?_)
  · rw [e] at h'; simp at h'
  · rw [e] at h'; simp at h'

/-- One conjunct of the precondition: the reduction of the comparisons over the whole array. -/
theorem real_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant (⟨0, ![]⟩ : Shape) .f32 0x7F800000#32))) (constantI (⟨0, ![]⟩ : Shape) 1 1#1) hr hu j = 1#1)
    (i : s.Idx) : (((x i : EReal).toReal : ℝ) : EReal) = x i :=
  real_of_lt _ (Host.reduce_andi_all _ _ hr hu j h i)

theorem both {a b : BitVec 1} (h : IntOp.andi a b = 1#1) : a = 1#1 ∧ b = 1#1 := by
  revert a b; decide

open Cert.Pre_finite in
theorem reals [Cert.Pre_finite.Facts] (u d : FVec Ideal S2x4224x512 .f32) (w : FVec Ideal S1x4x128x128 .f32) (s : FVec Ideal S1x512 .f32)
    (h : Cert.Pre_finite.fn (F := Ideal) u d w s = fun _ => 1#1) :
    (∀ i, (((u i : EReal).toReal : ℝ) : EReal) = u i) ∧ (∀ i, (((d i : EReal).toReal : ℝ) : EReal) = d i)
      ∧ (∀ i, (((w i : EReal).toReal : ℝ) : EReal) = w i) ∧ ∀ i, (((s i : EReal).toReal : ℝ) : EReal) = s i := by
  have h0 := congrFun h ix0
  obtain ⟨h1, hs⟩ := both h0
  obtain ⟨h2, hw⟩ := both h1
  obtain ⟨hu, hd⟩ := both h2
  exact ⟨real_of_all u _ _ _ _ hu, real_of_all d _ _ _ _ hd, real_of_all w _ _ _ _ hw, real_of_all s _ _ _ _ hs⟩

end Cert.Finite

namespace Cert.KernelIdeal.PoolBwd
open Cert.KernelIdeal Cert.KernelIdeal.Gen Cert.KernelIdeal.Value

def realA (x : FVec Ideal S2x4224x512 .f32) : Arr :=
  fun e s k => if h : s < 4224 then ((x (ix3 e ⟨s, h⟩ k) : EReal)).toReal else 0
def realW (x : FVec Ideal S1x4x128x128 .f32) : Fin 4 → Fin 128 → Fin 128 → ℝ := fun g a b => ((x (ix4 0 g a b) : EReal)).toReal
def realS (x : FVec Ideal S1x512 .f32) : Fin 512 → ℝ := fun k => ((x (ix2 0 k) : EReal)).toReal

theorem toA_realA (x : FVec Ideal S2x4224x512 .f32) (h : ∀ i, (((x i : EReal).toReal : ℝ) : EReal) = x i) : x = toA (realA x) := by
  funext y
  have hy : (y 1).val < 4224 := (y 1).isLt
  have e : (ix3 (y 0) ⟨(y 1).val, hy⟩ (y 2) : S2x4224x512.Idx) = y := by
    funext a
    match a with
    | ⟨0, _⟩ => rfl
    | ⟨1, _⟩ => rfl
    | ⟨2, _⟩ => rfl
  show x y = ((realA x (y 0) (y 1).val (y 2) : ℝ) : EReal)
  unfold realA
  rw [dif_pos hy]
  exact ((congrArg (fun z => (((x z : EReal).toReal : ℝ) : EReal)) e).trans (h y)).symm
theorem toW_realW (x : FVec Ideal S1x4x128x128 .f32) (h : ∀ i, (((x i : EReal).toReal : ℝ) : EReal) = x i) :
    x = fun y : S1x4x128x128.Idx => ((realW x (y 1) (y 2) (y 3) : ℝ) : EReal) := by
  funext y
  have e : (ix4 0 (y 1) (y 2) (y 3) : S1x4x128x128.Idx) = y := by
    funext a
    match a with
    | ⟨0, _⟩ => exact Subsingleton.elim (α := Fin 1) _ _
    | ⟨1, _⟩ => rfl
    | ⟨2, _⟩ => rfl
    | ⟨3, _⟩ => rfl
  exact ((congrArg (fun z => (((x z : EReal).toReal : ℝ) : EReal)) e).trans (h y)).symm
theorem toS_realS (x : FVec Ideal S1x512 .f32) (h : ∀ i, (((x i : EReal).toReal : ℝ) : EReal) = x i) : x = toS (realS x) := by
  funext y
  have e : (ix2 0 (y 1) : S1x512.Idx) = y := by
    funext a
    match a with
    | ⟨0, _⟩ => exact Subsingleton.elim (α := Fin 1) _ _
    | ⟨1, _⟩ => rfl
  exact ((congrArg (fun z => (((x z : EReal).toReal : ℝ) : EReal)) e).trans (h y)).symm

variable {m : (ℓ : Loc nD τ sig) → Buf (Elt Ideal) ℓ} {c : Dev nD} {U D : Arr} {W : Fin 4 → Fin 128 → Fin 128 → ℝ} {S : Fin 512 → ℝ}

theorem duFun_seq (D : Arr) (W : Fin 4 → Fin 128 → Fin 128 → ℝ) (S : Fin 512 → ℝ) (e : Fin 2) (s : ℕ) (hs : s < 4224) (k : Fin 512) :
    duFun D W S e s k = duS D W S e s (gOf k) (cOf k) := by
  unfold duFun
  rw [duT_seq D W S (s / 128) (by omega)]
  congr 1
  show 128 * (s / 128) + s % 128 = s
  omega

theorem result_du (h : Holds m c U D W S) : (dats m 0 c).arrAt 6 cfg0.N = toA fun e s k => duS D W S e s (gOf k) (cOf k) := by
  rw [final6 h]
  funext y
  have hy : (y 1).val < 4224 := (y 1).isLt
  exact congrArg (fun r : ℝ => (r : EReal)) (duFun_seq D W S (y 0) _ hy (y 2))
theorem result_dw (h : Holds m c U D W S) : (dats m 0 c).arrAt 7 cfg0.N = toW (dwS U D S) := by
  rw [final7 h]
  exact congrArg toW (funext fun g => funext fun a => funext fun b => dwT_seq U D S g a b)
theorem result_dscale (h : Holds m c U D W S) : (dats m 0 c).arrAt 8 cfg0.N = toS fun k => dscaleS U D W (gOf k) (cOf k) := by
  rw [final8 h]
  exact congrArg toS (funext fun k => dscT_seq U D W k)

end Cert.KernelIdeal.PoolBwd
end
-- ==== Proof.ReadAll.lean ====
module
public import Idealize.ShloMosaic.Lib.Pipeline.ValueKit
public import Idealize.ShloMosaic.Lib.Pipeline.ReadBack
@[expose] public section
noncomputable section
open Idealize.ShloMosaic Idealize.SL.Sem
namespace Cert.ReadAll

variable {Val : EltTy → Type} {S : Shape} {e : EltTy}

/-- A load of a whole buffer, whatever was stored there: what the stores left. -/
theorem readCov_all [∀ e, Nonempty (Val e)] {sig : RefSig} {κ : Kind} {sp : Space} (v : View sig κ sp S e) {off : Fin S.rank → ℕ}
    (inb : ∀ a, off a + S.size a ≤ S.size a) (L : List (View.Piece Val S e)) (h : ∀ a, off a = 0) :
    v.readCov L (Rect.unit off S.size inb).toLoadRect = View.canon L :=
  (View.readCov_eq_canon' v L _).trans (View.ld_unit_lit inb (View.canon L) h)

end Cert.ReadAll
end
-- ==== Proof.Ff2Bwd.lean ====
module
public import proofs.«01_k».proof.Defs
public import proofs.«01_k».proof.Proof.Gen.Ff2Bwd.Frame
public import proofs.«01_k».proof.Proof.Gen.Ff2BwdIdeal.Value
public import proofs.«01_k».proof.Proof.Gen.Ff2BwdRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Ff2BwdIdeal.Done
open Cert.Ff2BwdIdeal Cert.Ff2BwdIdeal.Gen

/-! ## The gradient through the second feed-forward product and the squared positive part -/

/-- The constant 2, as the program spells it. -/
def two : EReal := Ideal.ofBits .f32 0x40000000#32

/-- One entry: the incoming row times the weight's row, times the derivative of `max(h, 0)²`. -/
def dhAt {n : ℕ} (a : FVec Ideal ⟨2, ![n, 1024]⟩ .bf16) (b : FVec Ideal S4096x1024 .bf16) (h : FVec Ideal ⟨2, ![n, 4096]⟩ .bf16) : FVec Ideal ⟨2, ![n, 4096]⟩ .bf16 := fun y =>
  (∑ k : Fin 1024, a (ix2 (y 0) k) * b (ix2 (y 1) k)) * (two * max (h y) 0)

theorem pay_eq (a : Vec Ideal S768x1024 .bf16) (b : Vec Ideal S512x1024 .bf16) (h : Vec Ideal S768x512 .bf16) (y : S768x512.Idx) :
    k0_pay2 (F := Ideal) a b h y = (∑ k : Fin 1024, a (ix2 (y 0) k) * b (ix2 (y 1) k)) * (two * max (h y) 0) := by
  idx_vars y
  pointwise [k0_pay2, two]

/-- The eight column blocks of a tile together. -/
theorem tile_at (a : FVec Ideal S768x1024 .bf16) (b : FVec Ideal S4096x1024 .bf16) (h : FVec Ideal S768x4096 .bf16) (p : Fin 8)
    {ob oh : Fin 2 → ℕ} (ib : ∀ i, ob i + ![512, 1024] i ≤ S4096x1024.size i) (ih : ∀ i, oh i + ![768, 512] i ≤ S768x4096.size i)
    (hb : ob = ![512 * p.val, 0]) (hh : oh = ![0, 512 * p.val]) (j : S768x512.Idx) :
    k0_pay2 (F := Ideal) a (View.ld b (Rect.unit (s := S4096x1024) ob ![512, 1024] ib)) (View.ld h (Rect.unit (s := S768x4096) oh ![768, 512] ih)) j
      = dhAt (n := 768) a b h ((Rect.unit (s := S768x4096) oh ![768, 512] ih).emb j) := by
  subst hb hh
  rw [pay_eq]
  unfold dhAt
  refine congrArg₂ (fun u v : EReal => u * v) (Finset.sum_congr rfl fun k _ => congrArg₂ (fun u v : EReal => u * v)
    (congrArg a (funext fun i => Fin.ext ?_)) (congrArg b (funext fun i => Fin.ext ?_))) rfl
  · match i with
    | ⟨0, _⟩ => simp
    | ⟨1, _⟩ => rfl
  · match i with
    | ⟨0, _⟩ => simp
    | ⟨1, _⟩ => simp

variable (m : (ℓ : Loc nD τ sig) → Buf (Elt Ideal) ℓ) (c : Dev nD)

def blkA (t : Fin cfg0.N) : FVec Ideal S768x1024 .bf16 := iblk m c 0 t
def blkB (t : Fin cfg0.N) : FVec Ideal S4096x1024 .bf16 := iblk m c 1 t
def blkH (t : Fin cfg0.N) : FVec Ideal S768x4096 .bf16 := iblk m c 2 t

theorem out_eq (a : FVec Ideal S768x1024 .bf16) (b : FVec Ideal S4096x1024 .bf16) (h : FVec Ideal S768x4096 .bf16) :
    View.canon ([⟨r0_16, k0_pay3 (F := Ideal) a (View.ld b r0_15) (View.ld h r0_16)⟩,
        ⟨r0_14, k0_pay2 (F := Ideal) a (View.ld b r0_13) (View.ld h r0_14)⟩,
        ⟨r0_12, k0_pay1 (F := Ideal) (k0_pay12 (F := Ideal) a (View.ld b r0_11)) (k0_pay13 (F := Ideal) (View.ld h r0_12))⟩,
        ⟨r0_10, k0_pay11 (F := Ideal) a (View.ld b r0_9) (View.ld h r0_10)⟩,
        ⟨r0_8, k0_pay10 (F := Ideal) a (View.ld b r0_7) (View.ld h r0_8)⟩,
        ⟨r0_6, k0_pay9 (F := Ideal) (k0_pay6 (F := Ideal) a (View.ld b r0_5)) (k0_pay7 (F := Ideal) (View.ld h r0_6)) (k0_pay8 (F := Ideal))⟩,
        ⟨r0_4, k0_pay5 (F := Ideal) a (View.ld b r0_3) (View.ld h r0_4)⟩,
        ⟨r0_2, k0_pay4 (F := Ideal) a (View.ld b r0_1) (View.ld h r0_2)⟩] : List (View.Piece (Elt Ideal) S768x4096 .bf16)) = dhAt (n := 768) a b h := by
  funext y
  refine View.canon_append_of_piecesOf _ [] [_, _, _, _, _, _, _, _]
    ⟨fun j => tile_at a b h 7 _ _ rfl rfl j,
      fun j => tile_at a b h 6 _ _ rfl rfl j,
      fun j => tile_at a b h 5 _ _ rfl rfl j,
      fun j => tile_at a b h 4 _ _ rfl rfl j,
      fun j => tile_at a b h 3 _ _ rfl rfl j,
      fun j => tile_at a b h 2 _ _ rfl rfl j,
      fun j => tile_at a b h 1 _ _ rfl rfl j,
      fun j => tile_at a b h 0 _ _ rfl rfl j, trivial⟩ y (View.cover_of_tiledBy _ ![768, 512] (by sl_kernel_rfl) y)
theorem out_at (t : Fin cfg0.N) : (dats m 0 c).after 3 t = dhAt (n := 768) (blkA m c t) (blkB m c t) (blkH m c t) := by
  rw [after0_3]
  frame_out
  exact out_eq (blkA m c t) (blkB m c t) (blkH m c t)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem blkA_at (t : Fin cfg0.N) (r : Fin 768) (k j : Fin 1024) (i : Fin 8448) (hi : i.val = t.val * 768 + r.val) (hj : j.val = k.val) :
    blkA m c t (ix2 r k) = m ((c : Thread nD τ).loc main_arg0) (ix2 i j) := by
  have h0 := idx0 t
  show V m c main_arg0 ((win0_0.blk t).view.emb (ix2 r k : S768x1024.Idx)) = _
  rw [V_main_arg0]
  refine congrArg _ (funext fun a => Fin.ext ?_)
  match a with
  | ⟨0, _⟩ => blk_simp [h0]; exact hi.symm
  | ⟨1, _⟩ => blk_simp [h0]; exact hj.symm
theorem blkB_at (t : Fin cfg0.N) (r : Fin 4096) (k j : Fin 1024) (i : Fin 4096) (hi : i.val = r.val) (hj : j.val = k.val) :
    blkB m c t (ix2 r k) = m ((c : Thread nD τ).loc main_arg1) (ix2 i j) := by
  have h0 := idx1 t
  show V m c main_arg1 ((win0_1.blk t).view.emb (ix2 r k : S4096x1024.Idx)) = _
  rw [V_main_arg1]
  refine congrArg _ (funext fun a => Fin.ext ?_)
  match a with
  | ⟨0, _⟩ => blk_simp [h0]; exact hi.symm
  | ⟨1, _⟩ => blk_simp [h0]; exact hj.symm
theorem blkH_at (t : Fin cfg0.N) (r : Fin 768) (k j : Fin 4096) (i : Fin 8448) (hi : i.val = t.val * 768 + r.val) (hj : j.val = k.val) :
    blkH m c t (ix2 r k) = m ((c : Thread nD τ).loc main_arg2) (ix2 i j) := by
  have h0 := idx2 t
  show V m c main_arg2 ((win0_2.blk t).view.emb (ix2 r k : S768x4096.Idx)) = _
  rw [V_main_arg2]
  refine congrArg _ (funext fun a => Fin.ext ?_)
  match a with
  | ⟨0, _⟩ => blk_simp [h0]; exact hi.symm
  | ⟨1, _⟩ => blk_simp [h0]; exact hj.symm

theorem final : (dats m 0 c).arrAt 3 cfg0.N = dhAt (n := 8448) (m ((c : Thread nD τ).loc main_arg0)) (m ((c : Thread nD τ).loc main_arg1)) (m ((c : Thread nD τ).loc main_arg2)) := by
  refine (dats m 0 c).arrAt_eq_of_covers 3 _ (by decide +kernel) fun t _ y => ?_
  have hi := idx3 t
  rw [out_at m c t]
  show dhAt (n := 768) (blkA m c t) (blkB m c t) (blkH m c t) (y : S768x4096.Idx) = _
  have e0 : ((((win0_3.blk t).view.emb y) 0 : Fin 8448)).val = t.val * 768 + (y 0).val := by blk_simp [hi]
  have e1 : ((((win0_3.blk t).view.emb y) 1 : Fin 4096)).val = (y 1).val := by blk_simp [hi]
  refine congrArg₂ (fun u v : EReal => u * (two * max v 0)) (Finset.sum_congr rfl fun k _ => congrArg₂ (fun a b : EReal => a * b)
    (blkA_at m c t (y 0) k k _ e0 rfl) (blkB_at m c t (y 1) k k _ e1 rfl)) ?_
  exact (congrArg (blkH m c t) (funext fun a => by match a with | ⟨0, _⟩ => rfl | ⟨1, _⟩ => rfl)).trans
    ((blkH_at m c t (y 0) (y 1) _ _ e0 e1).trans (congrArg _ (funext fun a => by match a with | ⟨0, _⟩ => rfl | ⟨1, _⟩ => rfl)))

theorem value : algebraic_Ff2BwdIdeal_Ff2BwdRefIdeal (hFf2BwdIdeal := Cert.Ff2BwdIdeal.Gen.facts) (hFf2BwdRefIdeal := Cert.Ff2BwdRefIdeal.Gen.facts) := by
  intro m ρ m' ρ' _ hagree
  refine ⟨fun c => (dats m 0 c).arrAt 3 cfg0.N, Cert.Ff2BwdIdeal.Value.run_blocks (F := Ideal) m ρ, ?_⟩
  refine (θ_run Cert.Ff2BwdRefIdeal.defs _ _).mono (fun _ h c => ?_) (Cert.Ff2BwdRefIdeal.Value.run (F := Ideal) m' ρ')
  obtain ⟨h0, hargs⟩ := h c
  obtain ⟨a0, a1, a2⟩ := hagree c
  refine ⟨h0.trans ?_, hargs⟩
  show _ = (dats m 0 c).arrAt 3 cfg0.N
  rw [final, a0, a1, a2]
  generalize m ((c.tc : Thread nD τ).loc main_arg0) = A
  generalize m ((c.tc : Thread nD τ).loc main_arg1) = B
  generalize m ((c.tc : Thread nD τ).loc main_arg2) = H
  clear h0 hargs h
  funext y
  idx_vars y
  pointwise [dhAt, two]
  split_ifs with h
  · rfl
  · rw [max_eq_right (not_lt.mp h), mul_zero, mul_zero]
end Cert.Ff2BwdIdeal.Done
end
-- ==== Proof.Ff2Dw.lean ====
module
public import proofs.«01_k».proof.Defs
public import proofs.«01_k».proof.Proof.Gen.Ff2Dw.Frame
public import proofs.«01_k».proof.Proof.Gen.Ff2DwIdeal.Value
public import proofs.«01_k».proof.Proof.Gen.Ff2DwRefIdeal.Run
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Ff2DwIdeal.Done
open Cert.Ff2DwIdeal Cert.Ff2DwIdeal.Gen

/-! ## The gradient of the second feed-forward weight: `relu(act)² ᵀ · dh2` -/

/-- The gradient, one entry: over all rows, the squared positive part of `A` times `B`. -/
def dwAt (A : FVec Ideal S8448x4096 .bf16) (B : FVec Ideal S8448x1024 .bf16) : FVec Ideal S4096x1024 .bf16 := fun y =>
  ∑ r : Fin 8448, (max (A (ix2 r (y 0))) 0 * max (A (ix2 r (y 0))) 0) * B (ix2 r (y 1))

theorem pay1_eq (y : S2048x1024.Idx) : (k0_pay1 : FVec Ideal S2048x1024 .f32) y = 0 := by
  idx_vars y
  pointwise [k0_pay1]
theorem pay2_eq (a : Vec Ideal S768x2048 .bf16) (s : Vec Ideal S2048x1024 .f32) (b : Vec Ideal S768x1024 .bf16) (y : S2048x1024.Idx) :
    k0_pay2 a s b y = s y + ∑ r : Fin 768, (max (a (ix2 r (y 0))) 0 * max (a (ix2 r (y 0))) 0) * b (ix2 r (y 1)) := by
  idx_vars y
  pointwise [k0_pay2]

theorem idx0 : ∀ t : Fin cfg0.N, win0_0.index t = ![t.val % 11, t.val / 11] := (by decide +kernel : ∀ t : Fin grid0.N, _)
theorem idx1 : ∀ t : Fin cfg0.N, win0_1.index t = ![t.val % 11, 0] := (by decide +kernel : ∀ t : Fin grid0.N, _)
theorem idx2 : ∀ t : Fin cfg0.N, win0_2.index t = ![t.val / 11, 0] := (by decide +kernel : ∀ t : Fin grid0.N, _)

variable (m : (ℓ : Loc nD τ sig) → Buf (Elt Ideal) ℓ) (c : Dev nD)

/-- The two input blocks of a point. -/
def blkA (t : Fin cfg0.N) : FVec Ideal S768x2048 .bf16 := iblk m c 0 t
def blkB (t : Fin cfg0.N) : FVec Ideal S768x1024 .bf16 := iblk m c 1 t
/-- What one point adds. -/
def term (t : Fin cfg0.N) : FVec Ideal S2048x1024 .f32 := fun y =>
  ∑ r : Fin 768, (max (blkA m c t (ix2 r (y 0))) 0 * max (blkA m c t (ix2 r (y 0))) 0) * blkB m c t (ix2 r (y 1))

theorem first_at (t : Fin cfg0.N) (h : t.val % 11 = 0) : (outsAt0 m c t.val t.isLt).2 = k0_pay2 (F := Ideal) (blkA m c t) (k0_pay1 (F := Ideal)) (blkB m c t) := by
  rw [outsAt0_A m c t h (by omega)]
  frame_out
  rfl
theorem next_at (t : Fin cfg0.N) (h : ¬t.val % 11 = 0) :
    (outsAt0 m c t.val t.isLt).2 = k0_pay2 (F := Ideal) (blkA m c t) (outsAt0 m c (t.val - 1) (Nat.lt_of_le_of_lt (Nat.sub_le _ _) t.isLt)).2 (blkB m c t) := by
  by_cases h1 : t.val % 11 = 10
  · rw [outsAt0_C m c t h h1]
    frame_out
    rw [read_unread_whole]
    rfl
  · rw [outsAt0_B m c t h h1]
    frame_out
    rw [read_unread_whole]
    rfl
theorem out_at (t : Fin cfg0.N) (h : t.val % 11 = 10) : (outsAt0 m c t.val t.isLt).1 = k0_pay3 (outsAt0 m c t.val t.isLt).2 := by
  rw [next_at m c t (by omega), outsAt0_C m c t (by omega) h]
  frame_out
  rw [read_unread_whole]
  rfl

theorem sum_at (t : Fin cfg0.N) (h : t.val % 11 = 10) (y : S2048x1024.Idx) : (outsAt0 m c t.val t.isLt).2 y
    = ∑ s : Fin 11, term m c ⟨11 * (t.val / 11) + s.val, Pipeline.run_point_lt_of_flush t h s⟩ y := by
  have e := Pipeline.eq_sum_fin_of_reset_step_apply_of_flush (fun n h => (outsAt0 m c n h).2) 11 (fun _ => 0) (term m c)
    (fun t h y => by rw [first_at m c t h, pay2_eq, pay1_eq]; rfl)
    (fun t h y => by rw [next_at m c t h, pay2_eq]; rfl) t h y
  rw [zero_add] at e
  exact e

theorem blkA_at (t : Fin cfg0.N) (r : Fin 768) (k : Fin 2048) (i : Fin 8448) (j : Fin 4096)
    (hi : i.val = t.val % 11 * 768 + r.val) (hj : j.val = t.val / 11 * 2048 + k.val) :
    blkA m c t (ix2 r k) = m ((c : Thread nD τ).loc main_arg0) (ix2 i j) := by
  have h0 := idx0 t
  show V m c main_arg0 ((win0_0.blk t).view.emb (ix2 r k : S768x2048.Idx)) = _
  rw [V_main_arg0]
  refine congrArg _ (funext fun a => Fin.ext ?_)
  match a with
  | ⟨0, _⟩ => blk_simp [h0]; exact hi.symm
  | ⟨1, _⟩ => blk_simp [h0]; exact hj.symm
theorem blkB_at (t : Fin cfg0.N) (r : Fin 768) (k : Fin 1024) (i : Fin 8448) (j : Fin 1024)
    (hi : i.val = t.val % 11 * 768 + r.val) (hj : j.val = k.val) :
    blkB m c t (ix2 r k) = m ((c : Thread nD τ).loc main_arg1) (ix2 i j) := by
  have h1 := idx1 t
  show V m c main_arg1 ((win0_1.blk t).view.emb (ix2 r k : S768x1024.Idx)) = _
  rw [V_main_arg1]
  refine congrArg _ (funext fun a => Fin.ext ?_)
  match a with
  | ⟨0, _⟩ => blk_simp [h1]; exact hi.symm
  | ⟨1, _⟩ => blk_simp [h1]; exact hj.symm

theorem final : (dats m 0 c).arrAt 2 cfg0.N = dwAt (m ((c : Thread nD τ).loc main_arg0)) (m ((c : Thread nD τ).loc main_arg1)) := by
  refine (dats m 0 c).arrAt_eq_of_covers 2 _ (by decide +kernel) fun t hf y => ?_
  have hm : t.val % 11 = 10 := (flush0_2 t).mp hf
  have hi := idx2 t
  rw [after0_2, out_at m c t hm]
  show (outsAt0 m c t.val t.isLt).2 y = _
  rw [sum_at m c t hm]
  refine Fin.sum_mul_add_congr (S := 11) (n := 768) fun s k hl => ?_
  exact congrArg₂ (fun a b : EReal => (max a 0 * max a 0) * b)
    (blkA_at m c _ k (y 0) ⟨s.val * 768 + k.val, hl⟩ (((win0_2.blk t).view.emb y) 0) (by dsimp only; omega) (by blk_simp [hi]; dsimp only; omega))
    (blkB_at m c _ k (y 1) ⟨s.val * 768 + k.val, hl⟩ (((win0_2.blk t).view.emb y) 1) (by dsimp only; omega) (by blk_simp [hi]))

/-! ## The claim -/

theorem value : algebraic_Ff2DwIdeal_Ff2DwRefIdeal (hFf2DwIdeal := Cert.Ff2DwIdeal.Gen.facts) (hFf2DwRefIdeal := Cert.Ff2DwRefIdeal.Gen.facts) := by
  intro m ρ m' ρ' _ hagree
  refine ⟨fun c => (dats m 0 c).arrAt 2 cfg0.N, Cert.Ff2DwIdeal.Value.run_blocks (F := Ideal) m ρ, ?_⟩
  refine (θ_run Cert.Ff2DwRefIdeal.defs _ _).mono (fun _ h c => ?_) (Cert.Ff2DwRefIdeal.Value.run (F := Ideal) m' ρ')
  obtain ⟨h0, hargs⟩ := h c
  obtain ⟨a0, a1⟩ := hagree c
  refine ⟨h0.trans ?_, hargs⟩
  show _ = (dats m 0 c).arrAt 2 cfg0.N
  rw [final, a0, a1]
  generalize m ((c.tc : Thread nD τ).loc main_arg0) = A
  generalize m ((c.tc : Thread nD τ).loc main_arg1) = B
  funext y
  idx_vars y
  pointwise [dwAt]
  exact Finset.sum_congr rfl fun r _ => mul_comm _ _

end Cert.Ff2DwIdeal.Done
end
-- ==== Proof.Ff1Dw.lean ====
module
public import proofs.«01_k».proof.Defs
public import proofs.«01_k».proof.Proof.Gen.Ff1Dw.Frame
public import proofs.«01_k».proof.Proof.Gen.Ff1DwIdeal.Value
public import proofs.«01_k».proof.Proof.Gen.Ff1DwRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Ff1DwIdeal.Done
open Cert.Ff1DwIdeal Cert.Ff1DwIdeal.Gen

/-! ## The gradient of the first feed-forward weight: `hnᵀ · dact`, in four slabs of columns -/

/-- The gradient, one entry: slab, row, column of the slab. -/
def dwAt (A : FVec Ideal S8448x1024 .bf16) (B : FVec Ideal S8448x4096 .bf16) : FVec Ideal S4x1024x1024 .bf16 := fun y =>
  ∑ r : Fin 8448, A (ix2 r (y 1)) * B (ix2 r ⟨1024 * (y 0).val + (y 2).val, by have h0 : (y 0).val < 4 := (y 0).isLt; have h2 : (y 2).val < 1024 := (y 2).isLt; omega⟩)
/-- What one point adds to the two slabs it works on. -/
def part (a : FVec Ideal S768x1024 .bf16) (b : FVec Ideal S768x2048 .bf16) : FVec Ideal S2x1024x1024 .f32 := fun y =>
  ∑ r : Fin 768, a (ix2 r (y 1)) * b (ix2 r ⟨1024 * (y 0).val + (y 2).val, by have h0 : (y 0).val < 2 := (y 0).isLt; have h2 : (y 2).val < 1024 := (y 2).isLt; omega⟩)
def step (a : FVec Ideal S768x1024 .bf16) (s : FVec Ideal S2x1024x1024 .f32) (b : FVec Ideal S768x2048 .bf16) : FVec Ideal S2x1024x1024 .f32 :=
  fun y => s y + part a b y

theorem pay1_eq : (k0_pay1 : FVec Ideal S2x1024x1024 .f32) = fun _ => 0 := by
  funext y
  idx_vars y
  pointwise [k0_pay1]
theorem pay2_eq (a : Vec Ideal S768x1024 .bf16) (s : Vec Ideal S1x1024x1024 .f32) (b : Vec Ideal S768x1024 .bf16) (y : S1x1024x1024.Idx) :
    k0_pay2 a s b y = s y + ∑ r : Fin 768, a (ix2 r (y 1)) * b (ix2 r (y 2)) := by
  idx_vars y
  pointwise [k0_pay2]
  rw [Subsingleton.elim y0 0]
theorem pay3_is : (k0_pay3 : Vec Ideal S768x1024 .bf16 → Vec Ideal S1x1024x1024 .f32 → _ → _) = k0_pay2 := rfl

theorem idx0 : ∀ t : Fin cfg0.N, win0_0.index t = ![t.val % 11, 0] := (by decide +kernel : ∀ t : Fin grid0.N, _)
theorem idx1 : ∀ t : Fin cfg0.N, win0_1.index t = ![t.val % 11, t.val / 11] := (by decide +kernel : ∀ t : Fin grid0.N, _)
theorem idx2 : ∀ t : Fin cfg0.N, win0_2.index t = ![t.val / 11, 0, 0] := (by decide +kernel : ∀ t : Fin grid0.N, _)

variable (m : (ℓ : Loc nD τ sig) → Buf (Elt Ideal) ℓ) (c : Dev nD)

/-- The two input blocks of a point. -/
def blkA (t : Fin cfg0.N) : FVec Ideal S768x1024 .bf16 := iblk m c 0 t
def blkB (t : Fin cfg0.N) : FVec Ideal S768x2048 .bf16 := iblk m c 1 t

/-- One slab of a point: the slab loaded, the product of the rows with the slab's columns added. -/
theorem slab_at (a : FVec Ideal S768x1024 .bf16) (s : FVec Ideal S2x1024x1024 .f32) (b : FVec Ideal S768x2048 .bf16) (p : ℕ)
    {os : Fin 3 → ℕ} {ob : Fin 2 → ℕ} (is : ∀ i, os i + ![1, 1024, 1024] i ≤ S2x1024x1024.size i) (ib : ∀ i, ob i + ![768, 1024] i ≤ S768x2048.size i)
    (hs : os = ![p, 0, 0]) (hb : ob = ![0, 1024 * p]) (j : S1x1024x1024.Idx) :
    k0_pay2 (F := Ideal) a (View.ld s (Rect.unit (s := S2x1024x1024) os ![1, 1024, 1024] is)) (View.ld b (Rect.unit (s := S768x2048) ob ![768, 1024] ib)) j
      = step a s b ((Rect.unit (s := S2x1024x1024) os ![1, 1024, 1024] is).emb j) := by
  subst hs hb
  have h0 : (j 0).val = 0 := by have h : (j 0).val < 1 := (j 0).isLt; omega
  rw [pay2_eq]
  unfold step part
  refine congrArg₂ (fun u v : EReal => u + v) rfl (Finset.sum_congr rfl fun r _ => congrArg₂ (fun u v : EReal => u * v)
    (congrArg a (funext fun i => Fin.ext ?_)) (congrArg b (funext fun i => Fin.ext ?_)))
  · match i with
    | ⟨0, _⟩ => rfl
    | ⟨1, _⟩ => simp
  · match i with
    | ⟨0, _⟩ => simp
    | ⟨1, _⟩ => simp

/-- The two slabs of a point together, over any earlier stores. -/
theorem slabs_at (a : FVec Ideal S768x1024 .bf16) (s : FVec Ideal S2x1024x1024 .f32) (b : FVec Ideal S768x2048 .bf16)
    (L : List (View.Piece (Elt Ideal) S2x1024x1024 .f32)) :
    View.canon (⟨Rect.unit (s := S2x1024x1024) ![1, 0, 0] ![1, 1024, 1024] inb_S2x1024x1024_S1x1024x1024_1_0_0,
          k0_pay2 (F := Ideal) a (View.ld s (Rect.unit (s := S2x1024x1024) ![1, 0, 0] ![1, 1024, 1024] inb_S2x1024x1024_S1x1024x1024_1_0_0))
            (View.ld b (Rect.unit (s := S768x2048) ![0, 1024] ![768, 1024] inb_S768x2048_S768x1024_0_1024))⟩ ::
        ⟨Rect.unit (s := S2x1024x1024) ![0, 0, 0] ![1, 1024, 1024] inb_S2x1024x1024_S1x1024x1024_0_0_0,
          k0_pay2 (F := Ideal) a (View.ld s (Rect.unit (s := S2x1024x1024) ![0, 0, 0] ![1, 1024, 1024] inb_S2x1024x1024_S1x1024x1024_0_0_0))
            (View.ld b (Rect.unit (s := S768x2048) ![0, 0] ![768, 1024] inb_S768x2048_S768x1024_0_0))⟩ :: L) = step a s b := by
  funext y
  exact View.canon_append_of_piecesOf _ L [_, _] ⟨fun j => slab_at a s b 1 _ _ rfl rfl j, fun j => slab_at a s b 0 _ _ rfl rfl j, trivial⟩ y
    (View.cover_of_tiledBy _ ![1, 1024, 1024] (by sl_kernel_rfl) y)

theorem first_at (t : Fin cfg0.N) (h : t.val % 11 = 0) : (outsAt0 m c t.val t.isLt).2 = step (blkA m c t) (fun _ => 0) (blkB m c t) := by
  rw [outsAt0_A m c t h (by omega)]
  frame_out
  simp (disch := first | decide | (intro a; fin_cases a <;> rfl)) only [View.readCov_skip, View.readCov_fill, pay1_eq, pay3_is]
  exact slabs_at (blkA m c t) _ (blkB m c t) _
theorem next_at (t : Fin cfg0.N) (h : ¬t.val % 11 = 0) :
    (outsAt0 m c t.val t.isLt).2 = step (blkA m c t) (outsAt0 m c (t.val - 1) (Nat.lt_of_le_of_lt (Nat.sub_le _ _) t.isLt)).2 (blkB m c t) := by
  by_cases h1 : t.val % 11 = 10
  · rw [outsAt0_C m c t h h1]
    frame_out
    simp only [read_unread_whole, pay3_is]
    exact slabs_at (blkA m c t) _ (blkB m c t) _
  · rw [outsAt0_B m c t h h1]
    frame_out
    simp only [read_unread_whole, pay3_is]
    exact slabs_at (blkA m c t) _ (blkB m c t) _
theorem out_at (t : Fin cfg0.N) (h : t.val % 11 = 10) :
    (outsAt0 m c t.val t.isLt).1 = k0_pay4 (outsAt0 m c t.val t.isLt).2 := by
  rw [next_at m c t (by omega), outsAt0_C m c t (by omega) h]
  frame_out
  simp only [read_unread_whole, pay3_is]
  exact congrArg k0_pay4 ((ReadAll.readCov_all (S := S2x1024x1024) _ _ _ (by decide)).trans (slabs_at (blkA m c t) _ (blkB m c t) []))

/-- A flush point's scratch: the sum over the eleven row tiles. -/
theorem sum_at (t : Fin cfg0.N) (h : t.val % 11 = 10) (y : S2x1024x1024.Idx) :
    (outsAt0 m c t.val t.isLt).2 y = ∑ s : Fin 11, part (blkA m c ⟨11 * (t.val / 11) + s.val, Pipeline.run_point_lt_of_flush t h s⟩) (blkB m c ⟨11 * (t.val / 11) + s.val, Pipeline.run_point_lt_of_flush t h s⟩) y := by
  have e := Pipeline.eq_sum_fin_of_reset_step_apply_of_flush (fun n h => (outsAt0 m c n h).2) 11 (fun _ => 0) (fun t => part (blkA m c t) (blkB m c t))
      (fun t h y => congrFun (first_at m c t h) y) (fun t h y => congrFun (next_at m c t h) y) t h y
  rw [zero_add] at e; exact e

theorem blkA_at (t : Fin cfg0.N) (r : Fin 768) (k : Fin 1024) (i : Fin 8448) (j : Fin 1024) (hi : i.val = t.val % 11 * 768 + r.val)
    (hj : j.val = k.val) : blkA m c t (ix2 r k) = m ((c : Thread nD τ).loc main_arg0) (ix2 i j) := by
  have h0 := idx0 t
  show V m c main_arg0 ((win0_0.blk t).view.emb (ix2 r k : S768x1024.Idx)) = _
  rw [V_main_arg0]
  refine congrArg _ (funext fun a => Fin.ext ?_)
  match a with
  | ⟨0, _⟩ => blk_simp [h0]; exact hi.symm
  | ⟨1, _⟩ => blk_simp [h0]; exact hj.symm
theorem blkB_at (t : Fin cfg0.N) (r : Fin 768) (k : Fin 2048) (i : Fin 8448) (j : Fin 4096) (hi : i.val = t.val % 11 * 768 + r.val)
    (hj : j.val = t.val / 11 * 2048 + k.val) : blkB m c t (ix2 r k) = m ((c : Thread nD τ).loc main_arg1) (ix2 i j) := by
  have h0 := idx1 t
  show V m c main_arg1 ((win0_1.blk t).view.emb (ix2 r k : S768x2048.Idx)) = _
  rw [V_main_arg1]
  refine congrArg _ (funext fun a => Fin.ext ?_)
  match a with
  | ⟨0, _⟩ => blk_simp [h0]; exact hi.symm
  | ⟨1, _⟩ => blk_simp [h0]; exact hj.symm

theorem final : (dats m 0 c).arrAt 2 cfg0.N = dwAt (m ((c : Thread nD τ).loc main_arg0)) (m ((c : Thread nD τ).loc main_arg1)) := by
  refine (dats m 0 c).arrAt_eq_of_covers 2 _ (by decide +kernel) fun t hf y => ?_
  have hm : t.val % 11 = 10 := (flush0_2 t).mp hf
  have hi := idx2 t
  rw [after0_2, out_at m c t hm]
  show (outsAt0 m c t.val t.isLt).2 y = _
  rw [sum_at m c t hm]
  refine Fin.sum_mul_add_congr (S := 11) (n := 768) fun s k hl => ?_
  exact congrArg₂ (fun a b : EReal => a * b)
    (blkA_at m c _ k (y 1) ⟨s.val * 768 + k.val, hl⟩ (((win0_2.blk t).view.emb y) 1) (by dsimp only; omega) (by blk_simp [hi]))
    (blkB_at m c _ k _ ⟨s.val * 768 + k.val, hl⟩ _ (by dsimp only; omega) (by blk_simp [hi]; dsimp only; omega))

theorem value : algebraic_Ff1DwIdeal_Ff1DwRefIdeal (hFf1DwIdeal := Cert.Ff1DwIdeal.Gen.facts) (hFf1DwRefIdeal := Cert.Ff1DwRefIdeal.Gen.facts) := by
  intro m ρ m' ρ' _ hagree
  refine ⟨fun c => (dats m 0 c).arrAt 2 cfg0.N, Cert.Ff1DwIdeal.Value.run_blocks (F := Ideal) m ρ, ?_⟩
  refine (θ_run Cert.Ff1DwRefIdeal.defs _ _).mono (fun _ h c => ?_) (Cert.Ff1DwRefIdeal.Value.run (F := Ideal) m' ρ')
  obtain ⟨h0, hargs⟩ := h c
  obtain ⟨a0, a1⟩ := hagree c
  refine ⟨h0.trans ?_, hargs⟩
  show _ = (dats m 0 c).arrAt 2 cfg0.N
  rw [final, a0, a1]
  generalize m ((c.tc : Thread nD τ).loc main_arg0) = A
  generalize m ((c.tc : Thread nD τ).loc main_arg1) = B
  funext y
  idx_vars y
  pointwise [dwAt]
  refine Finset.sum_congr rfl fun r _ => (mul_comm _ _).trans (congrArg₂ (fun u v : EReal => u * v) rfl
    (congrArg B (congrArg (ix2 r) (Fin.ext ?_))))
  exact congrArg (· + y2.val) (Nat.mul_comm _ _)
end Cert.Ff1DwIdeal.Done
end
-- ==== Proof.Norm.lean ====
module
public import Idealize.ShloMosaic.Lib.Pointwise
@[expose] public section
noncomputable section
open Idealize.ShloMosaic

/-! ## The root-mean-square norm over the extended reals -/

namespace Norm

/-- The words of 1024, of the norm's small constant and of minus one half. -/
def cN : EReal := Ideal.ofBits .f32 0x44800000#32
def cE : EReal := Ideal.ofBits .f32 0x3727C5AC#32
def cH : EReal := Ideal.ofBits .f32 0xBF000000#32

theorem cN_is : cN = ((1024 : ℝ) : EReal) := by
  unfold cN
  simp [Ideal.ofBits, Ideal.ieee, -EReal.coe_mul]; norm_num
theorem cH_is : cH = ((-(1 / 2) : ℝ) : EReal) := by
  unfold cH
  simp [Ideal.ofBits, Ideal.ieee, -EReal.coe_mul]; norm_num
theorem cE_pos : 0 < cE := by
  unfold cE
  simp [Ideal.ofBits, Ideal.ieee, -EReal.coe_mul]

variable {n : ℕ}
/-- A row's mean square and the reciprocal root of it. -/
def msAt (x : FVec Ideal ⟨2, ![n, 1024]⟩ .f32) (r : Fin n) : EReal := Ideal.div (∑ k : Fin 1024, x (ix2 r k) * x (ix2 r k)) cN
def rsAt (x : FVec Ideal ⟨2, ![n, 1024]⟩ .f32) (r : Fin n) : EReal := Ideal.rsqrt (msAt x r + cE)

theorem div_cN (x : EReal) : Ideal.div x cN = x * cN⁻¹ := by
  unfold Ideal.div
  rw [if_neg]
  rw [cN_is]
  norm_num
theorem cN_inv_nonneg : 0 ≤ cN⁻¹ := by
  rw [cN_is, ← EReal.coe_inv]
  exact_mod_cast (by norm_num : (0 : ℝ) ≤ (1024 : ℝ)⁻¹)
theorem sq_nonneg (x : EReal) : 0 ≤ x * x :=
  EReal.mul_nonneg_iff.2 ((le_total 0 x).imp (fun h => ⟨h, h⟩) fun h => ⟨h, h⟩)
theorem var_pos (x : FVec Ideal ⟨2, ![n, 1024]⟩ .f32) (r : Fin n) : 0 < msAt x r + cE := by
  refine lt_of_lt_of_le cE_pos ?_
  have h : 0 ≤ msAt x r := by
    unfold msAt
    rw [div_cN]
    exact EReal.mul_nonneg (Finset.sum_nonneg fun k _ => sq_nonneg _) cN_inv_nonneg
  calc cE = 0 + cE := (zero_add _).symm
    _ ≤ _ := add_le_add_left h _

/-- The reciprocal root of a positive value is a non-negative real whose square is the reciprocal of the value. -/
theorem rsqrt_pos (v : EReal) (hv : 0 < v) : 0 ≤ Ideal.rsqrt v ∧ Ideal.rsqrt v ≠ ⊤ ∧ v⁻¹ = Ideal.rsqrt v * Ideal.rsqrt v := by
  induction v with
  | bot => exact absurd hv (by simp)
  | top =>
    have e : Ideal.rsqrt ⊤ = 0 := rfl
    rw [e]
    simp
  | coe v =>
    have h : 0 < v := by exact_mod_cast hv
    have e : Ideal.rsqrt ((v : ℝ) : EReal) = (((Real.sqrt v)⁻¹ : ℝ) : EReal) := by
      show (if v < 0 then ⊥ else if v = 0 then ⊤ else (((Real.sqrt v)⁻¹ : ℝ) : EReal)) = _
      rw [if_neg (by linarith), if_neg (by linarith)]
    rw [e]
    refine ⟨by exact_mod_cast inv_nonneg.2 (Real.sqrt_nonneg v), EReal.coe_ne_top _, ?_⟩
    rw [← EReal.coe_inv, ← EReal.coe_mul, ← mul_inv, Real.mul_self_sqrt h.le]

/-- The gradient through the norm, the two groupings of its three terms: `a` the gradient of the scaled row, `s` the
    row's sum of it against the row, `v` the row's mean square with the constant. -/
theorem grad_eq (e a x s v : EReal) (hv : 0 < v) :
    e + a * Ideal.rsqrt v + x * Ideal.div (s * (cH * Ideal.div (Ideal.rsqrt v) v)) cN + Ideal.div (s * (cH * Ideal.div (Ideal.rsqrt v) v)) cN * x
      = Ideal.rsqrt v * (a - x * (Ideal.rsqrt v * Ideal.rsqrt v) * Ideal.div s cN) + e := by
  obtain ⟨h0, ht, hi⟩ := rsqrt_pos v hv
  have hd : Ideal.div (Ideal.rsqrt v) v = Ideal.rsqrt v * v⁻¹ := by
    unfold Ideal.div
    rw [if_neg hv.ne']
  rw [hd, div_cN, div_cN, hi]
  generalize Ideal.rsqrt v = r at *
  have h2 : ∀ z : EReal, z * cH + z * cH = -z := fun z => by
    induction z with
    | bot => rw [cH_is, EReal.bot_mul_coe_of_neg (by norm_num)]; rfl
    | top => rw [cH_is, EReal.top_mul_coe_of_neg (by norm_num)]; rfl
    | coe z => rw [cH_is]; norm_cast; ring_nf
  rw [EReal.mul_sub_of_nonneg_of_ne_top h0 ht, sub_eq_add_neg, ← h2]
  generalize cN⁻¹ = N
  generalize cH = H
  have e1 : x * (s * (H * (r * (r * r))) * N) = r * (x * (r * r) * (s * N)) * H := by ac_rfl
  have e2 : s * (H * (r * (r * r))) * N * x = r * (x * (r * r) * (s * N)) * H := by ac_rfl
  rw [e1, e2]
  have e3 : a * r = r * a := mul_comm _ _
  rw [e3]
  ac_rfl
end Norm
end
-- ==== Proof.Ff1Bwd.lean ====
module
public import proofs.«01_k».proof.Defs
public import proofs.«01_k».proof.Proof.Gen.Ff1Bwd.Frame
public import proofs.«01_k».proof.Proof.Gen.Ff1BwdIdeal.Value
public import proofs.«01_k».proof.Proof.Gen.Ff1BwdRefIdeal.Run
public import proofs.«01_k».proof.Proof.Norm
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Ff1BwdIdeal
open Norm

/-! ## The gradient through the first feed-forward product and the norm before it -/

variable {n : ℕ}
/-- The gradient by the product's input, one entry: the row times the weight's row, over the four slabs. -/
def dyAt (a : FVec Ideal ⟨2, ![n, 4096]⟩ .bf16) (w : FVec Ideal S4x1024x1024 .bf16) : FVec Ideal ⟨2, ![n, 1024]⟩ .f32 := fun y =>
  ∑ s : Fin 4, ∑ k : Fin 1024, a (ix2 (y 0) ⟨s.val * 1024 + k.val, by omega⟩) * w (ix3 s (y 1) k)
/-- The gradient by the norm's input, as the kernel computes it, with the incoming gradient `e` of the rows themselves. -/
def dxAt (dy x : FVec Ideal ⟨2, ![n, 1024]⟩ .f32) (g : FVec Ideal S1x1024 .f32) (e : FVec Ideal ⟨2, ![n, 1024]⟩ .f32) : FVec Ideal ⟨2, ![n, 1024]⟩ .f32 := fun y =>
  rsAt x (y 0) * (dy y * g (ix2 0 (y 1)) - x y * (rsAt x (y 0) * rsAt x (y 0)) *
    Ideal.div (∑ k : Fin 1024, dy (ix2 (y 0) k) * g (ix2 0 k) * x (ix2 (y 0) k)) cN) + e y
/-- The gradient by the norm's weight, one entry: over the rows. -/
def dgAt (dy x : FVec Ideal ⟨2, ![n, 1024]⟩ .f32) : FVec Ideal S1x1024 .f32 := fun y =>
  ∑ r : Fin n, dy (ix2 r (y 1)) * x (ix2 r (y 1)) * rsAt x r
end Cert.Ff1BwdIdeal

namespace Cert.Ff1BwdRefIdeal.Done
open Cert.Ff1BwdRefIdeal Cert.Ff1BwdRefIdeal.Gen Norm

/-! ### The reference's pieces -/

/-- The gradient by the product's input, and the mean square with the constant. -/
def dot (A : FVec Ideal S8448x4096 .bf16) (W : FVec Ideal S4x1024x1024 .bf16) : FVec Ideal S8448x1024 .f32 :=
  Host.dotGeneral dot_S8448x4096_S1024x4096_S8448x1024_1_1_0_0_n_n none (extf .f32 A bitsLt_bf16_f32) (shapeCast _ (transpose S1024x4x1024 [1, 0, 2] (extf .f32 W bitsLt_bf16_f32) transposes_S4x1024x1024_S1024x4x1024_1_0_2) shapeCasts_S1024x4x1024_S1024x4096)
def var (X : FVec Ideal S8448x1024 .f32) : FVec Ideal S8448x1 .f32 :=
  addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32))
/-- The gradient by the norm's input, of those two. -/
def dx (D X : FVec Ideal S8448x1024 .f32) (V : FVec Ideal S8448x1 .f32) (G : FVec Ideal S1x1024 .f32) (E : FVec Ideal S8448x1024 .f32) : FVec Ideal S8448x1024 .f32 :=
  addf (addf (addf E (mulf (mulf D (broadcastInDim S8448x1024 ![0, 1] bcast_S1x1024_S8448x1024_0_1 (broadcastInDim S1x1024 ![1] bcast_S1024_S1x1024_1 (shapeCast _ G shapeCasts_S1x1024_S1024)))) (broadcastInDim S8448x1024 ![0, 1] bcast_S8448x1_S8448x1024_0_1 (Host.rsqrt V)))) (mulf X (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 (broadcastInDim S1x1024 ![1] bcast_S1024_S1x1024_1 (shapeCast _ G shapeCasts_S1x1024_S1024))))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt V) V))) (broadcastInDim S8448x1 ![] bcast_S_S8448x1 (constant S_ .f32 0x44800000#32))) (constant S_ .f32 0x00000000#32) reducesTo_S8448x1_S8448_d1 h_S_)))) (mulf (broadcastInDim S8448x1024 ![0] bcast_S8448_S8448x1024_0 (Host.reduceAdd (Host.divf (mulf (shapeCast _ (Host.reduceAdd (mulf X (mulf D (broadcastInDim S8448x1024 ![0, 1] bcast_S1x1024_S8448x1024_0_1 (broadcastInDim S1x1024 ![1] bcast_S1024_S1x1024_1 (shapeCast _ G shapeCasts_S1x1024_S1024))))) (constant S_ .f32 0x00000000#32) reducesTo_S8448x1024_S8448_d1 h_S_) shapeCasts_S8448_S8448x1) (mulf (broadcastInDim S8448x1 ![] bcast_S_S8448x1 (constant S_ .f32 0xBF000000#32)) (Host.divf (Host.rsqrt V) V))) (broadcastInDim S8448x1 ![] bcast_S_S8448x1 (constant S_ .f32 0x44800000#32))) (constant S_ .f32 0x00000000#32) reducesTo_S8448x1_S8448_d1 h_S_)) X)

/-- The gradient by the norm's weight, of those two. -/
def dw (D X : FVec Ideal S8448x1024 .f32) (V : FVec Ideal S8448x1 .f32) : FVec Ideal S1x1024 .f32 :=
  broadcastInDim S1x1024 ![1] bcast_S1024_S1x1024_1 (Host.reduceAdd (shapeCast _ (Host.reduceAdd (mulf (mulf X (broadcastInDim S8448x1024 ![0, 1] bcast_S8448x1_S8448x1024_0_1 (Host.rsqrt V))) D) (constant S_ .f32 0x00000000#32) reducesTo_S8448x1024_S1024_d0 h_S_) shapeCasts_S1024_S1x1024) (constant S_ .f32 0x00000000#32) reducesTo_S1x1024_S1024_d0 h_S_)

theorem dot_eq (A : FVec Ideal S8448x4096 .bf16) (W : FVec Ideal S4x1024x1024 .bf16) : dot A W = Cert.Ff1BwdIdeal.dyAt (n := 8448) A W := by
  funext y
  idx_vars y
  pointwise [dot, Cert.Ff1BwdIdeal.dyAt]
  refine (Fin.sum_mul_add_congr (S := 4) (n := 1024) fun s k hl => ?_).symm
  refine congrArg₂ (fun u v : EReal => u * v) rfl (congrArg W (congrArg₂ (fun u v => ix3 u y1 v) (Fin.ext ?_) (Fin.ext ?_)))
  · dsimp only; omega
  · dsimp only; omega
theorem var_at (X : FVec Ideal S8448x1024 .f32) (r : Fin 8448) (z : Fin 1) : var X (ix2 r z) = msAt (n := 8448) X r + cE := by
  pointwise [var, msAt, cN, cE]
theorem dx_eq (D X : FVec Ideal S8448x1024 .f32) (G : FVec Ideal S1x1024 .f32) (E : FVec Ideal S8448x1024 .f32) :
    dx D X (var X) G E = Cert.Ff1BwdIdeal.dxAt (n := 8448) D X G E := by
  funext y
  idx_vars y
  pointwise [dx, Cert.Ff1BwdIdeal.dxAt, var_at]
  have hs : ∑ k : Fin 1024, X (ix2 y0 k) * (D (ix2 y0 k) * G (ix2 0 k)) = ∑ k : Fin 1024, D (ix2 y0 k) * G (ix2 0 k) * X (ix2 y0 k) :=
    Finset.sum_congr rfl fun k _ => mul_comm _ _
  rw [Fin.sum_univ_one, hs]
  exact grad_eq _ _ _ _ _ (var_pos X y0)
theorem dw_eq (D X : FVec Ideal S8448x1024 .f32) : dw D X (var X) = Cert.Ff1BwdIdeal.dgAt (n := 8448) D X := by
  funext y
  idx_vars y
  pointwise [dw, Cert.Ff1BwdIdeal.dgAt, var_at]
  rw [Fin.sum_univ_one]
  exact Finset.sum_congr rfl fun r _ => (mul_right_comm _ _ _).trans (congrArg (fun u : EReal => u * _) (mul_comm _ _))
end Cert.Ff1BwdRefIdeal.Done

namespace Cert.Ff1BwdIdeal.Done
open Cert.Ff1BwdIdeal Cert.Ff1BwdIdeal.Gen Norm

theorem pay7_eq (x : Vec Ideal S384x1024 .f32) (y : S384x1.Idx) : k0_pay7 (F := Ideal) x y = msAt (n := 384) x (y 0) := by
  idx_vars y
  pointwise [k0_pay7, msAt, cN]
theorem pay2_eq (dy x : Vec Ideal S384x1024 .f32) (g : Vec Ideal S1x1024 .f32) (e : Vec Ideal S384x1024 .f32) :
    k0_pay2 (F := Ideal) dy x (k0_pay7 x) g e = dxAt (n := 384) dy x g e := by
  funext y
  idx_vars y
  pointwise [k0_pay2, k0_pay1, pay7_eq, dxAt, rsAt, cN, cE]
theorem pay4_eq (dy x : Vec Ideal S384x1024 .f32) (g : Vec Ideal S1x1024 .f32) (y : S1x1024.Idx) :
    k0_pay4 (F := Ideal) dy x (k0_pay7 x) g y = g y + dgAt (n := 384) dy x y := by
  idx_vars y
  pointwise [k0_pay4, k0_pay1, pay7_eq, dgAt, rsAt, cN, cE]
theorem pay5_eq : (k0_pay5 : FVec Ideal S1x1024 .f32) = fun _ => 0 := by
  funext y
  idx_vars y
  pointwise [k0_pay5]
theorem pay6_at (a0 a1 a2 a3 : Vec Ideal S384x1024 .bf16) (w0 w1 w2 w3 : Vec Ideal S1x1024x1024 .bf16) (y : S384x1024.Idx) :
    k0_pay6 (F := Ideal) a0 w0 a1 w1 a2 w2 a3 w3 y = (∑ k : Fin 1024, a0 (ix2 (y 0) k) * w0 (ix3 0 (y 1) k)) + (∑ k : Fin 1024, a1 (ix2 (y 0) k) * w1 (ix3 0 (y 1) k))
      + (∑ k : Fin 1024, a2 (ix2 (y 0) k) * w2 (ix3 0 (y 1) k)) + (∑ k : Fin 1024, a3 (ix2 (y 0) k) * w3 (ix3 0 (y 1) k)) := by
  idx_vars y
  pointwise [k0_pay6]
/-- One slab's part of the product. -/
theorem slab_at (a : FVec Ideal S384x4096 .bf16) (w : FVec Ideal S4x1024x1024 .bf16) (s : Fin 4) {oa : Fin 2 → ℕ} {ow : Fin 3 → ℕ}
    (ia : ∀ i, oa i + ![384, 1024] i ≤ S384x4096.size i) (iw : ∀ i, ow i + ![1, 1024, 1024] i ≤ S4x1024x1024.size i)
    (ha : oa = ![0, s.val * 1024]) (hw : ow = ![s.val, 0, 0]) (r : Fin 384) (j : Fin 1024) :
    ∑ k : Fin 1024, (View.ld (Val := Elt Ideal) (e' := .bf16) a (Rect.unit (s := S384x4096) oa ![384, 1024] ia) : FVec Ideal S384x1024 .bf16) (ix2 r k)
        * (View.ld (Val := Elt Ideal) (e' := .bf16) w (Rect.unit (s := S4x1024x1024) ow ![1, 1024, 1024] iw) : FVec Ideal S1x1024x1024 .bf16) (ix3 0 j k)
      = ∑ k : Fin 1024, a (ix2 r ⟨s.val * 1024 + k.val, by omega⟩) * w (ix3 s j k) := by
  subst ha hw
  refine Finset.sum_congr rfl fun k _ => congrArg₂ (fun u v : EReal => u * v)
    (congrArg a (funext fun i => Fin.ext ?_)) (congrArg w (funext fun i => Fin.ext ?_))
  · match i with
    | ⟨0, _⟩ => simp
    | ⟨1, _⟩ => simp
  · match i with
    | ⟨0, _⟩ => simp
    | ⟨1, _⟩ => simp
    | ⟨2, _⟩ => simp
theorem pay6_eq (a : FVec Ideal S384x4096 .bf16) (w : FVec Ideal S4x1024x1024 .bf16) :
    k0_pay6 (F := Ideal) (View.ld a (Rect.unit (s := S384x4096) ![0, 0] ![384, 1024] inb_S384x4096_S384x1024_0_0))
      (View.ld w (Rect.unit (s := S4x1024x1024) ![0, 0, 0] ![1, 1024, 1024] inb_S4x1024x1024_S1x1024x1024_0_0_0))
      (View.ld a (Rect.unit (s := S384x4096) ![0, 1024] ![384, 1024] inb_S384x4096_S384x1024_0_1024))
      (View.ld w (Rect.unit (s := S4x1024x1024) ![1, 0, 0] ![1, 1024, 1024] inb_S4x1024x1024_S1x1024x1024_1_0_0))
      (View.ld a (Rect.unit (s := S384x4096) ![0, 2048] ![384, 1024] inb_S384x4096_S384x1024_0_2048))
      (View.ld w (Rect.unit (s := S4x1024x1024) ![2, 0, 0] ![1, 1024, 1024] inb_S4x1024x1024_S1x1024x1024_2_0_0))
      (View.ld a (Rect.unit (s := S384x4096) ![0, 3072] ![384, 1024] inb_S384x4096_S384x1024_0_3072))
      (View.ld w (Rect.unit (s := S4x1024x1024) ![3, 0, 0] ![1, 1024, 1024] inb_S4x1024x1024_S1x1024x1024_3_0_0)) = dyAt (n := 384) a w := by
  funext y
  rw [pay6_at]
  unfold dyAt
  rw [Fin.sum_univ_four]
  exact congrArg₂ (fun u v : EReal => u + v) (congrArg₂ (fun u v : EReal => u + v) (congrArg₂ (fun u v : EReal => u + v)
    (slab_at a w 0 _ _ rfl rfl (y 0) (y 1)) (slab_at a w 1 _ _ rfl rfl (y 0) (y 1))) (slab_at a w 2 _ _ rfl rfl (y 0) (y 1))) (slab_at a w 3 _ _ rfl rfl (y 0) (y 1))

variable (m : (ℓ : Loc nD τ sig) → Buf (Elt Ideal) ℓ) (c : Dev nD)

/-- The input blocks of a point. -/
def blkA (t : Fin cfg0.N) : FVec Ideal S384x4096 .bf16 := iblk m c 0 t
def blkW (t : Fin cfg0.N) : FVec Ideal S4x1024x1024 .bf16 := iblk m c 1 t
def blkX (t : Fin cfg0.N) : FVec Ideal S384x1024 .f32 := iblk m c 2 t
def blkG (t : Fin cfg0.N) : FVec Ideal S1x1024 .f32 := iblk m c 3 t
def blkE (t : Fin cfg0.N) : FVec Ideal S384x1024 .f32 := iblk m c 4 t
/-- What one point computes: the rows' gradient, and its part of the weight's. -/
def rows (t : Fin cfg0.N) : FVec Ideal S384x1024 .f32 := dxAt (n := 384) (dyAt (n := 384) (blkA m c t) (blkW m c t)) (blkX m c t) (blkG m c t) (blkE m c t)
def part (t : Fin cfg0.N) : FVec Ideal S1x1024 .f32 := dgAt (n := 384) (dyAt (n := 384) (blkA m c t) (blkW m c t)) (blkX m c t)

theorem outs_eq (t : Fin cfg0.N) (g : FVec Ideal S1x1024 .f32) :
    ((k0_pay2 (F := Ideal) (dyAt (n := 384) (blkA m c t) (blkW m c t)) (blkX m c t) (k0_pay7 (blkX m c t)) (blkG m c t) (blkE m c t),
      k0_pay3 (F := Ideal) (dyAt (n := 384) (blkA m c t) (blkW m c t)) (blkX m c t) (k0_pay7 (blkX m c t)) (blkG m c t) (blkE m c t),
      k0_pay4 (F := Ideal) (dyAt (n := 384) (blkA m c t) (blkW m c t)) (blkX m c t) (k0_pay7 (blkX m c t)) g) : FVec Ideal S384x1024 .f32 × FVec Ideal S384x1024 .bf16 × FVec Ideal S1x1024 .f32)
      = (rows m c t, rows m c t, fun y => g y + part m c t y) :=
  congrArg₂ Prod.mk (pay2_eq _ _ _ _) (congrArg₂ Prod.mk (pay2_eq _ _ _ _) (funext fun y => pay4_eq _ _ _ y))

theorem first_at (t : Fin cfg0.N) (h : t.val % 22 = 0) : outsAt0 m c t.val t.isLt = (rows m c t, rows m c t, fun y => (0 : EReal) + part m c t y) := by
  rw [outsAt0_A m c t h]
  frame_out
  rw [pay5_eq]
  exact (congrArg (fun d => (k0_pay2 (F := Ideal) d (blkX m c t) (k0_pay7 (blkX m c t)) (blkG m c t) (blkE m c t),
      k0_pay3 (F := Ideal) d (blkX m c t) (k0_pay7 (blkX m c t)) (blkG m c t) (blkE m c t),
      k0_pay4 (F := Ideal) d (blkX m c t) (k0_pay7 (blkX m c t)) _)) (pay6_eq (blkA m c t) (blkW m c t))).trans (outs_eq m c t _)
theorem next_at (t : Fin cfg0.N) (h : ¬t.val % 22 = 0) :
    outsAt0 m c t.val t.isLt = (rows m c t, rows m c t, fun y => (outsAt0 m c (t.val - 1) (Nat.lt_of_le_of_lt (Nat.sub_le _ _) t.isLt)).2.2 y + part m c t y) := by
  rw [outsAt0_B m c t h]
  frame_out
  exact (congrArg (fun d => (k0_pay2 (F := Ideal) d (blkX m c t) (k0_pay7 (blkX m c t)) (blkG m c t) (blkE m c t),
      k0_pay3 (F := Ideal) d (blkX m c t) (k0_pay7 (blkX m c t)) (blkG m c t) (blkE m c t),
      k0_pay4 (F := Ideal) d (blkX m c t) (k0_pay7 (blkX m c t)) _)) (pay6_eq (blkA m c t) (blkW m c t))).trans (outs_eq m c t _)
theorem rows_at (t : Fin cfg0.N) : (outsAt0 m c t.val t.isLt).1 = rows m c t ∧ (outsAt0 m c t.val t.isLt).2.1 = rows m c t := by
  by_cases h : t.val % 22 = 0
  · rw [first_at m c t h]; exact ⟨rfl, rfl⟩
  · rw [next_at m c t h]; exact ⟨rfl, rfl⟩

/-- The last point's third block: the sum over the row tiles. -/
theorem sum_at (t : Fin cfg0.N) (h : t.val % 22 = 21) (y : S1x1024.Idx) :
    (outsAt0 m c t.val t.isLt).2.2 y = ∑ s : Fin 22, (fun t => part m c t y) (⟨22 * (t.val / 22) + s.val, Pipeline.run_point_lt_of_flush t h s⟩ : Fin cfg0.N) := by
  have e := Pipeline.eq_sum_fin_of_reset_step_apply_of_flush (fun n h => (outsAt0 m c n h).2.2) 22 (fun _ => 0) (fun t => part m c t)
      (fun t h y => congrFun (congrArg (fun o => o.2.2) (first_at m c t h)) y) (fun t h y => congrFun (congrArg (fun o => o.2.2) (next_at m c t h)) y) t h y
  rw [zero_add] at e; exact e

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem blkA_at (t : Fin cfg0.N) (r : Fin 384) (k : Fin 4096) (i : Fin 8448) (hi : i.val = t.val * 384 + r.val) :
    blkA m c t (ix2 r k) = m ((c : Thread nD τ).loc main_arg0) (ix2 i k) := by
  have h0 := idx0 t
  show V m c main_arg0 ((win0_0.blk t).view.emb (ix2 r k : S384x4096.Idx)) = _
  rw [V_main_arg0]
  refine congrArg _ (funext fun a => Fin.ext ?_)
  match a with
  | ⟨0, _⟩ => blk_simp [h0]; exact hi.symm
  | ⟨1, _⟩ => blk_simp [h0]
theorem blkX_at (t : Fin cfg0.N) (r : Fin 384) (k : Fin 1024) (i : Fin 8448) (hi : i.val = t.val * 384 + r.val) :
    blkX m c t (ix2 r k) = m ((c : Thread nD τ).loc main_arg2) (ix2 i k) := by
  have h0 := idx2 t
  show V m c main_arg2 ((win0_2.blk t).view.emb (ix2 r k : S384x1024.Idx)) = _
  rw [V_main_arg2]
  refine congrArg _ (funext fun a => Fin.ext ?_)
  match a with
  | ⟨0, _⟩ => blk_simp [h0]; exact hi.symm
  | ⟨1, _⟩ => blk_simp [h0]
theorem blkE_at (t : Fin cfg0.N) (r : Fin 384) (k : Fin 1024) (i : Fin 8448) (hi : i.val = t.val * 384 + r.val) :
    blkE m c t (ix2 r k) = m ((c : Thread nD τ).loc main_arg4) (ix2 i k) := by
  have h0 := idx4 t
  show V m c main_arg4 ((win0_4.blk t).view.emb (ix2 r k : S384x1024.Idx)) = _
  rw [V_main_arg4]
  refine congrArg _ (funext fun a => Fin.ext ?_)
  match a with
  | ⟨0, _⟩ => blk_simp [h0]; exact hi.symm
  | ⟨1, _⟩ => blk_simp [h0]
theorem blkW_eq (t : Fin cfg0.N) : blkW m c t = m ((c : Thread nD τ).loc main_arg1) := by
  have h0 := idx1 t
  funext y
  show V m c main_arg1 ((win0_1.blk t).view.emb (y : S4x1024x1024.Idx)) = _
  rw [V_main_arg1]
  refine congrArg _ (funext fun a => Fin.ext ?_)
  match a with
  | ⟨0, _⟩ => blk_simp [h0]
  | ⟨1, _⟩ => blk_simp [h0]
  | ⟨2, _⟩ => blk_simp [h0]
theorem blkG_eq (t : Fin cfg0.N) : blkG m c t = m ((c : Thread nD τ).loc main_arg3) := by
  have h0 := idx3 t
  funext y
  show V m c main_arg3 ((win0_3.blk t).view.emb (y : S1x1024.Idx)) = _
  rw [V_main_arg3]
  refine congrArg _ (funext fun a => Fin.ext ?_)
  match a with
  | ⟨0, _⟩ => blk_simp [h0]
  | ⟨1, _⟩ => blk_simp [h0]

/-- A tile's row is a row of the arrays. -/
theorem rs_at (t : Fin cfg0.N) (r : Fin 384) (i : Fin 8448) (hi : i.val = t.val * 384 + r.val) :
    rsAt (n := 384) (blkX m c t) r = rsAt (n := 8448) (m ((c : Thread nD τ).loc main_arg2)) i := by
  unfold rsAt msAt
  simp only [blkX_at m c t r _ i hi]
theorem dy_at (t : Fin cfg0.N) (r : Fin 384) (k : Fin 1024) (i : Fin 8448) (hi : i.val = t.val * 384 + r.val) :
    dyAt (n := 384) (blkA m c t) (blkW m c t) (ix2 r k) = dyAt (n := 8448) (m ((c : Thread nD τ).loc main_arg0)) (m ((c : Thread nD τ).loc main_arg1)) (ix2 i k) := by
  unfold dyAt
  rw [blkW_eq]
  exact Finset.sum_congr rfl fun s _ => Finset.sum_congr rfl fun l _ => congrArg (fun u : EReal => u * _) (blkA_at m c t r _ i hi)
/-- The whole gradient by the rows. -/
def dxOf : FVec Ideal S8448x1024 .f32 :=
  dxAt (n := 8448) (dyAt (n := 8448) (m ((c : Thread nD τ).loc main_arg0)) (m ((c : Thread nD τ).loc main_arg1))) (m ((c : Thread nD τ).loc main_arg2)) (m ((c : Thread nD τ).loc main_arg3)) (m ((c : Thread nD τ).loc main_arg4))
theorem dx_at (t : Fin cfg0.N) (r : Fin 384) (k : Fin 1024) (i : Fin 8448) (hi : i.val = t.val * 384 + r.val) : rows m c t (ix2 r k) = dxOf m c (ix2 i k) := by
  have hx := fun l => blkX_at m c t r l i hi
  have hd := fun l => dy_at m c t r l i hi
  show rsAt (n := 384) (blkX m c t) r * (_ * _ - _ * (rsAt (n := 384) (blkX m c t) r * rsAt (n := 384) (blkX m c t) r) * Ideal.div (∑ l : Fin 1024, dyAt (n := 384) (blkA m c t) (blkW m c t) (ix2 r l) * blkG m c t (ix2 0 l) * blkX m c t (ix2 r l)) cN) + _ = _
  rw [hd, hx, rs_at m c t r i hi, blkG_eq, blkE_at m c t r k i hi]
  simp only [hx, hd]
  rfl

theorem final5 : (dats m 0 c).arrAt 5 cfg0.N = dxOf m c := by
  refine (dats m 0 c).arrAt_eq_of_covers 5 _ (by decide +kernel) fun t _ y => ?_
  have hi := idx5 t
  rw [after0_5, (rows_at m c t).1]
  have e0 : ((((win0_5.blk t).view.emb y) 0 : Fin 8448)).val = t.val * 384 + (y 0).val := by blk_simp [hi]
  have e1 : (((win0_5.blk t).view.emb y) 1 : Fin 1024) = y 1 := Fin.ext (by blk_simp [hi])
  refine (congrArg (rows m c t) (eq_ix2 (y : S384x1024.Idx))).trans ((dx_at m c t (y 0) (y 1) _ e0).trans (congrArg (dxOf m c) ?_))
  rw [← e1]
  exact (eq_ix2 _).symm
theorem final6 : (dats m 0 c).arrAt 6 cfg0.N = dxOf m c := by
  refine (dats m 0 c).arrAt_eq_of_covers 6 _ (by decide +kernel) fun t _ y => ?_
  have hi := idx6 t
  rw [after0_6, (rows_at m c t).2]
  have e0 : ((((win0_6.blk t).view.emb y) 0 : Fin 8448)).val = t.val * 384 + (y 0).val := by blk_simp [hi]
  have e1 : (((win0_6.blk t).view.emb y) 1 : Fin 1024) = y 1 := Fin.ext (by blk_simp [hi])
  refine (congrArg (rows m c t) (eq_ix2 (y : S384x1024.Idx))).trans ((dx_at m c t (y 0) (y 1) _ e0).trans (congrArg (dxOf m c) ?_))
  rw [← e1]
  exact (eq_ix2 _).symm
theorem final7 : (dats m 0 c).arrAt 7 cfg0.N = dgAt (n := 8448) (dyAt (n := 8448) (m ((c : Thread nD τ).loc main_arg0)) (m ((c : Thread nD τ).loc main_arg1))) (m ((c : Thread nD τ).loc main_arg2)) := by
  refine (dats m 0 c).arrAt_eq_of_covers 7 _ (by decide +kernel) fun t hf y => ?_
  have hm : t.val % 22 = 21 := (flush0_7 t).mp hf
  have hi := idx7 t
  rw [after0_7]
  show (outsAt0 m c t.val t.isLt).2.2 y = _
  rw [sum_at m c t hm]
  have ht : t.val / 22 = 0 := by have h : t.val < 22 := t.isLt; omega
  have e1 : (((win0_7.blk t).view.emb y) 1 : Fin 1024) = y 1 := Fin.ext (by blk_simp [hi])
  show _ = dgAt (n := 8448) _ _ ((win0_7.blk t).view.emb y)
  simp only [part, dgAt]
  rw [e1]
  refine Fin.sum_mul_add_congr (S := 22) (n := 384) fun s r hl => ?_
  have h := (by dsimp only; omega : (⟨s.val * 384 + r.val, hl⟩ : Fin 8448).val = (⟨22 * (t.val / 22) + s.val, Pipeline.run_point_lt_of_flush t hm s⟩ : Fin cfg0.N).val * 384 + r.val)
  exact congrArg₂ (fun u v : EReal => u * v) (congrArg₂ (fun u v : EReal => u * v) (dy_at m c _ r (y 1) _ h) (blkX_at m c _ r (y 1) _ h)) (rs_at m c _ r _ h)

theorem value : algebraic_Ff1BwdIdeal_Ff1BwdRefIdeal (hFf1BwdIdeal := Cert.Ff1BwdIdeal.Gen.facts) (hFf1BwdRefIdeal := Cert.Ff1BwdRefIdeal.Gen.facts) := by
  intro m ρ m' ρ' _ hagree
  refine ⟨fun c => (dats m 0 c).arrAt 5 cfg0.N, fun c => (dats m 0 c).arrAt 6 cfg0.N, fun c => (dats m 0 c).arrAt 7 cfg0.N, Cert.Ff1BwdIdeal.Value.run_blocks (F := Ideal) m ρ, ?_⟩
  refine (θ_run Cert.Ff1BwdRefIdeal.defs _ _).mono (fun _ h c => ?_) (Cert.Ff1BwdRefIdeal.Value.run (F := Ideal) m' ρ')
  obtain ⟨h0, h1, h2, hargs⟩ := h c
  obtain ⟨a0, a1, a2, a3, a4⟩ := hagree c
  have ed : Cert.Ff1BwdRefIdeal.Done.dx (Cert.Ff1BwdRefIdeal.Done.dot (m' ((c.tc : Thread Cert.Ff1BwdRefIdeal.nD Cert.Ff1BwdRefIdeal.τ).loc Cert.Ff1BwdRefIdeal.main_arg0)) (m' ((c.tc : Thread Cert.Ff1BwdRefIdeal.nD Cert.Ff1BwdRefIdeal.τ).loc Cert.Ff1BwdRefIdeal.main_arg1)))
      (m' ((c.tc : Thread Cert.Ff1BwdRefIdeal.nD Cert.Ff1BwdRefIdeal.τ).loc Cert.Ff1BwdRefIdeal.main_arg2)) (Cert.Ff1BwdRefIdeal.Done.var (m' ((c.tc : Thread Cert.Ff1BwdRefIdeal.nD Cert.Ff1BwdRefIdeal.τ).loc Cert.Ff1BwdRefIdeal.main_arg2)))
      (m' ((c.tc : Thread Cert.Ff1BwdRefIdeal.nD Cert.Ff1BwdRefIdeal.τ).loc Cert.Ff1BwdRefIdeal.main_arg3)) (m' ((c.tc : Thread Cert.Ff1BwdRefIdeal.nD Cert.Ff1BwdRefIdeal.τ).loc Cert.Ff1BwdRefIdeal.main_arg4)) = dxOf m c := by
    rw [Cert.Ff1BwdRefIdeal.Done.dx_eq, Cert.Ff1BwdRefIdeal.Done.dot_eq, a0, a1, a2, a3, a4]
    rfl
  refine ⟨h0.trans ?_, h1.trans ?_, h2.trans ?_, hargs⟩
  · exact (ed : Cert.Ff1BwdRefIdeal.Value.res_main_v43 m' c = _).trans (final5 m c).symm
  · exact (ed : Cert.Ff1BwdRefIdeal.Value.res_main_v45 m' c = _).trans (final6 m c).symm
  · refine Eq.trans ?_ (final7 m c).symm
    show Cert.Ff1BwdRefIdeal.Done.dw (Cert.Ff1BwdRefIdeal.Done.dot _ _) _ (Cert.Ff1BwdRefIdeal.Done.var _) = _
    rw [Cert.Ff1BwdRefIdeal.Done.dw_eq, Cert.Ff1BwdRefIdeal.Done.dot_eq, a0, a1, a2]
end Cert.Ff1BwdIdeal.Done
end
-- ==== Proof.OutBwd.lean ====
module
public import proofs.«01_k».proof.Defs
public import proofs.«01_k».proof.Proof.Gen.OutBwd.Frame
public import proofs.«01_k».proof.Proof.Gen.OutBwdIdeal.Value
public import proofs.«01_k».proof.Proof.Gen.OutBwdRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.OutBwdIdeal.Done
open Cert.OutBwdIdeal Cert.OutBwdIdeal.Gen

/-! ## The gradient through the output projection: the incoming rows times the weight's rows, in two column blocks -/

/-- One entry: a row of `a` times a row of `b`. -/
def rowDot {n k : ℕ} (a : FVec Ideal ⟨2, ![n, 1024]⟩ .bf16) (b : FVec Ideal ⟨2, ![k, 1024]⟩ .bf16) : FVec Ideal ⟨2, ![n, k]⟩ .f32 := fun y =>
  ∑ i : Fin 1024, a (ix2 (y 0) i) * b (ix2 (y 1) i)
/-- The weight's rows from `o` on. -/
def rowsFrom {k : ℕ} (o : ℕ) (ho : o + k ≤ 2048) (b : FVec Ideal S2048x1024 .bf16) : FVec Ideal ⟨2, ![k, 1024]⟩ .bf16 := fun y =>
  b (ix2 ⟨o + (y 0).val, by have h : (y 0).val < k := (y 0).isLt; omega⟩ (y 1))

theorem pay_eq (a : Vec Ideal S1056x1024 .bf16) (b : Vec Ideal S512x1024 .bf16) (y : S1056x512.Idx) :
    k0_pay2 (F := Ideal) a b y = ∑ k : Fin 1024, a (ix2 (y 0) k) * b (ix2 (y 1) k) := by
  idx_vars y
  pointwise [k0_pay2]

/-- A column block of a tile. -/
theorem tile_at (a : FVec Ideal S1056x1024 .bf16) (b : FVec Ideal S1536x1024 .bf16) (p : Fin 3)
    {ob oh : Fin 2 → ℕ} (ib : ∀ i, ob i + ![512, 1024] i ≤ S1536x1024.size i) (ih : ∀ i, oh i + ![1056, 512] i ≤ S1056x1536.size i)
    (hb : ob = ![512 * p.val, 0]) (hh : oh = ![0, 512 * p.val]) (j : S1056x512.Idx) :
    k0_pay2 (F := Ideal) a (View.ld b (Rect.unit (s := S1536x1024) ob ![512, 1024] ib)) j
      = rowDot (n := 1056) (k := 1536) a b ((Rect.unit (s := S1056x1536) oh ![1056, 512] ih).emb j) := by
  subst hb hh
  rw [pay_eq]
  unfold rowDot
  refine Finset.sum_congr rfl fun k _ => congrArg₂ (fun u v : EReal => u * v)
    (congrArg a (funext fun i => Fin.ext ?_)) (congrArg b (funext fun i => Fin.ext ?_))
  · match i with
    | ⟨0, _⟩ => simp
    | ⟨1, _⟩ => rfl
  · match i with
    | ⟨0, _⟩ => simp
    | ⟨1, _⟩ => simp

variable (m : (ℓ : Loc nD τ sig) → Buf (Elt Ideal) ℓ) (c : Dev nD)

def blkA (t : Fin cfg0.N) : FVec Ideal S1056x1024 .bf16 := iblk m c 0 t
def blkB (t : Fin cfg0.N) : FVec Ideal S512x1024 .bf16 := iblk m c 1 t
def blkC (t : Fin cfg0.N) : FVec Ideal S1536x1024 .bf16 := iblk m c 2 t

theorem out4_eq (a : FVec Ideal S1056x1024 .bf16) (b : FVec Ideal S1536x1024 .bf16) :
    View.canon ([⟨r0_8, k0_pay4 (F := Ideal) a (View.ld b r0_7)⟩, ⟨r0_6, k0_pay3 (F := Ideal) a (View.ld b r0_5)⟩,
        ⟨r0_4, k0_pay2 (F := Ideal) a (View.ld b r0_3)⟩] : List (View.Piece (Elt Ideal) S1056x1536 .f32)) = rowDot (n := 1056) (k := 1536) a b := by
  funext y
  exact View.canon_append_of_piecesOf _ [] [_, _, _]
    ⟨fun j => tile_at a b 2 inb_S1536x1024_S512x1024_1024_0 inb_S1056x1536_S1056x512_0_1024 rfl rfl j, fun j => tile_at a b 1 inb_S1536x1024_S512x1024_512_0 inb_S1056x1536_S1056x512_0_512 rfl rfl j, fun j => tile_at a b 0 inb_S1536x1024_S512x1024_0_0 inb_S1056x1536_S1056x512_0_0 rfl rfl j, trivial⟩ y
    (View.cover_of_tiledBy _ ![1056, 512] (by sl_kernel_rfl) y)
theorem after4 (t : Fin cfg0.N) : (dats m 0 c).after 4 t = rowDot (n := 1056) (k := 1536) (blkA m c t) (blkC m c t) := by
  rw [after0_4]
  frame_out
  exact out4_eq (blkA m c t) (blkC m c t)
theorem after3 (t : Fin cfg0.N) : (dats m 0 c).after 3 t = rowDot (n := 1056) (k := 512) (blkA m c t) (blkB m c t) := by
  rw [after0_3]
  frame_out
  exact funext fun y => pay_eq (blkA m c t) (blkB m c t) y

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)

/-- The two slices of the weight the host takes before the call. -/
theorem V_v0 : V m c main_v0 = rowsFrom (k := 512) 0 (by decide) (m ((c : Thread nD τ).loc main_arg1)) := by
  have e : V m c main_v0 = extractStridedSlice S512x1024 ![0, 0] (m ((c : Thread nD τ).loc main_arg1)) slices_S2048x1024_S512x1024_0_0 := by
    unfold V hostOps0
    after_results
  rw [e]
  funext y
  exact congrArg (m ((c : Thread nD τ).loc main_arg1)) (funext fun a => Fin.ext (by match a with | ⟨0, _⟩ => rfl | ⟨1, _⟩ => exact Nat.zero_add _))
theorem V_v1 : V m c main_v1 = rowsFrom (k := 1536) 512 (by decide) (m ((c : Thread nD τ).loc main_arg1)) := by
  have e : V m c main_v1 = extractStridedSlice S1536x1024 ![512, 0] (m ((c : Thread nD τ).loc main_arg1)) slices_S2048x1024_S1536x1024_512_0 := by
    unfold V hostOps0
    after_results
  rw [e]
  funext y
  exact congrArg (m ((c : Thread nD τ).loc main_arg1)) (funext fun a => Fin.ext (by match a with | ⟨0, _⟩ => rfl | ⟨1, _⟩ => exact Nat.zero_add _))

theorem blkA_at (t : Fin cfg0.N) (r : Fin 1056) (k : Fin 1024) (i : Fin 8448) (hi : i.val = t.val * 1056 + r.val) :
    blkA m c t (ix2 r k) = m ((c : Thread nD τ).loc main_arg0) (ix2 i k) := by
  have h0 := idx0 t
  show V m c main_arg0 ((win0_0.blk t).view.emb (ix2 r k : S1056x1024.Idx)) = _
  rw [V_main_arg0]
  refine congrArg _ (funext fun a => Fin.ext ?_)
  match a with
  | ⟨0, _⟩ => blk_simp [h0]; exact hi.symm
  | ⟨1, _⟩ => blk_simp [h0]
theorem blkB_at (t : Fin cfg0.N) (r i : Fin 512) (k : Fin 1024) (hi : i.val = r.val) :
    blkB m c t (ix2 r k) = rowsFrom (k := 512) 0 (by decide) (m ((c : Thread nD τ).loc main_arg1)) (ix2 i k) := by
  have h0 := idx1 t
  show V m c main_v0 ((win0_1.blk t).view.emb (ix2 r k : S512x1024.Idx)) = _
  rw [V_v0]
  refine congrArg _ (funext fun a => Fin.ext ?_)
  match a with
  | ⟨0, _⟩ => blk_simp [h0]; exact hi.symm
  | ⟨1, _⟩ => blk_simp [h0]
theorem blkC_at (t : Fin cfg0.N) (r i : Fin 1536) (k : Fin 1024) (hi : i.val = r.val) :
    blkC m c t (ix2 r k) = rowsFrom (k := 1536) 512 (by decide) (m ((c : Thread nD τ).loc main_arg1)) (ix2 i k) := by
  have h0 := idx2 t
  show V m c main_v1 ((win0_2.blk t).view.emb (ix2 r k : S1536x1024.Idx)) = _
  rw [V_v1]
  refine congrArg _ (funext fun a => Fin.ext ?_)
  match a with
  | ⟨0, _⟩ => blk_simp [h0]; exact hi.symm
  | ⟨1, _⟩ => blk_simp [h0]

theorem final3 : (dats m 0 c).arrAt 3 cfg0.N = rowDot (n := 8448) (k := 512) (m ((c : Thread nD τ).loc main_arg0)) (rowsFrom 0 (by decide) (m ((c : Thread nD τ).loc main_arg1))) := by
  refine (dats m 0 c).arrAt_eq_of_covers 3 _ (by decide +kernel) fun t _ y => ?_
  have hi := idx3 t
  rw [after3 m c t]
  show rowDot (n := 1056) (k := 512) (blkA m c t) (blkB m c t) (y : S1056x512.Idx) = _
  have e0 : ((((win0_3.blk t).view.emb y) 0 : Fin 8448)).val = t.val * 1056 + (y 0).val := by blk_simp [hi]
  have e1 : ((((win0_3.blk t).view.emb y) 1 : Fin 512)).val = (y 1).val := by blk_simp [hi]
  exact Finset.sum_congr rfl fun k _ => congrArg₂ (fun a b : EReal => a * b)
    (blkA_at m c t (y 0) k _ e0) (blkB_at m c t (y 1) _ k e1)

theorem final4 : (dats m 0 c).arrAt 4 cfg0.N = rowDot (n := 8448) (k := 1536) (m ((c : Thread nD τ).loc main_arg0)) (rowsFrom 512 (by decide) (m ((c : Thread nD τ).loc main_arg1))) := by
  refine (dats m 0 c).arrAt_eq_of_covers 4 _ (by decide +kernel) fun t _ y => ?_
  have hi := idx4 t
  rw [after4 m c t]
  show rowDot (n := 1056) (k := 1536) (blkA m c t) (blkC m c t) (y : S1056x1536.Idx) = _
  have e0 : ((((win0_4.blk t).view.emb y) 0 : Fin 8448)).val = t.val * 1056 + (y 0).val := by blk_simp [hi]
  have e1 : ((((win0_4.blk t).view.emb y) 1 : Fin 1536)).val = (y 1).val := by blk_simp [hi]
  exact Finset.sum_congr rfl fun k _ => congrArg₂ (fun a b : EReal => a * b)
    (blkA_at m c t (y 0) k _ e0) (blkC_at m c t (y 1) _ k e1)

theorem value : algebraic_OutBwdIdeal_OutBwdRefIdeal (hOutBwdIdeal := Cert.OutBwdIdeal.Gen.facts) (hOutBwdRefIdeal := Cert.OutBwdRefIdeal.Gen.facts) := by
  intro m ρ m' ρ' _ hagree
  refine ⟨fun c => (dats m 0 c).arrAt 3 cfg0.N, fun c => (dats m 0 c).arrAt 4 cfg0.N, Cert.OutBwdIdeal.Value.run_blocks (F := Ideal) m ρ, ?_⟩
  refine (θ_run Cert.OutBwdRefIdeal.defs _ _).mono (fun _ h c => ?_) (Cert.OutBwdRefIdeal.Value.run (F := Ideal) m' ρ')
  obtain ⟨h0, h1, hargs⟩ := h c
  obtain ⟨a0, a1⟩ := hagree c
  refine ⟨h0.trans ?_, h1.trans ?_, hargs⟩
  · show _ = (dats m 0 c).arrAt 3 cfg0.N
    rw [final3, a0, a1]
    generalize m ((c.tc : Thread nD τ).loc main_arg0) = A
    generalize m ((c.tc : Thread nD τ).loc main_arg1) = B
    clear h0 h1 hargs h
    funext y
    idx_vars y
    pointwise [rowDot, rowsFrom]
  · show _ = (dats m 0 c).arrAt 4 cfg0.N
    rw [final4, a0, a1]
    generalize m ((c.tc : Thread nD τ).loc main_arg0) = A
    generalize m ((c.tc : Thread nD τ).loc main_arg1) = B
    clear h0 h1 hargs h
    funext y
    idx_vars y
    pointwise [rowDot, rowsFrom]
end Cert.OutBwdIdeal.Done
end
-- ==== Proof.OutDw.lean ====
module
public import proofs.«01_k».proof.Defs
public import proofs.«01_k».proof.Proof.Gen.OutDw.Frame
public import proofs.«01_k».proof.Proof.Gen.OutDwIdeal.Value
public import proofs.«01_k».proof.Proof.Gen.OutDwRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.OutDwIdeal.Done
open Cert.OutDwIdeal Cert.OutDwIdeal.Gen

/-! ## The gradient of the output projection: its two column blocks, transposed, times the incoming gradient -/

/-- The column blocks of one operand, side by side: row `r`, column `i`. -/
def cat {n : ℕ} (u : FVec Ideal ⟨2, ![n, 512]⟩ .bf16) (v : FVec Ideal ⟨2, ![n, 1536]⟩ .bf16) (r : Fin n) (i : Fin 2048) : EReal :=
  if h0 : i.val < 512 then u (ix2 r ⟨i.val - 0, by omega⟩) else v (ix2 r ⟨i.val - 512, by omega⟩)
/-- The gradient, one entry. -/
def dwAt (u : FVec Ideal S8448x512 .bf16) (v : FVec Ideal S8448x1536 .bf16) (b : FVec Ideal S8448x1024 .bf16) : FVec Ideal S2048x1024 .bf16 := fun y =>
  ∑ r : Fin 8448, cat u v r (y 0) * b (ix2 r (y 1))
/-- What one row tile adds to it. -/
def part (u : FVec Ideal S768x512 .bf16) (v : FVec Ideal S768x1536 .bf16) (b : FVec Ideal S768x1024 .bf16) : FVec Ideal S2048x1024 .f32 := fun y =>
  ∑ r : Fin 768, cat u v r (y 0) * b (ix2 r (y 1))
def step (u : FVec Ideal S768x512 .bf16) (v : FVec Ideal S768x1536 .bf16) (b : FVec Ideal S768x1024 .bf16) (s : FVec Ideal S2048x1024 .f32) : FVec Ideal S2048x1024 .f32 :=
  fun y => s y + part u v b y

theorem zero_eq : (k0_pay1 : FVec Ideal S2048x1024 .f32) = fun _ => 0 := by
  funext y
  idx_vars y
  pointwise [k0_pay1]
theorem pay2_eq (b : Vec Ideal S768x1024 .bf16) (s : Vec Ideal S512x1024 .f32) (a : Vec Ideal S768x512 .bf16) (y : S512x1024.Idx) :
    k0_pay2 b s a y = s y + ∑ r : Fin 768, a (ix2 r (y 0)) * b (ix2 r (y 1)) := by
  idx_vars y
  pointwise [k0_pay2]
theorem pay3_eq (b : Vec Ideal S768x1024 .bf16) (s : Vec Ideal S1536x1024 .f32) (a : Vec Ideal S768x1536 .bf16) (y : S1536x1024.Idx) :
    k0_pay3 b s a y = s y + ∑ r : Fin 768, a (ix2 r (y 0)) * b (ix2 r (y 1)) := by
  idx_vars y
  pointwise [k0_pay3]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)

variable (m : (ℓ : Loc nD τ sig) → Buf (Elt Ideal) ℓ) (c : Dev nD)

/-- The input blocks of a point. -/
def blk0 (t : Fin cfg0.N) : FVec Ideal S768x512 .bf16 := iblk m c 0 t
def blk1 (t : Fin cfg0.N) : FVec Ideal S768x1536 .bf16 := iblk m c 1 t
def blk2 (t : Fin cfg0.N) : FVec Ideal S768x1024 .bf16 := iblk m c 2 t

theorem rows0_at (u : FVec Ideal S768x512 .bf16) (v : FVec Ideal S768x1536 .bf16) (b : FVec Ideal S768x1024 .bf16) (s : FVec Ideal S2048x1024 .f32)
    (h : ∀ i, (![0, 0] : Fin 2 → ℕ) i + ![512, 1024] i ≤ S2048x1024.size i) (j : S512x1024.Idx) :
    k0_pay2 (F := Ideal) b (View.ld s (Rect.unit (s := S2048x1024) ![0, 0] ![512, 1024] h)) u j
      = step u v b s ((Rect.unit (s := S2048x1024) ![0, 0] ![512, 1024] h).emb j) := by
  have hj : (j 0).val < 512 := (j 0).isLt
  have e0 : (((Rect.unit (s := S2048x1024) ![0, 0] ![512, 1024] h).emb j) 0).val = 0 + (j 0).val := by simp
  have e1 : (((Rect.unit (s := S2048x1024) ![0, 0] ![512, 1024] h).emb j) 1) = j 1 := Fin.ext (by simp)
  rw [pay2_eq]
  unfold step part
  refine congrArg₂ (fun u v : EReal => u + v) rfl (Finset.sum_congr rfl fun r _ => congrArg₂ (fun u v : EReal => u * v) ?_ (congrArg b (congrArg (ix2 r) e1.symm)))
  unfold cat
  rw [dif_pos (by omega)]
  exact congrArg u (congrArg (ix2 r) (Fin.ext (by show (j 0).val = _ - 0; omega)))
theorem rows1_at (u : FVec Ideal S768x512 .bf16) (v : FVec Ideal S768x1536 .bf16) (b : FVec Ideal S768x1024 .bf16) (s : FVec Ideal S2048x1024 .f32)
    (h : ∀ i, (![512, 0] : Fin 2 → ℕ) i + ![1536, 1024] i ≤ S2048x1024.size i) (j : S1536x1024.Idx) :
    k0_pay3 (F := Ideal) b (View.ld s (Rect.unit (s := S2048x1024) ![512, 0] ![1536, 1024] h)) v j
      = step u v b s ((Rect.unit (s := S2048x1024) ![512, 0] ![1536, 1024] h).emb j) := by
  have hj : (j 0).val < 1536 := (j 0).isLt
  have e0 : (((Rect.unit (s := S2048x1024) ![512, 0] ![1536, 1024] h).emb j) 0).val = 512 + (j 0).val := by simp
  have e1 : (((Rect.unit (s := S2048x1024) ![512, 0] ![1536, 1024] h).emb j) 1) = j 1 := Fin.ext (by simp)
  rw [pay3_eq]
  unfold step part
  refine congrArg₂ (fun u v : EReal => u + v) rfl (Finset.sum_congr rfl fun r _ => congrArg₂ (fun u v : EReal => u * v) ?_ (congrArg b (congrArg (ix2 r) e1.symm)))
  unfold cat
  rw [dif_neg (by omega)]
  exact congrArg v (congrArg (ix2 r) (Fin.ext (by show (j 0).val = _ - 512; omega)))

/-- The row blocks of a point together, over any earlier stores. -/
theorem parts_at (u : FVec Ideal S768x512 .bf16) (v : FVec Ideal S768x1536 .bf16) (b : FVec Ideal S768x1024 .bf16) (s : FVec Ideal S2048x1024 .f32)
    (L : List (View.Piece (Elt Ideal) S2048x1024 .f32)) :
    View.canon (
        ⟨Rect.unit (s := S2048x1024) ![512, 0] ![1536, 1024] inb_S2048x1024_S1536x1024_512_0,
          k0_pay3 (F := Ideal) b (View.ld s (Rect.unit (s := S2048x1024) ![512, 0] ![1536, 1024] inb_S2048x1024_S1536x1024_512_0)) v⟩ ::
        ⟨Rect.unit (s := S2048x1024) ![0, 0] ![512, 1024] inb_S2048x1024_S512x1024_0_0,
          k0_pay2 (F := Ideal) b (View.ld s (Rect.unit (s := S2048x1024) ![0, 0] ![512, 1024] inb_S2048x1024_S512x1024_0_0)) u⟩ :: L) = step u v b s := by
  funext y
  exact View.canon_append_of_piecesOf _ L [_, _] ⟨fun j => rows1_at u v b s _ j, fun j => rows0_at u v b s _ j, trivial⟩ y
    (View.cover_of_tiledBy _ ![512, 1024] (by sl_kernel_rfl) y)

theorem first_at (t : Fin cfg0.N) (h : t.val % 11 = 0) : (outsAt0 m c t.val t.isLt).2 = step (blk0 m c t) (blk1 m c t) (blk2 m c t) (fun _ => 0) := by
  rw [outsAt0_A m c t h (by omega)]
  frame_out
  simp (disch := first | decide | (intro a; fin_cases a <;> rfl)) only [View.readCov_skip, View.readCov_fill, zero_eq]
  exact parts_at (blk0 m c t) (blk1 m c t) (blk2 m c t) _ _
theorem next_at (t : Fin cfg0.N) (h : ¬t.val % 11 = 0) : (outsAt0 m c t.val t.isLt).2 = step (blk0 m c t) (blk1 m c t) (blk2 m c t) (outsAt0 m c (t.val - 1) (Nat.lt_of_le_of_lt (Nat.sub_le _ _) t.isLt)).2 := by
  by_cases h1 : t.val % 11 = 10
  · rw [outsAt0_C m c t h h1]
    frame_out
    simp only [read_unread_whole]
    exact parts_at (blk0 m c t) (blk1 m c t) (blk2 m c t) _ _
  · rw [outsAt0_B m c t h h1]
    frame_out
    simp only [read_unread_whole]
    exact parts_at (blk0 m c t) (blk1 m c t) (blk2 m c t) _ _
theorem out_at (t : Fin cfg0.N) (h : t.val % 11 = 10) : (outsAt0 m c t.val t.isLt).1 = k0_pay4 (outsAt0 m c t.val t.isLt).2 := by
  rw [next_at m c t (by omega), outsAt0_C m c t (by omega) h]
  frame_out
  simp only [read_unread_whole]
  exact congrArg k0_pay4 ((ReadAll.readCov_all (S := S2048x1024) _ _ _ (by decide)).trans (parts_at (blk0 m c t) (blk1 m c t) (blk2 m c t) _ []))

/-- The last point's scratch: the sum over the row tiles. -/
theorem sum_at (t : Fin cfg0.N) (h : t.val % 11 = 10) (y : S2048x1024.Idx) :
    (outsAt0 m c t.val t.isLt).2 y = ∑ s : Fin 11, (fun t => part (blk0 m c t) (blk1 m c t) (blk2 m c t) y) (⟨11 * (t.val / 11) + s.val, Pipeline.run_point_lt_of_flush t h s⟩ : Fin cfg0.N) := by
  have e := Pipeline.eq_sum_fin_of_reset_step_apply_of_flush (fun n h => (outsAt0 m c n h).2) 11 (fun _ => 0) (fun t => part (blk0 m c t) (blk1 m c t) (blk2 m c t))
      (fun t h y => congrFun (first_at m c t h) y) (fun t h y => congrFun (next_at m c t h) y) t h y
  rw [zero_add] at e; exact e

theorem blk0_at (t : Fin cfg0.N) (r : Fin 768) (k j : Fin 512) (i : Fin 8448) (hi : i.val = t.val * 768 + r.val) (hj : j.val = k.val) :
    blk0 m c t (ix2 r k) = m ((c : Thread nD τ).loc main_arg0) (ix2 i j) := by
  have h0 := idx0 t
  show V m c main_arg0 ((win0_0.blk t).view.emb (ix2 r k : S768x512.Idx)) = _
  rw [V_main_arg0]
  refine congrArg _ (funext fun a => Fin.ext ?_)
  match a with
  | ⟨0, _⟩ => blk_simp [h0]; exact hi.symm
  | ⟨1, _⟩ => blk_simp [h0]; exact hj.symm
theorem blk1_at (t : Fin cfg0.N) (r : Fin 768) (k j : Fin 1536) (i : Fin 8448) (hi : i.val = t.val * 768 + r.val) (hj : j.val = k.val) :
    blk1 m c t (ix2 r k) = m ((c : Thread nD τ).loc main_arg1) (ix2 i j) := by
  have h0 := idx1 t
  show V m c main_arg1 ((win0_1.blk t).view.emb (ix2 r k : S768x1536.Idx)) = _
  rw [V_main_arg1]
  refine congrArg _ (funext fun a => Fin.ext ?_)
  match a with
  | ⟨0, _⟩ => blk_simp [h0]; exact hi.symm
  | ⟨1, _⟩ => blk_simp [h0]; exact hj.symm
theorem blk2_at (t : Fin cfg0.N) (r : Fin 768) (k j : Fin 1024) (i : Fin 8448) (hi : i.val = t.val * 768 + r.val) (hj : j.val = k.val) :
    blk2 m c t (ix2 r k) = m ((c : Thread nD τ).loc main_arg2) (ix2 i j) := by
  have h0 := idx2 t
  show V m c main_arg2 ((win0_2.blk t).view.emb (ix2 r k : S768x1024.Idx)) = _
  rw [V_main_arg2]
  refine congrArg _ (funext fun a => Fin.ext ?_)
  match a with
  | ⟨0, _⟩ => blk_simp [h0]; exact hi.symm
  | ⟨1, _⟩ => blk_simp [h0]; exact hj.symm
/-- A row of a tile's column blocks is a row of the whole operand's. -/
theorem cat_at (t : Fin cfg0.N) (r : Fin 768) (i : Fin 8448) (k j : Fin 2048) (hi : i.val = t.val * 768 + r.val) (hj : j.val = k.val) :
    cat (blk0 m c t) (blk1 m c t) r k = cat (n := 8448) (m ((c : Thread nD τ).loc main_arg0)) (m ((c : Thread nD τ).loc main_arg1)) i j := by
  obtain rfl : j = k := Fin.ext hj
  unfold cat
  by_cases h0 : j.val < 512
  · rw [dif_pos h0, dif_pos h0]
    exact blk0_at m c t r _ _ i hi rfl
  rw [dif_neg h0, dif_neg h0]
  exact blk1_at m c t r _ _ i hi rfl

theorem final : (dats m 0 c).arrAt 3 cfg0.N = dwAt (m ((c : Thread nD τ).loc main_arg0)) (m ((c : Thread nD τ).loc main_arg1)) (m ((c : Thread nD τ).loc main_arg2)) := by
  refine (dats m 0 c).arrAt_eq_of_covers 3 _ (by decide +kernel) fun t hf y => ?_
  have hm : t.val % 11 = 10 := (flush0_3 t).mp hf
  have hi := idx3 t
  have ht : t.val < 11 := t.isLt
  rw [after0_3, out_at m c t hm]
  show (outsAt0 m c t.val t.isLt).2 y = _
  rw [sum_at m c t hm]
  refine Fin.sum_mul_add_congr (S := 11) (n := 768) fun s k hl => ?_
  exact congrArg₂ (fun a b : EReal => a * b)
    (cat_at m c _ k ⟨s.val * 768 + k.val, hl⟩ (y 0) (((win0_3.blk t).view.emb y) 0) (by dsimp only; omega) (by blk_simp [hi]))
    (blk2_at m c _ k (y 1) (((win0_3.blk t).view.emb y) 1) ⟨s.val * 768 + k.val, hl⟩ (by dsimp only; omega) (by blk_simp [hi]))

theorem value : algebraic_OutDwIdeal_OutDwRefIdeal (hOutDwIdeal := Cert.OutDwIdeal.Gen.facts) (hOutDwRefIdeal := Cert.OutDwRefIdeal.Gen.facts) := by
  intro m ρ m' ρ' _ hagree
  refine ⟨fun c => (dats m 0 c).arrAt 3 cfg0.N, Cert.OutDwIdeal.Value.run_blocks (F := Ideal) m ρ, ?_⟩
  refine (θ_run Cert.OutDwRefIdeal.defs _ _).mono (fun _ h c => ?_) (Cert.OutDwRefIdeal.Value.run (F := Ideal) m' ρ')
  obtain ⟨h0, hargs⟩ := h c
  obtain ⟨a0, a1, a2⟩ := hagree c
  refine ⟨h0.trans ?_, hargs⟩
  show _ = (dats m 0 c).arrAt 3 cfg0.N
  rw [final, a0, a1, a2]
  generalize m ((c.tc : Thread nD τ).loc main_arg0) = A0
  generalize m ((c.tc : Thread nD τ).loc main_arg1) = A1
  generalize m ((c.tc : Thread nD τ).loc main_arg2) = A2
  clear h0 hargs
  funext y
  idx_vars y
  pointwise [dwAt, cat]
  exact Finset.sum_congr rfl fun r _ => mul_comm _ _
end Cert.OutDwIdeal.Done
end
-- ==== Proof.InDw.lean ====
module
public import proofs.«01_k».proof.Defs
public import proofs.«01_k».proof.Proof.Gen.InDw.Frame
public import proofs.«01_k».proof.Proof.Gen.InDwIdeal.Value
public import proofs.«01_k».proof.Proof.Gen.InDwRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.InDwIdeal.Done
open Cert.InDwIdeal Cert.InDwIdeal.Gen

/-! ## The gradient of the first input projection: the three column blocks of its incoming gradient, transposed, times the rows -/

/-- The column blocks of one operand, side by side: row `r`, column `i`. -/
def cat {n : ℕ} (u : FVec Ideal ⟨2, ![n, 512]⟩ .bf16) (v : FVec Ideal ⟨2, ![n, 1536]⟩ .bf16) (w : FVec Ideal ⟨2, ![n, 512]⟩ .bf16) (r : Fin n) (i : Fin 2560) : EReal :=
  if h0 : i.val < 512 then u (ix2 r ⟨i.val - 0, by omega⟩) else if h1 : i.val < 2048 then v (ix2 r ⟨i.val - 512, by omega⟩) else w (ix2 r ⟨i.val - 2048, by omega⟩)
/-- The gradient, one entry. -/
def dwAt (u : FVec Ideal S8448x512 .bf16) (v : FVec Ideal S8448x1536 .bf16) (w : FVec Ideal S8448x512 .bf16) (b : FVec Ideal S8448x1024 .bf16) : FVec Ideal S2560x1024 .bf16 := fun y =>
  ∑ r : Fin 8448, cat u v w r (y 0) * b (ix2 r (y 1))
/-- What one row tile adds to it. -/
def part (u : FVec Ideal S1056x512 .bf16) (v : FVec Ideal S1056x1536 .bf16) (w : FVec Ideal S1056x512 .bf16) (b : FVec Ideal S1056x1024 .bf16) : FVec Ideal S2560x1024 .f32 := fun y =>
  ∑ r : Fin 1056, cat u v w r (y 0) * b (ix2 r (y 1))
def step (u : FVec Ideal S1056x512 .bf16) (v : FVec Ideal S1056x1536 .bf16) (w : FVec Ideal S1056x512 .bf16) (b : FVec Ideal S1056x1024 .bf16) (s : FVec Ideal S2560x1024 .f32) : FVec Ideal S2560x1024 .f32 :=
  fun y => s y + part u v w b y

theorem zero_eq : (k0_pay2 : FVec Ideal S2560x1024 .f32) = fun _ => 0 := by
  funext y
  idx_vars y
  pointwise [k0_pay2]
theorem pay3_eq (b : Vec Ideal S1056x1024 .bf16) (s : Vec Ideal S512x1024 .f32) (a : Vec Ideal S1056x512 .bf16) (y : S512x1024.Idx) :
    k0_pay3 b s a y = s y + ∑ r : Fin 1056, a (ix2 r (y 0)) * b (ix2 r (y 1)) := by
  idx_vars y
  pointwise [k0_pay3]
theorem pay4_eq (b : Vec Ideal S1056x1024 .bf16) (s : Vec Ideal S1536x1024 .f32) (a : Vec Ideal S1056x1536 .bf16) (y : S1536x1024.Idx) :
    k0_pay4 b s a y = s y + ∑ r : Fin 1056, a (ix2 r (y 0)) * b (ix2 r (y 1)) := by
  idx_vars y
  pointwise [k0_pay4]
theorem pay5_eq (b : Vec Ideal S1056x1024 .bf16) (s : Vec Ideal S512x1024 .f32) (a : Vec Ideal S1056x512 .bf16) (y : S512x1024.Idx) :
    k0_pay5 b s a y = s y + ∑ r : Fin 1056, a (ix2 r (y 0)) * b (ix2 r (y 1)) := by
  idx_vars y
  pointwise [k0_pay5]

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

variable (m : (ℓ : Loc nD τ sig) → Buf (Elt Ideal) ℓ) (c : Dev nD)

/-- The input blocks of a point. -/
def blk0 (t : Fin cfg0.N) : FVec Ideal S1056x512 .bf16 := iblk m c 0 t
def blk1 (t : Fin cfg0.N) : FVec Ideal S1056x1536 .bf16 := iblk m c 1 t
def blk2 (t : Fin cfg0.N) : FVec Ideal S1056x512 .bf16 := iblk m c 2 t
def blk3 (t : Fin cfg0.N) : FVec Ideal S1056x1024 .bf16 := iblk m c 3 t

theorem rows0_at (u : FVec Ideal S1056x512 .bf16) (v : FVec Ideal S1056x1536 .bf16) (w : FVec Ideal S1056x512 .bf16) (b : FVec Ideal S1056x1024 .bf16) (s : FVec Ideal S2560x1024 .f32)
    (h : ∀ i, (![0, 0] : Fin 2 → ℕ) i + ![512, 1024] i ≤ S2560x1024.size i) (j : S512x1024.Idx) :
    k0_pay3 (F := Ideal) b (View.ld s (Rect.unit (s := S2560x1024) ![0, 0] ![512, 1024] h)) u j
      = step u v w b s ((Rect.unit (s := S2560x1024) ![0, 0] ![512, 1024] h).emb j) := by
  have hj : (j 0).val < 512 := (j 0).isLt
  have e0 : (((Rect.unit (s := S2560x1024) ![0, 0] ![512, 1024] h).emb j) 0).val = 0 + (j 0).val := by simp
  have e1 : (((Rect.unit (s := S2560x1024) ![0, 0] ![512, 1024] h).emb j) 1) = j 1 := Fin.ext (by simp)
  rw [pay3_eq]
  unfold step part
  refine congrArg₂ (fun u v : EReal => u + v) rfl (Finset.sum_congr rfl fun r _ => congrArg₂ (fun u v : EReal => u * v) ?_ (congrArg b (congrArg (ix2 r) e1.symm)))
  unfold cat
  rw [dif_pos (by omega)]
  exact congrArg u (congrArg (ix2 r) (Fin.ext (by show (j 0).val = _ - 0; omega)))
theorem rows1_at (u : FVec Ideal S1056x512 .bf16) (v : FVec Ideal S1056x1536 .bf16) (w : FVec Ideal S1056x512 .bf16) (b : FVec Ideal S1056x1024 .bf16) (s : FVec Ideal S2560x1024 .f32)
    (h : ∀ i, (![512, 0] : Fin 2 → ℕ) i + ![1536, 1024] i ≤ S2560x1024.size i) (j : S1536x1024.Idx) :
    k0_pay4 (F := Ideal) b (View.ld s (Rect.unit (s := S2560x1024) ![512, 0] ![1536, 1024] h)) v j
      = step u v w b s ((Rect.unit (s := S2560x1024) ![512, 0] ![1536, 1024] h).emb j) := by
  have hj : (j 0).val < 1536 := (j 0).isLt
  have e0 : (((Rect.unit (s := S2560x1024) ![512, 0] ![1536, 1024] h).emb j) 0).val = 512 + (j 0).val := by simp
  have e1 : (((Rect.unit (s := S2560x1024) ![512, 0] ![1536, 1024] h).emb j) 1) = j 1 := Fin.ext (by simp)
  rw [pay4_eq]
  unfold step part
  refine congrArg₂ (fun u v : EReal => u + v) rfl (Finset.sum_congr rfl fun r _ => congrArg₂ (fun u v : EReal => u * v) ?_ (congrArg b (congrArg (ix2 r) e1.symm)))
  unfold cat
  rw [dif_neg (by omega)]
  rw [dif_pos (by omega)]
  exact congrArg v (congrArg (ix2 r) (Fin.ext (by show (j 0).val = _ - 512; omega)))
theorem rows2_at (u : FVec Ideal S1056x512 .bf16) (v : FVec Ideal S1056x1536 .bf16) (w : FVec Ideal S1056x512 .bf16) (b : FVec Ideal S1056x1024 .bf16) (s : FVec Ideal S2560x1024 .f32)
    (h : ∀ i, (![2048, 0] : Fin 2 → ℕ) i + ![512, 1024] i ≤ S2560x1024.size i) (j : S512x1024.Idx) :
    k0_pay5 (F := Ideal) b (View.ld s (Rect.unit (s := S2560x1024) ![2048, 0] ![512, 1024] h)) w j
      = step u v w b s ((Rect.unit (s := S2560x1024) ![2048, 0] ![512, 1024] h).emb j) := by
  have hj : (j 0).val < 512 := (j 0).isLt
  have e0 : (((Rect.unit (s := S2560x1024) ![2048, 0] ![512, 1024] h).emb j) 0).val = 2048 + (j 0).val := by simp
  have e1 : (((Rect.unit (s := S2560x1024) ![2048, 0] ![512, 1024] h).emb j) 1) = j 1 := Fin.ext (by simp)
  rw [pay5_eq]
  unfold step part
  refine congrArg₂ (fun u v : EReal => u + v) rfl (Finset.sum_congr rfl fun r _ => congrArg₂ (fun u v : EReal => u * v) ?_ (congrArg b (congrArg (ix2 r) e1.symm)))
  unfold cat
  rw [dif_neg (by omega)]
  rw [dif_neg (by omega)]
  exact congrArg w (congrArg (ix2 r) (Fin.ext (by show (j 0).val = _ - 2048; omega)))

/-- The row blocks of a point together, over any earlier stores. -/
theorem parts_at (u : FVec Ideal S1056x512 .bf16) (v : FVec Ideal S1056x1536 .bf16) (w : FVec Ideal S1056x512 .bf16) (b : FVec Ideal S1056x1024 .bf16) (s : FVec Ideal S2560x1024 .f32)
    (L : List (View.Piece (Elt Ideal) S2560x1024 .f32)) :
    View.canon (
        ⟨Rect.unit (s := S2560x1024) ![2048, 0] ![512, 1024] inb_S2560x1024_S512x1024_2048_0,
          k0_pay5 (F := Ideal) b (View.ld s (Rect.unit (s := S2560x1024) ![2048, 0] ![512, 1024] inb_S2560x1024_S512x1024_2048_0)) w⟩ ::
        ⟨Rect.unit (s := S2560x1024) ![512, 0] ![1536, 1024] inb_S2560x1024_S1536x1024_512_0,
          k0_pay4 (F := Ideal) b (View.ld s (Rect.unit (s := S2560x1024) ![512, 0] ![1536, 1024] inb_S2560x1024_S1536x1024_512_0)) v⟩ ::
        ⟨Rect.unit (s := S2560x1024) ![0, 0] ![512, 1024] inb_S2560x1024_S512x1024_0_0,
          k0_pay3 (F := Ideal) b (View.ld s (Rect.unit (s := S2560x1024) ![0, 0] ![512, 1024] inb_S2560x1024_S512x1024_0_0)) u⟩ :: L) = step u v w b s := by
  funext y
  exact View.canon_append_of_piecesOf _ L [_, _, _] ⟨fun j => rows2_at u v w b s _ j, fun j => rows1_at u v w b s _ j, fun j => rows0_at u v w b s _ j, trivial⟩ y
    (View.cover_of_tiledBy _ ![512, 1024] (by sl_kernel_rfl) y)

theorem first_at (t : Fin cfg0.N) (h : t.val % 8 = 0) : (outsAt0 m c t.val t.isLt).2 = step (blk0 m c t) (blk1 m c t) (blk2 m c t) (blk3 m c t) (fun _ => 0) := by
  rw [outsAt0_A m c t h (by omega)]
  frame_out
  simp (disch := first | decide | (intro a; fin_cases a <;> rfl)) only [View.readCov_skip, View.readCov_fill, zero_eq]
  exact parts_at (blk0 m c t) (blk1 m c t) (blk2 m c t) (blk3 m c t) _ _
theorem next_at (t : Fin cfg0.N) (h : ¬t.val % 8 = 0) : (outsAt0 m c t.val t.isLt).2 = step (blk0 m c t) (blk1 m c t) (blk2 m c t) (blk3 m c t) (outsAt0 m c (t.val - 1) (Nat.lt_of_le_of_lt (Nat.sub_le _ _) t.isLt)).2 := by
  by_cases h1 : t.val % 8 = 7
  · rw [outsAt0_C m c t h h1]
    frame_out
    simp only [read_unread_whole]
    exact parts_at (blk0 m c t) (blk1 m c t) (blk2 m c t) (blk3 m c t) _ _
  · rw [outsAt0_B m c t h h1]
    frame_out
    simp only [read_unread_whole]
    exact parts_at (blk0 m c t) (blk1 m c t) (blk2 m c t) (blk3 m c t) _ _
theorem out_at (t : Fin cfg0.N) (h : t.val % 8 = 7) : (outsAt0 m c t.val t.isLt).1 = k0_pay1 (outsAt0 m c t.val t.isLt).2 := by
  rw [next_at m c t (by omega), outsAt0_C m c t (by omega) h]
  frame_out
  simp only [read_unread_whole]
  exact congrArg k0_pay1 ((ReadAll.readCov_all (S := S2560x1024) _ _ _ (by decide)).trans (parts_at (blk0 m c t) (blk1 m c t) (blk2 m c t) (blk3 m c t) _ []))

/-- The last point's scratch: the sum over the row tiles. -/
theorem sum_at (t : Fin cfg0.N) (h : t.val % 8 = 7) (y : S2560x1024.Idx) :
    (outsAt0 m c t.val t.isLt).2 y = ∑ s : Fin 8, (fun t => part (blk0 m c t) (blk1 m c t) (blk2 m c t) (blk3 m c t) y) (⟨8 * (t.val / 8) + s.val, Pipeline.run_point_lt_of_flush t h s⟩ : Fin cfg0.N) := by
  have e := Pipeline.eq_sum_fin_of_reset_step_apply_of_flush (fun n h => (outsAt0 m c n h).2) 8 (fun _ => 0) (fun t => part (blk0 m c t) (blk1 m c t) (blk2 m c t) (blk3 m c t))
      (fun t h y => congrFun (first_at m c t h) y) (fun t h y => congrFun (next_at m c t h) y) t h y
  rw [zero_add] at e; exact e

theorem blk0_at (t : Fin cfg0.N) (r : Fin 1056) (k j : Fin 512) (i : Fin 8448) (hi : i.val = t.val * 1056 + r.val) (hj : j.val = k.val) :
    blk0 m c t (ix2 r k) = m ((c : Thread nD τ).loc main_arg0) (ix2 i j) := by
  have h0 := idx0 t
  show V m c main_arg0 ((win0_0.blk t).view.emb (ix2 r k : S1056x512.Idx)) = _
  rw [V_main_arg0]
  refine congrArg _ (funext fun a => Fin.ext ?_)
  match a with
  | ⟨0, _⟩ => blk_simp [h0]; exact hi.symm
  | ⟨1, _⟩ => blk_simp [h0]; exact hj.symm
theorem blk1_at (t : Fin cfg0.N) (r : Fin 1056) (k j : Fin 1536) (i : Fin 8448) (hi : i.val = t.val * 1056 + r.val) (hj : j.val = k.val) :
    blk1 m c t (ix2 r k) = m ((c : Thread nD τ).loc main_arg1) (ix2 i j) := by
  have h0 := idx1 t
  show V m c main_arg1 ((win0_1.blk t).view.emb (ix2 r k : S1056x1536.Idx)) = _
  rw [V_main_arg1]
  refine congrArg _ (funext fun a => Fin.ext ?_)
  match a with
  | ⟨0, _⟩ => blk_simp [h0]; exact hi.symm
  | ⟨1, _⟩ => blk_simp [h0]; exact hj.symm
theorem blk2_at (t : Fin cfg0.N) (r : Fin 1056) (k j : Fin 512) (i : Fin 8448) (hi : i.val = t.val * 1056 + r.val) (hj : j.val = k.val) :
    blk2 m c t (ix2 r k) = m ((c : Thread nD τ).loc main_arg2) (ix2 i j) := by
  have h0 := idx2 t
  show V m c main_arg2 ((win0_2.blk t).view.emb (ix2 r k : S1056x512.Idx)) = _
  rw [V_main_arg2]
  refine congrArg _ (funext fun a => Fin.ext ?_)
  match a with
  | ⟨0, _⟩ => blk_simp [h0]; exact hi.symm
  | ⟨1, _⟩ => blk_simp [h0]; exact hj.symm
theorem blk3_at (t : Fin cfg0.N) (r : Fin 1056) (k j : Fin 1024) (i : Fin 8448) (hi : i.val = t.val * 1056 + r.val) (hj : j.val = k.val) :
    blk3 m c t (ix2 r k) = m ((c : Thread nD τ).loc main_arg3) (ix2 i j) := by
  have h0 := idx3 t
  show V m c main_arg3 ((win0_3.blk t).view.emb (ix2 r k : S1056x1024.Idx)) = _
  rw [V_main_arg3]
  refine congrArg _ (funext fun a => Fin.ext ?_)
  match a with
  | ⟨0, _⟩ => blk_simp [h0]; exact hi.symm
  | ⟨1, _⟩ => blk_simp [h0]; exact hj.symm
/-- A row of a tile's column blocks is a row of the whole operand's. -/
theorem cat_at (t : Fin cfg0.N) (r : Fin 1056) (i : Fin 8448) (k j : Fin 2560) (hi : i.val = t.val * 1056 + r.val) (hj : j.val = k.val) :
    cat (blk0 m c t) (blk1 m c t) (blk2 m c t) r k = cat (n := 8448) (m ((c : Thread nD τ).loc main_arg0)) (m ((c : Thread nD τ).loc main_arg1)) (m ((c : Thread nD τ).loc main_arg2)) i j := by
  obtain rfl : j = k := Fin.ext hj
  unfold cat
  by_cases h0 : j.val < 512
  · rw [dif_pos h0, dif_pos h0]
    exact blk0_at m c t r _ _ i hi rfl
  rw [dif_neg h0, dif_neg h0]
  by_cases h1 : j.val < 2048
  · rw [dif_pos h1, dif_pos h1]
    exact blk1_at m c t r _ _ i hi rfl
  rw [dif_neg h1, dif_neg h1]
  exact blk2_at m c t r _ _ i hi rfl

theorem final : (dats m 0 c).arrAt 4 cfg0.N = dwAt (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hm : t.val % 8 = 7 := (flush0_4 t).mp hf
  have hi := idx4 t
  have ht : t.val < 8 := t.isLt
  rw [after0_4, out_at m c t hm]
  show (outsAt0 m c t.val t.isLt).2 y = _
  rw [sum_at m c t hm]
  refine Fin.sum_mul_add_congr (S := 8) (n := 1056) fun s k hl => ?_
  exact congrArg₂ (fun a b : EReal => a * b)
    (cat_at m c _ k ⟨s.val * 1056 + k.val, hl⟩ (y 0) (((win0_4.blk t).view.emb y) 0) (by dsimp only; omega) (by blk_simp [hi]))
    (blk3_at m c _ k (y 1) (((win0_4.blk t).view.emb y) 1) ⟨s.val * 1056 + k.val, hl⟩ (by dsimp only; omega) (by blk_simp [hi]))

theorem value : algebraic_InDwIdeal_InDwRefIdeal (hInDwIdeal := Cert.InDwIdeal.Gen.facts) (hInDwRefIdeal := Cert.InDwRefIdeal.Gen.facts) := by
  intro m ρ m' ρ' _ hagree
  refine ⟨fun c => (dats m 0 c).arrAt 4 cfg0.N, Cert.InDwIdeal.Value.run_blocks (F := Ideal) m ρ, ?_⟩
  refine (θ_run Cert.InDwRefIdeal.defs _ _).mono (fun _ h c => ?_) (Cert.InDwRefIdeal.Value.run (F := Ideal) m' ρ')
  obtain ⟨h0, hargs⟩ := h c
  obtain ⟨a0, a1, a2, a3⟩ := hagree c
  refine ⟨h0.trans ?_, hargs⟩
  show _ = (dats m 0 c).arrAt 4 cfg0.N
  rw [final, a0, a1, a2, a3]
  generalize m ((c.tc : Thread nD τ).loc main_arg0) = A0
  generalize m ((c.tc : Thread nD τ).loc main_arg1) = A1
  generalize m ((c.tc : Thread nD τ).loc main_arg2) = A2
  generalize m ((c.tc : Thread nD τ).loc main_arg3) = A3
  clear h0 hargs
  funext y
  idx_vars y
  pointwise [dwAt, cat]
  refine Finset.sum_congr rfl fun r _ => congrArg₂ (fun u v : EReal => u * v) ?_ rfl
  by_cases h0 : y0.val < 512
  · rw [dif_neg (fun h => by have h1 := (h (1 : Fin 2)).1; simp at h1; omega),
      dif_neg (fun h => by have h1 := (h (1 : Fin 2)).1; simp at h1; omega),
      dif_pos (by intro a; fin_cases a <;> simp <;> omega), dif_pos h0]
    simp
  rw [dif_neg h0]
  by_cases h1 : y0.val < 2048
  · rw [dif_neg (fun h => by have h1 := (h (1 : Fin 2)).1; simp at h1; omega),
      dif_pos (by intro a; fin_cases a <;> simp <;> omega),
      dif_neg (fun h => by have h1 := (h (1 : Fin 2)).2; simp at h1; omega), dif_pos h1]
    simp
  · rw [dif_pos (by intro a; fin_cases a <;> simp <;> omega),
      dif_neg (fun h => by have h1 := (h (1 : Fin 2)).2; simp at h1; omega),
      dif_neg (fun h => by have h1 := (h (1 : Fin 2)).2; simp at h1; omega), dif_neg h1]
    simp
end Cert.InDwIdeal.Done
end
-- ==== Proof.Ff1.lean ====
module
public import proofs.«01_k».proof.Defs
public import proofs.«01_k».proof.Proof.Gen.Ff1.Frame
public import proofs.«01_k».proof.Proof.Gen.Ff1Ideal.Value
public import proofs.«01_k».proof.Proof.Gen.Ff1RefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.Ff1Ideal.Done
open Cert.Ff1Ideal Cert.Ff1Ideal.Gen

/-! ## The first feed-forward product: the weight lies in four slabs of columns, the result in eight column blocks -/

/-- One entry: the row times the column of its slab. -/
def prodAt {n : ℕ} (a : FVec Ideal ⟨2, ![n, 1024]⟩ .bf16) (b : FVec Ideal S4x1024x1024 .bf16) : FVec Ideal ⟨2, ![n, 4096]⟩ .bf16 := fun y =>
  ∑ k : Fin 1024, a (ix2 (y 0) k) * b (ix3 ⟨(y 1).val / 1024, by have h : (y 1).val < 4096 := (y 1).isLt; omega⟩ k ⟨(y 1).val % 1024, Nat.mod_lt _ (by decide)⟩)

theorem pay_eq (a : Vec Ideal S1056x1024 .bf16) (b : Vec Ideal S1x1024x512 .bf16) (y : S1056x512.Idx) :
    k0_pay4 (F := Ideal) a b y = ∑ k : Fin 1024, a (ix2 (y 0) k) * b (ix3 0 k (y 1)) := by
  idx_vars y
  pointwise [k0_pay4]

/-- A column block of a tile: slab `p / 2`, its half `p % 2`. -/
theorem tile_at (a : FVec Ideal S1056x1024 .bf16) (b : FVec Ideal S4x1024x1024 .bf16) (p : Fin 8)
    {ob : Fin 3 → ℕ} {oh : Fin 2 → ℕ} (ib : ∀ i, ob i + ![1, 1024, 512] i ≤ S4x1024x1024.size i) (ih : ∀ i, oh i + ![1056, 512] i ≤ S1056x4096.size i)
    (hb : ob = ![p.val / 2, 0, 512 * (p.val % 2)]) (hh : oh = ![0, 512 * p.val]) (j : S1056x512.Idx) :
    k0_pay4 (F := Ideal) a (View.ld b (Rect.unit (s := S4x1024x1024) ob ![1, 1024, 512] ib)) j
      = prodAt (n := 1056) a b ((Rect.unit (s := S1056x4096) oh ![1056, 512] ih).emb j) := by
  subst hb hh
  have hj : (j 1).val < 512 := (j 1).isLt
  rw [pay_eq]
  unfold prodAt
  refine Finset.sum_congr rfl fun k _ => congrArg₂ (fun u v : EReal => u * v)
    (congrArg a (funext fun i => Fin.ext ?_)) (congrArg b (funext fun i => Fin.ext ?_))
  · match i with
    | ⟨0, _⟩ => simp
    | ⟨1, _⟩ => rfl
  · match i with
    | ⟨0, _⟩ => simp; omega
    | ⟨1, _⟩ => simp
    | ⟨2, _⟩ => simp; omega

variable (m : (ℓ : Loc nD τ sig) → Buf (Elt Ideal) ℓ) (c : Dev nD)

def blkA (t : Fin cfg0.N) : FVec Ideal S1056x1024 .bf16 := iblk m c 0 t
def blkB (t : Fin cfg0.N) : FVec Ideal S4x1024x1024 .bf16 := iblk m c 1 t

theorem out_eq (a : FVec Ideal S1056x1024 .bf16) (b : FVec Ideal S4x1024x1024 .bf16) :
    View.canon ([⟨r0_16, k0_pay3 (F := Ideal) a (View.ld b r0_15)⟩,
        ⟨r0_14, k0_pay2 (F := Ideal) a (View.ld b r0_13)⟩,
        ⟨r0_12, k0_pay1 (F := Ideal) a (View.ld b r0_11)⟩,
        ⟨r0_10, k0_pay8 (F := Ideal) a (View.ld b r0_9)⟩,
        ⟨r0_8, k0_pay7 (F := Ideal) a (View.ld b r0_7)⟩,
        ⟨r0_6, k0_pay6 (F := Ideal) a (View.ld b r0_5)⟩,
        ⟨r0_4, k0_pay5 (F := Ideal) a (View.ld b r0_3)⟩,
        ⟨r0_2, k0_pay4 (F := Ideal) a (View.ld b r0_1)⟩] : List (View.Piece (Elt Ideal) S1056x4096 .bf16)) = prodAt (n := 1056) a b := by
  funext y
  exact View.canon_append_of_piecesOf _ [] [_, _, _, _, _, _, _, _]
    ⟨fun j => tile_at a b 7 inb_S4x1024x1024_S1x1024x512_3_0_512 inb_S1056x4096_S1056x512_0_3584 rfl rfl j,
      fun j => tile_at a b 6 inb_S4x1024x1024_S1x1024x512_3_0_0 inb_S1056x4096_S1056x512_0_3072 rfl rfl j,
      fun j => tile_at a b 5 inb_S4x1024x1024_S1x1024x512_2_0_512 inb_S1056x4096_S1056x512_0_2560 rfl rfl j,
      fun j => tile_at a b 4 inb_S4x1024x1024_S1x1024x512_2_0_0 inb_S1056x4096_S1056x512_0_2048 rfl rfl j,
      fun j => tile_at a b 3 inb_S4x1024x1024_S1x1024x512_1_0_512 inb_S1056x4096_S1056x512_0_1536 rfl rfl j,
      fun j => tile_at a b 2 inb_S4x1024x1024_S1x1024x512_1_0_0 inb_S1056x4096_S1056x512_0_1024 rfl rfl j,
      fun j => tile_at a b 1 inb_S4x1024x1024_S1x1024x512_0_0_512 inb_S1056x4096_S1056x512_0_512 rfl rfl j,
      fun j => tile_at a b 0 inb_S4x1024x1024_S1x1024x512_0_0_0 inb_S1056x4096_S1056x512_0_0 rfl rfl j, trivial⟩ y (View.cover_of_tiledBy _ ![1056, 512] (by sl_kernel_rfl) y)
theorem out_at (t : Fin cfg0.N) : (dats m 0 c).after 2 t = prodAt (n := 1056) (blkA m c t) (blkB m c t) := by
  rw [after0_2]
  frame_out
  exact out_eq (blkA m c t) (blkB m c t)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

theorem blkA_at (t : Fin cfg0.N) (r : Fin 1056) (k : Fin 1024) (i : Fin 8448) (hi : i.val = t.val * 1056 + r.val) :
    blkA m c t (ix2 r k) = m ((c : Thread nD τ).loc main_arg0) (ix2 i k) := by
  have h0 := idx0 t
  show V m c main_arg0 ((win0_0.blk t).view.emb (ix2 r k : S1056x1024.Idx)) = _
  rw [V_main_arg0]
  refine congrArg _ (funext fun a => Fin.ext ?_)
  match a with
  | ⟨0, _⟩ => blk_simp [h0]; exact hi.symm
  | ⟨1, _⟩ => blk_simp [h0]
theorem blkB_at (t : Fin cfg0.N) (s s' : Fin 4) (k j j' : Fin 1024) (hs : s'.val = s.val) (hj : j'.val = j.val) :
    blkB m c t (ix3 s k j) = m ((c : Thread nD τ).loc main_arg1) (ix3 s' k j') := by
  have h0 := idx1 t
  show V m c main_arg1 ((win0_1.blk t).view.emb (ix3 s k j : S4x1024x1024.Idx)) = _
  rw [V_main_arg1]
  refine congrArg _ (funext fun a => Fin.ext ?_)
  match a with
  | ⟨0, _⟩ => blk_simp [h0]; exact hs.symm
  | ⟨1, _⟩ => blk_simp [h0]
  | ⟨2, _⟩ => blk_simp [h0]; exact hj.symm

theorem final : (dats m 0 c).arrAt 2 cfg0.N = prodAt (n := 8448) (m ((c : Thread nD τ).loc main_arg0)) (m ((c : Thread nD τ).loc main_arg1)) := by
  refine (dats m 0 c).arrAt_eq_of_covers 2 _ (by decide +kernel) fun t _ y => ?_
  have hi := idx2 t
  rw [out_at m c t]
  show prodAt (n := 1056) (blkA m c t) (blkB m c t) (y : S1056x4096.Idx) = _
  have e0 : ((((win0_2.blk t).view.emb y) 0 : Fin 8448)).val = t.val * 1056 + (y 0).val := by blk_simp [hi]
  have e1 : ((((win0_2.blk t).view.emb y) 1 : Fin 4096)).val = (y 1).val := by blk_simp [hi]
  exact Finset.sum_congr rfl fun k _ => congrArg₂ (fun a b : EReal => a * b)
    (blkA_at m c t (y 0) k _ e0) (blkB_at m c t _ _ k _ _ (congrArg (· / 1024) e1) (congrArg (· % 1024) e1))

theorem value : algebraic_Ff1Ideal_Ff1RefIdeal (hFf1Ideal := Cert.Ff1Ideal.Gen.facts) (hFf1RefIdeal := Cert.Ff1RefIdeal.Gen.facts) := by
  intro m ρ m' ρ' _ hagree
  refine ⟨fun c => (dats m 0 c).arrAt 2 cfg0.N, Cert.Ff1Ideal.Value.run_blocks (F := Ideal) m ρ, ?_⟩
  refine (θ_run Cert.Ff1RefIdeal.defs _ _).mono (fun _ h c => ?_) (Cert.Ff1RefIdeal.Value.run (F := Ideal) m' ρ')
  obtain ⟨h0, hargs⟩ := h c
  obtain ⟨a0, a1⟩ := hagree c
  refine ⟨h0.trans ?_, hargs⟩
  show _ = (dats m 0 c).arrAt 2 cfg0.N
  rw [final, a0, a1]
  generalize m ((c.tc : Thread nD τ).loc main_arg0) = A
  generalize m ((c.tc : Thread nD τ).loc main_arg1) = B
  clear h0 hargs h
  funext y
  idx_vars y
  pointwise [prodAt]
end Cert.Ff1Ideal.Done
end
-- ==== Proof.OutProj.lean ====
module
public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Norm
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.OutProjIdeal
open Norm

/-! ## The output projection, the residual sum and the norm after it -/

variable {n : ℕ}
/-- One entry of the residual sum: two rows times the weight's two groups of rows. -/
def sumAt (a : FVec Ideal ⟨2, ![n, 512]⟩ .bf16) (b : FVec Ideal ⟨2, ![n, 1536]⟩ .bf16) (u : FVec Ideal S512x1024 .bf16) (v : FVec Ideal S1536x1024 .bf16)
    (h : FVec Ideal ⟨2, ![n, 1024]⟩ .f32) : FVec Ideal ⟨2, ![n, 1024]⟩ .f32 := fun y =>
  (∑ k : Fin 512, a (ix2 (y 0) k) * u (ix2 k (y 1))) + (∑ k : Fin 1536, b (ix2 (y 0) k) * v (ix2 k (y 1))) + h y
/-- One entry of the norm of the rows. -/
def normAt (x : FVec Ideal ⟨2, ![n, 1024]⟩ .f32) (g : FVec Ideal S1x1024 .f32) : FVec Ideal ⟨2, ![n, 1024]⟩ .bf16 := fun y =>
  x y * rsAt x (y 0) * g (ix2 0 (y 1))
/-- The weight's rows from `o` on. -/
def rowsFrom {k : ℕ} (o : ℕ) (ho : o + k ≤ 2048) (b : FVec Ideal S2048x1024 .bf16) : FVec Ideal ⟨2, ![k, 1024]⟩ .bf16 := fun y =>
  b (ix2 ⟨o + (y 0).val, by have h : (y 0).val < k := (y 0).isLt; omega⟩ (y 1))
/-- The residual sum of the whole arrays. -/
def sumOf (a : FVec Ideal ⟨2, ![n, 512]⟩ .bf16) (b : FVec Ideal ⟨2, ![n, 1536]⟩ .bf16) (w : FVec Ideal S2048x1024 .bf16) (h : FVec Ideal ⟨2, ![n, 1024]⟩ .f32) :
    FVec Ideal ⟨2, ![n, 1024]⟩ .f32 := sumAt a b (rowsFrom 0 (by decide) w) (rowsFrom 512 (by decide) w) h
end Cert.OutProjIdeal

namespace Cert.OutProjRefIdeal.Done
open Cert.OutProjRefIdeal Cert.OutProjRefIdeal.Gen Norm

/-! ### The reference's pieces -/

/-- The two inputs side by side, the residual sum, the mean square with the constant, the norm. -/
def cat (A : FVec Ideal S8448x512 .bf16) (B : FVec Ideal S8448x1536 .bf16) : FVec Ideal S8448x2048 .f32 :=
  concatenate S8448x2048 1 [⟨S8448x512, (extf .f32 A bitsLt_bf16_f32)⟩, ⟨S8448x1536, (extf .f32 B bitsLt_bf16_f32)⟩] concatenates_S8448x512_S8448x1536_S8448x2048_d1
def tot (C : FVec Ideal S8448x2048 .f32) (W : FVec Ideal S2048x1024 .bf16) (H : FVec Ideal S8448x1024 .f32) : FVec Ideal S8448x1024 .f32 :=
  addf H (Host.dotGeneral dot_S8448x2048_S2048x1024_S8448x1024_1_0_0_1_n_n none C (extf .f32 W bitsLt_bf16_f32))
def var (X : FVec Ideal S8448x1024 .f32) : FVec Ideal S8448x1 .f32 :=
  addf (Host.divf (broadcastInDim S8448x1 ![0] bcast_S8448_S8448x1_0 (Host.reduceAdd (mulf X X) (constant S_ .f32 0x00000000#32) reducesTo_S8448x1024_S8448_d1 h_S_)) (broadcastInDim S8448x1 ![] bcast_S_S8448x1 (constant S_ .f32 0x44800000#32))) (broadcastInDim S8448x1 ![] bcast_S_S8448x1 (constant S_ .f32 0x3727C5AC#32))
def nrm (X : FVec Ideal S8448x1024 .f32) (V : FVec Ideal S8448x1 .f32) (G : FVec Ideal S1x1024 .f32) : FVec Ideal S8448x1024 .bf16 :=
  truncf .bf16 (mulf (mulf X (broadcastInDim S8448x1024 ![0, 1] bcast_S8448x1_S8448x1024_0_1 (Host.rsqrt V))) (broadcastInDim S8448x1024 ![0, 1] bcast_S1x1024_S8448x1024_0_1 (broadcastInDim S1x1024 ![1] bcast_S1024_S1x1024_1 (shapeCast _ G shapeCasts_S1x1024_S1024)))) bitsLt_bf16_f32

theorem cat_left (A : FVec Ideal S8448x512 .bf16) (B : FVec Ideal S8448x1536 .bf16) (r : Fin 8448) (k : Fin 512) :
    cat A B (ix2 r (Fin.castAdd 1536 k)) = A (ix2 r k) :=
  concatenate_pair_apply_left (t := S8448x2048) (s₁ := S8448x512) (s₂ := S8448x1536) 1 _ _ _ _ rfl (ix2 r k)
    (fun b => by match b with | ⟨0, _⟩ => rfl | ⟨1, _⟩ => rfl)
theorem cat_right (A : FVec Ideal S8448x512 .bf16) (B : FVec Ideal S8448x1536 .bf16) (r : Fin 8448) (k : Fin 1536) :
    cat A B (ix2 r (Fin.natAdd 512 k)) = B (ix2 r k) :=
  concatenate_pair_apply_right (t := S8448x2048) (s₁ := S8448x512) (s₂ := S8448x1536) 1 _ _ _ _ rfl rfl (ix2 r k)
    (fun b hb => by match b, hb with | ⟨0, _⟩, _ => rfl | ⟨1, _⟩, hb => exact absurd rfl hb) (Nat.add_comm k.val 512)
theorem tot_eq (A : FVec Ideal S8448x512 .bf16) (B : FVec Ideal S8448x1536 .bf16) (W : FVec Ideal S2048x1024 .bf16) (H : FVec Ideal S8448x1024 .f32) :
    tot (cat A B) W H = Cert.OutProjIdeal.sumOf (n := 8448) A B W H := by
  funext y
  idx_vars y
  pointwise [tot, Cert.OutProjIdeal.sumOf, Cert.OutProjIdeal.sumAt, Cert.OutProjIdeal.rowsFrom]
  rw [add_comm]
  refine congrArg (fun u : EReal => u + _) ((Fin.sum_univ_add (a := 512) (b := 1536) (fun k : Fin 2048 => cat A B (ix2 y0 k) * W (ix2 k y1))).trans
    (congrArg₂ (fun u v : EReal => u + v) (Finset.sum_congr rfl fun k _ => congrArg₂ (fun u v : EReal => u * v) (cat_left A B y0 k) (congrArg (fun z => W (ix2 z y1)) (Fin.ext ?_)))
      (Finset.sum_congr rfl fun k _ => congrArg₂ (fun u v : EReal => u * v) (cat_right A B y0 k) rfl)))
  rfl
theorem var_at (X : FVec Ideal S8448x1024 .f32) (r : Fin 8448) (z : Fin 1) : var X (ix2 r z) = msAt (n := 8448) X r + cE := by
  pointwise [var, msAt, cN, cE]
theorem nrm_eq (X : FVec Ideal S8448x1024 .f32) (G : FVec Ideal S1x1024 .f32) : nrm X (var X) G = Cert.OutProjIdeal.normAt (n := 8448) X G := by
  funext y
  idx_vars y
  pointwise [nrm, Cert.OutProjIdeal.normAt, rsAt, var_at]
end Cert.OutProjRefIdeal.Done

namespace Cert.OutProjIdeal.Done
open Cert.OutProjIdeal Cert.OutProjIdeal.Gen Norm

theorem pay2_at (a : Vec Ideal S1056x512 .bf16) (b : Vec Ideal S1056x1536 .bf16) (u : Vec Ideal S512x512 .bf16) (v : Vec Ideal S1536x512 .bf16) (h : Vec Ideal S1056x512 .f32) (y : S1056x512.Idx) :
    k0_pay2 (F := Ideal) a b u v h y = (∑ k : Fin 512, a (ix2 (y 0) k) * u (ix2 k (y 1))) + (∑ k : Fin 1536, b (ix2 (y 0) k) * v (ix2 k (y 1))) + h y := by
  idx_vars y
  pointwise [k0_pay2]
theorem pay5_at (x : Vec Ideal S1056x1024 .f32) (r : Fin 1056) (z : Fin 1) : k0_pay5 (F := Ideal) x (ix2 r z) = msAt (n := 1056) x r := by
  pointwise [k0_pay5, k0_pay4, msAt, cN]
theorem pay1_eq (x : Vec Ideal S1056x1024 .f32) (g : Vec Ideal S1x1024 .f32) :
    k0_pay1 (F := Ideal) (k0_pay4 x) (k0_pay5 x) g = normAt (n := 1056) x g := by
  funext y
  idx_vars y
  pointwise [k0_pay1, k0_pay4, pay5_at, normAt, rsAt, cE]

/-- A column block of a tile. -/
theorem tile_at (a : FVec Ideal S1056x512 .bf16) (b : FVec Ideal S1056x1536 .bf16) (u : FVec Ideal S512x1024 .bf16) (v : FVec Ideal S1536x1024 .bf16) (h : FVec Ideal S1056x1024 .f32) (p : Fin 2)
    {o : Fin 2 → ℕ} (iu : ∀ i, o i + ![512, 512] i ≤ S512x1024.size i) (iv : ∀ i, o i + ![1536, 512] i ≤ S1536x1024.size i) (ih : ∀ i, o i + ![1056, 512] i ≤ S1056x1024.size i)
    (ho : o = ![0, 512 * p.val]) (j : S1056x512.Idx) :
    k0_pay2 (F := Ideal) a b (View.ld u (Rect.unit (s := S512x1024) o ![512, 512] iu)) (View.ld v (Rect.unit (s := S1536x1024) o ![1536, 512] iv)) (View.ld h (Rect.unit (s := S1056x1024) o ![1056, 512] ih)) j
      = sumAt (n := 1056) a b u v h ((Rect.unit (s := S1056x1024) o ![1056, 512] ih).emb j) := by
  subst ho
  rw [pay2_at]
  unfold sumAt
  refine congrArg₂ (fun u v : EReal => u + v) (congrArg₂ (fun u v : EReal => u + v)
    (Finset.sum_congr rfl fun k _ => congrArg₂ (fun u v : EReal => u * v) (congrArg a (funext fun i => Fin.ext ?_)) (congrArg u (funext fun i => Fin.ext ?_)))
    (Finset.sum_congr rfl fun k _ => congrArg₂ (fun u v : EReal => u * v) (congrArg b (funext fun i => Fin.ext ?_)) (congrArg v (funext fun i => Fin.ext ?_)))) rfl
  all_goals
    match i with
    | ⟨0, _⟩ => simp
    | ⟨1, _⟩ => simp

theorem out_eq (a : FVec Ideal S1056x512 .bf16) (b : FVec Ideal S1056x1536 .bf16) (u : FVec Ideal S512x1024 .bf16) (v : FVec Ideal S1536x1024 .bf16) (h : FVec Ideal S1056x1024 .f32) :
    View.canon ([⟨Rect.unit (s := S1056x1024) ![0, 512] ![1056, 512] inb_S1056x1024_S1056x512_0_512,
          k0_pay3 (F := Ideal) a b (View.ld u (Rect.unit (s := S512x1024) ![0, 512] ![512, 512] inb_S512x1024_S512x512_0_512)) (View.ld v (Rect.unit (s := S1536x1024) ![0, 512] ![1536, 512] inb_S1536x1024_S1536x512_0_512))
            (View.ld h (Rect.unit (s := S1056x1024) ![0, 512] ![1056, 512] inb_S1056x1024_S1056x512_0_512))⟩,
        ⟨Rect.unit (s := S1056x1024) ![0, 0] ![1056, 512] inb_S1056x1024_S1056x512_0_0,
          k0_pay2 (F := Ideal) a b (View.ld u (Rect.unit (s := S512x1024) ![0, 0] ![512, 512] inb_S512x1024_S512x512_0_0)) (View.ld v (Rect.unit (s := S1536x1024) ![0, 0] ![1536, 512] inb_S1536x1024_S1536x512_0_0))
            (View.ld h (Rect.unit (s := S1056x1024) ![0, 0] ![1056, 512] inb_S1056x1024_S1056x512_0_0))⟩] : List (View.Piece (Elt Ideal) S1056x1024 .f32))
      = sumAt (n := 1056) a b u v h := by
  funext y
  exact View.canon_append_of_piecesOf _ [] [_, _]
    ⟨fun j => tile_at a b u v h 1 _ _ _ rfl j, fun j => tile_at a b u v h 0 _ _ _ rfl j, trivial⟩ y (View.cover_of_tiledBy _ ![1056, 512] (by sl_kernel_rfl) y)

variable (m : (ℓ : Loc nD τ sig) → Buf (Elt Ideal) ℓ) (c : Dev nD)

/-- The input blocks of a point. -/
def blkA (t : Fin cfg0.N) : FVec Ideal S1056x512 .bf16 := iblk m c 0 t
def blkB (t : Fin cfg0.N) : FVec Ideal S1056x1536 .bf16 := iblk m c 1 t
def blkU (t : Fin cfg0.N) : FVec Ideal S512x1024 .bf16 := iblk m c 2 t
def blkV (t : Fin cfg0.N) : FVec Ideal S1536x1024 .bf16 := iblk m c 3 t
def blkH (t : Fin cfg0.N) : FVec Ideal S1056x1024 .f32 := iblk m c 4 t
def blkG (t : Fin cfg0.N) : FVec Ideal S1x1024 .f32 := iblk m c 5 t
/-- A point's rows of the residual sum. -/
def rows (t : Fin cfg0.N) : FVec Ideal S1056x1024 .f32 := sumAt (n := 1056) (blkA m c t) (blkB m c t) (blkU m c t) (blkV m c t) (blkH m c t)

theorem after6 (t : Fin cfg0.N) : (dats m 0 c).after 6 t = rows m c t := by
  rw [after0_6]
  show (outsAt0 m c t).1 = _
  unfold outsAt0
  frame_out
  exact out_eq (blkA m c t) (blkB m c t) (blkU m c t) (blkV m c t) (blkH m c t)
theorem after7 (t : Fin cfg0.N) : (dats m 0 c).after 7 t = normAt (n := 1056) (rows m c t) (blkG m c t) := by
  rw [after0_7]
  show (outsAt0 m c t).2 = _
  unfold outsAt0
  frame_out
  exact (congrArg (fun x => k0_pay1 (F := Ideal) (k0_pay4 x) (k0_pay5 x) (blkG m c t))
    ((ReadAll.readCov_all (S := S1056x1024) _ _ _ (by decide)).trans (out_eq (blkA m c t) (blkB m c t) (blkU m c t) (blkV m c t) (blkH m c t)))).trans (pay1_eq (rows m c t) (blkG m c t))

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The two slices of the weight the host takes before the call. -/
theorem V_v0 : V m c main_v0 = rowsFrom (k := 512) 0 (by decide) (m ((c : Thread nD τ).loc main_arg2)) := by
  have e : V m c main_v0 = extractStridedSlice S512x1024 ![0, 0] (m ((c : Thread nD τ).loc main_arg2)) slices_S2048x1024_S512x1024_0_0 := by
    unfold V hostOps0
    after_results
  rw [e]
  funext y
  exact congrArg (m ((c : Thread nD τ).loc main_arg2)) (funext fun a => Fin.ext (by match a with | ⟨0, _⟩ => rfl | ⟨1, _⟩ => exact Nat.zero_add _))
theorem V_v1 : V m c main_v1 = rowsFrom (k := 1536) 512 (by decide) (m ((c : Thread nD τ).loc main_arg2)) := by
  have e : V m c main_v1 = extractStridedSlice S1536x1024 ![512, 0] (m ((c : Thread nD τ).loc main_arg2)) slices_S2048x1024_S1536x1024_512_0 := by
    unfold V hostOps0
    after_results
  rw [e]
  funext y
  exact congrArg (m ((c : Thread nD τ).loc main_arg2)) (funext fun a => Fin.ext (by match a with | ⟨0, _⟩ => rfl | ⟨1, _⟩ => exact Nat.zero_add _))
theorem blkA_at (t : Fin cfg0.N) (r : Fin 1056) (k : Fin 512) (i : Fin 8448) (hi : i.val = t.val * 1056 + r.val) :
    blkA m c t (ix2 r k) = m ((c : Thread nD τ).loc main_arg0) (ix2 i k) := by
  have h0 := idx0 t
  show V m c main_arg0 ((win0_0.blk t).view.emb (ix2 r k : S1056x512.Idx)) = _
  rw [V_main_arg0]
  refine congrArg _ (funext fun a => Fin.ext ?_)
  match a with
  | ⟨0, _⟩ => blk_simp [h0]; exact hi.symm
  | ⟨1, _⟩ => blk_simp [h0]
theorem blkB_at (t : Fin cfg0.N) (r : Fin 1056) (k : Fin 1536) (i : Fin 8448) (hi : i.val = t.val * 1056 + r.val) :
    blkB m c t (ix2 r k) = m ((c : Thread nD τ).loc main_arg1) (ix2 i k) := by
  have h0 := idx1 t
  show V m c main_arg1 ((win0_1.blk t).view.emb (ix2 r k : S1056x1536.Idx)) = _
  rw [V_main_arg1]
  refine congrArg _ (funext fun a => Fin.ext ?_)
  match a with
  | ⟨0, _⟩ => blk_simp [h0]; exact hi.symm
  | ⟨1, _⟩ => blk_simp [h0]
theorem blkH_at (t : Fin cfg0.N) (r : Fin 1056) (k : Fin 1024) (i : Fin 8448) (hi : i.val = t.val * 1056 + r.val) :
    blkH m c t (ix2 r k) = m ((c : Thread nD τ).loc main_arg3) (ix2 i k) := by
  have h0 := idx4 t
  show V m c main_arg3 ((win0_4.blk t).view.emb (ix2 r k : S1056x1024.Idx)) = _
  rw [V_main_arg3]
  refine congrArg _ (funext fun a => Fin.ext ?_)
  match a with
  | ⟨0, _⟩ => blk_simp [h0]; exact hi.symm
  | ⟨1, _⟩ => blk_simp [h0]
theorem blkU_eq (t : Fin cfg0.N) : blkU m c t = rowsFrom (k := 512) 0 (by decide) (m ((c : Thread nD τ).loc main_arg2)) := by
  have h0 := idx2 t
  funext y
  show V m c main_v0 ((win0_2.blk t).view.emb (y : S512x1024.Idx)) = _
  rw [V_v0]
  refine congrArg _ (funext fun a => Fin.ext ?_)
  match a with
  | ⟨0, _⟩ => blk_simp [h0]
  | ⟨1, _⟩ => blk_simp [h0]
theorem blkV_eq (t : Fin cfg0.N) : blkV m c t = rowsFrom (k := 1536) 512 (by decide) (m ((c : Thread nD τ).loc main_arg2)) := by
  have h0 := idx3 t
  funext y
  show V m c main_v1 ((win0_3.blk t).view.emb (y : S1536x1024.Idx)) = _
  rw [V_v1]
  refine congrArg _ (funext fun a => Fin.ext ?_)
  match a with
  | ⟨0, _⟩ => blk_simp [h0]
  | ⟨1, _⟩ => blk_simp [h0]
theorem blkG_eq (t : Fin cfg0.N) : blkG m c t = m ((c : Thread nD τ).loc main_arg4) := by
  have h0 := idx5 t
  funext y
  show V m c main_arg4 ((win0_5.blk t).view.emb (y : S1x1024.Idx)) = _
  rw [V_main_arg4]
  refine congrArg _ (funext fun a => Fin.ext ?_)
  match a with
  | ⟨0, _⟩ => blk_simp [h0]
  | ⟨1, _⟩ => blk_simp [h0]

/-- The whole residual sum. -/
def total : FVec Ideal S8448x1024 .f32 :=
  sumOf (n := 8448) (m ((c : Thread nD τ).loc main_arg0)) (m ((c : Thread nD τ).loc main_arg1)) (m ((c : Thread nD τ).loc main_arg2)) (m ((c : Thread nD τ).loc main_arg3))
/-- A tile's row is a row of the arrays. -/
theorem rows_at (t : Fin cfg0.N) (r : Fin 1056) (k : Fin 1024) (i : Fin 8448) (hi : i.val = t.val * 1056 + r.val) : rows m c t (ix2 r k) = total m c (ix2 i k) := by
  unfold rows
  rw [blkU_eq, blkV_eq]
  exact congrArg₂ (fun u v : EReal => u + v) (congrArg₂ (fun u v : EReal => u + v)
    (Finset.sum_congr rfl fun l _ => congrArg (fun u : EReal => u * _) (blkA_at m c t r l i hi))
    (Finset.sum_congr rfl fun l _ => congrArg (fun u : EReal => u * _) (blkB_at m c t r l i hi))) (blkH_at m c t r k i hi)
theorem norm_at (t : Fin cfg0.N) (r : Fin 1056) (k : Fin 1024) (i : Fin 8448) (hi : i.val = t.val * 1056 + r.val) :
    normAt (n := 1056) (rows m c t) (blkG m c t) (ix2 r k) = normAt (n := 8448) (total m c) (m ((c : Thread nD τ).loc main_arg4)) (ix2 i k) := by
  have hs : rsAt (n := 1056) (rows m c t) r = rsAt (n := 8448) (total m c) i := by
    unfold rsAt msAt
    simp only [rows_at m c t r _ i hi]
  rw [blkG_eq]
  exact congrArg (fun u : EReal => u * _) (congrArg₂ (fun u v : EReal => u * v) (rows_at m c t r k i hi) hs)
theorem final6 : (dats m 0 c).arrAt 6 cfg0.N = total m c := by
  refine (dats m 0 c).arrAt_eq_of_covers 6 _ (by decide +kernel) fun t _ y => ?_
  have hi := idx6 t
  rw [after6]
  have e0 : ((((win0_6.blk t).view.emb y) 0 : Fin 8448)).val = t.val * 1056 + (y 0).val := by blk_simp [hi]
  have e1 : (((win0_6.blk t).view.emb y) 1 : Fin 1024) = y 1 := Fin.ext (by blk_simp [hi])
  refine (congrArg (rows m c t) (eq_ix2 (y : S1056x1024.Idx))).trans ((rows_at m c t (y 0) (y 1) _ e0).trans (congrArg (total m c) ?_))
  rw [← e1]
  exact (eq_ix2 _).symm
theorem final7 : (dats m 0 c).arrAt 7 cfg0.N = normAt (n := 8448) (total m c) (m ((c : Thread nD τ).loc main_arg4)) := by
  refine (dats m 0 c).arrAt_eq_of_covers 7 _ (by decide +kernel) fun t _ y => ?_
  have hi := idx7 t
  rw [after7]
  have e0 : ((((win0_7.blk t).view.emb y) 0 : Fin 8448)).val = t.val * 1056 + (y 0).val := by blk_simp [hi]
  have e1 : (((win0_7.blk t).view.emb y) 1 : Fin 1024) = y 1 := Fin.ext (by blk_simp [hi])
  refine (congrArg (normAt (n := 1056) (rows m c t) (blkG m c t)) (eq_ix2 (y : S1056x1024.Idx))).trans ((norm_at m c t (y 0) (y 1) _ e0).trans (congrArg (normAt (n := 8448) (total m c) (m ((c : Thread nD τ).loc main_arg4))) ?_))
  rw [← e1]
  exact (eq_ix2 _).symm

open Cert.OutProjRefIdeal.Done in
theorem value : algebraic_OutProjIdeal_OutProjRefIdeal (hOutProjIdeal := Cert.OutProjIdeal.Gen.facts) (hOutProjRefIdeal := Cert.OutProjRefIdeal.Gen.facts) := by
  intro m ρ m' ρ' _ hagree
  refine ⟨fun c => (dats m 0 c).arrAt 6 cfg0.N, fun c => (dats m 0 c).arrAt 7 cfg0.N, Cert.OutProjIdeal.Value.run_blocks (F := Ideal) m ρ, ?_⟩
  refine (θ_run Cert.OutProjRefIdeal.defs _ _).mono (fun _ h c => ?_) (Cert.OutProjRefIdeal.Value.run (F := Ideal) m' ρ')
  obtain ⟨h0, h1, hargs⟩ := h c
  obtain ⟨a0, a1, a2, a3, a4⟩ := hagree c
  refine ⟨h0.trans ?_, h1.trans ?_, hargs⟩
  · refine Eq.trans ?_ (final6 m c).symm
    show tot (cat _ _) _ _ = _
    rw [tot_eq, a0, a1, a2, a3]
    rfl
  · refine Eq.trans ?_ (final7 m c).symm
    show nrm (tot (cat _ _) _ _) (var (tot (cat _ _) _ _)) _ = _
    rw [nrm_eq, tot_eq, a0, a1, a2, a3, a4]
    rfl
end Cert.OutProjIdeal.Done
end
-- ==== Proof.ProjXbc.lean ====
module
public import proofs.«01_k».proof.Defs
public import proofs.«01_k».proof.Proof.Gen.ProjXbc.Frame
public import proofs.«01_k».proof.Proof.Gen.ProjXbcIdeal.Value
public import proofs.«01_k».proof.Proof.Gen.ProjXbcRefIdeal.Run
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.ProjXbcIdeal

/-! ## The projection and the causal convolution after it -/

variable {n j : ℕ}
/-- One entry of the projection: a row of the input times a row of the weight. -/
def projAt (a : FVec Ideal ⟨2, ![n, 1024]⟩ .bf16) (w : FVec Ideal ⟨2, ![j, 1024]⟩ .bf16) : FVec Ideal ⟨2, ![n, j]⟩ .f32 := fun y =>
  ∑ k : Fin 1024, a (ix2 (y 0) k) * w (ix2 (y 1) k)
/-- The rows moved down by `d`, with the last `d` of eight rows before them. -/
def backAt (d : ℕ) (hd : d ≤ 8) (x : FVec Ideal ⟨2, ![n, j]⟩ .f32) (tl : FVec Ideal ⟨2, ![8, j]⟩ .f32) : FVec Ideal ⟨2, ![n, j]⟩ .f32 := fun y =>
  if h : (y 0).val < d then tl (ix2 ⟨8 + (y 0).val - d, by omega⟩ (y 1))
  else x (ix2 ⟨(y 0).val - d, by have h : (y 0).val < n := (y 0).isLt; omega⟩ (y 1))
/-- The convolution's sum at one entry, from the four shifted rows. -/
def preAt (x : FVec Ideal ⟨2, ![n, j]⟩ .f32) (tl : FVec Ideal ⟨2, ![8, j]⟩ .f32) (b w0 w1 w2 w3 : Fin j → EReal) : FVec Ideal ⟨2, ![n, j]⟩ .f32 := fun y =>
  b (y 1) + w0 (y 1) * backAt 3 (by decide) x tl y + w1 (y 1) * backAt 2 (by decide) x tl y + w2 (y 1) * backAt 1 (by decide) x tl y + w3 (y 1) * backAt 0 (by decide) x tl y
/-- `p` times its logistic function. -/
def siluAt (p : EReal) : EReal := p * Ideal.div 1 (1 + Ideal.exp (0 - p))
theorem projAt_congr {n' : ℕ} (a : FVec Ideal ⟨2, ![n, 1024]⟩ .bf16) (a' : FVec Ideal ⟨2, ![n', 1024]⟩ .bf16) (w : FVec Ideal ⟨2, ![j, 1024]⟩ .bf16) (r : Fin n) (i : Fin n') (l : Fin j)
    (h : ∀ k, a (ix2 r k) = a' (ix2 i k)) : projAt a w (ix2 r l) = projAt a' w (ix2 i l) :=
  Finset.sum_congr rfl fun k _ => congrArg (fun u : EReal => u * w (ix2 l k)) (h k)
/-- The convolution of all the rows, taken as one sequence with zeros before it. -/
def wholeAt (x : FVec Ideal ⟨2, ![8448, 2560]⟩ .f32) (cw : FVec Ideal ⟨2, ![4, 2560]⟩ .f32) (cb : FVec Ideal ⟨2, ![1, 2560]⟩ .f32) : FVec Ideal ⟨2, ![8448, 2560]⟩ .bf16 := fun y =>
  siluAt (preAt x (fun _ => 0) (fun l => cb (ix2 0 l)) (fun l => cw (ix2 0 l)) (fun l => cw (ix2 1 l)) (fun l => cw (ix2 2 l)) (fun l => cw (ix2 3 l)) y)
end Cert.ProjXbcIdeal

namespace Cert.ProjXbcRefIdeal.Done
open Cert.ProjXbcRefIdeal Cert.ProjXbcRefIdeal.Gen
open Cert.ProjXbcIdeal (projAt backAt preAt siluAt wholeAt)

/-! ### The reference's pieces -/

/-- The projection, the rows with three zero rows before them, a row of a two-axis array in every row,
    the sum of the four products, the product with the logistic function. -/
def xbc (A : FVec Ideal S8448x1024 .bf16) (W : FVec Ideal S2560x1024 .bf16) : FVec Ideal S8448x2560 .f32 :=
  Host.dotGeneral dot_S8448x1024_S2560x1024_S8448x2560_1_1_0_0_n_n none (extf .f32 A bitsLt_bf16_f32) (extf .f32 W bitsLt_bf16_f32)
def padded (X : FVec Ideal S8448x2560 .f32) : FVec Ideal S8451x2560 .f32 :=
  concatenate S8451x2560 0 [⟨S3x2560, (broadcastInDim S3x2560 ![] bcast_S_S3x2560 (constant S_ .f32 0x00000000#32))⟩, ⟨S8448x2560, X⟩] concatenates_S3x2560_S8448x2560_S8451x2560_d0
def spread (v : FVec Ideal S1x2560 .f32) : FVec Ideal S8448x2560 .f32 :=
  broadcastInDim S8448x2560 ![0, 1] bcast_S1x2560_S8448x2560_0_1 (broadcastInDim S1x2560 ![1] bcast_S2560_S1x2560_1 (shapeCast _ v shapeCasts_S1x2560_S2560))
def pre (T0 T1 T2 T3 : FVec Ideal S8448x2560 .f32) (C : FVec Ideal S4x2560 .f32) (B : FVec Ideal S1x2560 .f32) : FVec Ideal S8448x2560 .f32 :=
  addf (addf (addf (addf (addf (broadcastInDim S8448x2560 ![] bcast_S_S8448x2560 (constant S_ .f32 0x00000000#32))
    (mulf T0 (spread (extractStridedSlice S1x2560 ![0, 0] C slices_S4x2560_S1x2560_0_0)))) (mulf T1 (spread (extractStridedSlice S1x2560 ![1, 0] C slices_S4x2560_S1x2560_1_0))))
    (mulf T2 (spread (extractStridedSlice S1x2560 ![2, 0] C slices_S4x2560_S1x2560_2_0)))) (mulf T3 (spread (extractStridedSlice S1x2560 ![3, 0] C slices_S4x2560_S1x2560_3_0)))) (spread B)
def silu (Q : FVec Ideal S8448x2560 .f32) : FVec Ideal S8448x2560 .bf16 :=
  truncf .bf16 (mulf Q (Host.divf (broadcastInDim S8448x2560 ![] bcast_S_S8448x2560 (constant S_ .f32 0x3F800000#32)) (addf (broadcastInDim S8448x2560 ![] bcast_S_S8448x2560 (constant S_ .f32 0x3F800000#32)) (Host.exp (Host.negf Q))))) bitsLt_bf16_f32

theorem xbc_eq (A : FVec Ideal S8448x1024 .bf16) (W : FVec Ideal S2560x1024 .bf16) : xbc A W = projAt (n := 8448) (j := 2560) A W := by
  funext y
  idx_vars y
  pointwise [xbc, projAt]
/-- Going `3 - d` rows down in the padded rows is going `d` rows back. -/
theorem tap_at (d k : ℕ) (hd : d + k = 3) (X : FVec Ideal S8448x2560 .f32) (h : S8451x2560.Slices ![k, 0] S8448x2560) (r : Fin 8448) (l : Fin 2560) :
    extractStridedSlice S8448x2560 ![k, 0] (padded X) h (ix2 r l) = backAt (n := 8448) (j := 2560) d (by omega) X (fun _ => 0) (ix2 r l) := by
  have e : extractStridedSlice S8448x2560 ![k, 0] (padded X) h (ix2 r l) = padded X (ix2 ⟨k + r.val, by omega⟩ l) := by
    refine congrArg (padded X) (funext fun a => Fin.ext ?_)
    match a with
    | ⟨0, _⟩ => rfl
    | ⟨1, _⟩ => exact Nat.zero_add _
  rw [e]
  show _ = if h : r.val < d then (0 : EReal) else X (ix2 ⟨r.val - d, by omega⟩ l)
  by_cases hr : r.val < d
  · rw [dif_pos hr]
    refine (concatenate_pair_apply_left (t := S8451x2560) (s₁ := S3x2560) (s₂ := S8448x2560) 0 _ _ _ (ix2 ⟨k + r.val, by omega⟩ l) rfl (ix2 ⟨k + r.val, by omega⟩ l)
      (fun b => by match b with | ⟨0, _⟩ => rfl | ⟨1, _⟩ => rfl)).trans ?_
    pointwise
  · rw [dif_neg hr]
    exact concatenate_pair_apply_right (t := S8451x2560) (s₁ := S3x2560) (s₂ := S8448x2560) 0 _ _ _ (ix2 ⟨k + r.val, by omega⟩ l) rfl rfl (ix2 ⟨r.val - d, by omega⟩ l)
      (fun b hb => by match b, hb with | ⟨0, _⟩, hb => exact absurd rfl hb | ⟨1, _⟩, _ => rfl) (by show r.val - d + 3 = k + r.val; omega)
theorem spread_at (v : FVec Ideal S1x2560 .f32) (r : Fin 8448) (l : Fin 2560) : spread v (ix2 r l) = v (ix2 0 l) := by
  pointwise [spread]
theorem pre_at (T0 T1 T2 T3 : FVec Ideal S8448x2560 .f32) (C : FVec Ideal S4x2560 .f32) (B : FVec Ideal S1x2560 .f32) (r : Fin 8448) (l : Fin 2560) :
    pre T0 T1 T2 T3 C B (ix2 r l) = B (ix2 0 l) + C (ix2 0 l) * T0 (ix2 r l) + C (ix2 1 l) * T1 (ix2 r l) + C (ix2 2 l) * T2 (ix2 r l) + C (ix2 3 l) * T3 (ix2 r l) := by
  have e : pre T0 T1 T2 T3 C B (ix2 r l) = 0 + T0 (ix2 r l) * C (ix2 0 l) + T1 (ix2 r l) * C (ix2 1 l) + T2 (ix2 r l) * C (ix2 2 l) + T3 (ix2 r l) * C (ix2 3 l) + B (ix2 0 l) := by
    pointwise [pre, spread]
  rw [e, zero_add, add_comm _ (B (ix2 0 l))]
  simp only [mul_comm, add_assoc]
theorem silu_at (Q : FVec Ideal S8448x2560 .f32) (r : Fin 8448) (l : Fin 2560) : silu Q (ix2 r l) = siluAt (Q (ix2 r l)) := by
  have e : silu Q (ix2 r l) = Q (ix2 r l) * Ideal.div 1 (1 + Ideal.exp (-Q (ix2 r l))) := by
    pointwise [silu]
  rw [e, siluAt, zero_sub]
theorem out_eq (X : FVec Ideal S8448x2560 .f32) (C : FVec Ideal S4x2560 .f32) (B : FVec Ideal S1x2560 .f32) :
    silu (pre (extractStridedSlice S8448x2560 ![0, 0] (padded X) slices_S8451x2560_S8448x2560_0_0) (extractStridedSlice S8448x2560 ![1, 0] (padded X) slices_S8451x2560_S8448x2560_1_0)
      (extractStridedSlice S8448x2560 ![2, 0] (padded X) slices_S8451x2560_S8448x2560_2_0) (extractStridedSlice S8448x2560 ![3, 0] (padded X) slices_S8451x2560_S8448x2560_3_0) C B) = wholeAt X C B := by
  funext y
  idx_vars y
  rw [silu_at, pre_at, tap_at 3 0 rfl, tap_at 2 1 rfl, tap_at 1 2 rfl, tap_at 0 3 rfl]
  rfl
end Cert.ProjXbcRefIdeal.Done

namespace Cert.ProjXbcIdeal.Done
open Cert.ProjXbcIdeal Cert.ProjXbcIdeal.Gen

theorem pay5_at (x : Vec Ideal S768x512 .f32) (tl : Vec Ideal S8x512 .f32) (k : Fin 776) (l : Fin 512) :
    k0_pay5 (F := Ideal) x tl (ix2 k l) = if h : k.val < 8 then tl (ix2 ⟨k.val, h⟩ l) else x (ix2 ⟨k.val - 8, by omega⟩ l) := by
  pointwise [k0_pay5, k0_pay4]
theorem shift_at (d : ℕ) (hd : d ≤ 8) (w : BitVec 32) (hw : w.toNat = d) (E : FVec Ideal S776x512 .f32) (r : Fin 768) (l : Fin 512) :
    extractStridedSlice S768x512 ![8, 0] (dynamicRotate 0 w none E rotates_S776x512_d0) slices_S776x512_o8_0_S768x512 (ix2 r l) = E (ix2 ⟨8 + r.val - d, by omega⟩ l) := by
  refine congrArg E (funext fun a => Fin.ext ?_)
  match a with
  | ⟨0, _⟩ =>
    show ((8 + r.val) + 776 - (w.toNat + 0) % 776) % 776 = 8 + r.val - d
    omega
  | ⟨1, _⟩ => exact Nat.zero_add _
theorem unshift_at (E : FVec Ideal S776x512 .f32) (r : Fin 768) (l : Fin 512) :
    extractStridedSlice S768x512 ![8, 0] E slices_S776x512_o8_0_S768x512 (ix2 r l) = E (ix2 ⟨8 + r.val - 0, by omega⟩ l) := by
  refine congrArg E (funext fun a => Fin.ext ?_)
  match a with
  | ⟨0, _⟩ => rfl
  | ⟨1, _⟩ => exact Nat.zero_add _
theorem back_at (d : ℕ) (hd : d ≤ 8) (x : Vec Ideal S768x512 .f32) (tl : Vec Ideal S8x512 .f32) (r : Fin 768) (l : Fin 512) :
    k0_pay5 (F := Ideal) x tl (ix2 ⟨8 + r.val - d, by omega⟩ l) = backAt (n := 768) (j := 512) d hd x tl (ix2 r l) := by
  rw [pay5_at]
  show _ = if h : r.val < d then tl (ix2 ⟨8 + r.val - d, by omega⟩ l) else x (ix2 ⟨r.val - d, by omega⟩ l)
  by_cases h : r.val < d
  · rw [dif_pos h, dif_pos (show 8 + r.val - d < 8 by omega)]
  · rw [dif_neg h, dif_neg (show ¬ 8 + r.val - d < 8 by omega)]
    exact congrArg x (congrArg (fun i => ix2 i l) (Fin.ext (by show 8 + r.val - d - 8 = r.val - d; omega)))

/-- The convolution of a slab of columns. -/
def conv (x : Vec Ideal S768x512 .f32) (tl : Vec Ideal S8x512 .f32) (b w0 w1 w2 w3 : Vec Ideal S1x512 .f32) : Vec Ideal S768x512 .bf16 :=
  k0_pay10 (F := Ideal) (k0_pay6 x tl) (k0_pay7 x tl) (k0_pay8 x tl) (k0_pay9 x tl b w0) w1 w2 w3
/-- A row of one as a function of its column. -/
abbrev row1 {k : ℕ} (v : FVec Ideal ⟨2, ![1, k]⟩ .f32) : Fin k → EReal := fun l => v (ix2 0 l)
theorem pay10_at (t3 t2 t1 t0 : FVec Ideal S768x512 .f32) (b w0 w1 w2 w3 : Vec Ideal S1x512 .f32) (r : Fin 768) (l : Fin 512) :
    k0_pay10 (F := Ideal) t2 t1 t0 (addf (broadcastTo S768x512 b broadcasts_S1x512_S768x512) (mulf (broadcastTo S768x512 w0 broadcasts_S1x512_S768x512) t3)) w1 w2 w3 (ix2 r l)
      = siluAt (row1 b l + row1 w0 l * t3 (ix2 r l) + row1 w1 l * t2 (ix2 r l) + row1 w2 l * t1 (ix2 r l) + row1 w3 l * t0 (ix2 r l)) := by
  pointwise [k0_pay10, siluAt]
theorem conv_at (x : Vec Ideal S768x512 .f32) (tl : Vec Ideal S8x512 .f32) (b w0 w1 w2 w3 : Vec Ideal S1x512 .f32) (r : Fin 768) (l : Fin 512) :
    conv x tl b w0 w1 w2 w3 (ix2 r l) = siluAt (preAt (n := 768) (j := 512) x tl (row1 b) (row1 w0) (row1 w1) (row1 w2) (row1 w3) (ix2 r l)) := by
  have e : conv x tl b w0 w1 w2 w3 = k0_pay10 (F := Ideal) (k0_pay6 x tl) (k0_pay7 x tl) (k0_pay8 x tl)
      (addf (broadcastTo S768x512 b broadcasts_S1x512_S768x512) (mulf (broadcastTo S768x512 w0 broadcasts_S1x512_S768x512)
        (extractStridedSlice S768x512 ![8, 0] (dynamicRotate 0 3#32 none (k0_pay5 (F := Ideal) x tl) rotates_S776x512_d0) slices_S776x512_o8_0_S768x512))) w1 w2 w3 := rfl
  rw [e, pay10_at]
  unfold k0_pay6 k0_pay7 k0_pay8
  rw [shift_at 3 (by decide) 3#32 rfl, shift_at 2 (by decide) 2#32 rfl, shift_at 1 (by decide) 1#32 rfl, unshift_at, back_at, back_at, back_at, back_at]
  rfl
theorem conv1 (x : Vec Ideal S768x512 .f32) (tl : Vec Ideal S8x512 .f32) (b w0 w1 w2 w3 : Vec Ideal S1x512 .f32) :
    k0_pay15 (F := Ideal) (k0_pay13 x) tl 1#1 k0_pay14 b w0 w1 w2 w3 = conv x tl b w0 w1 w2 w3 := rfl
theorem conv2 (x : Vec Ideal S768x512 .f32) (tl : Vec Ideal S8x512 .f32) (b w0 w1 w2 w3 : Vec Ideal S1x512 .f32) :
    k0_pay24 (F := Ideal) (k0_pay21 x tl) (k0_pay22 x tl b w0 w1 w2) (k0_pay23 w3) = conv x tl b w0 w1 w2 w3 := rfl
theorem conv3 (x : Vec Ideal S768x512 .f32) (tl : Vec Ideal S8x512 .f32) (b w0 w1 w2 w3 : Vec Ideal S1x512 .f32) :
    k0_pay33 (F := Ideal) (k0_pay29 x tl) (k0_pay30 x tl) (k0_pay31 x tl) (k0_pay32 x tl) b w0 w1 w2 w3 = conv x tl b w0 w1 w2 w3 := rfl
theorem conv4 (x : Vec Ideal S768x512 .f32) (tl : Vec Ideal S8x512 .f32) (b w0 w1 w2 w3 : Vec Ideal S1x512 .f32) :
    k0_pay37 (F := Ideal) (k0_pay36 x tl) 3#32 b w0 w1 w2 w3 = conv x tl b w0 w1 w2 w3 := rfl
theorem pay2_at (a : Vec Ideal S768x1024 .bf16) (w : Vec Ideal S512x1024 .bf16) (r : Fin 768) (l : Fin 512) :
    k0_pay2 (F := Ideal) a w (ix2 r l) = projAt (n := 768) (j := 512) a w (ix2 r l) := by
  pointwise [k0_pay2, projAt]
theorem pay11_at (x : Vec Ideal S768x512 .f32) (r : Fin 8) (l : Fin 512) :
    k0_pay11 (F := Ideal) (k0_pay4 x) (ix2 r l) = x (ix2 ⟨760 + r.val, by omega⟩ l) := by
  pointwise [k0_pay11, k0_pay4]

/-! ### A tile, and its slabs of columns -/

/-- The tile's projection, its convolution over the tail `tl`, and the tail it leaves. -/
def proj (a : FVec Ideal S768x1024 .bf16) (w : FVec Ideal S2560x1024 .bf16) : FVec Ideal S768x2560 .f32 := projAt (n := 768) (j := 2560) a w
def filt (a : FVec Ideal S768x1024 .bf16) (w : FVec Ideal S2560x1024 .bf16) (cw : FVec Ideal S4x2560 .f32) (cb : FVec Ideal S1x2560 .f32) (tl : FVec Ideal S8x2560 .f32) : FVec Ideal S768x2560 .bf16 := fun y =>
  siluAt (preAt (n := 768) (j := 2560) (proj a w) tl (fun l => cb (ix2 0 l)) (fun l => cw (ix2 0 l)) (fun l => cw (ix2 1 l)) (fun l => cw (ix2 2 l)) (fun l => cw (ix2 3 l)) y)
def last (a : FVec Ideal S768x1024 .bf16) (w : FVec Ideal S2560x1024 .bf16) : FVec Ideal S8x2560 .f32 := fun y =>
  proj a w (ix2 ⟨760 + (y 0).val, by have h : (y 0).val < 8 := (y 0).isLt; omega⟩ (y 1))

/-- The column of the whole that a slab's column is. -/
def col (p : Fin 5) (l : Fin 512) : Fin 2560 := ⟨512 * p.val + l.val, by omega⟩
theorem emb_col {k : ℕ} (p : Fin 5) (i : ∀ a, ![0, 512 * p.val] a + ![k, 512] a ≤ (⟨2, ![k, 2560]⟩ : Shape).size a) (r : Fin k) (l : Fin 512) :
    (Rect.unit (s := ⟨2, ![k, 2560]⟩) ![0, 512 * p.val] ![k, 512] i).emb (ix2 r l) = ix2 r (col p l) := by
  refine funext fun a => Fin.ext ?_
  match a with
  | ⟨0, _⟩ => simp
  | ⟨1, _⟩ => simp [col]
theorem proj_slab (a : FVec Ideal S768x1024 .bf16) (w : FVec Ideal S2560x1024 .bf16) (p : Fin 5)
    (i : ∀ a, ![512 * p.val, 0] a + ![512, 1024] a ≤ S2560x1024.size a) (r : Fin 768) (l : Fin 512) :
    k0_pay2 (F := Ideal) a (View.ld (Val := Elt Ideal) (e' := .bf16) w (Rect.unit (s := S2560x1024) ![512 * p.val, 0] ![512, 1024] i)) (ix2 r l) = proj a w (ix2 r (col p l)) := by
  rw [pay2_at]
  refine Finset.sum_congr rfl fun k _ => congrArg (fun z : EReal => a (ix2 r k) * z) (congrArg w (funext fun i => Fin.ext ?_))
  match i with
  | ⟨0, _⟩ => simp [col]
  | ⟨1, _⟩ => simp
theorem back_congr {n j j' : ℕ} (d : ℕ) (hd : d ≤ 8) (x : FVec Ideal ⟨2, ![n, j]⟩ .f32) (x' : FVec Ideal ⟨2, ![n, j']⟩ .f32) (tl : FVec Ideal ⟨2, ![8, j]⟩ .f32) (tl' : FVec Ideal ⟨2, ![8, j']⟩ .f32)
    (l : Fin j) (l' : Fin j') (hx : ∀ r, x (ix2 r l) = x' (ix2 r l')) (ht : ∀ r, tl (ix2 r l) = tl' (ix2 r l')) (r : Fin n) :
    backAt d hd x tl (ix2 r l) = backAt d hd x' tl' (ix2 r l') := by
  show (if h : r.val < d then tl (ix2 ⟨8 + r.val - d, by omega⟩ l) else x (ix2 ⟨r.val - d, by omega⟩ l)) = (if h : r.val < d then tl' (ix2 ⟨8 + r.val - d, by omega⟩ l') else x' (ix2 ⟨r.val - d, by omega⟩ l'))
  by_cases h : r.val < d
  · rw [dif_pos h, dif_pos h, ht]
  · rw [dif_neg h, dif_neg h, hx]
theorem ld_col {k : ℕ} (x : FVec Ideal ⟨2, ![k, 2560]⟩ .f32) (p : Fin 5) (q q' : ℕ) (hq : q + q' ≤ k) (i : ∀ a, ![q, 512 * p.val] a + ![q', 512] a ≤ (⟨2, ![k, 2560]⟩ : Shape).size a) (r : Fin q') (l : Fin 512) :
    View.ld (Val := Elt Ideal) (e' := .f32) x (Rect.unit (s := ⟨2, ![k, 2560]⟩) ![q, 512 * p.val] ![q', 512] i) (ix2 r l) = x (ix2 ⟨q + r.val, by omega⟩ (col p l)) := by
  refine congrArg x (funext fun a => Fin.ext ?_)
  match a with
  | ⟨0, _⟩ => simp
  | ⟨1, _⟩ => simp [col]
theorem filt_slab (a : FVec Ideal S768x1024 .bf16) (w : FVec Ideal S2560x1024 .bf16) (cw : FVec Ideal S4x2560 .f32) (cb : FVec Ideal S1x2560 .f32) (tl : FVec Ideal S8x2560 .f32) (p : Fin 5)
    (i : ∀ a, ![512 * p.val, 0] a + ![512, 1024] a ≤ S2560x1024.size a) (it : ∀ a, ![0, 512 * p.val] a + ![8, 512] a ≤ S8x2560.size a) (ib : ∀ a, ![0, 512 * p.val] a + ![1, 512] a ≤ S1x2560.size a)
    (i0 : ∀ a, ![0, 512 * p.val] a + ![1, 512] a ≤ S4x2560.size a) (i1 : ∀ a, ![1, 512 * p.val] a + ![1, 512] a ≤ S4x2560.size a)
    (i2 : ∀ a, ![2, 512 * p.val] a + ![1, 512] a ≤ S4x2560.size a) (i3 : ∀ a, ![3, 512 * p.val] a + ![1, 512] a ≤ S4x2560.size a) (r : Fin 768) (l : Fin 512) :
    conv (k0_pay2 (F := Ideal) a (View.ld (Val := Elt Ideal) (e' := .bf16) w (Rect.unit (s := S2560x1024) ![512 * p.val, 0] ![512, 1024] i)))
        (View.ld (Val := Elt Ideal) (e' := .f32) tl (Rect.unit (s := S8x2560) ![0, 512 * p.val] ![8, 512] it)) (View.ld (Val := Elt Ideal) (e' := .f32) cb (Rect.unit (s := S1x2560) ![0, 512 * p.val] ![1, 512] ib))
        (View.ld (Val := Elt Ideal) (e' := .f32) cw (Rect.unit (s := S4x2560) ![0, 512 * p.val] ![1, 512] i0)) (View.ld (Val := Elt Ideal) (e' := .f32) cw (Rect.unit (s := S4x2560) ![1, 512 * p.val] ![1, 512] i1))
        (View.ld (Val := Elt Ideal) (e' := .f32) cw (Rect.unit (s := S4x2560) ![2, 512 * p.val] ![1, 512] i2)) (View.ld (Val := Elt Ideal) (e' := .f32) cw (Rect.unit (s := S4x2560) ![3, 512 * p.val] ![1, 512] i3)) (ix2 r l)
      = filt a w cw cb tl (ix2 r (col p l)) := by
  have hb : ∀ (d : ℕ) (hd : d ≤ 8), backAt (n := 768) (j := 512) d hd (k0_pay2 (F := Ideal) a (View.ld (Val := Elt Ideal) (e' := .bf16) w (Rect.unit (s := S2560x1024) ![512 * p.val, 0] ![512, 1024] i)))
        (View.ld (Val := Elt Ideal) (e' := .f32) tl (Rect.unit (s := S8x2560) ![0, 512 * p.val] ![8, 512] it)) (ix2 r l) = backAt (n := 768) (j := 2560) d hd (proj a w) tl (ix2 r (col p l)) := fun d hd =>
    back_congr d hd _ _ _ _ l (col p l) (fun r => proj_slab a w p i r l)
      (fun r => (ld_col (k := 8) tl p 0 8 (by decide) it r l).trans (congrArg (fun z => tl (ix2 z (col p l))) (Fin.ext (Nat.zero_add _)))) r
  rw [conv_at]
  refine congrArg siluAt ?_
  unfold preAt
  rw [hb, hb, hb, hb]
  exact congrArg₂ (fun u v : EReal => u + v) (congrArg₂ (fun u v : EReal => u + v) (congrArg₂ (fun u v : EReal => u + v) (congrArg₂ (fun u v : EReal => u + v)
    (ld_col (k := 1) cb p 0 1 (by decide) ib 0 l) (congrArg (fun u : EReal => u * _) (ld_col (k := 4) cw p 0 1 (by decide) i0 0 l)))
    (congrArg (fun u : EReal => u * _) (ld_col (k := 4) cw p 1 1 (by decide) i1 0 l))) (congrArg (fun u : EReal => u * _) (ld_col (k := 4) cw p 2 1 (by decide) i2 0 l)))
    (congrArg (fun u : EReal => u * _) (ld_col (k := 4) cw p 3 1 (by decide) i3 0 l))

theorem proj_tile (a : FVec Ideal S768x1024 .bf16) (w : FVec Ideal S2560x1024 .bf16) :
    View.canon ([⟨Rect.unit (s := S768x2560) ![0, 2048] ![768, 512] inb_S768x2560_S768x512_0_2048, k0_pay26 (F := Ideal) a (View.ld (Val := Elt Ideal) (e' := .bf16) w (Rect.unit (s := S2560x1024) ![2048, 0] ![512, 1024] inb_S2560x1024_S512x1024_2048_0))⟩,
        ⟨Rect.unit (s := S768x2560) ![0, 1536] ![768, 512] inb_S768x2560_S768x512_0_1536, k0_pay18 (F := Ideal) a (View.ld (Val := Elt Ideal) (e' := .bf16) w (Rect.unit (s := S2560x1024) ![1536, 0] ![512, 1024] inb_S2560x1024_S512x1024_1536_0))⟩,
        ⟨Rect.unit (s := S768x2560) ![0, 1024] ![768, 512] inb_S768x2560_S768x512_0_1024, k0_pay12 (F := Ideal) a (View.ld (Val := Elt Ideal) (e' := .bf16) w (Rect.unit (s := S2560x1024) ![1024, 0] ![512, 1024] inb_S2560x1024_S512x1024_1024_0))⟩,
        ⟨Rect.unit (s := S768x2560) ![0, 512] ![768, 512] inb_S768x2560_S768x512_0_512, k0_pay3 (F := Ideal) a (View.ld (Val := Elt Ideal) (e' := .bf16) w (Rect.unit (s := S2560x1024) ![512, 0] ![512, 1024] inb_S2560x1024_S512x1024_512_0))⟩,
        ⟨Rect.unit (s := S768x2560) ![0, 0] ![768, 512] inb_S768x2560_S768x512_0_0, k0_pay2 (F := Ideal) a (View.ld (Val := Elt Ideal) (e' := .bf16) w (Rect.unit (s := S2560x1024) ![0, 0] ![512, 1024] inb_S2560x1024_S512x1024_0_0))⟩] : List (View.Piece (Elt Ideal) S768x2560 .f32))
      = proj a w := by
  have hs (p : Fin 5) (i : ∀ a, ![512 * p.val, 0] a + ![512, 1024] a ≤ S2560x1024.size a) (i' : ∀ a, ![0, 512 * p.val] a + ![768, 512] a ≤ S768x2560.size a) (j : S768x512.Idx) :
      k0_pay2 (F := Ideal) a (View.ld (Val := Elt Ideal) (e' := .bf16) w (Rect.unit (s := S2560x1024) ![512 * p.val, 0] ![512, 1024] i)) j = proj a w ((Rect.unit (s := S768x2560) ![0, 512 * p.val] ![768, 512] i').emb j) := by
    idx_vars j
    exact (proj_slab a w p i j0 j1).trans (congrArg (proj a w) (emb_col (k := 768) p i' j0 j1).symm)
  funext y
  exact View.canon_append_of_piecesOf _ [] [_, _, _, _, _]
    ⟨fun j => hs 4 _ inb_S768x2560_S768x512_0_2048 j, fun j => hs 3 _ inb_S768x2560_S768x512_0_1536 j, fun j => hs 2 _ inb_S768x2560_S768x512_0_1024 j, fun j => hs 1 _ inb_S768x2560_S768x512_0_512 j, fun j => hs 0 _ inb_S768x2560_S768x512_0_0 j, trivial⟩ y (View.cover_of_tiledBy _ ![768, 512] (by sl_kernel_rfl) y)
theorem last_tile (a : FVec Ideal S768x1024 .bf16) (w : FVec Ideal S2560x1024 .bf16) (L : List (View.Piece (Elt Ideal) S8x2560 .f32)) :
    View.canon ([⟨Rect.unit (s := S8x2560) ![0, 2048] ![8, 512] inb_S8x2560_S8x512_0_2048, k0_pay38 (F := Ideal) (k0_pay35 (k0_pay26 (F := Ideal) a (View.ld (Val := Elt Ideal) (e' := .bf16) w (Rect.unit (s := S2560x1024) ![2048, 0] ![512, 1024] inb_S2560x1024_S512x1024_2048_0))))⟩,
        ⟨Rect.unit (s := S8x2560) ![0, 1536] ![8, 512] inb_S8x2560_S8x512_0_1536, k0_pay34 (F := Ideal) (k0_pay27 (k0_pay18 (F := Ideal) a (View.ld (Val := Elt Ideal) (e' := .bf16) w (Rect.unit (s := S2560x1024) ![1536, 0] ![512, 1024] inb_S2560x1024_S512x1024_1536_0))))⟩,
        ⟨Rect.unit (s := S8x2560) ![0, 1024] ![8, 512] inb_S8x2560_S8x512_0_1024, k0_pay25 (F := Ideal) (k0_pay19 (k0_pay12 (F := Ideal) a (View.ld (Val := Elt Ideal) (e' := .bf16) w (Rect.unit (s := S2560x1024) ![1024, 0] ![512, 1024] inb_S2560x1024_S512x1024_1024_0))))⟩,
        ⟨Rect.unit (s := S8x2560) ![0, 512] ![8, 512] inb_S8x2560_S8x512_0_512, k0_pay17 (F := Ideal) (k0_pay16 (k0_pay13 (k0_pay3 (F := Ideal) a (View.ld (Val := Elt Ideal) (e' := .bf16) w (Rect.unit (s := S2560x1024) ![512, 0] ![512, 1024] inb_S2560x1024_S512x1024_512_0)))))⟩,
        ⟨Rect.unit (s := S8x2560) ![0, 0] ![8, 512] inb_S8x2560_S8x512_0_0, k0_pay11 (F := Ideal) (k0_pay4 (k0_pay2 (F := Ideal) a (View.ld (Val := Elt Ideal) (e' := .bf16) w (Rect.unit (s := S2560x1024) ![0, 0] ![512, 1024] inb_S2560x1024_S512x1024_0_0))))⟩] ++ L : List (View.Piece (Elt Ideal) S8x2560 .f32))
      = last a w := by
  have hs (p : Fin 5) (i : ∀ a, ![512 * p.val, 0] a + ![512, 1024] a ≤ S2560x1024.size a) (i' : ∀ a, ![0, 512 * p.val] a + ![8, 512] a ≤ S8x2560.size a) (j : S8x512.Idx) :
      k0_pay11 (F := Ideal) (k0_pay4 (k0_pay2 (F := Ideal) a (View.ld (Val := Elt Ideal) (e' := .bf16) w (Rect.unit (s := S2560x1024) ![512 * p.val, 0] ![512, 1024] i)))) j = last a w ((Rect.unit (s := S8x2560) ![0, 512 * p.val] ![8, 512] i').emb j) := by
    idx_vars j
    exact ((pay11_at _ j0 j1).trans (proj_slab a w p i _ j1)).trans (congrArg (last a w) (emb_col (k := 8) p i' j0 j1).symm)
  funext y
  exact View.canon_append_of_piecesOf _ L [_, _, _, _, _]
    ⟨fun j => hs 4 _ inb_S8x2560_S8x512_0_2048 j, fun j => hs 3 _ inb_S8x2560_S8x512_0_1536 j, fun j => hs 2 _ inb_S8x2560_S8x512_0_1024 j, fun j => hs 1 _ inb_S8x2560_S8x512_0_512 j, fun j => hs 0 _ inb_S8x2560_S8x512_0_0 j, trivial⟩ y (View.cover_of_tiledBy _ ![8, 512] (by sl_kernel_rfl) y)
/-- One slab of the convolution, as the kernel stores it. -/
abbrev slab (a : FVec Ideal S768x1024 .bf16) (w : FVec Ideal S2560x1024 .bf16) (cw : FVec Ideal S4x2560 .f32) (cb : FVec Ideal S1x2560 .f32) (tl : FVec Ideal S8x2560 .f32) (o : ℕ)
    (i : ∀ a, ![o, 0] a + ![512, 1024] a ≤ S2560x1024.size a) (it : ∀ a, ![0, o] a + ![8, 512] a ≤ S8x2560.size a) (ib : ∀ a, ![0, o] a + ![1, 512] a ≤ S1x2560.size a)
    (i0 : ∀ a, ![0, o] a + ![1, 512] a ≤ S4x2560.size a) (i1 : ∀ a, ![1, o] a + ![1, 512] a ≤ S4x2560.size a)
    (i2 : ∀ a, ![2, o] a + ![1, 512] a ≤ S4x2560.size a) (i3 : ∀ a, ![3, o] a + ![1, 512] a ≤ S4x2560.size a) (ix : ∀ a, ![0, o] a + ![768, 512] a ≤ S768x2560.size a) : View.Piece (Elt Ideal) S768x2560 .bf16 :=
  ⟨Rect.unit (s := S768x2560) ![0, o] ![768, 512] ix, conv (k0_pay2 (F := Ideal) a (View.ld (Val := Elt Ideal) (e' := .bf16) w (Rect.unit (s := S2560x1024) ![o, 0] ![512, 1024] i)))
        (View.ld (Val := Elt Ideal) (e' := .f32) tl (Rect.unit (s := S8x2560) ![0, o] ![8, 512] it)) (View.ld (Val := Elt Ideal) (e' := .f32) cb (Rect.unit (s := S1x2560) ![0, o] ![1, 512] ib))
        (View.ld (Val := Elt Ideal) (e' := .f32) cw (Rect.unit (s := S4x2560) ![0, o] ![1, 512] i0)) (View.ld (Val := Elt Ideal) (e' := .f32) cw (Rect.unit (s := S4x2560) ![1, o] ![1, 512] i1))
        (View.ld (Val := Elt Ideal) (e' := .f32) cw (Rect.unit (s := S4x2560) ![2, o] ![1, 512] i2)) (View.ld (Val := Elt Ideal) (e' := .f32) cw (Rect.unit (s := S4x2560) ![3, o] ![1, 512] i3))⟩
theorem filt_tile (a : FVec Ideal S768x1024 .bf16) (w : FVec Ideal S2560x1024 .bf16) (cw : FVec Ideal S4x2560 .f32) (cb : FVec Ideal S1x2560 .f32) (tl : FVec Ideal S8x2560 .f32) :
    View.canon ([slab a w cw cb tl 2048 inb_S2560x1024_S512x1024_2048_0 inb_S8x2560_S8x512_0_2048 inb_S1x2560_S1x512_0_2048 inb_S4x2560_S1x512_0_2048 inb_S4x2560_S1x512_1_2048 inb_S4x2560_S1x512_2_2048 inb_S4x2560_S1x512_3_2048 inb_S768x2560_S768x512_0_2048,
        slab a w cw cb tl 1536 inb_S2560x1024_S512x1024_1536_0 inb_S8x2560_S8x512_0_1536 inb_S1x2560_S1x512_0_1536 inb_S4x2560_S1x512_0_1536 inb_S4x2560_S1x512_1_1536 inb_S4x2560_S1x512_2_1536 inb_S4x2560_S1x512_3_1536 inb_S768x2560_S768x512_0_1536,
        slab a w cw cb tl 1024 inb_S2560x1024_S512x1024_1024_0 inb_S8x2560_S8x512_0_1024 inb_S1x2560_S1x512_0_1024 inb_S4x2560_S1x512_0_1024 inb_S4x2560_S1x512_1_1024 inb_S4x2560_S1x512_2_1024 inb_S4x2560_S1x512_3_1024 inb_S768x2560_S768x512_0_1024,
        slab a w cw cb tl 512 inb_S2560x1024_S512x1024_512_0 inb_S8x2560_S8x512_0_512 inb_S1x2560_S1x512_0_512 inb_S4x2560_S1x512_0_512 inb_S4x2560_S1x512_1_512 inb_S4x2560_S1x512_2_512 inb_S4x2560_S1x512_3_512 inb_S768x2560_S768x512_0_512,
        slab a w cw cb tl 0 inb_S2560x1024_S512x1024_0_0 inb_S8x2560_S8x512_0_0 inb_S1x2560_S1x512_0_0 inb_S4x2560_S1x512_0_0 inb_S4x2560_S1x512_1_0 inb_S4x2560_S1x512_2_0 inb_S4x2560_S1x512_3_0 inb_S768x2560_S768x512_0_0] : List (View.Piece (Elt Ideal) S768x2560 .bf16))
      = filt a w cw cb tl := by
  have hs (p : Fin 5) (i : ∀ a, ![512 * p.val, 0] a + ![512, 1024] a ≤ S2560x1024.size a) (it : ∀ a, ![0, 512 * p.val] a + ![8, 512] a ≤ S8x2560.size a) (ib : ∀ a, ![0, 512 * p.val] a + ![1, 512] a ≤ S1x2560.size a)
      (i0 : ∀ a, ![0, 512 * p.val] a + ![1, 512] a ≤ S4x2560.size a) (i1 : ∀ a, ![1, 512 * p.val] a + ![1, 512] a ≤ S4x2560.size a)
      (i2 : ∀ a, ![2, 512 * p.val] a + ![1, 512] a ≤ S4x2560.size a) (i3 : ∀ a, ![3, 512 * p.val] a + ![1, 512] a ≤ S4x2560.size a) (ix : ∀ a, ![0, 512 * p.val] a + ![768, 512] a ≤ S768x2560.size a) (j : S768x512.Idx) :
      (slab a w cw cb tl (512 * p.val) i it ib i0 i1 i2 i3 ix).2 j = filt a w cw cb tl ((slab a w cw cb tl (512 * p.val) i it ib i0 i1 i2 i3 ix).1.emb j) := by
    idx_vars j
    exact (filt_slab a w cw cb tl p i it ib i0 i1 i2 i3 j0 j1).trans (congrArg (filt a w cw cb tl) (emb_col (k := 768) p ix j0 j1).symm)
  funext y
  exact View.canon_append_of_piecesOf _ [] [_, _, _, _, _]
    ⟨fun j => hs 4 _ inb_S8x2560_S8x512_0_2048 inb_S1x2560_S1x512_0_2048 inb_S4x2560_S1x512_0_2048 inb_S4x2560_S1x512_1_2048 inb_S4x2560_S1x512_2_2048 inb_S4x2560_S1x512_3_2048 inb_S768x2560_S768x512_0_2048 j,
      fun j => hs 3 _ inb_S8x2560_S8x512_0_1536 inb_S1x2560_S1x512_0_1536 inb_S4x2560_S1x512_0_1536 inb_S4x2560_S1x512_1_1536 inb_S4x2560_S1x512_2_1536 inb_S4x2560_S1x512_3_1536 inb_S768x2560_S768x512_0_1536 j,
      fun j => hs 2 _ inb_S8x2560_S8x512_0_1024 inb_S1x2560_S1x512_0_1024 inb_S4x2560_S1x512_0_1024 inb_S4x2560_S1x512_1_1024 inb_S4x2560_S1x512_2_1024 inb_S4x2560_S1x512_3_1024 inb_S768x2560_S768x512_0_1024 j,
      fun j => hs 1 _ inb_S8x2560_S8x512_0_512 inb_S1x2560_S1x512_0_512 inb_S4x2560_S1x512_0_512 inb_S4x2560_S1x512_1_512 inb_S4x2560_S1x512_2_512 inb_S4x2560_S1x512_3_512 inb_S768x2560_S768x512_0_512 j,
      fun j => hs 0 _ inb_S8x2560_S8x512_0_0 inb_S1x2560_S1x512_0_0 inb_S4x2560_S1x512_0_0 inb_S4x2560_S1x512_1_0 inb_S4x2560_S1x512_2_0 inb_S4x2560_S1x512_3_0 inb_S768x2560_S768x512_0_0 j, trivial⟩ y
    (View.cover_of_tiledBy _ ![768, 512] (by sl_kernel_rfl) y)

variable (m : (ℓ : Loc nD τ sig) → Buf (Elt Ideal) ℓ) (c : Dev nD)

/-- The input blocks of a point. -/
def blkA (t : Fin cfg0.N) : FVec Ideal S768x1024 .bf16 := iblk m c 0 t
def blkW (t : Fin cfg0.N) : FVec Ideal S2560x1024 .bf16 := iblk m c 1 t
def blkC (t : Fin cfg0.N) : FVec Ideal S4x2560 .f32 := iblk m c 2 t
def blkB (t : Fin cfg0.N) : FVec Ideal S1x2560 .f32 := iblk m c 3 t

theorem first_at (t : Fin cfg0.N) (h : t.val % 11 = 0) :
    outsAt0 m c t.val t.isLt = (proj (blkA m c t) (blkW m c t), filt (blkA m c t) (blkW m c t) (blkC m c t) (blkB m c t) (k0_pay1 (F := Ideal)), last (blkA m c t) (blkW m c t)) := by
  rw [outsAt0_A m c t h]
  frame_out
  simp (disch := first | decide | (intro a; fin_cases a <;> rfl)) only [View.readCov_skip, View.readCov_cons_toLoadRect, View.readCov_fill, conv1, conv2, conv3, conv4]
  exact congrArg₂ Prod.mk (proj_tile (blkA m c t) (blkW m c t)) (congrArg₂ Prod.mk (filt_tile (blkA m c t) (blkW m c t) (blkC m c t) (blkB m c t) (k0_pay1 (F := Ideal))) (last_tile (blkA m c t) (blkW m c t) _))
theorem next_at (t : Fin cfg0.N) (h : ¬ t.val % 11 = 0) :
    outsAt0 m c t.val t.isLt = (proj (blkA m c t) (blkW m c t), filt (blkA m c t) (blkW m c t) (blkC m c t) (blkB m c t) (outsAt0 m c (t.val - 1) (Nat.lt_of_le_of_lt (Nat.sub_le _ _) t.isLt)).2.2, last (blkA m c t) (blkW m c t)) := by
  rw [outsAt0_B m c t h]
  frame_out
  simp (disch := first | decide | (intro a; fin_cases a <;> rfl)) only [View.readCov_skip, View.readCov_cons_toLoadRect, conv1, conv2, conv3, conv4, read_unread_whole]
  exact congrArg₂ Prod.mk (proj_tile (blkA m c t) (blkW m c t)) (congrArg₂ Prod.mk (filt_tile (blkA m c t) (blkW m c t) (blkC m c t) (blkB m c t) _) (last_tile (blkA m c t) (blkW m c t) _))
/-! ### The tail a point finds, and the whole arrays -/

theorem outs_last (t : Fin cfg0.N) : (outsAt0 m c t.val t.isLt).2.2 = last (blkA m c t) (blkW m c t) := by
  by_cases h : t.val % 11 = 0
  · rw [first_at m c t h]
  · rw [next_at m c t h]
theorem after4 (t : Fin cfg0.N) : (dats m 0 c).after 4 t = proj (blkA m c t) (blkW m c t) := by
  rw [after0_4]
  by_cases h : t.val % 11 = 0
  · rw [first_at m c t h]
  · rw [next_at m c t h]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem points (t : Fin cfg0.N) : t.val < 11 := lt_of_lt_of_eq t.isLt (by decide +kernel : grid0.N = 11)

theorem blkA_at (t : Fin cfg0.N) (r : Fin 768) (k : Fin 1024) (i : Fin 8448) (hi : i.val = t.val * 768 + r.val) :
    blkA m c t (ix2 r k) = m ((c : Thread nD τ).loc main_arg0) (ix2 i k) := by
  have h0 := idx0 t
  show V m c main_arg0 ((win0_0.blk t).view.emb (ix2 r k : S768x1024.Idx)) = _
  rw [V_main_arg0]
  refine congrArg _ (funext fun a => Fin.ext ?_)
  match a with
  | ⟨0, _⟩ => blk_simp [h0]; exact hi.symm
  | ⟨1, _⟩ => blk_simp [h0]
theorem blkW_eq (t : Fin cfg0.N) : blkW m c t = m ((c : Thread nD τ).loc main_arg1) := by
  have h0 := idx1 t
  funext y
  show V m c main_arg1 ((win0_1.blk t).view.emb (y : S2560x1024.Idx)) = _
  rw [V_main_arg1]
  refine congrArg _ (funext fun a => Fin.ext ?_)
  match a with
  | ⟨0, _⟩ => blk_simp [h0]
  | ⟨1, _⟩ => blk_simp [h0]
theorem blkC_eq (t : Fin cfg0.N) : blkC m c t = m ((c : Thread nD τ).loc main_arg2) := by
  have h0 := idx2 t
  funext y
  show V m c main_arg2 ((win0_2.blk t).view.emb (y : S4x2560.Idx)) = _
  rw [V_main_arg2]
  refine congrArg _ (funext fun a => Fin.ext ?_)
  match a with
  | ⟨0, _⟩ => blk_simp [h0]
  | ⟨1, _⟩ => blk_simp [h0]
theorem blkB_eq (t : Fin cfg0.N) : blkB m c t = m ((c : Thread nD τ).loc main_arg3) := by
  have h0 := idx3 t
  funext y
  show V m c main_arg3 ((win0_3.blk t).view.emb (y : S1x2560.Idx)) = _
  rw [V_main_arg3]
  refine congrArg _ (funext fun a => Fin.ext ?_)
  match a with
  | ⟨0, _⟩ => blk_simp [h0]
  | ⟨1, _⟩ => blk_simp [h0]

/-- The whole projection. -/
def total : FVec Ideal S8448x2560 .f32 := projAt (n := 8448) (j := 2560) (m ((c : Thread nD τ).loc main_arg0)) (m ((c : Thread nD τ).loc main_arg1))
/-- A tile's row is a row of the whole. -/
theorem proj_at (t : Fin cfg0.N) (r : Fin 768) (l : Fin 2560) (i : Fin 8448) (hi : i.val = t.val * 768 + r.val) :
    proj (blkA m c t) (blkW m c t) (ix2 r l) = total m c (ix2 i l) := by
  rw [blkW_eq]
  exact projAt_congr _ _ _ r i l fun k => blkA_at m c t r k i hi
/-- The eight rows before a tile: zeros before the first, the last rows of the tile before it otherwise. -/
def tailOf (t : Fin cfg0.N) : FVec Ideal S8x2560 .f32 :=
  if t.val % 11 = 0 then fun _ => 0 else last (blkA m c ⟨t.val - 1, Nat.lt_of_le_of_lt (Nat.sub_le _ _) t.isLt⟩) (blkW m c ⟨t.val - 1, Nat.lt_of_le_of_lt (Nat.sub_le _ _) t.isLt⟩)
theorem pay1_eq : k0_pay1 (F := Ideal) = fun _ => (0 : EReal) := by
  funext y
  idx_vars y
  pointwise [k0_pay1]
theorem after5 (t : Fin cfg0.N) : (dats m 0 c).after 5 t = filt (blkA m c t) (blkW m c t) (blkC m c t) (blkB m c t) (tailOf m c t) := by
  rw [after0_5]
  unfold tailOf
  by_cases h : t.val % 11 = 0
  · rw [first_at m c t h, if_pos h, pay1_eq]
  · rw [next_at m c t h, if_neg h, outs_last m c ⟨t.val - 1, Nat.lt_of_le_of_lt (Nat.sub_le _ _) t.isLt⟩]
/-- Going `d` rows back in a tile, through its tail, is going `d` rows back in the whole. -/
theorem back_whole (d : ℕ) (hd : d ≤ 8) (t : Fin cfg0.N) (r : Fin 768) (l : Fin 2560) (i : Fin 8448) (hi : i.val = t.val * 768 + r.val) :
    backAt (n := 768) (j := 2560) d hd (proj (blkA m c t) (blkW m c t)) (tailOf m c t) (ix2 r l) = backAt (n := 8448) (j := 2560) d hd (total m c) (fun _ => 0) (ix2 i l) := by
  have ht := points t
  show (if h : r.val < d then tailOf m c t (ix2 ⟨8 + r.val - d, by omega⟩ l) else proj (blkA m c t) (blkW m c t) (ix2 ⟨r.val - d, by omega⟩ l))
    = if h : i.val < d then (0 : EReal) else total m c (ix2 ⟨i.val - d, by omega⟩ l)
  by_cases h : r.val < d
  · rw [dif_pos h]
    unfold tailOf
    by_cases h0 : t.val % 11 = 0
    · rw [if_pos h0, dif_pos (by omega)]
    · rw [if_neg h0, dif_neg (by omega)]
      exact proj_at m c ⟨t.val - 1, _⟩ ⟨760 + (8 + r.val - d), by omega⟩ l _ (by show i.val - d = (t.val - 1) * 768 + (760 + (8 + r.val - d)); omega)
  · rw [dif_neg h, dif_neg (by omega)]
    exact proj_at m c t _ l _ (by show i.val - d = t.val * 768 + (r.val - d); omega)
/-- The whole convolution. -/
def filtered : FVec Ideal S8448x2560 .bf16 := wholeAt (total m c) (m ((c : Thread nD τ).loc main_arg2)) (m ((c : Thread nD τ).loc main_arg3))
theorem filt_at (t : Fin cfg0.N) (r : Fin 768) (l : Fin 2560) (i : Fin 8448) (hi : i.val = t.val * 768 + r.val) :
    filt (blkA m c t) (blkW m c t) (blkC m c t) (blkB m c t) (tailOf m c t) (ix2 r l) = filtered m c (ix2 i l) := by
  unfold filt filtered wholeAt preAt
  rw [blkC_eq, blkB_eq, back_whole m c 3 _ t r l i hi, back_whole m c 2 _ t r l i hi, back_whole m c 1 _ t r l i hi, back_whole m c 0 _ t r l i hi]
  rfl
theorem final4 : (dats m 0 c).arrAt 4 cfg0.N = total m c := by
  refine (dats m 0 c).arrAt_eq_of_covers 4 _ (by decide +kernel) fun t _ y => ?_
  have hi := idx4 t
  rw [after4]
  have e0 : ((((win0_4.blk t).view.emb y) 0 : Fin 8448)).val = t.val * 768 + (y 0).val := by blk_simp [hi]
  have e1 : (((win0_4.blk t).view.emb y) 1 : Fin 2560) = y 1 := Fin.ext (by blk_simp [hi])
  refine (congrArg (proj (blkA m c t) (blkW m c t)) (eq_ix2 (y : S768x2560.Idx))).trans ((proj_at m c t (y 0) (y 1) _ e0).trans (congrArg (total m c) ?_))
  rw [← e1]
  exact (eq_ix2 _).symm
theorem final5 : (dats m 0 c).arrAt 5 cfg0.N = filtered m c := by
  refine (dats m 0 c).arrAt_eq_of_covers 5 _ (by decide +kernel) fun t _ y => ?_
  have hi := idx5 t
  rw [after5]
  have e0 : ((((win0_5.blk t).view.emb y) 0 : Fin 8448)).val = t.val * 768 + (y 0).val := by blk_simp [hi]
  have e1 : (((win0_5.blk t).view.emb y) 1 : Fin 2560) = y 1 := Fin.ext (by blk_simp [hi])
  refine (congrArg (filt (blkA m c t) (blkW m c t) (blkC m c t) (blkB m c t) (tailOf m c t)) (eq_ix2 (y : S768x2560.Idx))).trans ((filt_at m c t (y 0) (y 1) _ e0).trans (congrArg (filtered m c) ?_))
  rw [← e1]
  exact (eq_ix2 _).symm

open Cert.ProjXbcRefIdeal.Done in
theorem value : algebraic_ProjXbcIdeal_ProjXbcRefIdeal (hProjXbcIdeal := Cert.ProjXbcIdeal.Gen.facts) (hProjXbcRefIdeal := Cert.ProjXbcRefIdeal.Gen.facts) := by
  intro m ρ m' ρ' _ hagree
  refine ⟨fun c => (dats m 0 c).arrAt 4 cfg0.N, fun c => (dats m 0 c).arrAt 5 cfg0.N, Cert.ProjXbcIdeal.Value.run_blocks (F := Ideal) m ρ, ?_⟩
  refine (θ_run Cert.ProjXbcRefIdeal.defs _ _).mono (fun _ h c => ?_) (Cert.ProjXbcRefIdeal.Value.run (F := Ideal) m' ρ')
  obtain ⟨h0, h1, hargs⟩ := h c
  obtain ⟨a0, a1, a2, a3⟩ := hagree c
  refine ⟨h0.trans ?_, h1.trans ?_, hargs⟩
  · refine Eq.trans ?_ (final4 m c).symm
    show xbc _ _ = _
    rw [xbc_eq, a0, a1]
    rfl
  · refine Eq.trans ?_ (final5 m c).symm
    have e : Cert.ProjXbcRefIdeal.Value.res_main_v39 m' c = silu (pre (extractStridedSlice _ ![0, 0] (padded (xbc _ _)) _) (extractStridedSlice _ ![1, 0] (padded (xbc _ _)) _)
      (extractStridedSlice _ ![2, 0] (padded (xbc _ _)) _) (extractStridedSlice _ ![3, 0] (padded (xbc _ _)) _) _ _) := rfl
    rw [e, out_eq, xbc_eq, a0, a1, a2, a3]
    rfl
end Cert.ProjXbcIdeal.Done
end
-- ==== Proof.ProjUzdt.lean ====
module
public import proofs.«01_k».proof.Defs
public import proofs.«01_k».proof.Proof.Gen.ProjUzdt.Frame
public import proofs.«01_k».proof.Proof.Gen.ProjUzdtIdeal.Value
public import proofs.«01_k».proof.Proof.Gen.ProjUzdtRefIdeal.Run
public import proofs.«01_k».proof.Proof.ProjXbc
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.ProjUzdtIdeal

/-! ## The step sizes, their running sums within a chunk, and both turned on their side -/

/-- The softplus. -/
def softAt (z : EReal) : EReal := max z 0 + Ideal.log1p (Ideal.exp (0 - max z (-z)))
/-- A column's group and lane. -/
def grp (l : Fin 512) : Fin 4 := ⟨l.val / 128, by omega⟩
def lane (l : Fin 512) : Fin 128 := ⟨l.val % 128, by omega⟩
/-- The step sizes of all the rows: those of the first six lanes of each group, without the first 112 rows of each sequence. -/
def wholeSteps (X : FVec Ideal ⟨2, ![8448, 512]⟩ .f32) (B : FVec Ideal ⟨3, ![4, 1, 128]⟩ .f32) : FVec Ideal ⟨2, ![8448, 512]⟩ .f32 := fun y =>
  if (lane (y 1)).val < 6 ∧ 112 ≤ (y 0).val % 4224 then softAt (X y + B (ix3 (grp (y 1)) 0 (lane (y 1)))) else 0
/-- A row of the chunk that a row lies in. -/
def inChunk (r : Fin 8448) (k : Fin 128) : Fin 8448 := ⟨128 * (r.val / 128) + k.val, by omega⟩
/-- The running sums within each chunk of the step sizes times the decay. -/
def wholeSums (S : FVec Ideal ⟨2, ![8448, 512]⟩ .f32) (A : FVec Ideal ⟨3, ![4, 1, 128]⟩ .f32) : FVec Ideal ⟨2, ![8448, 512]⟩ .f32 := fun y =>
  ∑ k : Fin 128, if k.val ≤ (y 0).val % 128 then S (ix2 (inChunk (y 0) k) (y 1)) * (0 - Ideal.exp (A (ix3 (grp (y 1)) 0 (lane (y 1))))) else 0
/-- Of each chunk and group, the first eight lanes of `S` and of `C`, a lane a row. -/
def wholePair (S C : FVec Ideal ⟨2, ![8448, 512]⟩ .f32) : FVec Ideal ⟨4, ![66, 4, 16, 128]⟩ .f32 := fun y =>
  have h0 : (y 0).val < 66 := (y 0).isLt
  have h1 : (y 1).val < 4 := (y 1).isLt
  have h2 : (y 2).val < 16 := (y 2).isLt
  have h3 : (y 3).val < 128 := (y 3).isLt
  (if (y 2).val < 8 then S else C) (ix2 ⟨128 * (y 0).val + (y 3).val, by omega⟩ ⟨128 * (y 1).val + (y 2).val % 8, by omega⟩)
end Cert.ProjUzdtIdeal

namespace Cert.ProjUzdtRefIdeal.Done
open Cert.ProjUzdtRefIdeal Cert.ProjUzdtRefIdeal.Gen
open Cert.ProjXbcIdeal (projAt)
open Cert.ProjUzdtIdeal (softAt grp lane inChunk wholeSteps wholeSums wholePair)

/-! ### The reference's pieces -/

/-- The products with a weight. -/
def narrow (A : FVec Ideal S8448x1024 .bf16) (W : FVec Ideal S512x1024 .bf16) : FVec Ideal S8448x512 .f32 :=
  Host.dotGeneral dot_S8448x1024_S512x1024_S8448x512_1_1_0_0_n_n none (extf .f32 A bitsLt_bf16_f32) (extf .f32 W bitsLt_bf16_f32)
def wide (A : FVec Ideal S8448x1024 .bf16) (W : FVec Ideal S1536x1024 .bf16) : FVec Ideal S8448x1536 .f32 :=
  Host.dotGeneral dot_S8448x1024_S1536x1024_S8448x1536_1_1_0_0_n_n none (extf .f32 A bitsLt_bf16_f32) (extf .f32 W bitsLt_bf16_f32)
/-- The rows and lanes that keep their step size. -/
def position : IVec S8448 32 :=
  have d : IVec S_ 32 := select (cmpi .eq (id (constantI S_ 32 4224#32)) (constantI S_ 32 0#32)) (constantI S_ 32 1#32) (id (constantI S_ 32 4224#32))
  have q : IVec S8448 32 := Host.remsi (iotaInDim S8448 32 0) (broadcastInDim S8448 ![] bcast_S_S8448 d)
  select (andi (cmpi .ne (cmpi .slt q (broadcastInDim S8448 ![] bcast_S_S8448 (constantI S_ 32 0#32))) (broadcastInDim S8448 ![] bcast_S_S8448 (cmpi .slt d (constantI S_ 32 0#32))))
    (cmpi .ne q (broadcastInDim S8448 ![] bcast_S_S8448 (constantI S_ 32 0#32)))) (addi q (broadcastInDim S8448 ![] bcast_S_S8448 d)) q
def heads : IVec S8448x1x128 1 :=
  andi (broadcastInDim S8448x1x128 ![0, 1, 2] bcast_S8448x1x1_S8448x1x128_0_1_2 (broadcastInDim S8448x1x1 ![0] bcast_S8448_S8448x1x1_0 (cmpi .sge position (broadcastInDim S8448 ![] bcast_S_S8448 (constantI S_ 32 112#32)))))
    (broadcastInDim S8448x1x128 ![0, 1, 2] bcast_S1x1x128_S8448x1x128_0_1_2 (broadcastInDim S1x1x128 ![2] bcast_S128_S1x1x128_2 (cmpi .slt (iotaInDim S128 32 0) (broadcastInDim S128 ![] bcast_S_S128 (constantI S_ 32 6#32)))))
/-- The raw values and their bias, the softplus, the step sizes, their products with the decay, and the sums of those along a chunk. -/
def biased (X : FVec Ideal S8448x512 .f32) (B : FVec Ideal S4x1x128 .f32) : FVec Ideal S8448x4x128 .f32 :=
  addf (shapeCast _ X shapeCasts_S8448x512_S8448x4x128) (broadcastInDim S8448x4x128 ![0, 1, 2] bcast_S1x4x128_S8448x4x128_0_1_2 (broadcastInDim S1x4x128 ![1, 2] bcast_S4x128_S1x4x128_1_2 (shapeCast _ B shapeCasts_S4x1x128_S4x128)))
def softplus (Z : FVec Ideal S8448x4x128 .f32) : FVec Ideal S8448x4x128 .f32 :=
  have o : FVec Ideal S8448x4x128 .f32 := broadcastInDim S8448x4x128 ![] bcast_S_S8448x4x128 (constant S_ .f32 0x00000000#32)
  select (cmpf .une (subf Z o) (subf Z o)) (addf Z o) (addf (maximumf Z o) (Host.log1p (Host.exp (Host.negf (Host.absf (subf Z o))))))
def steps (X : FVec Ideal S8448x512 .f32) (B : FVec Ideal S4x1x128 .f32) : FVec Ideal S8448x4x128 .f32 :=
  select (broadcastInDim S8448x4x128 ![0, 1, 2] bcast_S8448x1x128_S8448x4x128_0_1_2 heads) (softplus (biased X B)) (broadcastInDim S8448x4x128 ![] bcast_S_S8448x4x128 (id (constant S_ .f32 0x00000000#32)))
def decayed (T : FVec Ideal S66x128x4x128 .f32) (A : FVec Ideal S4x1x128 .f32) : FVec Ideal S66x128x4x128 .f32 :=
  mulf T (broadcastInDim S66x128x4x128 ![0, 1, 2, 3] bcast_S1x1x4x128_S66x128x4x128_0_1_2_3 (broadcastInDim S1x1x4x128 ![2, 3] bcast_S4x128_S1x1x4x128_2_3 (Host.negf (Host.exp (shapeCast _ A shapeCasts_S4x1x128_S4x128)))))
def cums (T : FVec Ideal S66x128x4x128 .f32) : FVec Ideal S66x128x4x128 .f32 :=
  Host.reduceWindowAdd ![1, 128, 1, 1] ![1, 1, 1, 1] ![0, 127, 0, 0] ![0, 0, 0, 0] T (broadcastInDim S_ ![] bcast_S_S_ (constant S_ .f32 0x00000000#32)) reduceWindows_S66x128x4x128_S66x128x4x128_w1s1p0_0_w128s1p127_0_w1s1p0_0_w1s1p0_0 h_S_
def chunks (S : FVec Ideal S8448x4x128 .f32) : FVec Ideal S66x128x4x128 .f32 := shapeCast _ S shapeCasts_S8448x4x128_S66x128x4x128
def pair (T U : FVec Ideal S66x128x4x128 .f32) : FVec Ideal S66x4x16x128 .f32 :=
  transpose S66x4x16x128 [0, 2, 3, 1] (concatenate S66x128x4x16 3 [⟨S66x128x4x8, (extractStridedSlice S66x128x4x8 ![0, 0, 0, 0] T slices_S66x128x4x128_S66x128x4x8_0_0_0_0)⟩,
    ⟨S66x128x4x8, (extractStridedSlice S66x128x4x8 ![0, 0, 0, 0] U slices_S66x128x4x128_S66x128x4x8_0_0_0_0)⟩] concatenates_S66x128x4x8_S66x128x4x8_S66x128x4x16_d3) transposes_S66x128x4x16_S66x4x16x128_0_2_3_1

/-! ### Their entries -/

theorem narrow_eq (A : FVec Ideal S8448x1024 .bf16) (W : FVec Ideal S512x1024 .bf16) : narrow A W = projAt (n := 8448) (j := 512) A W := by
  funext y
  idx_vars y
  pointwise [narrow, projAt]
theorem wide_eq (A : FVec Ideal S8448x1024 .bf16) (W : FVec Ideal S1536x1024 .bf16) : wide A W = projAt (n := 8448) (j := 1536) A W := by
  funext y
  idx_vars y
  pointwise [wide, projAt]
theorem place_word : ∀ (a : Fin 66) (b : Fin 128),
    (have q : BitVec 32 := IntOp.remsi ArithUnit.host (BitVec.ofNat 32 (128 * a.val + b.val)) 4224#32
     IntOp.cmpi .sge (Scalar.select (IntOp.andi (IntOp.cmpi .ne (IntOp.cmpi .slt q 0#32) 0#1) (IntOp.cmpi .ne q 0#32)) (IntOp.addi q 4224#32) q) 112#32)
      = BitVec.ofBool (decide (112 ≤ (128 * a.val + b.val) % 4224)) := by decide +kernel
theorem lane_word : ∀ l : Fin 128, IntOp.cmpi .slt (BitVec.ofNat 32 l.val) 6#32 = BitVec.ofBool (decide (l.val < 6)) := by decide +kernel
theorem heads_at (r : Fin 8448) (l : Fin 128) : heads (ix3 r 0 l) = BitVec.ofBool (decide (l.val < 6 ∧ 112 ≤ r.val % 4224)) := by
  have e := place_word ⟨r.val / 128, by omega⟩ ⟨r.val % 128, by omega⟩
  dsimp only at e
  rw [Nat.div_add_mod] at e
  pointwise [heads, position]
  refine (congrArg₂ IntOp.andi e (lane_word l)).trans ?_
  by_cases h : 112 ≤ r.val % 4224 <;> by_cases h' : l.val < 6 <;> simp [h, h', IntOp.andi]
theorem biased_at (X : FVec Ideal S8448x512 .f32) (B : FVec Ideal S4x1x128 .f32) (r : Fin 8448) (g : Fin 4) (l : Fin 128) :
    biased X B (ix3 r g l) = X (ix2 r ⟨128 * g.val + l.val, by omega⟩) + B (ix3 g 0 l) := by
  pointwise [biased]
  simp only [Nat.mul_comm]
theorem softplus_at (Z : FVec Ideal S8448x4x128 .f32) (r : Fin 8448) (g : Fin 4) (l : Fin 128) : softplus Z (ix3 r g l) = softAt (Z (ix3 r g l)) := by
  pointwise [softplus, softAt]
  rw [if_neg (not_not.mpr rfl), zero_sub]
  rfl
theorem steps_at (X : FVec Ideal S8448x512 .f32) (B : FVec Ideal S4x1x128 .f32) (r : Fin 8448) (g : Fin 4) (l : Fin 128) :
    steps X B (ix3 r g l) = wholeSteps X B (ix2 r ⟨128 * g.val + l.val, by omega⟩) := by
  have z : (id (constant S_ .f32 0x00000000#32) : FVec Ideal S_ .f32) ix0 = 0 := by
    show (constant S_ .f32 0x00000000#32 : FVec Ideal S_ .f32) ix0 = 0
    pointwise
  have e : steps X B (ix3 r g l) = Scalar.select (heads (ix3 r 0 l)) (softplus (biased X B) (ix3 r g l)) 0 := by
    pointwise [steps]
    rw [z]
  have e1 : grp (⟨128 * g.val + l.val, by omega⟩ : Fin 512) = g := Fin.ext (by show (128 * g.val + l.val) / 128 = g.val; omega)
  have e2 : lane (⟨128 * g.val + l.val, by omega⟩ : Fin 512) = l := Fin.ext (by show (128 * g.val + l.val) % 128 = l.val; omega)
  rw [e, heads_at, softplus_at, biased_at]
  show _ = if (lane (⟨128 * g.val + l.val, _⟩ : Fin 512)).val < 6 ∧ 112 ≤ r.val % 4224 then softAt (X (ix2 r ⟨128 * g.val + l.val, _⟩) + B (ix3 (grp ⟨128 * g.val + l.val, _⟩) 0 (lane ⟨128 * g.val + l.val, _⟩))) else 0
  rw [e1, e2]
  by_cases h : l.val < 6 ∧ 112 ≤ r.val % 4224
  · rw [if_pos h, decide_eq_true h]; rfl
  · rw [if_neg h, decide_eq_false h]; rfl
theorem decayed_at (T : FVec Ideal S66x128x4x128 .f32) (A : FVec Ideal S4x1x128 .f32) (a : Fin 66) (s : Fin 128) (g : Fin 4) (l : Fin 128) :
    decayed T A (ix4 a s g l) = T (ix4 a s g l) * (0 - Ideal.exp (A (ix3 g 0 l))) := by
  rw [zero_sub]
  pointwise [decayed]
theorem chunks_at (S : FVec Ideal S8448x4x128 .f32) (a : Fin 66) (s : Fin 128) (g : Fin 4) (l : Fin 128) :
    chunks S (ix4 a s g l) = S (ix3 ⟨128 * a.val + s.val, by omega⟩ g l) := by
  pointwise [chunks]
  simp only [Nat.mul_comm]
theorem pair_at (T U : FVec Ideal S66x128x4x128 .f32) (a : Fin 66) (g : Fin 4) (l : Fin 16) (s : Fin 128) :
    pair T U (ix4 a g l s) = (if l.val < 8 then T else U) (ix4 a s g ⟨l.val % 8, by omega⟩) := by
  pointwise [pair]
  by_cases h : l.val < 8
  · simp only [if_pos h, dif_pos h, Nat.mod_eq_of_lt h]
  · have e : l.val % 8 = l.val - 8 := by omega
    simp only [if_neg h, dif_neg h, e]
theorem flat_at (S : FVec Ideal S8448x4x128 .f32) (r : Fin 8448) (l : Fin 512) :
    shapeCast S8448x512 S shapeCasts_S8448x4x128_S8448x512 (ix2 r l) = S (ix3 r (grp l) (lane l)) := by
  pointwise
  rfl
theorem unchunk_at (S : FVec Ideal S66x128x4x128 .f32) (r : Fin 8448) (l : Fin 512) :
    shapeCast S8448x512 S shapeCasts_S66x128x4x128_S8448x512 (ix2 r l) = S (ix4 ⟨r.val / 128, by omega⟩ ⟨r.val % 128, by omega⟩ (grp l) (lane l)) := by
  pointwise
  rfl

/-! ### The sum along a chunk -/

abbrev Win : Shape := ⟨4, ![1, 128, 1, 1]⟩
theorem numel_win : Win.numel = 128 := by decide +kernel
theorem win_at (n : Fin Win.numel) : ((Win.rowMajor.symm n) 1).val = n.val := by
  have e : (Win.rowMajor (Win.rowMajor.symm n)).val = n.val := by rw [Equiv.apply_symm_apply]
  rw [Shape.rowMajor_val_four] at e
  have h0 : ((Win.rowMajor.symm n) 0).val < 1 := ((Win.rowMajor.symm n) 0).isLt
  have h2 : ((Win.rowMajor.symm n) 2).val < 1 := ((Win.rowMajor.symm n) 2).isLt
  have h3 : ((Win.rowMajor.symm n) 3).val < 1 := ((Win.rowMajor.symm n) 3).isLt
  simp at e
  omega
theorem foldl_sum {M : ℕ} (g : Fin M → EReal) : (List.finRange M).foldl (fun r a => r + g a) 0 = ∑ n, g n := by
  have e : ∀ (l : List (Fin M)) (z : EReal), l.foldl (fun r a => r + g a) z = z + (l.map g).sum := by
    intro l
    induction l with
    | nil => intro z; simp
    | cons a l ih => intro z; rw [List.foldl_cons, ih, List.map_cons, List.sum_cons, add_assoc]
  rw [e, zero_add, Fin.sum_univ_def]
/-- The window's rows that exist are the chunk's rows up to this one. -/
theorem upto_sum (f : ℕ → EReal) (s : ℕ) (hs : s < 128) :
    (∑ n : Fin Win.numel, if 127 ≤ s + n.val then f (s + n.val - 127) else 0) = ∑ k : Fin 128, if k.val ≤ s then f k.val else 0 := by
  rw [← Finset.sum_range (fun n => if 127 ≤ s + n then f (s + n - 127) else 0), numel_win, ← Finset.sum_range (fun k => if k ≤ s then f k else 0), ← Finset.sum_filter, ← Finset.sum_filter]
  refine Finset.sum_nbij' (fun n => s + n - 127) (fun i => i + 127 - s) ?_ ?_ ?_ ?_ ?_
  all_goals intro a ha; simp only [Finset.mem_filter, Finset.mem_range] at ha ⊢
  all_goals omega
theorem cums_at (T : FVec Ideal S66x128x4x128 .f32) (a : Fin 66) (s : Fin 128) (g : Fin 4) (l : Fin 128) :
    cums T (ix4 a s g l) = ∑ k : Fin 128, if k.val ≤ s.val then T (ix4 a k g l) else 0 := by
  have z : (broadcastInDim S_ ![] bcast_S_S_ (constant S_ .f32 0x00000000#32) : FVec Ideal S_ .f32) = fun _ => 0 := by
    funext y
    obtain rfl : y = ix0 := funext fun a => a.elim0
    pointwise
  unfold cums Host.reduceWindowAdd
  rw [Ideal.hostReduceWindowAdd_def, z]
  unfold Ideal.hostReduceWindowAdd Host.reduceWindow
  dsimp only
  set f : ℕ → EReal := fun k => if h : k < 128 then T (ix4 a ⟨k, h⟩ g l) else 0 with hf
  have hk : ∀ k : Fin 128, T (ix4 a k g l) = f k.val := fun k => by rw [hf]; dsimp only; rw [dif_pos k.isLt]
  simp only [hk]
  rw [← upto_sum f s.val s.isLt]
  refine (foldl_sum (M := Win.numel) _).trans (Finset.sum_congr rfl fun n _ => ?_)
  have hw := win_at n
  have hn : n.val < 128 := lt_of_lt_of_eq n.isLt numel_win
  have h0 : ((Win.rowMajor.symm n) 0).val < 1 := ((Win.rowMajor.symm n) 0).isLt
  have h2 : ((Win.rowMajor.symm n) 2).val < 1 := ((Win.rowMajor.symm n) 2).isLt
  have h3 : ((Win.rowMajor.symm n) 3).val < 1 := ((Win.rowMajor.symm n) 3).isLt
  split
  · next hin =>
    have h1 := hin 1
    change 127 ≤ s.val * 1 + ((Win.rowMajor.symm n) 1).val ∧ s.val * 1 + ((Win.rowMajor.symm n) 1).val - 127 < 128 at h1
    rw [hw, Nat.mul_one] at h1
    rw [if_pos h1.1, hf]; dsimp only; rw [dif_pos h1.2]
    refine congrArg T (funext fun i => Fin.ext ?_)
    match i with
    | ⟨0, _⟩ => show a.val * 1 + ((Win.rowMajor.symm n) 0).val - 0 = a.val; omega
    | ⟨1, _⟩ => show s.val * 1 + ((Win.rowMajor.symm n) 1).val - 127 = s.val + n.val - 127; omega
    | ⟨2, _⟩ => show g.val * 1 + ((Win.rowMajor.symm n) 2).val - 0 = g.val; omega
    | ⟨3, _⟩ => show l.val * 1 + ((Win.rowMajor.symm n) 3).val - 0 = l.val; omega
  · next hin =>
    rw [if_neg fun hle => hin fun i => by
      match i with
      | ⟨0, _⟩ => show 0 ≤ a.val * 1 + ((Win.rowMajor.symm n) 0).val ∧ a.val * 1 + ((Win.rowMajor.symm n) 0).val - 0 < 66; omega
      | ⟨1, _⟩ => show 127 ≤ s.val * 1 + ((Win.rowMajor.symm n) 1).val ∧ s.val * 1 + ((Win.rowMajor.symm n) 1).val - 127 < 128; omega
      | ⟨2, _⟩ => show 0 ≤ g.val * 1 + ((Win.rowMajor.symm n) 2).val ∧ g.val * 1 + ((Win.rowMajor.symm n) 2).val - 0 < 4; omega
      | ⟨3, _⟩ => show 0 ≤ l.val * 1 + ((Win.rowMajor.symm n) 3).val ∧ l.val * 1 + ((Win.rowMajor.symm n) 3).val - 0 < 128; omega]

/-! ### The reference's results -/

theorem steps_eq (X : FVec Ideal S8448x512 .f32) (B : FVec Ideal S4x1x128 .f32) : shapeCast S8448x512 (steps X B) shapeCasts_S8448x4x128_S8448x512 = wholeSteps X B := by
  funext y
  obtain ⟨r, l, rfl⟩ : ∃ (r : Fin 8448) (l : Fin 512), y = ix2 r l := ⟨y 0, y 1, by funext i; match i with | ⟨0, _⟩ => rfl | ⟨1, _⟩ => rfl⟩
  rw [flat_at, steps_at]
  refine congrArg (wholeSteps X B) (congrArg (ix2 r) (Fin.ext ?_))
  exact Nat.div_add_mod l.val 128
theorem sums_at (X : FVec Ideal S8448x512 .f32) (B A : FVec Ideal S4x1x128 .f32) (a : Fin 66) (s : Fin 128) (g : Fin 4) (l : Fin 128) :
    cums (decayed (chunks (steps X B)) A) (ix4 a s g l) = wholeSums (wholeSteps X B) A (ix2 ⟨128 * a.val + s.val, by omega⟩ ⟨128 * g.val + l.val, by omega⟩) := by
  have e1 : grp (⟨128 * g.val + l.val, by omega⟩ : Fin 512) = g := Fin.ext (by show (128 * g.val + l.val) / 128 = g.val; omega)
  have e2 : lane (⟨128 * g.val + l.val, by omega⟩ : Fin 512) = l := Fin.ext (by show (128 * g.val + l.val) % 128 = l.val; omega)
  rw [cums_at]
  refine Finset.sum_congr rfl fun k _ => ?_
  show _ = if k.val ≤ (128 * a.val + s.val) % 128 then wholeSteps X B (ix2 (inChunk ⟨128 * a.val + s.val, _⟩ k) ⟨128 * g.val + l.val, _⟩) * (0 - Ideal.exp (A (ix3 (grp ⟨128 * g.val + l.val, _⟩) 0 (lane ⟨128 * g.val + l.val, _⟩)))) else 0
  have e3 : (128 * a.val + s.val) % 128 = s.val := by omega
  have e4 : inChunk (⟨128 * a.val + s.val, by omega⟩ : Fin 8448) k = ⟨128 * a.val + k.val, by omega⟩ := Fin.ext (by show 128 * ((128 * a.val + s.val) / 128) + k.val = 128 * a.val + k.val; omega)
  rw [e1, e2, e3, e4, decayed_at, chunks_at, steps_at]
theorem sums_eq (X : FVec Ideal S8448x512 .f32) (B A : FVec Ideal S4x1x128 .f32) :
    shapeCast S8448x512 (cums (decayed (chunks (steps X B)) A)) shapeCasts_S66x128x4x128_S8448x512 = wholeSums (wholeSteps X B) A := by
  funext y
  obtain ⟨r, l, rfl⟩ : ∃ (r : Fin 8448) (l : Fin 512), y = ix2 r l := ⟨y 0, y 1, by funext i; match i with | ⟨0, _⟩ => rfl | ⟨1, _⟩ => rfl⟩
  rw [unchunk_at, sums_at]
  exact congrArg (wholeSums (wholeSteps X B) A) (congrArg₂ ix2 (Fin.ext (Nat.div_add_mod r.val 128)) (Fin.ext (Nat.div_add_mod l.val 128)))
theorem pair_eq (X : FVec Ideal S8448x512 .f32) (B A : FVec Ideal S4x1x128 .f32) :
    pair (chunks (steps X B)) (cums (decayed (chunks (steps X B)) A)) = wholePair (wholeSteps X B) (wholeSums (wholeSteps X B) A) := by
  funext y
  obtain ⟨a, g, l, s, rfl⟩ : ∃ (a : Fin 66) (g : Fin 4) (l : Fin 16) (s : Fin 128), y = ix4 a g l s := ⟨y 0, y 1, y 2, y 3, by funext i; match i with | ⟨0, _⟩ => rfl | ⟨1, _⟩ => rfl | ⟨2, _⟩ => rfl | ⟨3, _⟩ => rfl⟩
  rw [pair_at]
  show _ = (if l.val < 8 then wholeSteps X B else wholeSums (wholeSteps X B) A) (ix2 ⟨128 * a.val + s.val, _⟩ ⟨128 * g.val + l.val % 8, _⟩)
  split
  · rw [chunks_at, steps_at]
  · rw [sums_at]
end Cert.ProjUzdtRefIdeal.Done

namespace Cert.ProjUzdtIdeal.Done
open Cert.ProjUzdtIdeal Cert.ProjUzdtIdeal.Gen
open Cert.ProjXbcIdeal (projAt projAt_congr)

/-! ### A chunk of one group: its step sizes, their running sums, and both turned on their side -/

/-- Where chunk `k` of tile `i` keeps its step sizes: the first six lanes, and of a sequence's first chunk only the rows from 112 on. -/
def mask (i k : BitVec 32) : IVec S128x128 1 :=
  have r : BitVec 32 := Scalar.remsi (Scalar.addi (Scalar.muli i 6#32) k) 33#32
  andi (cmpi .slt (iota .tc S128x128 32 [1] iota_S128x128_d1_w32) (broadcast S128x128 6#32))
    (ori (broadcast S128x128 (Scalar.cmpi .sgt (Scalar.select (Scalar.andi (Scalar.xori (Scalar.cmpi .slt r 0#32) 0#1) (Scalar.cmpi .ne r 0#32)) (Scalar.addi r 33#32) r) 0#32))
      (cmpi .sge (iota .tc S128x128 32 [0] iota_S128x128_d0_w32) (broadcast S128x128 112#32)))
/-- The running sums of `v` times the group's decay, through three products with the lower triangle. -/
def sums (v : FVec Ideal S128x128 .f32) (al : Vec Ideal S1x1x128 .f32) : FVec Ideal S128x128 .f32 :=
  k0_pay53 (F := Ideal) (k0_pay47 k0_pay7) (k0_pay51 v al) (k0_pay52 k0_pay7 v al)

/-- The chunks of a tile and the groups, the last first. -/
def units : List (Fin 6 × Fin 4) := [(5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]
theorem inb_unit (q : Fin 6 × Fin 4) : ∀ a, ![128 * q.1.val, 128 * q.2.val] a + ![128, 128] a ≤ S768x512.size a := by
  have h1 := q.1.isLt; have h2 := q.2.isLt
  intro a
  match a with
  | ⟨0, _⟩ => show 128 * q.1.val + 128 ≤ 768; omega
  | ⟨1, _⟩ => show 128 * q.2.val + 128 ≤ 512; omega
theorem inb_row (g : Fin 4) : ∀ a, ![g.val, 0, 0] a + ![1, 1, 128] a ≤ S4x1x128.size a := by
  have h := g.isLt
  intro a
  match a with
  | ⟨0, _⟩ => show g.val + 1 ≤ 4; omega
  | ⟨1, _⟩ => exact le_refl _
  | ⟨2, _⟩ => exact le_refl _
theorem inb_half (q : Fin 6 × Fin 4) (h : Fin 2) : ∀ a, ![q.1.val, q.2.val, 8 * h.val, 0] a + ![1, 1, 8, 128] a ≤ S6x4x16x128.size a := by
  have h1 := q.1.isLt; have h2 := q.2.isLt; have h3 := h.isLt
  intro a
  match a with
  | ⟨0, _⟩ => show q.1.val + 1 ≤ 6; omega
  | ⟨1, _⟩ => show q.2.val + 1 ≤ 4; omega
  | ⟨2, _⟩ => show 8 * h.val + 8 ≤ 16; omega
  | ⟨3, _⟩ => exact le_refl _
/-- A group's row of a bias, and a chunk's steps and sums of one group, from the tile's raw values. -/
abbrev rowOf (B : FVec Ideal S4x1x128 .f32) (g : Fin 4) : Vec Ideal S1x1x128 .f32 := View.ld (Val := Elt Ideal) (e' := .f32) B (Rect.unit (s := S4x1x128) ![g.val, 0, 0] ![1, 1, 128] (inb_row g))
abbrev stepsOf (i : BitVec 32) (D : FVec Ideal S768x512 .f32) (B : FVec Ideal S4x1x128 .f32) (q : Fin 6 × Fin 4) : FVec Ideal S128x128 .f32 :=
  k0_pay17 (F := Ideal) (mask i (BitVec.ofNat 32 q.1.val)) (View.ld (Val := Elt Ideal) (e' := .f32) D (Rect.unit (s := S768x512) ![128 * q.1.val, 128 * q.2.val] ![128, 128] (inb_unit q))) (rowOf B q.2)
abbrev sumsOf (i : BitVec 32) (D : FVec Ideal S768x512 .f32) (B A : FVec Ideal S4x1x128 .f32) (q : Fin 6 × Fin 4) : FVec Ideal S128x128 .f32 :=
  sums (stepsOf i D B q) (rowOf A q.2)
/-- What the tile stores of one chunk and group. -/
abbrev unitPiece (X : Fin 6 × Fin 4 → FVec Ideal S128x128 .f32) (q : Fin 6 × Fin 4) : View.Piece (Elt Ideal) S768x512 .f32 :=
  ⟨Rect.unit (s := S768x512) ![128 * q.1.val, 128 * q.2.val] ![128, 128] (inb_unit q), X q⟩
abbrev halfPiece (X : Fin 6 × Fin 4 → FVec Ideal S128x128 .f32) (h : Fin 2) (q : Fin 6 × Fin 4) : View.Piece (Elt Ideal) S6x4x16x128 .f32 :=
  ⟨Rect.unit (s := S6x4x16x128) ![q.1.val, q.2.val, 8 * h.val, 0] ![1, 1, 8, 128] (inb_half q h), k0_pay105 (F := Ideal) (X q)⟩

variable (m : (ℓ : Loc nD τ sig) → Buf (Elt Ideal) ℓ) (c : Dev nD)

/-- The input blocks of a point. -/
def blkA (t : Fin cfg0.N) : FVec Ideal S768x1024 .bf16 := iblk m c 0 t
def blkU (t : Fin cfg0.N) : FVec Ideal S512x1024 .bf16 := iblk m c 1 t
def blkZ (t : Fin cfg0.N) : FVec Ideal S1536x1024 .bf16 := iblk m c 2 t
def blkD (t : Fin cfg0.N) : FVec Ideal S512x1024 .bf16 := iblk m c 3 t
def blkB (t : Fin cfg0.N) : FVec Ideal S4x1x128 .f32 := iblk m c 4 t
def blkL (t : Fin cfg0.N) : FVec Ideal S4x1x128 .f32 := iblk m c 5 t
/-- The tile's number, as the kernel reads it. -/
def tile (t : Fin cfg0.N) : BitVec 32 := BitVec.ofNat 32 (grid0.coords t 0).val
theorem inb_col (p : Fin 3) : ∀ a, ![0, 512 * p.val] a + ![768, 512] a ≤ S768x1536.size a := by
  have h := p.isLt
  intro a
  match a with
  | ⟨0, _⟩ => exact le_refl _
  | ⟨1, _⟩ => show 512 * p.val + 512 ≤ 1536; omega
theorem inb_weight (p : Fin 3) : ∀ a, ![512 * p.val, 0] a + ![512, 1024] a ≤ S1536x1024.size a := by
  have h := p.isLt
  intro a
  match a with
  | ⟨0, _⟩ => show 512 * p.val + 512 ≤ 1536; omega
  | ⟨1, _⟩ => exact le_refl _
abbrev zPiece (a : FVec Ideal S768x1024 .bf16) (w : FVec Ideal S1536x1024 .bf16) (p : Fin 3) : View.Piece (Elt Ideal) S768x1536 .f32 :=
  ⟨Rect.unit (s := S768x1536) ![0, 512 * p.val] ![768, 512] (inb_col p), k0_pay2 (F := Ideal) a (View.ld (Val := Elt Ideal) (e' := .bf16) w (Rect.unit (s := S1536x1024) ![512 * p.val, 0] ![512, 1024] (inb_weight p)))⟩

set_option maxHeartbeats 4000000 in
theorem outs_eq (t : Fin cfg0.N) :
    outsAt0 m c t = (k0_pay2 (F := Ideal) (blkA m c t) (blkU m c t), View.canon ([2, 1, 0].map (zPiece (blkA m c t) (blkZ m c t))), k0_pay2 (F := Ideal) (blkA m c t) (blkD m c t),
      View.canon (units.map (unitPiece (stepsOf (tile t) (k0_pay2 (F := Ideal) (blkA m c t) (blkD m c t)) (blkB m c t)))),
      View.canon (units.map (unitPiece (sumsOf (tile t) (k0_pay2 (F := Ideal) (blkA m c t) (blkD m c t)) (blkB m c t) (blkL m c t)))),
      View.canon (units.flatMap fun q => [halfPiece (sumsOf (tile t) (k0_pay2 (F := Ideal) (blkA m c t) (blkD m c t)) (blkB m c t) (blkL m c t)) 1 q,
        halfPiece (stepsOf (tile t) (k0_pay2 (F := Ideal) (blkA m c t) (blkD m c t)) (blkB m c t)) 0 q])) := by
  unfold outsAt0
  frame_out
  simp (disch := first | decide | (intro a; fin_cases a <;> rfl)) only [View.readCov_skip, View.readCov_cons_toLoadRect, View.readCov_fill]
  rfl

/-! ### Their entries -/
theorem points (t : Fin cfg0.N) : t.val < 11 := lt_of_lt_of_eq t.isLt (by decide +kernel : grid0.N = 11)
theorem tile_eq : ∀ t : Fin cfg0.N, tile t = BitVec.ofNat 32 t.val := (by decide +kernel : ∀ t : Fin grid0.N, BitVec.ofNat 32 (grid0.coords t 0).val = BitVec.ofNat 32 t.val)
theorem chunk_word : ∀ (i : Fin 11) (k : Fin 6),
    (have w : BitVec 32 := Scalar.remsi (Scalar.addi (Scalar.muli (BitVec.ofNat 32 i.val) 6#32) (BitVec.ofNat 32 k.val)) 33#32
     Scalar.cmpi .sgt (Scalar.select (Scalar.andi (Scalar.xori (Scalar.cmpi .slt w 0#32) 0#1) (Scalar.cmpi .ne w 0#32)) (Scalar.addi w 33#32) w) 0#32)
      = BitVec.ofBool (decide (0 < (6 * i.val + k.val) % 33)) := by decide +kernel
theorem lane_word : ∀ l : Fin 128, IntOp.cmpi .slt (BitVec.ofNat 32 l.val) 6#32 = BitVec.ofBool (decide (l.val < 6)) := by decide +kernel
theorem row_word : ∀ r : Fin 128, IntOp.cmpi .sge (BitVec.ofNat 32 r.val) 112#32 = BitVec.ofBool (decide (112 ≤ r.val)) := by decide +kernel
theorem low_word : ∀ r l : Fin 128, BitVec.setWidth 32 (IntOp.cmpi .sge (BitVec.ofNat 32 r.val) (BitVec.ofNat 32 l.val)) = if l.val ≤ r.val then 1#32 else 0#32 := by decide +kernel
theorem both_word (p q s : Prop) [Decidable p] [Decidable q] [Decidable s] :
    IntOp.andi (BitVec.ofBool (decide p)) (IntOp.ori (BitVec.ofBool (decide q)) (BitVec.ofBool (decide s))) = BitVec.ofBool (decide (p ∧ (q ∨ s))) := by
  by_cases hp : p <;> by_cases hq : q <;> by_cases hs : s <;> simp [hp, hq, hs] <;> rfl
theorem mask_at (i : Fin 11) (k : Fin 6) (r l : Fin 128) :
    mask (BitVec.ofNat 32 i.val) (BitVec.ofNat 32 k.val) (ix2 r l) = BitVec.ofBool (decide (l.val < 6 ∧ 112 ≤ (768 * i.val + 128 * k.val + r.val) % 4224)) := by
  have e : mask (BitVec.ofNat 32 i.val) (BitVec.ofNat 32 k.val) (ix2 r l) = IntOp.andi (IntOp.cmpi .slt (BitVec.ofNat 32 l.val) 6#32) (IntOp.ori
      (have w : BitVec 32 := Scalar.remsi (Scalar.addi (Scalar.muli (BitVec.ofNat 32 i.val) 6#32) (BitVec.ofNat 32 k.val)) 33#32
       Scalar.cmpi .sgt (Scalar.select (Scalar.andi (Scalar.xori (Scalar.cmpi .slt w 0#32) 0#1) (Scalar.cmpi .ne w 0#32)) (Scalar.addi w 33#32) w) 0#32)
      (IntOp.cmpi .sge (BitVec.ofNat 32 r.val) 112#32)) := by
    pointwise [mask]
  rw [e, chunk_word, lane_word, row_word, both_word]
  refine congrArg BitVec.ofBool (decide_eq_decide.mpr ?_)
  omega
theorem pay17_at (v : IVec S128x128 1) (x : Vec Ideal S128x128 .f32) (b : Vec Ideal S1x1x128 .f32) (r l : Fin 128) :
    k0_pay17 (F := Ideal) v x b (ix2 r l) = if v (ix2 r l) = 1#1 then softAt (x (ix2 r l) + b (ix3 0 0 l)) else 0 := by
  pointwise [k0_pay17, softAt]
  rfl
theorem pay7_at (r l : Fin 128) : k0_pay7 (F := Ideal) (ix2 r l) = if l.val ≤ r.val then (1 : EReal) else 0 := by
  have e : k0_pay7 (F := Ideal) (ix2 r l) = FloatOps.sitofp (F := Ideal) .f32 (BitVec.setWidth 32 (IntOp.cmpi .sge (BitVec.ofNat 32 r.val) (BitVec.ofNat 32 l.val))) := by
    pointwise [k0_pay7]
  rw [e, low_word]
  split
  · show (((1#32).toInt : ℝ) : EReal) = 1
    simp
  · show (((0#32).toInt : ℝ) : EReal) = 0
    simp
theorem pay46_at (v : FVec Ideal S128x128 .f32) (al : Vec Ideal S1x1x128 .f32) (r l : Fin 128) :
    k0_pay46 (F := Ideal) v al (ix2 r l) = v (ix2 r l) * (0 - Ideal.exp (al (ix3 0 0 l))) := by
  pointwise [k0_pay46]
theorem sum_bot {ι : Type} [Fintype ι] [DecidableEq ι] (x : ι → EReal) (k : ι) (h : x k = ⊥) : ∑ i, x i = ⊥ := by
  rw [← Finset.add_sum_erase _ _ (Finset.mem_univ k), h, EReal.bot_add]
/-- A sum and the sums of what is left after taking the terms away from themselves, once and twice: where no term is the upper infinity, the first sum. -/
theorem rest_sum {ι : Type} [Fintype ι] [DecidableEq ι] (x : ι → EReal) (h : ∀ k, x k ≠ ⊤) :
    ∑ k, x k + ∑ k, (x k - x k) + ∑ k, ((x k - x k) - (x k - x k)) = ∑ k, x k := by
  by_cases hb : ∃ k, x k = ⊥
  · obtain ⟨k, hk⟩ := hb
    rw [sum_bot x k hk, EReal.bot_add, EReal.bot_add]
  · have e (k : ι) : x k - x k = 0 := EReal.sub_self (h k) fun hk => hb ⟨k, hk⟩
    simp only [e, sub_zero, Finset.sum_const_zero, add_zero]
theorem weight (p : Prop) [Decidable p] (x : EReal) : (if p then (1 : EReal) else 0) * x = if p then x else 0 := by
  split
  · exact one_mul x
  · exact zero_mul x
theorem exp_nonneg : ∀ z : EReal, 0 ≤ Ideal.exp z
  | ⊥ => le_refl _
  | ⊤ => le_top
  | (z : ℝ) => EReal.coe_nonneg.mpr (Real.exp_nonneg z)
theorem log1p_nonneg : ∀ z : EReal, 0 ≤ z → 0 ≤ Ideal.log1p z := by
  intro z hz
  induction z with
  | bot => simp at hz
  | top => exact le_top
  | coe z =>
    have h : (0 : ℝ) ≤ z := EReal.coe_nonneg.mp hz
    show 0 ≤ Ideal.log ((1 : EReal) + (z : EReal))
    have e : (1 : EReal) + (z : EReal) = ((1 + z : ℝ) : EReal) := rfl
    rw [e]
    show 0 ≤ if 1 + z ≤ 0 then (⊥ : EReal) else (Real.log (1 + z) : EReal)
    rw [if_neg (by linarith)]
    exact EReal.coe_nonneg.mpr (Real.log_nonneg (by linarith))
theorem soft_nonneg (z : EReal) : 0 ≤ softAt z := add_nonneg (le_max_right _ _) (log1p_nonneg _ (exp_nonneg _))
theorem sums_at (v : FVec Ideal S128x128 .f32) (al : Vec Ideal S1x1x128 .f32) (hv : ∀ j, (0 : EReal) ≤ v j) (r l : Fin 128) :
    sums v al (ix2 r l) = ∑ k : Fin 128, if k.val ≤ r.val then v (ix2 k l) * (0 - Ideal.exp (al (ix3 0 0 l))) else 0 := by
  have e : sums v al (ix2 r l) = ∑ k : Fin 128, k0_pay7 (F := Ideal) (ix2 r k) * k0_pay46 (F := Ideal) v al (ix2 k l)
      + ∑ k : Fin 128, k0_pay7 (F := Ideal) (ix2 r k) * (k0_pay46 (F := Ideal) v al (ix2 k l) - k0_pay46 (F := Ideal) v al (ix2 k l))
      + ∑ k : Fin 128, k0_pay7 (F := Ideal) (ix2 r k) * (k0_pay46 (F := Ideal) v al (ix2 k l) - k0_pay46 (F := Ideal) v al (ix2 k l) - (k0_pay46 (F := Ideal) v al (ix2 k l) - k0_pay46 (F := Ideal) v al (ix2 k l))) := by
    pointwise [sums, k0_pay53, k0_pay52, k0_pay51, k0_pay50, k0_pay49, k0_pay48, k0_pay47]
  rw [e]
  simp only [pay7_at, pay46_at, weight]
  refine Eq.trans ?_ (rest_sum (fun k : Fin 128 => if k.val ≤ r.val then v (ix2 k l) * (0 - Ideal.exp (al (ix3 0 0 l))) else 0) fun k => ?_)
  · refine congrArg₂ (fun u w : EReal => _ + u + w) (Finset.sum_congr rfl fun k _ => ?_) (Finset.sum_congr rfl fun k _ => ?_)
    all_goals
      split
      · rfl
      · simp
  · split
    · exact ne_of_lt (lt_of_le_of_lt (EReal.mul_nonpos_iff.mpr (.inl ⟨hv _, EReal.sub_nonpos.mpr (exp_nonneg _)⟩)) EReal.zero_lt_top)
    · exact EReal.zero_ne_top
theorem pay105_at (v : FVec Ideal S128x128 .f32) (a b : Fin 1) (l : Fin 8) (r : Fin 128) :
    k0_pay105 (F := Ideal) v (ix4 a b l r) = v (ix2 r ⟨l.val, by omega⟩) := by
  pointwise [k0_pay105]

/-! ### A unit of a tile, as a part of the whole -/

theorem steps_unit (i : Fin 11) (D : FVec Ideal S768x512 .f32) (X : FVec Ideal S8448x512 .f32) (B : FVec Ideal S4x1x128 .f32)
    (hD : ∀ (r : Fin 768) (l : Fin 512), D (ix2 r l) = X (ix2 ⟨768 * i.val + r.val, by omega⟩ l)) (q : Fin 6 × Fin 4) (r l : Fin 128) :
    stepsOf (BitVec.ofNat 32 i.val) D B q (ix2 r l) = wholeSteps X B (ix2 ⟨768 * i.val + (128 * q.1.val + r.val), by omega⟩ ⟨128 * q.2.val + l.val, by omega⟩) := by
  have ex : View.ld (Val := Elt Ideal) (e' := .f32) D (Rect.unit (s := S768x512) ![128 * q.1.val, 128 * q.2.val] ![128, 128] (inb_unit q)) (ix2 r l)
      = X (ix2 ⟨768 * i.val + (128 * q.1.val + r.val), by omega⟩ ⟨128 * q.2.val + l.val, by omega⟩) := by
    refine Eq.trans (congrArg D (funext fun a => Fin.ext ?_)) (hD ⟨128 * q.1.val + r.val, by omega⟩ ⟨128 * q.2.val + l.val, by omega⟩)
    match a with
    | ⟨0, _⟩ => simp
    | ⟨1, _⟩ => simp
  have eg : grp ⟨128 * q.2.val + l.val, by omega⟩ = q.2 := Fin.ext (by show (128 * q.2.val + l.val) / 128 = q.2.val; omega)
  have el : lane ⟨128 * q.2.val + l.val, by omega⟩ = l := Fin.ext (by show (128 * q.2.val + l.val) % 128 = l.val; omega)
  have eb : rowOf B q.2 (ix3 0 0 l) = B (ix3 q.2 0 l) := by
    refine congrArg B (funext fun a => Fin.ext ?_)
    match a with
    | ⟨0, _⟩ => simp
    | ⟨1, _⟩ => simp
    | ⟨2, _⟩ => simp
  unfold stepsOf
  rw [pay17_at, mask_at, ex, eb]
  unfold wholeSteps
  show _ = if (lane ⟨128 * q.2.val + l.val, by omega⟩).val < 6 ∧ 112 ≤ (768 * i.val + (128 * q.1.val + r.val)) % 4224 then softAt (X _ + B (ix3 (grp ⟨128 * q.2.val + l.val, by omega⟩) 0 (lane ⟨128 * q.2.val + l.val, by omega⟩))) else 0
  rw [eg, el]
  refine if_congr ?_ rfl rfl
  rw [← Nat.add_assoc (768 * i.val)]
  by_cases h : l.val < 6 ∧ 112 ≤ (768 * i.val + 128 * q.1.val + r.val) % 4224
  · simp [h]
  · simp [h]
theorem sums_unit (i : Fin 11) (D : FVec Ideal S768x512 .f32) (X : FVec Ideal S8448x512 .f32) (B A : FVec Ideal S4x1x128 .f32)
    (hD : ∀ (r : Fin 768) (l : Fin 512), D (ix2 r l) = X (ix2 ⟨768 * i.val + r.val, by omega⟩ l)) (q : Fin 6 × Fin 4) (r l : Fin 128) :
    sumsOf (BitVec.ofNat 32 i.val) D B A q (ix2 r l) = wholeSums (wholeSteps X B) A (ix2 ⟨768 * i.val + (128 * q.1.val + r.val), by omega⟩ ⟨128 * q.2.val + l.val, by omega⟩) := by
  have hv (j : S128x128.Idx) : (0 : EReal) ≤ stepsOf (BitVec.ofNat 32 i.val) D B q j := by
    idx_vars j
    unfold stepsOf
    rw [pay17_at]
    split
    · exact soft_nonneg _
    · exact le_refl _
  have eg : grp ⟨128 * q.2.val + l.val, by omega⟩ = q.2 := Fin.ext (by show (128 * q.2.val + l.val) / 128 = q.2.val; omega)
  have el : lane ⟨128 * q.2.val + l.val, by omega⟩ = l := Fin.ext (by show (128 * q.2.val + l.val) % 128 = l.val; omega)
  have eb : rowOf A q.2 (ix3 0 0 l) = A (ix3 q.2 0 l) := by
    refine congrArg A (funext fun a => Fin.ext ?_)
    match a with
    | ⟨0, _⟩ => simp
    | ⟨1, _⟩ => simp
    | ⟨2, _⟩ => simp
  unfold sumsOf
  rw [sums_at _ _ hv, eb]
  refine Finset.sum_congr rfl fun k _ => ?_
  show _ = if k.val ≤ (768 * i.val + (128 * q.1.val + r.val)) % 128 then wholeSteps X B (ix2 (inChunk _ k) _) * (0 - Ideal.exp (A (ix3 (grp ⟨128 * q.2.val + l.val, by omega⟩) 0 (lane ⟨128 * q.2.val + l.val, by omega⟩)))) else 0
  rw [eg, el, steps_unit i D X B hD q k l, show (768 * i.val + (128 * q.1.val + r.val)) % 128 = r.val by omega]
  refine if_congr Iff.rfl (congrArg (fun z : EReal => z * _) (congrArg (fun z => wholeSteps X B (ix2 z _)) (Fin.ext ?_))) rfl
  show 768 * i.val + (128 * q.1.val + k.val) = 128 * ((768 * i.val + (128 * q.1.val + r.val)) / 128) + k.val
  omega

theorem unit_tile (X : Fin 6 × Fin 4 → FVec Ideal S128x128 .f32) (G : FVec Ideal S768x512 .f32)
    (h : ∀ (q : Fin 6 × Fin 4) (r l : Fin 128), X q (ix2 r l) = G (ix2 ⟨128 * q.1.val + r.val, by omega⟩ ⟨128 * q.2.val + l.val, by omega⟩)) :
    View.canon (units.map (unitPiece X)) = G := by
  funext y
  refine (congrArg (fun L => View.canon L y) (List.append_nil _).symm).trans (View.canon_append_of_pieces G [] (units.map (unitPiece X)) (fun p hp => ?_) y (View.cover_of_tiledBy _ ![128, 128] (by sl_kernel_rfl) y))
  obtain ⟨q, _, rfl⟩ := List.mem_map.mp hp
  intro (j : S128x128.Idx)
  idx_vars j
  refine (h q j0 j1).trans (congrArg G (funext fun a => Fin.ext ?_))
  match a with
  | ⟨0, _⟩ => simp
  | ⟨1, _⟩ => simp
theorem half_tile (X X' : Fin 6 × Fin 4 → FVec Ideal S128x128 .f32) (G : FVec Ideal S6x4x16x128 .f32)
    (h : ∀ (q : Fin 6 × Fin 4) (l : Fin 8) (r : Fin 128), X q (ix2 r ⟨l.val, by omega⟩) = G (ix4 q.1 q.2 ⟨l.val, by omega⟩ r))
    (h' : ∀ (q : Fin 6 × Fin 4) (l : Fin 8) (r : Fin 128), X' q (ix2 r ⟨l.val, by omega⟩) = G (ix4 q.1 q.2 ⟨8 + l.val, by omega⟩ r)) :
    View.canon (units.flatMap fun q => [halfPiece X' 1 q, halfPiece X 0 q]) = G := by
  funext y
  refine (congrArg (fun L => View.canon L y) (List.append_nil _).symm).trans (View.canon_append_of_pieces G [] (units.flatMap fun q => [halfPiece X' 1 q, halfPiece X 0 q]) (fun p hp => ?_) y
    (View.cover_of_tiledBy _ ![1, 1, 8, 128] (by sl_kernel_rfl) y))
  obtain ⟨q, _, hp⟩ := List.mem_flatMap.mp hp
  have piece (F : Fin 6 × Fin 4 → FVec Ideal S128x128 .f32) (d : Fin 2) (hF : ∀ (l : Fin 8) (r : Fin 128), F q (ix2 r ⟨l.val, by omega⟩) = G (ix4 q.1 q.2 ⟨8 * d.val + l.val, by omega⟩ r)) (j : S1x1x8x128.Idx) :
      (halfPiece F d q).2 j = G ((halfPiece F d q).1.emb j) := by
    idx_vars j
    refine (pay105_at (F q) j0 j1 j2 j3).trans ((hF j2 j3).trans (congrArg G (funext fun a => Fin.ext ?_)))
    match a with
    | ⟨0, _⟩ => simp
    | ⟨1, _⟩ => simp
    | ⟨2, _⟩ => simp
    | ⟨3, _⟩ => simp
  rcases List.mem_cons.mp hp with rfl | hp
  · exact piece X' 1 (h' q)
  · rcases List.mem_cons.mp hp with rfl | hp
    · exact piece X 0 fun l r => (h q l r).trans (congrArg (fun z => G (ix4 q.1 q.2 z r)) (Fin.ext (Nat.zero_add _).symm))
    · exact absurd hp List.not_mem_nil

/-! ### The blocks of a point, and the arrays they make -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0, 0, 0] := (by decide +kernel : ∀ t : Fin grid0.N, _)

theorem blkA_at (t : Fin cfg0.N) (r : Fin 768) (k : Fin 1024) (i : Fin 8448) (hi : i.val = t.val * 768 + r.val) :
    blkA m c t (ix2 r k) = m ((c : Thread nD τ).loc main_arg0) (ix2 i k) := by
  have h0 := idx0 t
  show V m c main_arg0 ((win0_0.blk t).view.emb (ix2 r k : S768x1024.Idx)) = _
  rw [V_main_arg0]
  refine congrArg _ (funext fun a => Fin.ext ?_)
  match a with
  | ⟨0, _⟩ => blk_simp [h0]; exact hi.symm
  | ⟨1, _⟩ => blk_simp [h0]
theorem blkU_eq (t : Fin cfg0.N) : blkU m c t = m ((c : Thread nD τ).loc main_arg1) := by
  have h0 := idx1 t
  funext y
  show V m c main_arg1 ((win0_1.blk t).view.emb (y : S512x1024.Idx)) = _
  rw [V_main_arg1]
  refine congrArg _ (funext fun a => Fin.ext ?_)
  match a with
  | ⟨0, _⟩ => blk_simp [h0]
  | ⟨1, _⟩ => blk_simp [h0]
theorem blkZ_eq (t : Fin cfg0.N) : blkZ m c t = m ((c : Thread nD τ).loc main_arg2) := by
  have h0 := idx2 t
  funext y
  show V m c main_arg2 ((win0_2.blk t).view.emb (y : S1536x1024.Idx)) = _
  rw [V_main_arg2]
  refine congrArg _ (funext fun a => Fin.ext ?_)
  match a with
  | ⟨0, _⟩ => blk_simp [h0]
  | ⟨1, _⟩ => blk_simp [h0]
theorem blkD_eq (t : Fin cfg0.N) : blkD m c t = m ((c : Thread nD τ).loc main_arg3) := by
  have h0 := idx3 t
  funext y
  show V m c main_arg3 ((win0_3.blk t).view.emb (y : S512x1024.Idx)) = _
  rw [V_main_arg3]
  refine congrArg _ (funext fun a => Fin.ext ?_)
  match a with
  | ⟨0, _⟩ => blk_simp [h0]
  | ⟨1, _⟩ => blk_simp [h0]
theorem blkB_eq (t : Fin cfg0.N) : blkB m c t = m ((c : Thread nD τ).loc main_arg4) := by
  have h0 := idx4 t
  funext y
  show V m c main_arg4 ((win0_4.blk t).view.emb (y : S4x1x128.Idx)) = _
  rw [V_main_arg4]
  refine congrArg _ (funext fun a => Fin.ext ?_)
  match a with
  | ⟨0, _⟩ => blk_simp [h0]
  | ⟨1, _⟩ => blk_simp [h0]
  | ⟨2, _⟩ => blk_simp [h0]
theorem blkL_eq (t : Fin cfg0.N) : blkL m c t = m ((c : Thread nD τ).loc main_arg5) := by
  have h0 := idx5 t
  funext y
  show V m c main_arg5 ((win0_5.blk t).view.emb (y : S4x1x128.Idx)) = _
  rw [V_main_arg5]
  refine congrArg _ (funext fun a => Fin.ext ?_)
  match a with
  | ⟨0, _⟩ => blk_simp [h0]
  | ⟨1, _⟩ => blk_simp [h0]
  | ⟨2, _⟩ => blk_simp [h0]

/-- A tile's rows of a whole array. -/
def rows {j : ℕ} (i : Fin 11) (G : FVec Ideal ⟨2, ![8448, j]⟩ .f32) : FVec Ideal ⟨2, ![768, j]⟩ .f32 := fun y =>
  have h : (y 0).val < 768 := (y 0).isLt
  G (ix2 ⟨768 * i.val + (y 0).val, by omega⟩ (y 1))
theorem proj_rows {j : ℕ} (t : Fin cfg0.N) (w : FVec Ideal ⟨2, ![j, 1024]⟩ .bf16) :
    projAt (n := 768) (j := j) (blkA m c t) w = rows ⟨t.val, points t⟩ (projAt (n := 8448) (j := j) (m ((c : Thread nD τ).loc main_arg0)) w) := by
  funext y
  have h : (y 0).val < 768 := (y 0).isLt
  have ht := points t
  refine (congrArg (projAt (n := 768) (j := j) (blkA m c t) w) (eq_ix2 y)).trans (projAt_congr _ _ _ (y 0) ⟨768 * t.val + (y 0).val, by omega⟩ (y 1) fun k => blkA_at m c t (y 0) k _ ?_)
  show 768 * t.val + (y 0).val = t.val * 768 + (y 0).val
  omega
theorem pay2_eq (a : Vec Ideal S768x1024 .bf16) (w : Vec Ideal S512x1024 .bf16) : k0_pay2 (F := Ideal) a w = projAt (n := 768) (j := 512) a w := by
  funext y
  idx_vars y
  pointwise [k0_pay2, projAt]
theorem z_tile (a : FVec Ideal S768x1024 .bf16) (w : FVec Ideal S1536x1024 .bf16) : View.canon ([2, 1, 0].map (zPiece a w)) = projAt (n := 768) (j := 1536) a w := by
  have hs (p : Fin 3) (j : S768x512.Idx) : (zPiece a w p).2 j = projAt (n := 768) (j := 1536) a w ((zPiece a w p).1.emb j) := by
    idx_vars j
    have e : (zPiece a w p).1.emb (ix2 j0 j1) = ix2 j0 ⟨512 * p.val + j1.val, by omega⟩ := by
      refine funext fun i => Fin.ext ?_
      match i with
      | ⟨0, _⟩ => simp
      | ⟨1, _⟩ => simp
    refine Eq.trans ?_ (congrArg (projAt (n := 768) (j := 1536) a w) e.symm)
    show k0_pay2 (F := Ideal) a _ (ix2 j0 j1) = _
    rw [pay2_eq]
    refine Finset.sum_congr rfl fun k _ => congrArg₂ (fun u v : EReal => u * v) rfl (congrArg w (funext fun i => Fin.ext ?_))
    match i with
    | ⟨0, _⟩ => simp
    | ⟨1, _⟩ => simp
  funext y
  exact View.canon_append_of_piecesOf _ [] [_, _, _] ⟨hs 2, hs 1, hs 0, trivial⟩ y (View.cover_of_tiledBy _ ![768, 512] (by sl_kernel_rfl) y)

/-- The three products of all the rows, the step sizes and their sums. -/
def prodU : FVec Ideal S8448x512 .f32 := projAt (n := 8448) (j := 512) (m ((c : Thread nD τ).loc main_arg0)) (m ((c : Thread nD τ).loc main_arg1))
def prodZ : FVec Ideal S8448x1536 .f32 := projAt (n := 8448) (j := 1536) (m ((c : Thread nD τ).loc main_arg0)) (m ((c : Thread nD τ).loc main_arg2))
def prodD : FVec Ideal S8448x512 .f32 := projAt (n := 8448) (j := 512) (m ((c : Thread nD τ).loc main_arg0)) (m ((c : Thread nD τ).loc main_arg3))
def allSteps : FVec Ideal S8448x512 .f32 := wholeSteps (prodD m c) (m ((c : Thread nD τ).loc main_arg4))
def allSums : FVec Ideal S8448x512 .f32 := wholeSums (allSteps m c) (m ((c : Thread nD τ).loc main_arg5))

theorem after6 (t : Fin cfg0.N) : (dats m 0 c).after 6 t = rows ⟨t.val, points t⟩ (prodU m c) := by
  rw [after0_6, outs_eq, blkU_eq, pay2_eq, proj_rows]
  rfl
theorem after7 (t : Fin cfg0.N) : (dats m 0 c).after 7 t = rows ⟨t.val, points t⟩ (prodZ m c) := by
  rw [after0_7, outs_eq, blkZ_eq, z_tile, proj_rows]
  rfl
theorem raw_rows (t : Fin cfg0.N) : k0_pay2 (F := Ideal) (blkA m c t) (blkD m c t) = rows ⟨t.val, points t⟩ (prodD m c) := by
  rw [blkD_eq, pay2_eq, proj_rows]
  rfl
theorem after8 (t : Fin cfg0.N) : (dats m 0 c).after 8 t = rows ⟨t.val, points t⟩ (prodD m c) := by
  rw [after0_8, outs_eq, raw_rows]
theorem steps_at (t : Fin cfg0.N) (q : Fin 6 × Fin 4) (r l : Fin 128) :
    stepsOf (tile t) (k0_pay2 (F := Ideal) (blkA m c t) (blkD m c t)) (blkB m c t) q (ix2 r l)
      = allSteps m c (ix2 ⟨768 * t.val + (128 * q.1.val + r.val), by have h := points t; omega⟩ ⟨128 * q.2.val + l.val, by omega⟩) := by
  rw [tile_eq, raw_rows, blkB_eq]
  exact steps_unit ⟨t.val, points t⟩ _ (prodD m c) _ (fun _ _ => rfl) q r l
theorem unit_sums_at (t : Fin cfg0.N) (q : Fin 6 × Fin 4) (r l : Fin 128) :
    sumsOf (tile t) (k0_pay2 (F := Ideal) (blkA m c t) (blkD m c t)) (blkB m c t) (blkL m c t) q (ix2 r l)
      = allSums m c (ix2 ⟨768 * t.val + (128 * q.1.val + r.val), by have h := points t; omega⟩ ⟨128 * q.2.val + l.val, by omega⟩) := by
  rw [tile_eq, raw_rows, blkB_eq, blkL_eq]
  exact sums_unit ⟨t.val, points t⟩ _ (prodD m c) _ _ (fun _ _ => rfl) q r l
theorem after9 (t : Fin cfg0.N) : (dats m 0 c).after 9 t = rows ⟨t.val, points t⟩ (allSteps m c) := by
  rw [after0_9, outs_eq]
  exact unit_tile _ _ fun q r l => steps_at m c t q r l
theorem after10 (t : Fin cfg0.N) : (dats m 0 c).after 10 t = rows ⟨t.val, points t⟩ (allSums m c) := by
  rw [after0_10, outs_eq]
  exact unit_tile _ _ fun q r l => unit_sums_at m c t q r l
/-- A tile's chunks of the pair. -/
def pairRows (i : Fin 11) (G : FVec Ideal S66x4x16x128 .f32) : FVec Ideal S6x4x16x128 .f32 := fun y =>
  have h : (y 0).val < 6 := (y 0).isLt
  G (ix4 ⟨6 * i.val + (y 0).val, by omega⟩ (y 1) (y 2) (y 3))
theorem pair_steps (S C : FVec Ideal S8448x512 .f32) (i : Fin 11) (q : Fin 6 × Fin 4) (l : Fin 8) (r : Fin 128) :
    S (ix2 ⟨768 * i.val + (128 * q.1.val + r.val), by omega⟩ ⟨128 * q.2.val + l.val, by omega⟩) = pairRows i (wholePair S C) (ix4 q.1 q.2 ⟨l.val, by omega⟩ r) := by
  show _ = (if l.val < 8 then S else C) (ix2 ⟨128 * (6 * i.val + q.1.val) + r.val, _⟩ ⟨128 * q.2.val + l.val % 8, _⟩)
  rw [if_pos l.isLt]
  refine congrArg S (congrArg₂ ix2 (Fin.ext ?_) (Fin.ext ?_))
  · show 768 * i.val + (128 * q.1.val + r.val) = 128 * (6 * i.val + q.1.val) + r.val
    omega
  · show 128 * q.2.val + l.val = 128 * q.2.val + l.val % 8
    omega
theorem pair_sums (S C : FVec Ideal S8448x512 .f32) (i : Fin 11) (q : Fin 6 × Fin 4) (l : Fin 8) (r : Fin 128) :
    C (ix2 ⟨768 * i.val + (128 * q.1.val + r.val), by omega⟩ ⟨128 * q.2.val + l.val, by omega⟩) = pairRows i (wholePair S C) (ix4 q.1 q.2 ⟨8 + l.val, by omega⟩ r) := by
  show _ = (if 8 + l.val < 8 then S else C) (ix2 ⟨128 * (6 * i.val + q.1.val) + r.val, _⟩ ⟨128 * q.2.val + (8 + l.val) % 8, _⟩)
  rw [if_neg (by omega)]
  refine congrArg C (congrArg₂ ix2 (Fin.ext ?_) (Fin.ext ?_))
  · show 768 * i.val + (128 * q.1.val + r.val) = 128 * (6 * i.val + q.1.val) + r.val
    omega
  · show 128 * q.2.val + l.val = 128 * q.2.val + (8 + l.val) % 8
    omega
theorem after11 (t : Fin cfg0.N) : (dats m 0 c).after 11 t = pairRows ⟨t.val, points t⟩ (wholePair (allSteps m c) (allSums m c)) := by
  rw [after0_11, outs_eq]
  dsimp only
  have hs (q : Fin 6 × Fin 4) (l : Fin 8) (r : Fin 128) := (steps_at m c t q r ⟨l.val, by omega⟩).trans (pair_steps (allSteps m c) (allSums m c) ⟨t.val, points t⟩ q l r)
  have hc (q : Fin 6 × Fin 4) (l : Fin 8) (r : Fin 128) := (unit_sums_at m c t q r ⟨l.val, by omega⟩).trans (pair_sums (allSteps m c) (allSums m c) ⟨t.val, points t⟩ q l r)
  exact half_tile (stepsOf (tile t) (k0_pay2 (F := Ideal) (blkA m c t) (blkD m c t)) (blkB m c t)) (sumsOf (tile t) (k0_pay2 (F := Ideal) (blkA m c t) (blkD m c t)) (blkB m c t) (blkL m c t)) (pairRows ⟨t.val, points t⟩ (wholePair (allSteps m c) (allSums m c))) hs hc

theorem pairRows_at (i : Fin 11) (G : FVec Ideal S66x4x16x128 .f32) (y : S6x4x16x128.Idx) (z : S66x4x16x128.Idx)
    (h0 : (z 0).val = i.val * 6 + (y 0).val) (h1 : (z 1).val = (y 1).val) (h2 : (z 2).val = (y 2).val) (h3 : (z 3).val = (y 3).val) : pairRows i G y = G z := by
  refine congrArg G (funext fun a => Fin.ext ?_)
  match a with
  | ⟨0, _⟩ =>
    show 6 * i.val + (y 0).val = (z 0).val
    omega
  | ⟨1, _⟩ => exact h1.symm
  | ⟨2, _⟩ => exact h2.symm
  | ⟨3, _⟩ => exact h3.symm
theorem rows_at {j : ℕ} (i : Fin 11) (G : FVec Ideal ⟨2, ![8448, j]⟩ .f32) (y : Shape.Idx ⟨2, ![768, j]⟩) (z : Shape.Idx ⟨2, ![8448, j]⟩)
    (h0 : (z 0).val = i.val * 768 + (y 0).val) (h1 : (z 1).val = (y 1).val) : rows i G y = G z := by
  refine congrArg G (funext fun a => Fin.ext ?_)
  match a with
  | ⟨0, _⟩ =>
    show 768 * i.val + (y 0).val = (z 0).val
    omega
  | ⟨1, _⟩ => exact h1.symm
theorem final6 : (dats m 0 c).arrAt 6 cfg0.N = prodU m c := by
  refine (dats m 0 c).arrAt_eq_of_covers 6 _ (by decide +kernel) fun t _ y => ?_
  have hi := idx6 t
  rw [after6]
  exact rows_at ⟨t.val, points t⟩ (prodU m c) (y : S768x512.Idx) ((win0_6.blk t).view.emb y) (by blk_simp [hi]) (by blk_simp [hi])
theorem final7 : (dats m 0 c).arrAt 7 cfg0.N = prodZ m c := by
  refine (dats m 0 c).arrAt_eq_of_covers 7 _ (by decide +kernel) fun t _ y => ?_
  have hi := idx7 t
  rw [after7]
  exact rows_at ⟨t.val, points t⟩ (prodZ m c) (y : S768x1536.Idx) ((win0_7.blk t).view.emb y) (by blk_simp [hi]) (by blk_simp [hi])
theorem final8 : (dats m 0 c).arrAt 8 cfg0.N = prodD m c := by
  refine (dats m 0 c).arrAt_eq_of_covers 8 _ (by decide +kernel) fun t _ y => ?_
  have hi := idx8 t
  rw [after8]
  exact rows_at ⟨t.val, points t⟩ (prodD m c) (y : S768x512.Idx) ((win0_8.blk t).view.emb y) (by blk_simp [hi]) (by blk_simp [hi])
theorem final9 : (dats m 0 c).arrAt 9 cfg0.N = allSteps m c := by
  refine (dats m 0 c).arrAt_eq_of_covers 9 _ (by decide +kernel) fun t _ y => ?_
  have hi := idx9 t
  rw [after9]
  exact rows_at ⟨t.val, points t⟩ (allSteps m c) (y : S768x512.Idx) ((win0_9.blk t).view.emb y) (by blk_simp [hi]) (by blk_simp [hi])
theorem final10 : (dats m 0 c).arrAt 10 cfg0.N = allSums m c := by
  refine (dats m 0 c).arrAt_eq_of_covers 10 _ (by decide +kernel) fun t _ y => ?_
  have hi := idx10 t
  rw [after10]
  exact rows_at ⟨t.val, points t⟩ (allSums m c) (y : S768x512.Idx) ((win0_10.blk t).view.emb y) (by blk_simp [hi]) (by blk_simp [hi])
theorem final11 : (dats m 0 c).arrAt 11 cfg0.N = wholePair (allSteps m c) (allSums m c) := by
  refine (dats m 0 c).arrAt_eq_of_covers 11 _ (by decide +kernel) fun t _ y => ?_
  have hi := idx11 t
  rw [after11]
  exact pairRows_at ⟨t.val, points t⟩ (wholePair (allSteps m c) (allSums m c)) (y : S6x4x16x128.Idx) ((win0_11.blk t).view.emb y) (by blk_simp [hi]) (by blk_simp [hi]) (by blk_simp [hi]) (by blk_simp [hi])

open Cert.ProjUzdtRefIdeal.Done in
theorem value : algebraic_ProjUzdtIdeal_ProjUzdtRefIdeal (hProjUzdtIdeal := Cert.ProjUzdtIdeal.Gen.facts) (hProjUzdtRefIdeal := Cert.ProjUzdtRefIdeal.Gen.facts) := by
  intro m ρ m' ρ' _ hagree
  refine ⟨fun c => (dats m 0 c).arrAt 6 cfg0.N, fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Cert.ProjUzdtIdeal.Value.run_blocks (F := Ideal) m ρ, ?_⟩
  refine (θ_run Cert.ProjUzdtRefIdeal.defs _ _).mono (fun _ h c => ?_) (Cert.ProjUzdtRefIdeal.Value.run (F := Ideal) m' ρ')
  obtain ⟨h0, h1, h2, h3, h4, h5, hargs⟩ := h c
  obtain ⟨a0, a1, a2, a3, a4, a5⟩ := hagree c
  refine ⟨h0.trans ?_, h1.trans ?_, h2.trans ?_, h3.trans ?_, h4.trans ?_, h5.trans ?_, hargs⟩
  · refine Eq.trans ?_ (final6 m c).symm
    show narrow _ _ = _
    rw [narrow_eq, a0, a1]
    rfl
  · refine Eq.trans ?_ (final7 m c).symm
    show wide _ _ = _
    rw [wide_eq, a0, a2]
    rfl
  · refine Eq.trans ?_ (final8 m c).symm
    show narrow _ _ = _
    rw [narrow_eq, a0, a3]
    rfl
  · refine Eq.trans ?_ (final9 m c).symm
    have e : Cert.ProjUzdtRefIdeal.Value.res_main_v40 m' c = shapeCast _ (steps (narrow _ _) _) _ := rfl
    refine (e.trans (steps_eq _ _)).trans ?_
    rw [narrow_eq, a0, a3, a4]
    rfl
  · refine Eq.trans ?_ (final10 m c).symm
    have e : Cert.ProjUzdtRefIdeal.Value.res_main_v41 m' c = shapeCast _ (cums (decayed (chunks (steps (narrow _ _) _)) _)) _ := rfl
    refine (e.trans (sums_eq _ _ _)).trans ?_
    rw [narrow_eq, a0, a3, a4, a5]
    rfl
  · refine Eq.trans ?_ (final11 m c).symm
    have e : Cert.ProjUzdtRefIdeal.Value.res_main_v39 m' c = pair (chunks (steps (narrow _ _) _)) (cums (decayed (chunks (steps (narrow _ _) _)) _)) := rfl
    refine (e.trans (pair_eq _ _ _)).trans ?_
    rw [narrow_eq, a0, a3, a4, a5]
    rfl
end Cert.ProjUzdtIdeal.Done
end
-- ==== Proof.PoolFwd.lean ====
module
public import proofs.«01_k».proof.Defs
public import proofs.«01_k».proof.Proof.Finite
public import proofs.«01_k».proof.Proof.Gen.PoolFwd.Frame
public import proofs.«01_k».proof.Proof.Gen.PoolFwdIdeal.Value
public import proofs.«01_k».proof.Proof.Gen.PoolFwdRefIdeal.Run
public import proofs.«01_k».proof.Proof.Gen.Pre_finite_rows
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.PoolFwdIdeal.Done
open Cert.PoolFwdIdeal Cert.PoolFwdIdeal.Gen
open Cert.KernelIdeal.PoolBwd (toV toV2 toM toC toP stack fwdMask fwd_word bit_real cnt cnt_ne cnt_word cntC row_word win_real pooled_real cast_real
  both_real ch gOf cOf gOf_ch cOf_ch ch_of Chunk toX ldX WIN WIN_le pooledB pooled_at pooledS pooledB_seq Arr toA chunkAt realA toA_realA)

/-! ## The pooled rows, mixed and scaled

The forward call keeps the windows, counts and masks of the backward one, so what is known of one pooled chunk there serves here. -/

/-- One batch and group of a chunk: the window's mean less the row, mixed by the group's weight, scaled by channel. -/
def unit (m : FVec Ideal S128x256 .f32) (n : FVec Ideal S128x1 .f32) (x p : Vec Ideal S1x128x128 .f32) (w : Vec Ideal S1x128x128 .f32) (s : Vec Ideal S1x128 .f32) :
    FVec Ideal S1x128x128 .bf16 :=
  k0_pay60 (F := Ideal) (k0_pay51 (k0_pay42 n (k0_pay18 x) (k0_pay35 m (k0_pay24 (k0_pay18 x) p))) w) s

theorem pay18_is (x : Vec Ideal S1x128x128 .f32) : k0_pay18 (F := Ideal) x = Cert.KernelIdeal.Gen.k0_pay25 (F := Ideal) x := rfl
theorem pay24_is (a : FVec Ideal S128x128 .f32) (x : Vec Ideal S1x128x128 .f32) : k0_pay24 (F := Ideal) a x = Cert.KernelIdeal.Gen.k0_pay36 (F := Ideal) a x := rfl
theorem pay35_is (m : FVec Ideal S128x256 .f32) (b : FVec Ideal S256x128 .f32) : k0_pay35 (F := Ideal) m b = Cert.KernelIdeal.Gen.k0_pay41 (F := Ideal) m b := rfl
theorem pay42_is (n : FVec Ideal S128x1 .f32) (a v : FVec Ideal S128x128 .f32) : k0_pay42 (F := Ideal) n a v = Cert.KernelIdeal.Gen.k0_pay49 (F := Ideal) n a v := rfl

/-- Mixing and scaling, the weight and the scale any values. -/
theorem store_at (v : Fin 128 → Fin 128 → ℝ) (w : Vec Ideal S1x128x128 .f32) (s : Vec Ideal S1x128 .f32) (y : S1x128x128.Idx) :
    k0_pay60 (F := Ideal) (k0_pay51 (toV v) w) s y = (∑ k : Fin 128, ((v (y 1) k : ℝ) : EReal) * w (ix3 0 k (y 2))) * s (ix2 0 (y 2)) := by
  idx_vars y
  pointwise [k0_pay60, k0_pay51, toV]

theorem unit_at (t : ℕ) (p q : Chunk) (e : Fin 2) (g : Fin 4) (w : Vec Ideal S1x128x128 .f32) (s : Vec Ideal S1x128 .f32) (y : S1x128x128.Idx) :
    unit (toM (fwdMask (WIN g) t)) (cntC (WIN g) t) (toP fun r c => q e r (ch g c)) (toP fun r c => p e r (ch g c)) w s y
      = (∑ k : Fin 128, ((pooledB t p q e g (y 1) k : ℝ) : EReal) * w (ix3 0 k (y 2))) * s (ix2 0 (y 2)) := by
  unfold unit
  rw [pay18_is, pay24_is, pay35_is, pay42_is, cast_real, both_real, win_real, pooled_at]
  exact store_at _ w s y

theorem mask0 (i : grid0.Coords) : (k0_pay3 i : FVec Ideal _ _) = toM (fwdMask 2 (i 0).val) := by
  funext y
  idx_vars y
  pointwise [k0_pay3, toM, fwdMask]
  exact bit_real _ _ (fwd_word _ _ _ 2 (i 0).isLt y0.isLt y1.isLt (by omega))
theorem mask1 (i : grid0.Coords) : (k0_pay4 i : FVec Ideal _ _) = toM (fwdMask 4 (i 0).val) := by
  funext y
  idx_vars y
  pointwise [k0_pay4, toM, fwdMask]
  exact bit_real _ _ (fwd_word _ _ _ 4 (i 0).isLt y0.isLt y1.isLt (by omega))
theorem mask2 (i : grid0.Coords) : (k0_pay5 i : FVec Ideal _ _) = toM (fwdMask 8 (i 0).val) := by
  funext y
  idx_vars y
  pointwise [k0_pay5, toM, fwdMask]
  exact bit_real _ _ (fwd_word _ _ _ 8 (i 0).isLt y0.isLt y1.isLt (by omega))
theorem mask3 (i : grid0.Coords) : (k0_pay6 (BitVec.ofNat 32 (i 0).val) (iota .tc S128x256 32 [0] iota_S128x256_d0_w32)
    (iota .tc S128x256 32 [1] iota_S128x256_d1_w32) : FVec Ideal _ _) = toM (fwdMask 16 (i 0).val) := by
  funext y
  idx_vars y
  pointwise [k0_pay6, toM, fwdMask]
  exact bit_real _ _ (fwd_word _ _ _ 16 (i 0).isLt y0.isLt y1.isLt (by omega))
theorem count0 (i : grid0.Coords) : (k0_pay8 (BitVec.ofNat 32 (i 0).val) : FVec Ideal _ _) = cntC 2 (i 0).val := by
  funext y
  idx_vars y
  pointwise [k0_pay8, k0_pay7, cntC, toC]
  exact cnt_word 2 _ _ (by omega) (by have := (i 0).isLt; have : (i 0).val < 33 := this; omega) (row_word _ _ (i 0).isLt y0.isLt)
theorem count1 (i : grid0.Coords) : (k0_pay9 (BitVec.ofNat 32 (i 0).val) : FVec Ideal _ _) = cntC 4 (i 0).val := by
  funext y
  idx_vars y
  pointwise [k0_pay9, k0_pay7, cntC, toC]
  exact cnt_word 4 _ _ (by omega) (by have := (i 0).isLt; have : (i 0).val < 33 := this; omega) (row_word _ _ (i 0).isLt y0.isLt)
theorem count2 (i : grid0.Coords) : (k0_pay11 8#32 (k0_pay10 (BitVec.ofNat 32 (i 0).val)) : FVec Ideal _ _) = cntC 8 (i 0).val := by
  funext y
  idx_vars y
  pointwise [k0_pay11, k0_pay10, k0_pay7, cntC, toC]
  exact cnt_word 8 _ _ (by omega) (by have := (i 0).isLt; have : (i 0).val < 33 := this; omega) (row_word _ _ (i 0).isLt y0.isLt)
theorem count3 (i : grid0.Coords) : (k0_pay12 (k0_pay7 (BitVec.ofNat 32 (i 0).val)) : FVec Ideal _ _) = cntC 16 (i 0).val := by
  funext y
  idx_vars y
  pointwise [k0_pay12, k0_pay7, cntC, toC]
  exact cnt_word 16 _ _ (by omega) (by have := (i 0).isLt; have : (i 0).val < 33 := this; omega) (row_word _ _ (i 0).isLt y0.isLt)

/-- One row and channel of a chunk, mixed and scaled. -/
def tileE (t : ℕ) (p q : Chunk) (W : Vec Ideal S4x128x128 .f32) (S : Vec Ideal S1x512 .f32) (e : Fin 2) (r : Fin 128) (d : Fin 512) : EReal :=
  (∑ k : Fin 128, ((pooledB t p q e (gOf d) r k : ℝ) : EReal) * W (ix3 (gOf d) k (cOf d))) * S (ix2 0 d)
theorem tileE_ch (t : ℕ) (p q : Chunk) (W : Vec Ideal S4x128x128 .f32) (S : Vec Ideal S1x512 .f32) (e : Fin 2) (r : Fin 128) (g : Fin 4) (d : Fin 128) :
    tileE t p q W S e r (ch g d) = (∑ k : Fin 128, ((pooledB t p q e g r k : ℝ) : EReal) * W (ix3 g k d)) * S (ix2 0 (ch g d)) := by
  unfold tileE
  rw [gOf_ch, cOf_ch]
theorem tileE_congr {t : ℕ} {p q : Chunk} {W : Vec Ideal S4x128x128 .f32} {S : Vec Ideal S1x512 .f32} {e e' : Fin 2} {r r' : Fin 128} {d d' : Fin 512}
    (he : e' = e) (hr : r' = r) (hd : d' = d) : tileE t p q W S e r d = tileE t p q W S e' r' d' := by
  subst he hr hd; rfl
def tile (t : ℕ) (p q : Chunk) (W : Vec Ideal S4x128x128 .f32) (S : Vec Ideal S1x512 .f32) : Vec Ideal S2x128x512 .bf16 := fun y =>
  tileE t p q W S (y 0) (y 1) (y 2)

theorem tile_at (t : ℕ) (p q : Chunk) (W : Vec Ideal S4x128x128 .f32) (S : Vec Ideal S1x512 .f32) (e : Fin 2) (g : Fin 4)
    (m : FVec Ideal S128x256 .f32) (n : FVec Ideal S128x1 .f32) (hm : m = toM (fwdMask (WIN g) t)) (hn : n = cntC (WIN g) t)
    {ox ow : Fin 3 → ℕ} {os : Fin 2 → ℕ} (ix : ∀ i, ox i + ![1, 128, 128] i ≤ S2x128x512.size i) (iw : ∀ i, ow i + ![1, 128, 128] i ≤ S4x128x128.size i)
    (is : ∀ i, os i + ![1, 128] i ≤ S1x512.size i)
    (hx : ox = ![e.val, 0, 128 * g.val]) (hw : ow = ![g.val, 0, 0]) (hs : os = ![0, 128 * g.val]) (j : S1x128x128.Idx) :
    unit m n (View.ld (toX q) (Rect.unit (s := S2x128x512) ox ![1, 128, 128] ix)) (View.ld (toX p) (Rect.unit (s := S2x128x512) ox ![1, 128, 128] ix))
        (View.ld W (Rect.unit (s := S4x128x128) ow ![1, 128, 128] iw)) (View.ld S (Rect.unit (s := S1x512) os ![1, 128] is)) j
      = tile t p q W S ((Rect.unit (s := S2x128x512) ox ![1, 128, 128] ix).emb j) := by
  subst hx hw hs hm hn
  rw [ldX q e g _ ix rfl rfl rfl, ldX p e g _ ix rfl rfl rfl, unit_at]
  have b0 : (j 0).val < 1 := (j 0).isLt
  have b1 : (j 1).val < 128 := (j 1).isLt
  have b2 : (j 2).val < 128 := (j 2).isLt
  have e0 : (((Rect.unit (s := S2x128x512) ![e.val, 0, 128 * g.val] ![1, 128, 128] ix).emb j) 0 : Fin 2) = e := by
    apply Fin.ext; simp
  have e1 : (((Rect.unit (s := S2x128x512) ![e.val, 0, 128 * g.val] ![1, 128, 128] ix).emb j) 1 : Fin 128) = j 1 := by
    apply Fin.ext; simp
  have e2 : (((Rect.unit (s := S2x128x512) ![e.val, 0, 128 * g.val] ![1, 128, 128] ix).emb j) 2 : Fin 512) = ch g (j 2) := by
    apply Fin.ext; simp [ch]
  refine Eq.trans ?_ ((tileE_ch t p q W S e (j 1) g (j 2)).symm.trans (tileE_congr e0 e1 e2))
  refine congrArg₂ (fun u v : EReal => u * v) (Finset.sum_congr rfl fun k _ => congrArg₂ (fun u v : EReal => u * v) rfl
    (congrArg W (funext fun i => Fin.ext ?_))) (congrArg S (funext fun i => Fin.ext ?_))
  · match i with
    | ⟨0, _⟩ => simp
    | ⟨1, _⟩ => simp
    | ⟨2, _⟩ => simp
  · match i with
    | ⟨0, _⟩ => simp
    | ⟨1, _⟩ => simp [ch]

theorem out_eq (i : grid0.Coords) (p q : Chunk) (W : Vec Ideal S4x128x128 .f32) (S : Vec Ideal S1x512 .f32) :
    out0_4 (F := Ideal) i (toX p) (toX q) W S = tile (i 0).val p q W S := by
  funext y
  unfold_out out0_4
  refine View.canon_append_of_piecesOf _ [] [_, _, _, _, _, _, _, _]
    ⟨fun j => tile_at (i 0).val p q W S 1 3 _ _ (mask3 i) (count3 i) _ _ _ rfl rfl rfl j,
      fun j => tile_at (i 0).val p q W S 1 2 _ _ (mask2 i) (count2 i) _ _ _ rfl rfl rfl j,
      fun j => tile_at (i 0).val p q W S 1 1 _ _ (mask1 i) (count1 i) _ _ _ rfl rfl rfl j,
      fun j => tile_at (i 0).val p q W S 1 0 _ _ (mask0 i) (count0 i) _ _ _ rfl rfl rfl j,
      fun j => tile_at (i 0).val p q W S 0 3 _ _ (mask3 i) (count3 i) _ _ _ rfl rfl rfl j,
      fun j => tile_at (i 0).val p q W S 0 2 _ _ (mask2 i) (count2 i) _ _ _ rfl rfl rfl j,
      fun j => tile_at (i 0).val p q W S 0 1 _ _ (mask1 i) (count1 i) _ _ _ rfl rfl rfl j,
      fun j => tile_at (i 0).val p q W S 0 0 _ _ (mask0 i) (count0 i) _ _ _ rfl rfl rfl j, trivial⟩ y
    (View.cover_of_tiledBy _ ![1, 128, 128] (by sl_kernel_rfl) y)

theorem idx0 : ∀ t : Fin cfg0.N, win0_0.index t = ![0, t.val - 1, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, t.val, 0] := (by decide +kernel : ∀ t : Fin grid0.N, _)
theorem coord0 : ∀ t : Fin cfg0.N, ((grid0.coords t) 0).val = t.val := (by decide +kernel : ∀ t : Fin grid0.N, _)

/-- The weight without its leading axis of one. -/
def flat (A : FVec Ideal S1x4x128x128 .f32) : Vec Ideal S4x128x128 .f32 := fun y => A (ix4 0 (y 0) (y 1) (y 2))
theorem flat_eq (A : FVec Ideal S1x4x128x128 .f32) (h : S1x4x128x128.ShapeCasts S4x128x128) : shapeCast S4x128x128 A h = flat A := by
  funext y
  unfold shapeCast
  have hj : Shape.reshapeEquiv h y = (ix4 0 (y 0) (y 1) (y 2) : S1x4x128x128.Idx) := by
    apply Shape.reshapeEquiv_eq_of_rowMajor
    rw [Shape.rowMajor_val_three, Shape.rowMajor_val_four]
    simp
  rw [hj]
  rfl

/-- The whole result: the pooled sequence mixed and scaled. -/
def poolG (U : Arr) (A : FVec Ideal S1x4x128x128 .f32) (S : FVec Ideal S1x512 .f32) : FVec Ideal S2x4224x512 .bf16 := fun y =>
  (∑ k : Fin 128, ((pooledS U (y 0) (y 1).val (gOf (y 2)) k : ℝ) : EReal) * flat A (ix3 (gOf (y 2)) k (cOf (y 2)))) * S (ix2 0 (y 2))

variable (m : (ℓ : Loc nD τ sig) → Buf (Elt Ideal) ℓ) (c : Dev nD) (U : Arr)

theorem V_v0 : V m c main_v0 = flat (m ((c : Thread nD τ).loc main_arg1)) := by
  have e : V m c main_v0 = shapeCast S4x128x128 (m ((c : Thread nD τ).loc main_arg1)) shapeCasts_S1x4x128x128_S4x128x128 := by
    unfold V hostOps0
    after_results
    rfl
  rw [e]
  exact flat_eq _ _
theorem blk0 (h : m ((c : Thread nD τ).loc main_arg0) = toA U) (t : Fin cfg0.N) : iblk m c 0 t = toX (chunkAt U (t.val - 1)) := by
  funext y
  have hi := idx0 t
  show V m c main_arg0 ((win0_0.blk t).view.emb y) = _
  rw [V_main_arg0, h]
  show ((U _ _ _ : ℝ) : EReal) = ((U _ _ _ : ℝ) : EReal)
  congr 2
  · apply Fin.ext; blk_simp [hi]
  · blk_simp [hi]; omega
  · apply Fin.ext; blk_simp [hi]
theorem blk1 (h : m ((c : Thread nD τ).loc main_arg0) = toA U) (t : Fin cfg0.N) : iblk m c 1 t = toX (chunkAt U t.val) := by
  funext y
  have hi := idx1 t
  show V m c main_arg0 ((win0_1.blk t).view.emb y) = _
  rw [V_main_arg0, h]
  show ((U _ _ _ : ℝ) : EReal) = ((U _ _ _ : ℝ) : EReal)
  congr 2
  · apply Fin.ext; blk_simp [hi]
  · blk_simp [hi]; omega
  · apply Fin.ext; blk_simp [hi]
theorem blk2 (t : Fin cfg0.N) : iblk m c 2 t = flat (m ((c : Thread nD τ).loc main_arg1)) := by
  funext y
  have hi := idx2 t
  show V m c main_v0 ((win0_2.blk t).view.emb y) = _
  rw [V_v0]
  refine congrArg (flat (m ((c : Thread nD τ).loc main_arg1))) (funext fun a => Fin.ext ?_)
  match a with
  | ⟨0, _⟩ => blk_simp [hi]
  | ⟨1, _⟩ => blk_simp [hi]
  | ⟨2, _⟩ => blk_simp [hi]
theorem blk3 (t : Fin cfg0.N) : iblk m c 3 t = m ((c : Thread nD τ).loc main_arg2) := by
  funext y
  have hi := idx3 t
  show V m c main_arg2 ((win0_3.blk t).view.emb y) = _
  rw [V_main_arg2]
  refine congrArg (m ((c : Thread nD τ).loc main_arg2)) (funext fun a => Fin.ext ?_)
  match a with
  | ⟨0, _⟩ => blk_simp [hi]
  | ⟨1, _⟩ => blk_simp [hi]

theorem out_at (h : m ((c : Thread nD τ).loc main_arg0) = toA U) (t : Fin cfg0.N) :
    (dats m 0 c).after 4 t = tile t.val (chunkAt U (t.val - 1)) (chunkAt U t.val) (flat (m ((c : Thread nD τ).loc main_arg1))) (m ((c : Thread nD τ).loc main_arg2)) := by
  rw [after0_4, blk0 m c U h, blk1 m c U h, blk2 m c, blk3 m c]
  refine (out_eq _ _ _ _ _).trans ?_
  rw [coord0 t]

theorem poolG_congr {U : Arr} {A : FVec Ideal S1x4x128x128 .f32} {S : FVec Ideal S1x512 .f32} {t : ℕ} {e e' : Fin 2} {r : Fin 128} {s : ℕ} {d d' : Fin 512}
    (he : e' = e) (hs : s = 128 * t + r.val) (hd : d' = d) :
    tileE t (chunkAt U (t - 1)) (chunkAt U t) (flat A) S e r d
      = (∑ k : Fin 128, ((pooledS U e' s (gOf d') k : ℝ) : EReal) * flat A (ix3 (gOf d') k (cOf d'))) * S (ix2 0 d') := by
  subst he hs hd
  unfold tileE
  simp only [pooledB_seq]

theorem final (h : m ((c : Thread nD τ).loc main_arg0) = toA U) :
    (dats m 0 c).arrAt 4 cfg0.N = poolG U (m ((c : Thread nD τ).loc main_arg1)) (m ((c : Thread nD τ).loc main_arg2)) := by
  refine (dats m 0 c).arrAt_eq_of_covers 4 _ (by decide +kernel) fun t _ y => ?_
  have hi := idx4 t
  rw [out_at m c U h t]
  have e0 : ((win0_4.blk t).view.emb y) 0 = y 0 := by apply Fin.ext; blk_simp [hi]
  have e1 : (((win0_4.blk t).view.emb y) 1).val = 128 * t.val + (y 1).val := by blk_simp [hi]; omega
  have e2 : ((win0_4.blk t).view.emb y) 2 = y 2 := by apply Fin.ext; blk_simp [hi]
  exact poolG_congr e0 e1 e2

end Cert.PoolFwdIdeal.Done

namespace Cert.PoolFwdRefIdeal.Done
open Cert.PoolFwdRefIdeal Cert.PoolFwdRefIdeal.Gen Cert.PoolFwdRefIdeal.Value
open Cert.KernelIdeal.PoolBwd (toV cnt cnt_ne cnt_word ch gOf cOf gOf_ch cOf_ch ch_of WIN pooledS Arr toA toInt_nat)
open Cert.ReferenceIdeal.PoolBwd (A4 to3 to4 to4w toN split_real slice5_real slice4_real sub3 quot3 cat_real cumsum_real zero_word')
open Cert.PoolFwdIdeal.Done (flat flat_eq poolG)

/-! ## The same from the reference's running sums -/

/-- The running sums with the padding above. -/
theorem padded_real (f : A4) : concatenate S2x4240x4x128 1 [⟨S2x16x4x128, (broadcastInDim S2x16x4x128 ![] bcast_S_S2x16x4x128 (constant S_ .f32 0x00000000#32) : FVec Ideal S2x16x4x128 .f32)⟩,
      ⟨S2x4224x4x128, (to4 f : FVec Ideal S2x4224x4x128 .f32)⟩] concatenates_S2x16x4x128_S2x4224x4x128_S2x4240x4x128_d1
    = to4w fun e s g c => if s < 16 then 0 else f e (s - 16) g c := by
  funext y
  idx_vars y
  pointwise [to4, to4w]
  split_ifs with h16
  · simp
  · rfl
/-- The clamped count of every row. -/
theorem count_real (w : ℕ) (hw : w ≤ 16) : broadcastInDim S1x4224x1 ![1] bcast_S4224_S1x4224x1_1 (sitofp .f32 (minsi (broadcastInDim S4224 ![] bcast_S_S4224 (id (constantI S_ 32 (BitVec.ofNat 32 w))))
      (maxsi (broadcastInDim S4224 ![] bcast_S_S4224 (id (constantI S_ 32 1#32))) (addi (subi (iotaInDim S4224 32 0) (broadcastInDim S4224 ![] bcast_S_S4224 (constantI S_ 32 112#32)))
        (broadcastInDim S4224 ![] bcast_S_S4224 (constantI S_ 32 1#32))))) : FVec Ideal S4224 .f32) = toN (cnt w) := by
  funext y
  have : (y 1).val < 4224 := (y 1).isLt
  exact cnt_word w (y 1).val (BitVec.ofNat 32 (y 1).val) hw (by omega) (toInt_nat _ (by omega))

/-- Mixing and scaling, the weight and the scale any values. -/
theorem mix_at (f : A4) (A : FVec Ideal S1x4x128x128 .f32) (S : FVec Ideal S1x512 .f32) (y : S2x4224x512.Idx) :
    (truncf .bf16 (mulf (shapeCast S2x4224x512 (transpose S2x4224x4x128 [2, 3, 0, 1] (Host.dotGeneral (φ₁ := .f32) (φ₂ := .f32) dot_S4x128x128_S2x4224x4x128_S4x128x2x4224_1_3_2_01_0_2 none
        (flat A : FVec Ideal S4x128x128 .f32) (to4 f : FVec Ideal S2x4224x4x128 .f32)) transposes_S4x128x2x4224_S2x4224x4x128_2_3_0_1) shapeCasts_S2x4224x4x128_S2x4224x512)
      (broadcastInDim S2x4224x512 ![0, 1, 2] bcast_S1x1x512_S2x4224x512_0_1_2 (broadcastInDim S1x1x512 ![2] bcast_S512_S1x1x512_2 (shapeCast S512 S shapeCasts_S1x512_S512)))) bitsLt_bf16_f32
        : FVec Ideal S2x4224x512 .bf16) y
      = (∑ k : Fin 128, ((f (y 0) (y 1).val (gOf (y 2)) k : ℝ) : EReal) * flat A (ix3 (gOf (y 2)) k (cOf (y 2)))) * S (ix2 0 (y 2)) := by
  have hj : Shape.reshapeEquiv shapeCasts_S2x4224x4x128_S2x4224x512 y = (ix4 (y 0) (y 1) (gOf (y 2)) (cOf (y 2)) : S2x4224x4x128.Idx) := by
    apply Shape.reshapeEquiv_eq_of_rowMajor
    rw [Shape.rowMajor_val_three, Shape.rowMajor_val_four]
    simp [gOf, cOf]
    omega
  have hk : Shape.reshapeEquiv shapeCasts_S1x512_S512 (ix1 (y 2) : S512.Idx) = (ix2 0 (y 2) : S1x512.Idx) := by
    apply Shape.reshapeEquiv_eq_of_rowMajor
    rw [Shape.rowMajor_val_two, Shape.rowMajor_val_one]
    simp
  have hd : ∀ (e : Fin 2) (s : Fin 4224) (g : Fin 4) (d : Fin 128), transpose S2x4224x4x128 [2, 3, 0, 1] (Host.dotGeneral (φ₁ := .f32) (φ₂ := .f32) dot_S4x128x128_S2x4224x4x128_S4x128x2x4224_1_3_2_01_0_2 none
        (flat A : FVec Ideal S4x128x128 .f32) (to4 f : FVec Ideal S2x4224x4x128 .f32)) transposes_S4x128x2x4224_S2x4224x4x128_2_3_0_1 (ix4 e s g d)
      = ∑ k : Fin 128, ((f e s.val g k : ℝ) : EReal) * flat A (ix3 g k d) := by
    intro e s g d
    pointwise [to4]
    exact Finset.sum_congr rfl fun _ _ => mul_comm _ _
  refine congrArg₂ (fun u v : EReal => u * v) ?_ ?_
  · exact (congrArg _ hj).trans (hd _ _ _ _)
  · exact congrArg S hk

theorem res_eq (m : (ℓ : Loc nD τ sig) → Buf (Elt Ideal) ℓ) (c : Dev nD) (U : Arr) (h : m ((c.tc : Thread nD τ).loc main_arg0) = toA U) :
    res_main_v80 m c = poolG U (m ((c.tc : Thread nD τ).loc main_arg1)) (m ((c.tc : Thread nD τ).loc main_arg2)) := by
  unfold res_main_v80
  rw [h, flat_eq, split_real, cumsum_real _ _ zero_word', padded_real]
  have z : ∀ w, 0 < w → ∀ s, cnt w s ≠ 0 := fun w hw s => cnt_ne w s hw
  rw [count_real 2 (by decide), count_real 4 (by decide), count_real 8 (by decide), count_real 16 (by decide)]
  rw [slice5_real _ 16 0 (by decide), slice5_real _ 14 0 (by decide), slice4_real _ 0 (by decide), sub3, quot3 _ _ (z 2 (by decide)), sub3]
  rw [slice5_real _ 16 1 (by decide), slice5_real _ 12 1 (by decide), slice4_real _ 1 (by decide), sub3, quot3 _ _ (z 4 (by decide)), sub3]
  rw [slice5_real _ 16 2 (by decide), slice5_real _ 8 2 (by decide), slice4_real _ 2 (by decide), sub3, quot3 _ _ (z 8 (by decide)), sub3]
  rw [slice5_real _ 16 3 (by decide), slice5_real _ 0 3 (by decide), slice4_real _ 3 (by decide), sub3, quot3 _ _ (z 16 (by decide)), sub3]
  rw [cat_real]
  funext y
  refine (mix_at _ _ _ y).trans ?_
  unfold poolG
  refine congrArg₂ (fun u v : EReal => u * v) (Finset.sum_congr rfl fun k _ => congrArg₂ (fun u v : EReal => u * v) (congrArg (fun r : ℝ => (r : EReal)) ?_) rfl) rfl
  have kk : ∀ (V : ℕ → ℝ) (s w : ℕ), w ≤ 16 → ((if 16 + s < 16 then (0 : ℝ) else ∑ i ∈ Finset.range (16 + s - 16 + 1), V i) - (if 16 - w + s < 16 then (0 : ℝ) else ∑ i ∈ Finset.range (16 - w + s - 16 + 1), V i)) / cnt w s - V s
      = ((∑ i ∈ Finset.range (s + 1), V i) - ∑ i ∈ Finset.range (s + 1 - w), V i) / cnt w s - V s := by
    intro V s w hw
    rw [if_neg (by omega), show 16 + s - 16 + 1 = s + 1 by omega]
    split_ifs with hs
    · rw [show s + 1 - w = 0 by omega]; simp
    · rw [show 16 - w + s - 16 + 1 = s + 1 - w by omega]
  generalize (y 1).val = s
  generalize (y 0 : Fin 2) = e
  generalize gOf (y 2) = g
  fin_cases g
  · exact kk (fun i => U e i (ch 0 k)) s 2 (by decide)
  · exact kk (fun i => U e i (ch 1 k)) s 4 (by decide)
  · exact kk (fun i => U e i (ch 2 k)) s 8 (by decide)
  · exact kk (fun i => U e i (ch 3 k)) s 16 (by decide)

end Cert.PoolFwdRefIdeal.Done

namespace Cert.PoolFwdIdeal.Done
open Cert.PoolFwdIdeal Cert.PoolFwdIdeal.Gen
open Cert.KernelIdeal.PoolBwd (toA realA toA_realA)

open Cert.Pre_finite_rows in
/-- The precondition, read: every row is an array of real numbers. -/
theorem rows_real [Cert.Pre_finite_rows.Facts] (u : FVec Ideal S2x4224x512 .f32) (w : FVec Ideal S1x4x128x128 .f32) (s : FVec Ideal S1x512 .f32)
    (h : Cert.Pre_finite_rows.fn (F := Ideal) u w s = fun _ => 1#1) : u = toA (realA u) := by
  have h0 := congrFun h ix0
  unfold Cert.Pre_finite_rows.fn at h0
  exact toA_realA u fun i => Cert.Finite.real_of_all u _ _ _ _ h0 i

theorem value : algebraic_PoolFwdIdeal_PoolFwdRefIdeal_pre_finite_rows (hPoolFwdIdeal := Cert.PoolFwdIdeal.Gen.facts)
    (hPoolFwdRefIdeal := Cert.PoolFwdRefIdeal.Gen.facts) (hPre_finite_rows := Cert.Pre_finite_rows.Gen.facts) := by
  intro m ρ m' ρ' hpre hagree
  refine ⟨fun c => (dats m 0 c).arrAt 4 cfg0.N, Cert.PoolFwdIdeal.Value.run_blocks (F := Ideal) m ρ, ?_⟩
  refine (θ_run Cert.PoolFwdRefIdeal.defs _ _).mono (fun _ h c => ?_) (Cert.PoolFwdRefIdeal.Value.run (F := Ideal) m' ρ')
  obtain ⟨h0, hargs⟩ := h c
  obtain ⟨a0, a1, a2⟩ := hagree c
  have hu := @rows_real Cert.Pre_finite_rows.Gen.facts _ _ _ (hpre c)
  refine ⟨h0.trans ?_, hargs⟩
  show _ = (dats m 0 c).arrAt 4 cfg0.N
  rw [Cert.PoolFwdRefIdeal.Done.res_eq m' c _ (a0.trans hu), final m c _ hu, a1, a2]
end Cert.PoolFwdIdeal.Done
end
-- ==== Proof.Adamw.lean ====
module
public import proofs.«01_k».proof.Defs
public import proofs.«01_k».proof.Proof.Gen.Adamw.Frame
public import proofs.«01_k».proof.Proof.Gen.AdamwIdeal.Value
public import proofs.«01_k».proof.Proof.Gen.AdamwRefIdeal.Run
public import Idealize.ShloMosaic.Lib.Pointwise
@[expose] public section
set_option maxRecDepth 16384
noncomputable section
open Idealize.ShloMosaic Idealize.ShloMosaic.TcCoe Idealize.SL.Sem
namespace Cert.AdamwIdeal.Done
open Cert.AdamwIdeal Cert.AdamwIdeal.Gen

/-! ## The optimiser's step of one weight: the summed gradient, the weight's change and both moments -/

/-- The four arrays of the call are those of the plain step, entry by entry. -/
theorem value : algebraic_AdamwIdeal_AdamwRefIdeal (hAdamwIdeal := Cert.AdamwIdeal.Gen.facts) (hAdamwRefIdeal := Cert.AdamwRefIdeal.Gen.facts) := by
  intro m ρ m' ρ' _ hagree
  refine ⟨fun c => Value.G5 (m ((c.tc : Thread nD τ).loc main_arg0)) (m ((c.tc : Thread nD τ).loc main_arg1)),
    fun c => Value.G6 (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)),
    fun c => Value.G7 (m ((c.tc : Thread nD τ).loc main_arg0)) (m ((c.tc : Thread nD τ).loc main_arg1)) (m ((c.tc : Thread nD τ).loc main_arg3)),
    fun c => Value.G8 (m ((c.tc : Thread nD τ).loc main_arg0)) (m ((c.tc : Thread nD τ).loc main_arg1)) (m ((c.tc : Thread nD τ).loc main_arg4)),
    Value.run (F := Ideal) m ρ, ?_⟩
  refine (θ_run Cert.AdamwRefIdeal.defs _ _).mono (fun _ h c => ?_) (Cert.AdamwRefIdeal.Value.run (F := Ideal) m' ρ')
  obtain ⟨h0, h1, h2, h3, hargs⟩ := h c
  obtain ⟨a0, a1, a2, a3, a4⟩ := hagree c
  refine ⟨h0.trans ?_, h1.trans ?_, h2.trans ?_, h3.trans ?_, hargs⟩ <;> simp only [a0, a1, a2, a3, a4] <;> rfl
end Cert.AdamwIdeal.Done
end
-- ==== Proof.InputGradRun.lean ====
module
public import proofs.«01_k».proof.Proof.Gen.InputGradIdeal.Frame
public import proofs.«01_k».proof.Proof.Gen.InputGradIdeal.Skeleton
public import proofs.«01_k».proof.Proof.Gen.InputGradIdeal.Points
public import Idealize.ShloMosaic.Lib.Pipeline.TableIdle
public import Idealize.ShloMosaic.Lib.Claim
@[expose] public section
set_option maxRecDepth 16384
noncomputable section
namespace Cert.InputGradIdeal.Hand
open Cert.InputGradIdeal Cert.InputGradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run of the input's gradient: the head's block is written at the first point and kept until the last -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The conditions of the two branches: the first point. -/
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
theorem hcond0_0 : ∀ t : Fin cfg0.N, cond0_0 (grid0.coords t) ↔ t.val = 0 := (by decide +kernel : ∀ t : Fin grid0.N, cond0_0 (grid0.coords t) ↔ t.val = 0)
theorem hcond0_1 : ∀ t : Fin cfg0.N, cond0_1 (grid0.coords t) ↔ t.val = 0 := (by decide +kernel : ∀ t : Fin grid0.N, cond0_1 (grid0.coords t) ↔ t.val = 0)

/-- The head's window is idle from the second point on, and its buffer holds what was stored until the last point. -/
theorem live5 : ∀ t : Fin cfg0.N, t.val = 0 → cfg0.idle 5 (grid0.coords t) = false := by decide +kernel
theorem idle5 : ∀ t : Fin cfg0.N, ¬t.val = 0 → cfg0.idle 5 (grid0.coords t) = true := by decide +kernel
def freshTab : ℕ → Bool
  | 0 => true
  | n + 1 => (0x100000000 : ℕ).testBit n
theorem freshTab_step : ∀ t : Fin cfg0.N,
    freshTab (t.val + 1) = ((cfg0.win 5).flush t || (cfg0.idle 5 (cfg0.grid.coords t) && freshTab t.val)) := by decide +kernel
theorem fresh_eq (t : Fin cfg0.N) : cfg0.fresh 5 t.val = freshTab t.val :=
  Pipeline.Cfg.fresh_tab cfg0 5 freshTab rfl freshTab_step t.val (Nat.le_of_lt t.isLt)
theorem notFresh (t : Fin cfg0.N) : ¬t.val = 0 → cfg0.fresh 5 t.val = false := by
  rw [fresh_eq t]; revert t; decide +kernel

/-- The buffers. -/
abbrev VO0_4 : View sig .tc .vmem S2x128x1024 .f32 := (Memref.whole cc0_stg4_0 : Memref sig .tc .vmem S2x128x1024 .f32).view
abbrev VO0_5 : View sig .tc .vmem S2x128x1024 .f32 := (Memref.whole cc0_stg5_0 : Memref sig .tc .vmem S2x128x1024 .f32).view
abbrev VO0_6 : View sig .tc .vmem S1x1024 .f32 := (Memref.whole cc0_stg6_0 : Memref sig .tc .vmem S1x1024 .f32).view
abbrev ms0_0 (t : Fin cfg0.N) : Memref sig .tc .vmem S2x128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)

set_option maxHeartbeats 1000000 in
/-- What the body stores at the first point, as pieces of each output's block, with the proof that it runs. -/
noncomputable def kernelRun0_A (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) :
    Σ' (L4 : List (View.Piece (Elt F) S2x128x1024 .f32)), Σ' (L5 : List (View.Piece (Elt F) S2x128x1024 .f32)), { L6 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_input_grad i arg1 harg1 arg2 harg2 arg3 harg3 arg4 harg4 arg5 harg5 arg6 harg6 arg7 harg7) K } := by
  refine ⟨?_, ?_, ?_, fun E K => ?run⟩
  case run =>
    simp only [cc0_input_grad_eq_skeleton]; unfold cc0_input_grad_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

set_option maxHeartbeats 1000000 in
/-- The same at a later point: the head's buffer is not touched, the sum's is read. -/
noncomputable def kernelRun0_B (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : ¬cond0_0 i) (hc1 : ¬cond0_1 i)
    (x0 x1 : Vec F S2x128x1024 .f32) (x2 : Vec F S1x1024 .f32) (x3 : Vec F S2x128x1024 .f32) (xo6 : Vec F S1x1024 .f32) :
    Σ' (L4 : List (View.Piece (Elt F) S2x128x1024 .f32)), { L6 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg7.view.loc (c : Thread nD τ) ↦[arg7.view.set]{fullShare} arg7.view.writes (Elt F) f L6)) -∗ K ⟨⟩))
          ⊢ wp frame (wpE (defs₀ (F := F)) Variants.none c none) E (cc0_input_grad i arg1 harg1 arg2 harg2 arg3 harg3 arg4 harg4 arg5 harg5 arg6 harg6 arg7 harg7) K } := by
  refine ⟨?_, ?_, fun E K => ?run⟩
  case run =>
    simp only [cc0_input_grad_eq_skeleton]; unfold cc0_input_grad_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f6, %hf6, H6⟩, Hk⟩
    obtain rfl := harg1.eq_unread hf0; obtain rfl := harg2.eq_unread hf1; obtain rfl := harg3.eq_unread hf2; obtain rfl := harg4.eq_unread hf3; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H6

theorem cover0_A_4 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) (y : S2x128x1024.Idx) :
    ∃ pc ∈ (kernelRun0_A c i arg1 harg1 arg2 harg2 arg3 harg3 arg4 harg4 arg5 harg5 arg6 harg6 arg7 harg7 hc0 hc1 x0 x1 x2 x3).1, y ∈ pc.1.set :=
  View.cover_of_tiledL (kernelRun0_A c i arg1 harg1 arg2 harg2 arg3 harg3 arg4 harg4 arg5 harg5 arg6 harg6 arg7 harg7 hc0 hc1 x0 x1 x2 x3).1 S1x128x1024.size (by sl_kernel_rfl) y
def out0_A_4 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) : Vec F S2x128x1024 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2 x3).1)
theorem cover0_A_5 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) (y : S2x128x1024.Idx) :
    ∃ pc ∈ (kernelRun0_A c i arg1 harg1 arg2 harg2 arg3 harg3 arg4 harg4 arg5 harg5 arg6 harg6 arg7 harg7 hc0 hc1 x0 x1 x2 x3).2.1, y ∈ pc.1.set :=
  View.cover_of_tiledL (kernelRun0_A c i arg1 harg1 arg2 harg2 arg3 harg3 arg4 harg4 arg5 harg5 arg6 harg6 arg7 harg7 hc0 hc1 x0 x1 x2 x3).2.1 S2x128x1024.size (by sl_kernel_rfl) y
def out0_A_5 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) : Vec F S2x128x1024 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3).2.1)
theorem cover0_A_6 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) (y : S1x1024.Idx) :
    ∃ pc ∈ (kernelRun0_A c i arg1 harg1 arg2 harg2 arg3 harg3 arg4 harg4 arg5 harg5 arg6 harg6 arg7 harg7 hc0 hc1 x0 x1 x2 x3).2.2.1, y ∈ pc.1.set :=
  View.cover_of_tiledL (kernelRun0_A c i arg1 harg1 arg2 harg2 arg3 harg3 arg4 harg4 arg5 harg5 arg6 harg6 arg7 harg7 hc0 hc1 x0 x1 x2 x3).2.2.1 S1x1024.size (by sl_kernel_rfl) y
def out0_A_6 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : cond0_0 i) (hc1 : cond0_1 i)
    (x0 x1 : Vec F S2x128x1024 .f32) (x2 : Vec F S1x1024 .f32) (x3 : Vec F S2x128x1024 .f32) : Vec F S1x1024 .f32 :=
  VO0_6.read (Elt F) (VO0_6.writes (Elt F) VO0_6.junk (kernelRun0_A c i arg1 harg1 arg2 harg2 arg3 harg3 arg4 harg4 arg5 harg5 arg6 harg6 arg7 harg7 hc0 hc1 x0 x1 x2 x3).2.2.1)
theorem cover0_B_4 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : ¬cond0_0 i) (hc1 : ¬cond0_1 i)
    (x0 x1 : Vec F S2x128x1024 .f32) (x2 : Vec F S1x1024 .f32) (x3 : Vec F S2x128x1024 .f32) (xo6 : Vec F S1x1024 .f32) (y : S2x128x1024.Idx) :
    ∃ pc ∈ (kernelRun0_B c i arg1 harg1 arg2 harg2 arg3 harg3 arg4 harg4 arg5 harg5 arg6 harg6 arg7 harg7 hc0 hc1 x0 x1 x2 x3 xo6).1, y ∈ pc.1.set :=
  View.cover_of_tiledL (kernelRun0_B c i arg1 harg1 arg2 harg2 arg3 harg3 arg4 harg4 arg5 harg5 arg6 harg6 arg7 harg7 hc0 hc1 x0 x1 x2 x3 xo6).1 S1x128x1024.size (by sl_kernel_rfl) y
def out0_B_4 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : ¬cond0_0 i) (hc1 : ¬cond0_1 i)
    (x0 x1 : Vec F S2x128x1024 .f32) (x2 : Vec F S1x1024 .f32) (x3 : Vec F S2x128x1024 .f32) (xo6 : Vec F S1x1024 .f32) : Vec F S2x128x1024 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 x3 xo6).1)
theorem cover0_B_6 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : ¬cond0_0 i) (hc1 : ¬cond0_1 i)
    (x0 x1 : Vec F S2x128x1024 .f32) (x2 : Vec F S1x1024 .f32) (x3 : Vec F S2x128x1024 .f32) (xo6 : Vec F S1x1024 .f32) (y : S1x1024.Idx) :
    ∃ pc ∈ (kernelRun0_B c i arg1 harg1 arg2 harg2 arg3 harg3 arg4 harg4 arg5 harg5 arg6 harg6 arg7 harg7 hc0 hc1 x0 x1 x2 x3 xo6).2.1, y ∈ pc.1.set :=
  View.cover_of_tiledL (kernelRun0_B c i arg1 harg1 arg2 harg2 arg3 harg3 arg4 harg4 arg5 harg5 arg6 harg6 arg7 harg7 hc0 hc1 x0 x1 x2 x3 xo6).2.1 S1x1024.size (by sl_kernel_rfl) y
def out0_B_6 (c : Dev nD) (i : grid0.Coords) (arg1 : Memref sig .tc .vmem S2x128x1024 .f32) (harg1 : arg1.IsWhole) (arg2 : Memref sig .tc .vmem S2x128x1024 .f32) (harg2 : arg2.IsWhole) (arg3 : Memref sig .tc .vmem S1x1024 .f32) (harg3 : arg3.IsWhole) (arg4 : Memref sig .tc .vmem S2x128x1024 .f32) (harg4 : arg4.IsWhole) (arg5 : Memref sig .tc .vmem S2x128x1024 .f32) (harg5 : arg5.IsWhole) (arg6 : Memref sig .tc .vmem S2x128x1024 .f32) (harg6 : arg6.IsWhole) (arg7 : Memref sig .tc .vmem S1x1024 .f32) (harg7 : arg7.IsWhole) (hc0 : ¬cond0_0 i) (hc1 : ¬cond0_1 i)
    (x0 x1 : Vec F S2x128x1024 .f32) (x2 : Vec F S1x1024 .f32) (x3 : Vec F S2x128x1024 .f32) (xo6 : Vec F S1x1024 .f32) : Vec F S1x1024 .f32 :=
  VO0_6.read (Elt F) (VO0_6.writes (Elt F) VO0_6.junk (kernelRun0_B c i arg1 harg1 arg2 harg2 arg3 harg3 arg4 harg4 arg5 harg5 arg6 harg6 arg7 harg7 hc0 hc1 x0 x1 x2 x3 xo6).2.1)

/-! ## What the outputs hold after each point -/

/-- The two cases at a point of the grid. -/
def first (c : Dev nD) (t : Fin cfg0.N) (h : t.val = 0) : Vec F S2x128x1024 .f32 × Vec F S2x128x1024 .f32 × Vec F S1x1024 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) ((hcond0_1 t).mpr h) (iblk m c 0 t) (iblk m c 1 t) (iblk m c 2 t) (iblk m c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) ((hcond0_1 t).mpr h) (iblk m c 0 t) (iblk m c 1 t) (iblk m c 2 t) (iblk m c 3 t),
   out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h) ((hcond0_1 t).mpr h) (iblk m c 0 t) (iblk m c 1 t) (iblk m c 2 t) (iblk m c 3 t))
def next (c : Dev nD) (t : Fin cfg0.N) (h : ¬t.val = 0) (x : Vec F S1x1024 .f32) : Vec F S2x128x1024 .f32 × Vec F S1x1024 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun k => h ((hcond0_0 t).mp k)) (fun k => h ((hcond0_1 t).mp k)) (iblk m c 0 t) (iblk m c 1 t) (iblk m c 2 t) (iblk m c 3 t) x,
   out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun k => h ((hcond0_0 t).mp k)) (fun k => h ((hcond0_1 t).mp k)) (iblk m c 0 t) (iblk m c 1 t) (iblk m c 2 t) (iblk m c 3 t) x)
/-- The three outputs after a point: at the first what it stores, later the head's block as it was. -/
def outsAt0 (c : Dev nD) : (n : ℕ) → n < cfg0.N → Vec F S2x128x1024 .f32 × Vec F S2x128x1024 .f32 × Vec F S1x1024 .f32
  | 0, hn => first m c ⟨0, hn⟩ rfl
  | n + 1, hn => ((next m c ⟨n + 1, hn⟩ (Nat.succ_ne_zero n) (outsAt0 c n (Nat.lt_of_succ_lt hn)).2.2).1,
      (outsAt0 c n (Nat.lt_of_succ_lt hn)).2.1,
      (next m c ⟨n + 1, hn⟩ (Nat.succ_ne_zero n) (outsAt0 c n (Nat.lt_of_succ_lt hn)).2.2).2)
theorem outsAt0_A (c : Dev nD) (t : Fin cfg0.N) (h : t.val = 0) : outsAt0 m c t.val t.isLt = first m c t h := by
  obtain ⟨n, hn⟩ := t
  cases n with
  | zero => rfl
  | succ n => exact absurd h (Nat.succ_ne_zero n)
theorem outsAt0_B (c : Dev nD) (t : Fin cfg0.N) (h : ¬t.val = 0) :
    outsAt0 m c t.val t.isLt = ((next m c t h (outsAt0 m c (t.val - 1) (Nat.lt_of_le_of_lt (Nat.sub_le _ _) t.isLt)).2.2).1,
      (outsAt0 m c (t.val - 1) (Nat.lt_of_le_of_lt (Nat.sub_le _ _) t.isLt)).2.1,
      (next m c t h (outsAt0 m c (t.val - 1) (Nat.lt_of_le_of_lt (Nat.sub_le _ _) t.isLt)).2.2).2) := by
  obtain ⟨n, hn⟩ := t
  cases n with
  | zero => exact absurd rfl h
  | succ n => rfl

/-- The proof data of the pipeline: the arrays as launched, and what each buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0
theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later point the head's buffer, and the sum's, hold what the point before left. -/
theorem before0_5 (c : Dev nD) (t : Fin cfg0.N) (h : ¬t.val = 0) (d) :
    (dats m 0 c).before 5 t d = (outsAt0 m c t.val t.isLt).2.1 := by
  rw [Dat.before_out_traj _ 5 rfl (fun _ _ => rfl) (fun t h0 _ _ => by rw [after0_5, after0_5, outsAt0_B m c t h0]) t.val t rfl d,
    if_neg (by rw [notFresh t h]; exact Bool.false_ne_true), after0_5, outsAt0_B m c t h]
theorem before0_6 (c : Dev nD) (t : Fin cfg0.N) (h : ¬t.val = 0) (d) :
    (dats m 0 c).before 6 t d = (outsAt0 m c (t.val - 1) (Nat.lt_of_le_of_lt (Nat.sub_le _ _) t.isLt)).2.2 := by
  have hN : t.val < 33 := lt_of_lt_of_eq t.isLt (show cfg0.N = 33 from N_0)
  rw [Dat.before_out_kept _ 6 rfl t (by omega) (Bool.eq_false_iff.mpr fun h => by have := (flush0_6 _).mp h; dsimp only at this; omega)
    (fun _ => rfl) (fun _ _ => rfl)]
  dsimp only [dats]
/-- The head's buffer at a later point, left as found, is as the proof data say. -/
theorem leaves5 (c : Dev nD) (t : Fin cfg0.N) (h : ¬t.val = 0) :
    (owns (c : Thread nD τ) (ms0_5 t) fullShare ((outsAt0 m c t.val t.isLt).2.1) : sProp 𝕄) ⊢ (dats m 0 c).leavesExact 5 t := by
  unfold Dat.leavesExact
  rw [idle5 t h]
  cases (cfg0.win 5).flush t
  · simp only [before0_5 m c t h]
    iintro H; iexists (fun _ => Classical.arbitrary _); iexact H
  · dsimp only
    rw [after0_5]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_of (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [h]

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0_0 t) fullShare (iblk m c 0 t) from (leaves_of m c t 0 rfl).trans (by rw [after0_0]),
    show (dats m 0 c).leavesExact 1 t = owns (c : Thread nD τ) (ms0_1 t) fullShare (iblk m c 1 t) from (leaves_of m c t 1 rfl).trans (by rw [after0_1]),
    show (dats m 0 c).leavesExact 2 t = owns (c : Thread nD τ) (ms0_2 t) fullShare (iblk m c 2 t) from (leaves_of m c t 2 rfl).trans (by rw [after0_2]),
    show (dats m 0 c).leavesExact 3 t = owns (c : Thread nD τ) (ms0_3 t) fullShare (iblk m c 3 t) from (leaves_of m c t 3 rfl).trans (by rw [after0_3]),
    show (dats m 0 c).leavesExact 4 t = owns (c : Thread nD τ) (ms0_4 t) fullShare ((outsAt0 m c t.val t.isLt).1) from (leaves_of m c t 4 rfl).trans (by rw [after0_4]),
    show (dats m 0 c).leavesExact 6 t = owns (c : Thread nD τ) (ms0_6 t) fullShare ((outsAt0 m c t.val t.isLt).2.2) from (leaves_of m c t 6 rfl).trans (by rw [after0_6])]
  by_cases h : t.val = 0
  · rw [show (dats m 0 c).leavesExact 5 t = owns (c : Thread nD τ) (ms0_5 t) fullShare ((outsAt0 m c t.val t.isLt).2.1) from (leaves_of m c t 5 (live5 t h)).trans (by rw [after0_5])]
    rw [outsAt0_A m c t h]
    unfold first out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h) ((hcond0_1 t).mpr h) (iblk m c 0 t) (iblk m c 1 t) (iblk m c 2 t) (iblk m c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [show (outsAt0 m c t.val t.isLt).1 = _ from congrArg (fun o => o.1) (outsAt0_B m c t h), show (outsAt0 m c t.val t.isLt).2.2 = _ from congrArg (fun o => o.2.2) (outsAt0_B m c t h)]
    simp only [before0_5 m c t h, before0_6 m c t h]
    unfold next out0_B_4 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun k => h ((hcond0_0 t).mp k)) (fun k => h ((hcond0_1 t).mp k)) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [H6]; · iexact H6
    iintro ⟨H0, H1, H2, H3, ⟨%e4, H4⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _)
    isplitl [H5]
    · iapply (leaves5 m c t h); iexact H5
    unfold owns; iexists _; isplitr
    swap; · iexact H6
    ipureintro; exact View.read_writes_of_cover _ _ _ _ _ (cover0_B_6 c _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_quiescent m ρ)
/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))
/-- The three results after the run, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)
end Cert.InputGradIdeal.Hand
end
-- ==== Proof.InputGrad.lean ====
module
public import proofs.«01_k».proof.Defs
public import proofs.«01_k».proof.Proof.Gen.InputGrad.Frame
public import proofs.«01_k».proof.Proof.InputGradRun
public import proofs.«01_k».proof.Proof.InputGradBits
public import proofs.«01_k».proof.Proof.Gen.InputGradRefIdeal.Run
public import proofs.«01_k».proof.Proof.Ff1Bwd
public import proofs.«01_k».proof.Proof.ReadAll
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem

/-! ## The gradient through the first norm, with the residual's -/

namespace Cert.InputGradRefIdeal.Done
open Cert.InputGradRefIdeal Cert.InputGradRefIdeal.Gen Norm

/-- One sequence of a batch. -/
def pl {n : ℕ} (x : FVec Ideal ⟨3, ![2, n, 1024]⟩ .f32) (e : Fin 2) : FVec Ideal ⟨2, ![n, 1024]⟩ .f32 := fun y => x (ix3 e (y 0) (y 1))

/-! ### The reference's pieces -/

/-- The mean square with the constant. -/
def var (X : FVec Ideal S2x4224x1024 .f32) : FVec Ideal S2x4224x1 .f32 :=
  addf (Host.divf (broadcastInDim S2x4224x1 ![0, 1] bcast_S2x4224_S2x4224x1_0_1 (Host.reduceAdd (mulf X X) (constant S_ .f32 0x00000000#32) reducesTo_S2x4224x1024_S2x4224_d2 h_S_)) (broadcastInDim S2x4224x1 ![] bcast_S_S2x4224x1 (constant S_ .f32 0x44800000#32))) (broadcastInDim S2x4224x1 ![] bcast_S_S2x4224x1 (constant S_ .f32 0x3727C5AC#32))
/-- The gradient by the norm's input, of it, with the residual's. -/
def dx (D X : FVec Ideal S2x4224x1024 .f32) (V : FVec Ideal S2x4224x1 .f32) (G : FVec Ideal S1x1024 .f32) (E : FVec Ideal S2x4224x1024 .f32) : FVec Ideal S2x4224x1024 .f32 :=
  addf (addf (addf E (mulf (mulf D (broadcastInDim S2x4224x1024 ![0, 1, 2] bcast_S1x1x1024_S2x4224x1024_0_1_2 (broadcastInDim S1x1x1024 ![2] bcast_S1024_S1x1x1024_2 (shapeCast _ G shapeCasts_S1x1024_S1024)))) (broadcastInDim S2x4224x1024 ![0, 1, 2] bcast_S2x4224x1_S2x4224x1024_0_1_2 (Host.rsqrt V)))) (mulf X (broadcastInDim S2x4224x1024 ![0, 1] bcast_S2x4224_S2x4224x1024_0_1 (Host.reduceAdd (Host.divf (mulf (shapeCast _ (Host.reduceAdd (mulf X (mulf D (broadcastInDim S2x4224x1024 ![0, 1, 2] bcast_S1x1x1024_S2x4224x1024_0_1_2 (broadcastInDim S1x1x1024 ![2] bcast_S1024_S1x1x1024_2 (shapeCast _ G shapeCasts_S1x1024_S1024))))) (constant S_ .f32 0x00000000#32) reducesTo_S2x4224x1024_S2x4224_d2 h_S_) shapeCasts_S2x4224_S2x4224x1) (mulf (broadcastInDim S2x4224x1 ![] bcast_S_S2x4224x1 (constant S_ .f32 0xBF000000#32)) (Host.divf (Host.rsqrt V) V))) (broadcastInDim S2x4224x1 ![] bcast_S_S2x4224x1 (constant S_ .f32 0x44800000#32))) (constant S_ .f32 0x00000000#32) reducesTo_S2x4224x1_S2x4224_d2 h_S_)))) (mulf (broadcastInDim S2x4224x1024 ![0, 1] bcast_S2x4224_S2x4224x1024_0_1 (Host.reduceAdd (Host.divf (mulf (shapeCast _ (Host.reduceAdd (mulf X (mulf D (broadcastInDim S2x4224x1024 ![0, 1, 2] bcast_S1x1x1024_S2x4224x1024_0_1_2 (broadcastInDim S1x1x1024 ![2] bcast_S1024_S1x1x1024_2 (shapeCast _ G shapeCasts_S1x1024_S1024))))) (constant S_ .f32 0x00000000#32) reducesTo_S2x4224x1024_S2x4224_d2 h_S_) shapeCasts_S2x4224_S2x4224x1) (mulf (broadcastInDim S2x4224x1 ![] bcast_S_S2x4224x1 (constant S_ .f32 0xBF000000#32)) (Host.divf (Host.rsqrt V) V))) (broadcastInDim S2x4224x1 ![] bcast_S_S2x4224x1 (constant S_ .f32 0x44800000#32))) (constant S_ .f32 0x00000000#32) reducesTo_S2x4224x1_S2x4224_d2 h_S_)) X)
/-- The gradient by the norm's weight. -/
def dw (D X : FVec Ideal S2x4224x1024 .f32) (V : FVec Ideal S2x4224x1 .f32) : FVec Ideal S1x1024 .f32 :=
  broadcastInDim S1x1024 ![1] bcast_S1024_S1x1024_1 (Host.reduceAdd (shapeCast _ (Host.reduceAdd (mulf (mulf X (broadcastInDim S2x4224x1024 ![0, 1, 2] bcast_S2x4224x1_S2x4224x1024_0_1_2 (Host.rsqrt V))) D) (constant S_ .f32 0x00000000#32) reducesTo_S2x4224x1024_S1024_d0_1 h_S_) shapeCasts_S1024_S1x1x1024) (constant S_ .f32 0x00000000#32) reducesTo_S1x1x1024_S1024_d0_1 h_S_)

theorem var_at (X : FVec Ideal S2x4224x1024 .f32) (e : Fin 2) (r : Fin 4224) (z : Fin 1) : var X (ix3 e r z) = msAt (n := 4224) (pl X e) r + cE := by
  pointwise [var, msAt, pl, cN, cE]
theorem dx_at (D X : FVec Ideal S2x4224x1024 .f32) (G : FVec Ideal S1x1024 .f32) (E : FVec Ideal S2x4224x1024 .f32) (e : Fin 2) (r : Fin 4224) (k : Fin 1024) :
    dx D X (var X) G E (ix3 e r k) = Cert.Ff1BwdIdeal.dxAt (n := 4224) (pl D e) (pl X e) G (pl E e) (ix2 r k) := by
  pointwise [dx, Cert.Ff1BwdIdeal.dxAt, var_at, pl]
  have hs : ∑ l : Fin 1024, X (ix3 e r l) * (D (ix3 e r l) * G (ix2 0 l)) = ∑ l : Fin 1024, D (ix3 e r l) * G (ix2 0 l) * X (ix3 e r l) :=
    Finset.sum_congr rfl fun l _ => mul_comm _ _
  rw [Fin.sum_univ_one, hs]
  exact grad_eq _ _ _ _ _ (var_pos (pl X e) r)
/-- The rows after the first 128 of each sequence, and those 128. -/
theorem rows_eq (D X : FVec Ideal S2x4224x1024 .f32) (G : FVec Ideal S1x1024 .f32) (E : FVec Ideal S2x4224x1024 .f32) :
    extractStridedSlice S2x4096x1024 ![0, 128, 0] (dx D X (var X) G E) slices_S2x4224x1024_S2x4096x1024_0_128_0
      = fun y => Cert.Ff1BwdIdeal.dxAt (n := 4224) (pl D (y 0)) (pl X (y 0)) G (pl E (y 0)) (ix2 ⟨(y 1).val + 128, by have : (y 1).val < 4096 := (y 1).isLt; omega⟩ (y 2)) := by
  funext y
  refine Eq.trans ?_ (dx_at D X G E (y 0) _ (y 2))
  refine congrArg (dx D X (var X) G E) (funext fun a => Fin.ext ?_)
  match a with
  | ⟨0, _⟩ => exact zero_add _
  | ⟨1, _⟩ => exact add_comm _ _
  | ⟨2, _⟩ => exact zero_add _
theorem head_eq (D X : FVec Ideal S2x4224x1024 .f32) (G : FVec Ideal S1x1024 .f32) (E : FVec Ideal S2x4224x1024 .f32) :
    extractStridedSlice S2x128x1024 ![0, 0, 0] (dx D X (var X) G E) slices_S2x4224x1024_S2x128x1024_0_0_0
      = fun y => Cert.Ff1BwdIdeal.dxAt (n := 4224) (pl D (y 0)) (pl X (y 0)) G (pl E (y 0)) (ix2 ⟨(y 1).val, by have : (y 1).val < 128 := (y 1).isLt; omega⟩ (y 2)) := by
  funext y
  refine Eq.trans ?_ (dx_at D X G E (y 0) _ (y 2))
  refine congrArg (dx D X (var X) G E) (funext fun a => Fin.ext ?_)
  match a with
  | ⟨0, _⟩ => exact zero_add _
  | ⟨1, _⟩ => exact zero_add _
  | ⟨2, _⟩ => exact zero_add _
/-- A sum over batch and rows. -/
theorem sum_two {a b n : ℕ} (h : (⟨3, ![a, b, n]⟩ : Shape).ReducesTo [0, 1] ⟨1, ![n]⟩) (x : FVec Ideal ⟨3, ![a, b, n]⟩ .f32) (k : Fin n) :
    Ideal.hostReduceAdd h x 0 (ix1 k) = ∑ e : Fin a, ∑ r : Fin b, x (ix3 e r k) := by
  unfold Ideal.hostReduceAdd
  have hd : ∀ i : (⟨3, ![a, b, n]⟩ : Shape).Idx, h.drop i = ix1 k ↔ i 2 = k := by
    intro i
    constructor
    · intro q; exact congrFun q 0
    · intro q; funext b; obtain rfl : b = 0 := Subsingleton.elim _ _; exact q
  rw [zero_add, ← Fintype.sum_prod_type']
  refine Finset.sum_nbij' (fun i => ((i 0, i 1) : Fin a × Fin b)) (fun p => ix3 p.1 p.2 k) ?_ ?_ ?_ ?_ ?_
  · intro i _; exact Finset.mem_univ _
  · intro p _; exact Finset.mem_filter.2 ⟨Finset.mem_univ _, (hd _).2 rfl⟩
  · intro i hi
    have h2 := (hd i).1 (Finset.mem_filter.1 hi).2
    funext a
    match a with
    | ⟨0, _⟩ => rfl
    | ⟨1, _⟩ => rfl
    | ⟨2, _⟩ => exact h2.symm
  · intro p _; rfl
  · intro i hi
    have h2 := (hd i).1 (Finset.mem_filter.1 hi).2
    refine congrArg x (funext fun a => ?_)
    match a with
    | ⟨0, _⟩ => rfl
    | ⟨1, _⟩ => rfl
    | ⟨2, _⟩ => exact h2
theorem dw_eq (D X : FVec Ideal S2x4224x1024 .f32) : dw D X (var X) = fun y => ∑ e : Fin 2, Cert.Ff1BwdIdeal.dgAt (n := 4224) (pl D e) (pl X e) y := by
  funext y
  idx_vars y
  pointwise [dw, Cert.Ff1BwdIdeal.dgAt, var_at, pl]
  rw [sum_two, Fin.sum_univ_one, Fin.sum_univ_one]
  pointwise
  rw [sum_two]
  refine Finset.sum_congr rfl fun e _ => Finset.sum_congr rfl fun r _ => ?_
  pointwise [var_at, rsAt]
  exact (mul_right_comm _ _ _).trans (congrArg (fun u : EReal => u * _) (mul_comm _ _))
end Cert.InputGradRefIdeal.Done

namespace Cert.InputGradIdeal.Done
open Cert.InputGradIdeal Cert.InputGradIdeal.Gen Norm
open Cert.InputGradIdeal.Hand (outsAt0 outsAt0_A outsAt0_B first next dats after0_4 after0_5 after0_6)
open Cert.InputGradRefIdeal.Done (pl)

/-- One sequence's rows of a block, as the body loads them. -/
def sl (x : Vec Ideal S1x128x1024 .f32) : FVec Ideal ⟨2, ![128, 1024]⟩ .f32 := fun y => x (ix3 0 (y 0) (y 1))

theorem pay7_at (x : Vec Ideal S1x128x1024 .f32) (y : S128x1.Idx) : k0_pay7 (F := Ideal) x y = rsAt (n := 128) (sl x) (y 0) := by
  idx_vars y
  pointwise [k0_pay7, k0_pay5, rsAt, msAt, sl, cN, cE]
theorem pay8_at (x d e : Vec Ideal S1x128x1024 .f32) (g : Vec Ideal S1x1024 .f32) (y : S128x1024.Idx) :
    k0_pay8 (F := Ideal) x d g e y = Cert.Ff1BwdIdeal.dxAt (n := 128) (sl d) (sl x) g (sl e) y := by
  idx_vars y
  pointwise [k0_pay8, k0_pay5, k0_pay6, pay7_at, Cert.Ff1BwdIdeal.dxAt, sl, cN, cE]
theorem pay12_at (x d : Vec Ideal S1x128x1024 .f32) (g : Vec Ideal S1x1024 .f32) (y : S1x1024.Idx) :
    k0_pay12 (F := Ideal) (k0_pay9 g) (k0_pay10 x d) (k0_pay11 x) y = g y + Cert.Ff1BwdIdeal.dgAt (n := 128) (sl d) (sl x) y := by
  idx_vars y
  pointwise [k0_pay12, k0_pay9, k0_pay10, k0_pay11, k0_pay5, k0_pay6, pay7_at, Cert.Ff1BwdIdeal.dgAt, sl]
theorem pay16_at (x : Vec Ideal S1x128x1024 .f32) (y : S128x1.Idx) : k0_pay16 (F := Ideal) x y = rsAt (n := 128) (sl x) (y 0) := by
  idx_vars y
  pointwise [k0_pay16, k0_pay14, rsAt, msAt, sl, cN, cE]
theorem pay2_at (x d e : Vec Ideal S1x128x1024 .f32) (g : Vec Ideal S1x1024 .f32) (y : S1x128x1024.Idx) :
    k0_pay2 (F := Ideal) (k0_pay17 x d g) e y = Cert.Ff1BwdIdeal.dxAt (n := 128) (sl d) (sl x) g (sl e) (ix2 (y 1) (y 2)) := by
  idx_vars y
  pointwise [k0_pay2, k0_pay17, k0_pay14, k0_pay15, pay16_at, Cert.Ff1BwdIdeal.dxAt, sl, cN, cE]
theorem pay13_at (v : Vec Ideal S128x1024 .f32) (y : S1x128x1024.Idx) : k0_pay13 (F := Ideal) v y = v (ix2 (y 1) (y 2)) := by
  idx_vars y
  pointwise [k0_pay13]
theorem pay1_at (x d : Vec Ideal S1x128x1024 .f32) (g : Vec Ideal S1x1024 .f32) (y : S1x1024.Idx) :
    k0_pay1 (F := Ideal) (k0_pay14 x) (k0_pay15 d) (k0_pay16 x) g y = g y + Cert.Ff1BwdIdeal.dgAt (n := 128) (sl d) (sl x) y := by
  idx_vars y
  pointwise [k0_pay1, k0_pay14, k0_pay15, pay16_at, Cert.Ff1BwdIdeal.dgAt, sl]
theorem pay4_eq : (k0_pay4 : FVec Ideal S1x1024 .f32) = fun _ => 0 := by
  funext y
  idx_vars y
  pointwise [k0_pay4]
theorem pay3_eq (x : Vec Ideal S2x128x1024 .f32) : k0_pay3 (F := Ideal) x = x := by
  funext y
  idx_vars y
  pointwise [k0_pay3]
/-- What the body loads of a block is one sequence of it. -/
theorem sl_ld (x : FVec Ideal S2x128x1024 .f32) (e : Fin 2) {o : Fin 3 → ℕ} (i : ∀ a, o a + ![1, 128, 1024] a ≤ S2x128x1024.size a) (h : o = ![e.val, 0, 0]) :
    sl (View.ld (Val := Elt Ideal) (e' := .f32) x (Rect.unit (s := S2x128x1024) o ![1, 128, 1024] i)) = pl (n := 128) x e := by
  subst h
  refine funext fun y => congrArg x (funext fun a => Fin.ext ?_)
  match a with
  | ⟨0, _⟩ => simp
  | ⟨1, _⟩ => simp
  | ⟨2, _⟩ => simp

/-- What a block's rows give: the gradient by them, and by the norm's weight. -/
def rowsOf (d x : FVec Ideal S2x128x1024 .f32) (g : FVec Ideal S1x1024 .f32) (e : FVec Ideal S2x128x1024 .f32) : FVec Ideal S2x128x1024 .f32 := fun y =>
  Cert.Ff1BwdIdeal.dxAt (n := 128) (pl d (y 0)) (pl x (y 0)) g (pl e (y 0)) (ix2 (y 1) (y 2))
def partOf (d x : FVec Ideal S2x128x1024 .f32) : FVec Ideal S1x1024 .f32 := fun y =>
  Cert.Ff1BwdIdeal.dgAt (n := 128) (pl d 0) (pl x 0) y + Cert.Ff1BwdIdeal.dgAt (n := 128) (pl d 1) (pl x 1) y

/-- One sequence's rows of the block, as the two stores leave them. -/
theorem tile1_at (x d e : FVec Ideal S2x128x1024 .f32) (g : FVec Ideal S1x1024 .f32) (j : S1x128x1024.Idx) :
    k0_pay2 (F := Ideal) (k0_pay17 (F := Ideal) (View.ld x (Rect.unit (s := S2x128x1024) ![1, 0, 0] ![1, 128, 1024] inb_S2x128x1024_S1x128x1024_1_0_0)) (View.ld d (Rect.unit (s := S2x128x1024) ![1, 0, 0] ![1, 128, 1024] inb_S2x128x1024_S1x128x1024_1_0_0)) g)
        (View.ld e (Rect.unit (s := S2x128x1024) ![1, 0, 0] ![1, 128, 1024] inb_S2x128x1024_S1x128x1024_1_0_0)) j
      = rowsOf d x g e ((Rect.unit (s := S2x128x1024) ![1, 0, 0] ![1, 128, 1024] inb_S2x128x1024_S1x128x1024_1_0_0).emb j) := by
  rw [pay2_at, sl_ld x 1 (o := ![1, 0, 0]) _ rfl, sl_ld d 1 (o := ![1, 0, 0]) _ rfl, sl_ld e 1 (o := ![1, 0, 0]) _ rfl]
  refine congrArg₂ (fun (p : Fin 2) (z : S128x1024.Idx) => Cert.Ff1BwdIdeal.dxAt (n := 128) (pl d p) (pl x p) g (pl e p) z) (Fin.ext ?_)
    (congrArg₂ (fun (u : Fin 128) (v : Fin 1024) => ix2 u v) (Fin.ext ?_) (Fin.ext ?_))
  · have : (j 0).val < 1 := (j 0).isLt
    simp
  · simp
  · simp
theorem tile0_at (x d e : FVec Ideal S2x128x1024 .f32) (g : FVec Ideal S1x1024 .f32) (j : S1x128x1024.Idx) :
    k0_pay13 (F := Ideal) (k0_pay8 (F := Ideal) (View.ld x (Rect.unit (s := S2x128x1024) ![0, 0, 0] ![1, 128, 1024] inb_S2x128x1024_S1x128x1024_0_0_0)) (View.ld d (Rect.unit (s := S2x128x1024) ![0, 0, 0] ![1, 128, 1024] inb_S2x128x1024_S1x128x1024_0_0_0)) g
        (View.ld e (Rect.unit (s := S2x128x1024) ![0, 0, 0] ![1, 128, 1024] inb_S2x128x1024_S1x128x1024_0_0_0))) j
      = rowsOf d x g e ((Rect.unit (s := S2x128x1024) ![0, 0, 0] ![1, 128, 1024] inb_S2x128x1024_S1x128x1024_0_0_0).emb j) := by
  rw [pay13_at, pay8_at, sl_ld x 0 (o := ![0, 0, 0]) _ rfl, sl_ld d 0 (o := ![0, 0, 0]) _ rfl, sl_ld e 0 (o := ![0, 0, 0]) _ rfl]
  refine congrArg₂ (fun (p : Fin 2) (z : S128x1024.Idx) => Cert.Ff1BwdIdeal.dxAt (n := 128) (pl d p) (pl x p) g (pl e p) z) (Fin.ext ?_)
    (congrArg₂ (fun (u : Fin 128) (v : Fin 1024) => ix2 u v) (Fin.ext ?_) (Fin.ext ?_))
  · have : (j 0).val < 1 := (j 0).isLt
    simp
  · simp
  · simp
/-- The two stores of the rows' gradient are the whole block. -/
theorem rows_eq (x d e : FVec Ideal S2x128x1024 .f32) (g : FVec Ideal S1x1024 .f32) :
    View.canon ([⟨Rect.unit (s := S2x128x1024) ![1, 0, 0] ![1, 128, 1024] inb_S2x128x1024_S1x128x1024_1_0_0,
        k0_pay2 (F := Ideal) (k0_pay17 (F := Ideal) (View.ld x (Rect.unit (s := S2x128x1024) ![1, 0, 0] ![1, 128, 1024] inb_S2x128x1024_S1x128x1024_1_0_0)) (View.ld d (Rect.unit (s := S2x128x1024) ![1, 0, 0] ![1, 128, 1024] inb_S2x128x1024_S1x128x1024_1_0_0)) g)
          (View.ld e (Rect.unit (s := S2x128x1024) ![1, 0, 0] ![1, 128, 1024] inb_S2x128x1024_S1x128x1024_1_0_0))⟩,
      ⟨Rect.unit (s := S2x128x1024) ![0, 0, 0] ![1, 128, 1024] inb_S2x128x1024_S1x128x1024_0_0_0,
        k0_pay13 (F := Ideal) (k0_pay8 (F := Ideal) (View.ld x (Rect.unit (s := S2x128x1024) ![0, 0, 0] ![1, 128, 1024] inb_S2x128x1024_S1x128x1024_0_0_0)) (View.ld d (Rect.unit (s := S2x128x1024) ![0, 0, 0] ![1, 128, 1024] inb_S2x128x1024_S1x128x1024_0_0_0)) g
          (View.ld e (Rect.unit (s := S2x128x1024) ![0, 0, 0] ![1, 128, 1024] inb_S2x128x1024_S1x128x1024_0_0_0)))⟩] : List (View.Piece (Elt Ideal) S2x128x1024 .f32))
      = rowsOf d x g e := by
  funext y
  exact View.canon_append_of_piecesOf _ [] [_, _] ⟨fun j => tile1_at x d e g j, fun j => tile0_at x d e g j, trivial⟩ y (View.cover_of_tiledBy _ ![1, 128, 1024] (by sl_kernel_rfl) y)
/-- The weight's gradient after both sequences of a block. -/
theorem acc_eq (x d : FVec Ideal S2x128x1024 .f32) (g : FVec Ideal S1x1024 .f32) :
    k0_pay1 (F := Ideal) (k0_pay14 (F := Ideal) (View.ld x (Rect.unit (s := S2x128x1024) ![1, 0, 0] ![1, 128, 1024] inb_S2x128x1024_S1x128x1024_1_0_0)))
        (k0_pay15 (F := Ideal) (View.ld d (Rect.unit (s := S2x128x1024) ![1, 0, 0] ![1, 128, 1024] inb_S2x128x1024_S1x128x1024_1_0_0)))
        (k0_pay16 (F := Ideal) (View.ld x (Rect.unit (s := S2x128x1024) ![1, 0, 0] ![1, 128, 1024] inb_S2x128x1024_S1x128x1024_1_0_0)))
        (k0_pay12 (F := Ideal) (k0_pay9 (F := Ideal) g) (k0_pay10 (F := Ideal) (View.ld x (Rect.unit (s := S2x128x1024) ![0, 0, 0] ![1, 128, 1024] inb_S2x128x1024_S1x128x1024_0_0_0)) (View.ld d (Rect.unit (s := S2x128x1024) ![0, 0, 0] ![1, 128, 1024] inb_S2x128x1024_S1x128x1024_0_0_0)))
          (k0_pay11 (F := Ideal) (View.ld x (Rect.unit (s := S2x128x1024) ![0, 0, 0] ![1, 128, 1024] inb_S2x128x1024_S1x128x1024_0_0_0))) : FVec Ideal S1x1024 .f32)
      = fun y => g y + partOf d x y := by
  funext y
  rw [pay1_at, pay12_at, sl_ld x 1 (o := ![1, 0, 0]) _ rfl, sl_ld d 1 (o := ![1, 0, 0]) _ rfl, sl_ld x 0 (o := ![0, 0, 0]) _ rfl, sl_ld d 0 (o := ![0, 0, 0]) _ rfl]
  exact add_assoc _ _ _

variable (m : (ℓ : Loc nD τ sig) → Buf (Elt Ideal) ℓ) (c : Dev nD)

/-- The input blocks of a point. -/
def blkD (t : Fin cfg0.N) : FVec Ideal S2x128x1024 .f32 := iblk m c 0 t
def blkX (t : Fin cfg0.N) : FVec Ideal S2x128x1024 .f32 := iblk m c 1 t
def blkG (t : Fin cfg0.N) : FVec Ideal S1x1024 .f32 := iblk m c 2 t
def blkE (t : Fin cfg0.N) : FVec Ideal S2x128x1024 .f32 := iblk m c 3 t
/-- What one point computes: the rows' gradient, and its part of the weight's. -/
def rows (t : Fin cfg0.N) : FVec Ideal S2x128x1024 .f32 := rowsOf (blkD m c t) (blkX m c t) (blkG m c t) (blkE m c t)
def part (t : Fin cfg0.N) : FVec Ideal S1x1024 .f32 := partOf (blkD m c t) (blkX m c t)

theorem first_at (t : Fin cfg0.N) (h : t.val = 0) : outsAt0 m c t.val t.isLt = (rows m c t, rows m c t, fun y => (0 : EReal) + part m c t y) := by
  rw [outsAt0_A m c t h]
  unfold first
  frame_out
  rw [pay3_eq, pay4_eq]
  exact congrArg₂ Prod.mk (rows_eq (blkX m c t) (blkD m c t) (blkE m c t) (blkG m c t)) (congrArg₂ Prod.mk
    ((ReadAll.readCov_all (S := S2x128x1024) _ _ _ (by decide)).trans (rows_eq (blkX m c t) (blkD m c t) (blkE m c t) (blkG m c t))) (acc_eq (blkX m c t) (blkD m c t) _))
theorem next_at (t : Fin cfg0.N) (h : ¬t.val = 0) :
    outsAt0 m c t.val t.isLt = (rows m c t, (outsAt0 m c (t.val - 1) (Nat.lt_of_le_of_lt (Nat.sub_le _ _) t.isLt)).2.1,
      fun y => (outsAt0 m c (t.val - 1) (Nat.lt_of_le_of_lt (Nat.sub_le _ _) t.isLt)).2.2 y + part m c t y) := by
  rw [outsAt0_B m c t h]
  unfold next
  frame_out
  exact congrArg₂ Prod.mk (rows_eq (blkX m c t) (blkD m c t) (blkE m c t) (blkG m c t)) (congrArg₂ Prod.mk rfl (acc_eq (blkX m c t) (blkD m c t) _))
theorem rows_at (t : Fin cfg0.N) : (outsAt0 m c t.val t.isLt).1 = rows m c t := by
  by_cases h : t.val = 0
  · rw [first_at m c t h]
  · rw [next_at m c t h]

/-- The head's block stays what the first point stored. -/
theorem head_at (n : ℕ) (h : n < cfg0.N) (h0 : 0 < cfg0.N) : (outsAt0 m c n h).2.1 = rows m c ⟨0, h0⟩ := by
  induction n with
  | zero => exact congrArg (fun o => o.2.1) (first_at m c ⟨0, h⟩ rfl)
  | succ n ih => exact (congrArg (fun o => o.2.1) (next_at m c ⟨n + 1, h⟩ (Nat.succ_ne_zero n))).trans (ih _)

/-- The last point's third block: the sum over the chunks. -/
theorem sum_at (t : Fin cfg0.N) (h : t.val % 33 = 32) (y : S1x1024.Idx) :
    (outsAt0 m c t.val t.isLt).2.2 y = ∑ s : Fin 33, (fun t => part m c t y) (⟨33 * (t.val / 33) + s.val, Pipeline.run_point_lt_of_flush t h s⟩ : Fin cfg0.N) := by
  have hN : ∀ t : Fin cfg0.N, t.val < 33 := fun t => lt_of_lt_of_eq t.isLt (show cfg0.N = 33 from N_0)
  have e := Pipeline.eq_sum_fin_of_reset_step_apply_of_flush (fun n h => (outsAt0 m c n h).2.2) 33 (fun _ => 0) (fun t => part m c t)
      (fun t h y => congrFun (congrArg (fun o => o.2.2) (first_at m c t (by have := hN t; omega))) y)
      (fun t h y => congrFun (congrArg (fun o => o.2.2) (next_at m c t (by omega))) y) t h y
  rw [zero_add] at e; exact e

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val - 1, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0] := (by decide +kernel : ∀ t : Fin grid0.N, _)
/-- The first point's block of the input's gradient is not written back. -/
theorem flush4 : ∀ t : Fin cfg0.N, (cfg0.win 4).flush t = true → t.val ≠ 0 := (by decide +kernel : ∀ t : Fin grid0.N, _)
theorem blkD_at (t : Fin cfg0.N) (e : Fin 2) (r : Fin 128) (k : Fin 1024) (i : Fin 4224) (hi : i.val = t.val * 128 + r.val) :
    blkD m c t (ix3 e r k) = m ((c : Thread nD τ).loc main_arg0) (ix3 e i k) := by
  have h0 := idx0 t
  show V m c main_arg0 ((win0_0.blk t).view.emb (ix3 e r k : S2x128x1024.Idx)) = _
  rw [V_main_arg0]
  refine congrArg _ (funext fun a => Fin.ext ?_)
  match a with
  | ⟨0, _⟩ => blk_simp [h0]
  | ⟨1, _⟩ => blk_simp [h0]; exact hi.symm
  | ⟨2, _⟩ => blk_simp [h0]
theorem blkX_at (t : Fin cfg0.N) (e : Fin 2) (r : Fin 128) (k : Fin 1024) (i : Fin 4224) (hi : i.val = t.val * 128 + r.val) :
    blkX m c t (ix3 e r k) = m ((c : Thread nD τ).loc main_arg1) (ix3 e i k) := by
  have h0 := idx1 t
  show V m c main_arg1 ((win0_1.blk t).view.emb (ix3 e r k : S2x128x1024.Idx)) = _
  rw [V_main_arg1]
  refine congrArg _ (funext fun a => Fin.ext ?_)
  match a with
  | ⟨0, _⟩ => blk_simp [h0]
  | ⟨1, _⟩ => blk_simp [h0]; exact hi.symm
  | ⟨2, _⟩ => blk_simp [h0]
theorem blkE_at (t : Fin cfg0.N) (e : Fin 2) (r : Fin 128) (k : Fin 1024) (i : Fin 4224) (hi : i.val = t.val * 128 + r.val) :
    blkE m c t (ix3 e r k) = m ((c : Thread nD τ).loc main_arg3) (ix3 e i k) := by
  have h0 := idx3 t
  show V m c main_arg3 ((win0_3.blk t).view.emb (ix3 e r k : S2x128x1024.Idx)) = _
  rw [V_main_arg3]
  refine congrArg _ (funext fun a => Fin.ext ?_)
  match a with
  | ⟨0, _⟩ => blk_simp [h0]
  | ⟨1, _⟩ => blk_simp [h0]; exact hi.symm
  | ⟨2, _⟩ => blk_simp [h0]
theorem blkG_eq (t : Fin cfg0.N) : blkG m c t = m ((c : Thread nD τ).loc main_arg2) := by
  have h0 := idx2 t
  funext y
  show V m c main_arg2 ((win0_2.blk t).view.emb (y : S1x1024.Idx)) = _
  rw [V_main_arg2]
  refine congrArg _ (funext fun a => Fin.ext ?_)
  match a with
  | ⟨0, _⟩ => blk_simp [h0]
  | ⟨1, _⟩ => blk_simp [h0]

/-- A chunk's row is a row of the arrays. -/
theorem rs_at (t : Fin cfg0.N) (e : Fin 2) (r : Fin 128) (i : Fin 4224) (hi : i.val = t.val * 128 + r.val) :
    rsAt (n := 128) (pl (blkX m c t) e) r = rsAt (n := 4224) (pl (n := 4224) (m ((c : Thread nD τ).loc main_arg1)) e) i := by
  have hx := fun k => blkX_at m c t e r k i hi
  show Ideal.rsqrt (Ideal.div (∑ k : Fin 1024, blkX m c t (ix3 e r k) * blkX m c t (ix3 e r k)) cN + cE) = _
  simp only [hx]
  rfl
/-- The whole gradient by the rows, and by the norm's weight. -/
def dxOf (e : Fin 2) (i : Fin 4224) (k : Fin 1024) : EReal :=
  Cert.Ff1BwdIdeal.dxAt (n := 4224) (pl (n := 4224) (m ((c : Thread nD τ).loc main_arg0)) e) (pl (n := 4224) (m ((c : Thread nD τ).loc main_arg1)) e) (m ((c : Thread nD τ).loc main_arg2)) (pl (n := 4224) (m ((c : Thread nD τ).loc main_arg3)) e) (ix2 i k)
def dwOf : FVec Ideal S1x1024 .f32 := fun y =>
  ∑ e : Fin 2, Cert.Ff1BwdIdeal.dgAt (n := 4224) (pl (n := 4224) (m ((c : Thread nD τ).loc main_arg0)) e) (pl (n := 4224) (m ((c : Thread nD τ).loc main_arg1)) e) y
theorem dx_at (t : Fin cfg0.N) (e : Fin 2) (r : Fin 128) (k : Fin 1024) (i : Fin 4224) (hi : i.val = t.val * 128 + r.val) : rows m c t (ix3 e r k) = dxOf m c e i k := by
  have hx := fun l => blkX_at m c t e r l i hi
  have hd := fun l => blkD_at m c t e r l i hi
  show rsAt (n := 128) (pl (blkX m c t) e) r * (blkD m c t (ix3 e r k) * blkG m c t (ix2 0 k) - blkX m c t (ix3 e r k) * (rsAt (n := 128) (pl (blkX m c t) e) r * rsAt (n := 128) (pl (blkX m c t) e) r)
    * Ideal.div (∑ l : Fin 1024, blkD m c t (ix3 e r l) * blkG m c t (ix2 0 l) * blkX m c t (ix3 e r l)) cN) + blkE m c t (ix3 e r k) = _
  rw [rs_at m c t e r i hi, blkG_eq, blkE_at m c t e r k i hi]
  simp only [hx, hd]
  rfl

/-- The two results of rows: the sequences' rows, and the 128 before them. -/
def gx : FVec Ideal S2x4096x1024 .f32 := fun y => dxOf m c (y 0) ⟨(y 1).val + 128, by have : (y 1).val < 4096 := (y 1).isLt; omega⟩ (y 2)
def head : FVec Ideal S2x128x1024 .f32 := fun y => dxOf m c (y 0) ⟨(y 1).val, by have : (y 1).val < 128 := (y 1).isLt; omega⟩ (y 2)

theorem final4 : (dats m 0 c).arrAt 4 cfg0.N = gx m c := by
  refine (dats m 0 c).arrAt_eq_of_covers 4 _ (by decide +kernel) fun t hf y => ?_
  have hi := idx4 t
  have ht := flush4 t hf
  rw [after0_4, rows_at m c t]
  have e0 : (((win0_4.blk t).view.emb y) 0 : Fin 2) = y 0 := Fin.ext (by blk_simp [hi])
  have e1 : ((((win0_4.blk t).view.emb y) 1 : Fin 4096)).val = (t.val - 1) * 128 + (y 1).val := by blk_simp [hi]
  have e2 : (((win0_4.blk t).view.emb y) 2 : Fin 1024) = y 2 := Fin.ext (by blk_simp [hi])
  refine (congrArg (rows m c t) (eq_ix3 (y : S2x128x1024.Idx))).trans ?_
  show _ = dxOf m c (((win0_4.blk t).view.emb y) 0 : Fin 2) _ (((win0_4.blk t).view.emb y) 2 : Fin 1024)
  rw [e0, e2]
  exact dx_at m c t (y 0) (y 1) (y 2) _ (by dsimp only; rw [e1]; omega)
theorem final5 : (dats m 0 c).arrAt 5 cfg0.N = head m c := by
  refine (dats m 0 c).arrAt_eq_of_covers 5 _ (by decide +kernel) fun t _ y => ?_
  have hi := idx5 t
  have h0 : 0 < cfg0.N := lt_of_le_of_lt (Nat.zero_le _) t.isLt
  rw [after0_5, head_at m c t.val t.isLt h0]
  have e0 : (((win0_5.blk t).view.emb y) 0 : Fin 2) = y 0 := Fin.ext (by blk_simp [hi])
  have e1 : ((((win0_5.blk t).view.emb y) 1 : Fin 128)).val = (y 1).val := by blk_simp [hi]
  have e2 : (((win0_5.blk t).view.emb y) 2 : Fin 1024) = y 2 := Fin.ext (by blk_simp [hi])
  refine (congrArg (rows m c ⟨0, h0⟩) (eq_ix3 (y : S2x128x1024.Idx))).trans ?_
  show _ = dxOf m c (((win0_5.blk t).view.emb y) 0 : Fin 2) _ (((win0_5.blk t).view.emb y) 2 : Fin 1024)
  rw [e0, e2]
  exact dx_at m c ⟨0, h0⟩ (y 0) (y 1) (y 2) _ (by dsimp only; rw [e1]; omega)
theorem final6 : (dats m 0 c).arrAt 6 cfg0.N = dwOf m c := by
  refine (dats m 0 c).arrAt_eq_of_covers 6 _ (by decide +kernel) fun t hf y => ?_
  have hm : t.val % 33 = 32 := (flush0_6 t).mp hf
  have hi := idx6 t
  rw [after0_6]
  show (outsAt0 m c t.val t.isLt).2.2 y = _
  rw [sum_at m c t hm]
  have ht : t.val / 33 = 0 := by have h : t.val < 33 := lt_of_lt_of_eq t.isLt (show cfg0.N = 33 from N_0); omega
  have e1 : (((win0_6.blk t).view.emb y) 1 : Fin 1024) = y 1 := Fin.ext (by blk_simp [hi])
  show _ = dwOf m c ((win0_6.blk t).view.emb y)
  have hs : ∀ e : Fin 2, ∑ s : Fin 33, Cert.Ff1BwdIdeal.dgAt (n := 128) (pl (blkD m c ⟨33 * (t.val / 33) + s.val, Pipeline.run_point_lt_of_flush t hm s⟩) e) (pl (blkX m c ⟨33 * (t.val / 33) + s.val, Pipeline.run_point_lt_of_flush t hm s⟩) e) y
      = Cert.Ff1BwdIdeal.dgAt (n := 4224) (pl (n := 4224) (m ((c : Thread nD τ).loc main_arg0)) e) (pl (n := 4224) (m ((c : Thread nD τ).loc main_arg1)) e) ((win0_6.blk t).view.emb y) := fun e => by
    simp only [Cert.Ff1BwdIdeal.dgAt]
    rw [e1]
    refine Fin.sum_mul_add_congr (S := 33) (n := 128) fun s r hl => ?_
    have h := (by dsimp only; omega : (⟨s.val * 128 + r.val, hl⟩ : Fin 4224).val = (⟨33 * (t.val / 33) + s.val, Pipeline.run_point_lt_of_flush t hm s⟩ : Fin cfg0.N).val * 128 + r.val)
    exact congrArg₂ (fun u v : EReal => u * v) (congrArg₂ (fun u v : EReal => u * v) (blkD_at m c _ e r (y 1) _ h) (blkX_at m c _ e r (y 1) _ h)) (rs_at m c _ e r _ h)
  unfold dwOf
  rw [Fin.sum_univ_two, ← hs 0, ← hs 1, ← Finset.sum_add_distrib]
  rfl

/-- The frame over the extended reals. -/
theorem frame (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := Hand.frame (F := Ideal) m ρ

theorem value : algebraic_InputGradIdeal_InputGradRefIdeal (hInputGradIdeal := Cert.InputGradIdeal.Gen.facts) (hInputGradRefIdeal := Cert.InputGradRefIdeal.Gen.facts) := by
  intro m ρ m' ρ' _ hagree
  refine ⟨fun c => (dats m 0 c).arrAt 4 cfg0.N, fun c => (dats m 0 c).arrAt 5 cfg0.N, fun c => (dats m 0 c).arrAt 6 cfg0.N, Cert.InputGradIdeal.Hand.run_blocks (F := Ideal) m ρ, ?_⟩
  refine (θ_run Cert.InputGradRefIdeal.defs _ _).mono (fun _ h c => ?_) (Cert.InputGradRefIdeal.Value.run (F := Ideal) m' ρ')
  obtain ⟨h0, h1, h2, hargs⟩ := h c
  obtain ⟨a0, a1, a2, a3⟩ := hagree c
  refine ⟨h0.trans ?_, h1.trans ?_, h2.trans ?_, hargs⟩
  · refine Eq.trans ?_ (final4 m c).symm
    refine (Cert.InputGradRefIdeal.Done.rows_eq _ _ _ _ : Cert.InputGradRefIdeal.Value.res_main_v39 m' c = _).trans ?_
    rw [a0, a1, a2, a3]
    rfl
  · refine Eq.trans ?_ (final5 m c).symm
    refine (Cert.InputGradRefIdeal.Done.head_eq _ _ _ _ : Cert.InputGradRefIdeal.Value.res_main_v40 m' c = _).trans ?_
    rw [a0, a1, a2, a3]
    rfl
  · refine Eq.trans ?_ (final6 m c).symm
    show Cert.InputGradRefIdeal.Done.dw _ _ (Cert.InputGradRefIdeal.Done.var _) = _
    rw [Cert.InputGradRefIdeal.Done.dw_eq, a0, a1]
    rfl
end Cert.InputGradIdeal.Done

namespace Cert.InputGrad.Done
open Cert.InputGrad

/-- The frame on the words. -/
theorem frame (m : (ℓ : Loc nD τ sig) → Buf (Elt Bits) ℓ) (ρ : Dev nD → PrngReg) : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := Hand.frame (F := Bits) m ρ
end Cert.InputGrad.Done
end
-- ==== Proof.ChipSum.lean ====
module
public import proofs.«01_k».proof.Defs
public import proofs.«01_k».proof.Proof.Gen.ChipSum.Frame
public import proofs.«01_k».proof.Proof.Gen.ChipSumIdeal.Value
public import proofs.«01_k».proof.Proof.Gen.ChipSumRefIdeal.Run
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
namespace Cert.ChipSumIdeal.Done
open Cert.ChipSumIdeal Cert.ChipSumIdeal.Gen

/-! ## The sum of the four blocks that landed -/

/-- The four blocks added one after the other. -/
def sumAt {n : ℕ} (a : FVec Ideal ⟨3, ![4, n, 1024]⟩ .bf16) : FVec Ideal ⟨2, ![n, 1024]⟩ .f32 := fun y =>
  a (ix3 0 (y 0) (y 1)) + a (ix3 1 (y 0) (y 1)) + a (ix3 2 (y 0) (y 1)) + a (ix3 3 (y 0) (y 1))

variable (m : (ℓ : Loc nD τ sig) → Buf (Elt Ideal) ℓ) (c : Dev nD)

/-- What one grid point leaves: the sum of its four blocks. -/
theorem out_at (x : FVec Ideal S4x256x1024 .bf16) : out0_1 (F := Ideal) x = sumAt (n := 256) x := by
  funext y
  unfold out0_1
  refine (Value.canon1_eq _ _ _ _ y).trans ?_
  show ((x _ + x _ : EReal) + x _) + x _ = sumAt x y
  unfold sumAt
  refine congrArg₂ (fun u v : EReal => u + v) (congrArg₂ (fun u v : EReal => u + v) (congrArg₂ (fun u v : EReal => u + v)
    (congrArg x (funext fun a => Fin.ext ?_)) (congrArg x (funext fun a => Fin.ext ?_))) (congrArg x (funext fun a => Fin.ext ?_)))
    (congrArg x (funext fun a => Fin.ext ?_))
  all_goals
    match a with
    | ⟨0, _⟩ => simp
    | ⟨1, _⟩ => simp
    | ⟨2, _⟩ => simp

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)

theorem blk_at (t : Fin cfg0.N) (s : Fin 4) (r : Fin 256) (k k' : Fin 1024) (i : Fin 1024) (hi : i.val = t.val * 256 + r.val) (hk : k'.val = k.val) :
    (iblk m c 0 t : FVec Ideal S4x256x1024 .bf16) (ix3 s r k) = m ((c : Thread nD τ).loc main_arg0) (ix3 s i k') := by
  have h0 := idx0 t
  show V m c main_arg0 ((win0_0.blk t).view.emb (ix3 s r k : S4x256x1024.Idx)) = _
  rw [V_main_arg0]
  refine congrArg _ (funext fun a => Fin.ext ?_)
  match a with
  | ⟨0, _⟩ => blk_simp [h0]
  | ⟨1, _⟩ => blk_simp [h0]; exact hi.symm
  | ⟨2, _⟩ => blk_simp [h0]; exact hk.symm

/-- The whole array after the last grid point. -/
theorem final : (dats m 0 c).arrAt 1 cfg0.N = sumAt (n := 1024) (m ((c : Thread nD τ).loc main_arg0)) := by
  refine (dats m 0 c).arrAt_eq_of_covers 1 _ (by decide +kernel) fun t _ y => ?_
  have hi := idx1 t
  rw [after0_1, out_at]
  show sumAt (n := 256) (iblk m c 0 t) (y : S256x1024.Idx) = _
  have e0 : ((((win0_1.blk t).view.emb y) 0 : Fin 1024)).val = t.val * 256 + (y 0).val := by blk_simp [hi]
  have e1 : ((((win0_1.blk t).view.emb y) 1 : Fin 1024)).val = (y 1).val := by blk_simp [hi]
  exact congrArg₂ (fun u v : EReal => u + v) (congrArg₂ (fun u v : EReal => u + v) (congrArg₂ (fun u v : EReal => u + v)
    (blk_at m c t 0 (y 0) (y 1) _ _ e0 e1) (blk_at m c t 1 (y 0) (y 1) _ _ e0 e1)) (blk_at m c t 2 (y 0) (y 1) _ _ e0 e1))
    (blk_at m c t 3 (y 0) (y 1) _ _ e0 e1)

/-- The call adds the four blocks one after the other; the reference sums the leading axis. -/
theorem value : algebraic_ChipSumIdeal_ChipSumRefIdeal (hChipSumIdeal := Cert.ChipSumIdeal.Gen.facts) (hChipSumRefIdeal := Cert.ChipSumRefIdeal.Gen.facts) := by
  intro m ρ m' ρ' _ hagree
  refine ⟨fun c => (dats m 0 c).arrAt 1 cfg0.N, Value.run_blocks (F := Ideal) m ρ, ?_⟩
  refine (θ_run Cert.ChipSumRefIdeal.defs _ _).mono (fun _ h c => ?_) (Cert.ChipSumRefIdeal.Value.run (F := Ideal) m' ρ')
  obtain ⟨h0, hargs⟩ := h c
  refine ⟨h0.trans ?_, hargs⟩
  show _ = (dats m 0 c).arrAt 1 cfg0.N
  rw [final, hagree c]
  generalize m ((c.tc : Thread nD τ).loc main_arg0) = A
  clear h0 hargs h hagree
  funext y
  idx_vars y
  pointwise [sumAt]
  exact Fin.sum_univ_four _
end Cert.ChipSumIdeal.Done
end
-- ==== Proof.lean ====
module

public import proofs.«01_k».proof.Proof.Finite
public import proofs.«01_k».proof.Proof.Ff2Bwd
public import proofs.«01_k».proof.Proof.Ff2Dw
public import proofs.«01_k».proof.Proof.Ff1Dw
public import proofs.«01_k».proof.Proof.Ff1Bwd
public import proofs.«01_k».proof.Proof.OutBwd
public import proofs.«01_k».proof.Proof.OutDw
public import proofs.«01_k».proof.Proof.InDw
public import proofs.«01_k».proof.Proof.Ff1
public import proofs.«01_k».proof.Proof.OutProj
public import proofs.«01_k».proof.Proof.ProjXbc
public import proofs.«01_k».proof.Proof.ProjUzdt
public import proofs.«01_k».proof.Proof.PoolFwd
public import proofs.«01_k».proof.Proof.Adamw
public import proofs.«01_k».proof.Proof.InputGrad
public import proofs.«01_k».proof.Proof.ChipSum
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem
open Idealize.ShloMosaic.TcCoe

theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

open Cert.KernelIdeal.PoolBwd Cert.ReferenceIdeal.PoolBwd in
/-- Both programs leave the gradients of the pooling: by the input, by the weights, by the scale. -/
theorem algebraic : Cert.algebraic_KernelIdeal_ReferenceIdeal_pre_finite := by
  intro m ρ m' ρ' hpre hagree
  have hreal := fun c => Cert.Finite.reals _ _ _ _ (hpre c)
  have hK : ∀ c : Dev Cert.KernelIdeal.nD, Holds m c
      (realA (m ((c.tc : Thread Cert.KernelIdeal.nD Cert.KernelIdeal.τ).loc Cert.KernelIdeal.main_arg0)))
      (realA (m ((c.tc : Thread Cert.KernelIdeal.nD Cert.KernelIdeal.τ).loc Cert.KernelIdeal.main_arg1)))
      (realW (m ((c.tc : Thread Cert.KernelIdeal.nD Cert.KernelIdeal.τ).loc Cert.KernelIdeal.main_arg2)))
      (realS (m ((c.tc : Thread Cert.KernelIdeal.nD Cert.KernelIdeal.τ).loc Cert.KernelIdeal.main_arg3))) := fun c =>
    ⟨toA_realA _ (hreal c).1, toA_realA _ (hreal c).2.1, toW_realW _ (hreal c).2.2.1, toS_realS _ (hreal c).2.2.2⟩
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks (F := Ideal) m ρ, ?_⟩
  refine (θ_run Cert.ReferenceIdeal.defs _ _).mono (fun _ h c => ?_) (Cert.ReferenceIdeal.Value.run (F := Ideal) m' ρ')
  have hG := Given.mk (V0 := StableHlo.launchContents m' c)
    ((hagree c).1.trans (hK c).u) ((hagree c).2.1.trans (hK c).d) ((hagree c).2.2.1.trans (hK c).w) ((hagree c).2.2.2.trans (hK c).s)
  obtain ⟨h0, h1, h2, hargs⟩ := h c
  exact ⟨h0.trans ((input_eq hG).trans (result_du (hK c)).symm), h1.trans ((weight_eq hG).trans (result_dw (hK c)).symm),
    h2.trans ((scale_eq hG).trans (result_dscale (hK c)).symm), hargs⟩

/-! ## The calls that stand alone -/

theorem frame_Ff2Bwd : Cert.quiescent_Ff2Bwd := fun m ρ _ => Cert.Ff2Bwd.Gen.frame m ρ
theorem frame_Ff2BwdIdeal : Cert.quiescent_Ff2BwdIdeal := fun m ρ _ => Cert.Ff2BwdIdeal.Gen.frame m ρ
theorem frame_Ff2BwdRefIdeal : Cert.quiescent_Ff2BwdRefIdeal := fun m ρ _ =>
  (θ_run Cert.Ff2BwdRefIdeal.defs _ _).mono (fun r h => ⟨fun c => (h c).2,
      Idealize.ShloMosaic.sem_eq_zero_of_no_sems (by decide) r.2⟩)
    (Cert.Ff2BwdRefIdeal.Value.run (F := Ideal) m ρ)
theorem frame_Ff2Dw : Cert.quiescent_Ff2Dw := fun m ρ _ => Cert.Ff2Dw.Gen.frame m ρ
theorem frame_Ff2DwIdeal : Cert.quiescent_Ff2DwIdeal := fun m ρ _ => Cert.Ff2DwIdeal.Gen.frame m ρ
theorem frame_Ff2DwRefIdeal : Cert.quiescent_Ff2DwRefIdeal := fun m ρ _ =>
  (θ_run Cert.Ff2DwRefIdeal.defs _ _).mono (fun r h => ⟨fun c => (h c).2,
      Idealize.ShloMosaic.sem_eq_zero_of_no_sems (by decide) r.2⟩)
    (Cert.Ff2DwRefIdeal.Value.run (F := Ideal) m ρ)
theorem frame_Ff1Dw : Cert.quiescent_Ff1Dw := fun m ρ _ => Cert.Ff1Dw.Gen.frame m ρ
theorem frame_Ff1DwIdeal : Cert.quiescent_Ff1DwIdeal := fun m ρ _ => Cert.Ff1DwIdeal.Gen.frame m ρ
theorem frame_Ff1DwRefIdeal : Cert.quiescent_Ff1DwRefIdeal := fun m ρ _ =>
  (θ_run Cert.Ff1DwRefIdeal.defs _ _).mono (fun r h => ⟨fun c => (h c).2,
      Idealize.ShloMosaic.sem_eq_zero_of_no_sems (by decide) r.2⟩)
    (Cert.Ff1DwRefIdeal.Value.run (F := Ideal) m ρ)
theorem frame_Ff1Bwd : Cert.quiescent_Ff1Bwd := fun m ρ _ => Cert.Ff1Bwd.Gen.frame m ρ
theorem frame_Ff1BwdIdeal : Cert.quiescent_Ff1BwdIdeal := fun m ρ _ => Cert.Ff1BwdIdeal.Gen.frame m ρ
theorem frame_Ff1BwdRefIdeal : Cert.quiescent_Ff1BwdRefIdeal := fun m ρ _ =>
  (θ_run Cert.Ff1BwdRefIdeal.defs _ _).mono (fun r h => ⟨fun c => (h c).2.2.2,
      Idealize.ShloMosaic.sem_eq_zero_of_no_sems (by decide) r.2⟩)
    (Cert.Ff1BwdRefIdeal.Value.run (F := Ideal) m ρ)
theorem frame_OutBwd : Cert.quiescent_OutBwd := fun m ρ _ => Cert.OutBwd.Gen.frame m ρ
theorem frame_OutBwdIdeal : Cert.quiescent_OutBwdIdeal := fun m ρ _ => Cert.OutBwdIdeal.Gen.frame m ρ
theorem frame_OutBwdRefIdeal : Cert.quiescent_OutBwdRefIdeal := fun m ρ _ =>
  (θ_run Cert.OutBwdRefIdeal.defs _ _).mono (fun r h => ⟨fun c => (h c).2.2,
      Idealize.ShloMosaic.sem_eq_zero_of_no_sems (by decide) r.2⟩)
    (Cert.OutBwdRefIdeal.Value.run (F := Ideal) m ρ)
theorem frame_OutDw : Cert.quiescent_OutDw := fun m ρ _ => Cert.OutDw.Gen.frame m ρ
theorem frame_OutDwIdeal : Cert.quiescent_OutDwIdeal := fun m ρ _ => Cert.OutDwIdeal.Gen.frame m ρ
theorem frame_OutDwRefIdeal : Cert.quiescent_OutDwRefIdeal := fun m ρ _ =>
  (θ_run Cert.OutDwRefIdeal.defs _ _).mono (fun r h => ⟨fun c => (h c).2,
      Idealize.ShloMosaic.sem_eq_zero_of_no_sems (by decide) r.2⟩)
    (Cert.OutDwRefIdeal.Value.run (F := Ideal) m ρ)
theorem frame_InDw : Cert.quiescent_InDw := fun m ρ _ => Cert.InDw.Gen.frame m ρ
theorem frame_InDwIdeal : Cert.quiescent_InDwIdeal := fun m ρ _ => Cert.InDwIdeal.Gen.frame m ρ
theorem frame_InDwRefIdeal : Cert.quiescent_InDwRefIdeal := fun m ρ _ =>
  (θ_run Cert.InDwRefIdeal.defs _ _).mono (fun r h => ⟨fun c => (h c).2,
      Idealize.ShloMosaic.sem_eq_zero_of_no_sems (by decide) r.2⟩)
    (Cert.InDwRefIdeal.Value.run (F := Ideal) m ρ)
theorem frame_Ff1 : Cert.quiescent_Ff1 := fun m ρ _ => Cert.Ff1.Gen.frame m ρ
theorem frame_Ff1Ideal : Cert.quiescent_Ff1Ideal := fun m ρ _ => Cert.Ff1Ideal.Gen.frame m ρ
theorem frame_Ff1RefIdeal : Cert.quiescent_Ff1RefIdeal := fun m ρ _ =>
  (θ_run Cert.Ff1RefIdeal.defs _ _).mono (fun r h => ⟨fun c => (h c).2,
      Idealize.ShloMosaic.sem_eq_zero_of_no_sems (by decide) r.2⟩)
    (Cert.Ff1RefIdeal.Value.run (F := Ideal) m ρ)
theorem frame_OutProj : Cert.quiescent_OutProj := fun m ρ _ => Cert.OutProj.Gen.frame m ρ
theorem frame_OutProjIdeal : Cert.quiescent_OutProjIdeal := fun m ρ _ => Cert.OutProjIdeal.Gen.frame m ρ
theorem frame_OutProjRefIdeal : Cert.quiescent_OutProjRefIdeal := fun m ρ _ =>
  (θ_run Cert.OutProjRefIdeal.defs _ _).mono (fun r h => ⟨fun c => (h c).2.2,
      Idealize.ShloMosaic.sem_eq_zero_of_no_sems (by decide) r.2⟩)
    (Cert.OutProjRefIdeal.Value.run (F := Ideal) m ρ)
theorem frame_ProjXbc : Cert.quiescent_ProjXbc := fun m ρ _ => Cert.ProjXbc.Gen.frame m ρ
theorem frame_ProjXbcIdeal : Cert.quiescent_ProjXbcIdeal := fun m ρ _ => Cert.ProjXbcIdeal.Gen.frame m ρ
theorem frame_ProjXbcRefIdeal : Cert.quiescent_ProjXbcRefIdeal := fun m ρ _ =>
  (θ_run Cert.ProjXbcRefIdeal.defs _ _).mono (fun r h => ⟨fun c => (h c).2.2,
      Idealize.ShloMosaic.sem_eq_zero_of_no_sems (by decide) r.2⟩)
    (Cert.ProjXbcRefIdeal.Value.run (F := Ideal) m ρ)
theorem frame_ProjUzdt : Cert.quiescent_ProjUzdt := fun m ρ _ => Cert.ProjUzdt.Gen.frame m ρ
theorem frame_ProjUzdtIdeal : Cert.quiescent_ProjUzdtIdeal := fun m ρ _ => Cert.ProjUzdtIdeal.Gen.frame m ρ
theorem frame_ProjUzdtRefIdeal : Cert.quiescent_ProjUzdtRefIdeal := fun m ρ _ =>
  (θ_run Cert.ProjUzdtRefIdeal.defs _ _).mono (fun r h => ⟨fun c => (h c).2.2.2.2.2.2,
      Idealize.ShloMosaic.sem_eq_zero_of_no_sems (by decide) r.2⟩)
    (Cert.ProjUzdtRefIdeal.Value.run (F := Ideal) m ρ)
theorem frame_PoolFwd : Cert.quiescent_PoolFwd := fun m ρ _ => Cert.PoolFwd.Gen.frame m ρ
theorem frame_PoolFwdIdeal : Cert.quiescent_PoolFwdIdeal := fun m ρ _ => Cert.PoolFwdIdeal.Gen.frame m ρ
theorem frame_PoolFwdRefIdeal : Cert.quiescent_PoolFwdRefIdeal := fun m ρ _ =>
  (θ_run Cert.PoolFwdRefIdeal.defs _ _).mono (fun r h => ⟨fun c => (h c).2,
      Idealize.ShloMosaic.sem_eq_zero_of_no_sems (by decide) r.2⟩)
    (Cert.PoolFwdRefIdeal.Value.run (F := Ideal) m ρ)
theorem frame_InputGrad : Cert.quiescent_InputGrad := fun m ρ _ => Cert.InputGrad.Done.frame m ρ
theorem frame_InputGradIdeal : Cert.quiescent_InputGradIdeal := fun m ρ _ => Cert.InputGradIdeal.Done.frame m ρ
theorem frame_InputGradRefIdeal : Cert.quiescent_InputGradRefIdeal := fun m ρ _ =>
  (θ_run Cert.InputGradRefIdeal.defs _ _).mono (fun r h => ⟨fun c => (h c).2.2.2,
      Idealize.ShloMosaic.sem_eq_zero_of_no_sems (by decide) r.2⟩)
    (Cert.InputGradRefIdeal.Value.run (F := Ideal) m ρ)
theorem frame_ChipSum : Cert.quiescent_ChipSum := fun m ρ _ => Cert.ChipSum.Gen.frame m ρ
theorem frame_ChipSumIdeal : Cert.quiescent_ChipSumIdeal := fun m ρ _ => Cert.ChipSumIdeal.Gen.frame m ρ
theorem frame_ChipSumRefIdeal : Cert.quiescent_ChipSumRefIdeal := fun m ρ _ =>
  (θ_run Cert.ChipSumRefIdeal.defs _ _).mono (fun r h => ⟨fun c => (h c).2,
      Idealize.ShloMosaic.sem_eq_zero_of_no_sems (by decide) r.2⟩)
    (Cert.ChipSumRefIdeal.Value.run (F := Ideal) m ρ)
theorem frame_Adamw : Cert.quiescent_Adamw := fun m ρ _ => Cert.Adamw.Gen.frame m ρ
theorem frame_AdamwIdeal : Cert.quiescent_AdamwIdeal := fun m ρ _ => Cert.AdamwIdeal.Gen.frame m ρ
theorem frame_AdamwRefIdeal : Cert.quiescent_AdamwRefIdeal := fun m ρ _ =>
  (θ_run Cert.AdamwRefIdeal.defs _ _).mono (fun r h => ⟨fun c => (h c).2.2.2.2,
      Idealize.ShloMosaic.sem_eq_zero_of_no_sems (by decide) r.2⟩)
    (Cert.AdamwRefIdeal.Value.run (F := Ideal) m ρ)

theorem claim : Cert.Claim := ⟨Cert.Kernel.Gen.facts,
  Cert.KernelIdeal.Gen.facts,
  Cert.ReferenceIdeal.Gen.facts,
  Cert.Ff2Bwd.Gen.facts,
  Cert.Ff2BwdIdeal.Gen.facts,
  Cert.Ff2BwdRefIdeal.Gen.facts,
  Cert.Ff2Dw.Gen.facts,
  Cert.Ff2DwIdeal.Gen.facts,
  Cert.Ff2DwRefIdeal.Gen.facts,
  Cert.Ff1Dw.Gen.facts,
  Cert.Ff1DwIdeal.Gen.facts,
  Cert.Ff1DwRefIdeal.Gen.facts,
  Cert.Ff1Bwd.Gen.facts,
  Cert.Ff1BwdIdeal.Gen.facts,
  Cert.Ff1BwdRefIdeal.Gen.facts,
  Cert.OutBwd.Gen.facts,
  Cert.OutBwdIdeal.Gen.facts,
  Cert.OutBwdRefIdeal.Gen.facts,
  Cert.OutDw.Gen.facts,
  Cert.OutDwIdeal.Gen.facts,
  Cert.OutDwRefIdeal.Gen.facts,
  Cert.InDw.Gen.facts,
  Cert.InDwIdeal.Gen.facts,
  Cert.InDwRefIdeal.Gen.facts,
  Cert.Ff1.Gen.facts,
  Cert.Ff1Ideal.Gen.facts,
  Cert.Ff1RefIdeal.Gen.facts,
  Cert.OutProj.Gen.facts,
  Cert.OutProjIdeal.Gen.facts,
  Cert.OutProjRefIdeal.Gen.facts,
  Cert.ProjXbc.Gen.facts,
  Cert.ProjXbcIdeal.Gen.facts,
  Cert.ProjXbcRefIdeal.Gen.facts,
  Cert.ProjUzdt.Gen.facts,
  Cert.ProjUzdtIdeal.Gen.facts,
  Cert.ProjUzdtRefIdeal.Gen.facts,
  Cert.PoolFwd.Gen.facts,
  Cert.PoolFwdIdeal.Gen.facts,
  Cert.PoolFwdRefIdeal.Gen.facts,
  Cert.InputGrad.Gen.facts,
  Cert.InputGradIdeal.Gen.facts,
  Cert.InputGradRefIdeal.Gen.facts,
  Cert.ChipSum.Gen.facts,
  Cert.ChipSumIdeal.Gen.facts,
  Cert.ChipSumRefIdeal.Gen.facts,
  Cert.Adamw.Gen.facts,
  Cert.AdamwIdeal.Gen.facts,
  Cert.AdamwRefIdeal.Gen.facts,
  Cert.Pre_finite.Gen.facts,
  Cert.Pre_finite_rows.Gen.facts,
  frame_kernel,
  frame_ideal,
  fun m ρ _ => frame_ideal m ρ trivial,
  frame_reference,
  fun m ρ _ => frame_reference m ρ trivial,
  frame_Ff2Bwd,
  frame_Ff2BwdIdeal,
  frame_Ff2BwdRefIdeal,
  frame_Ff2Dw,
  frame_Ff2DwIdeal,
  frame_Ff2DwRefIdeal,
  frame_Ff1Dw,
  frame_Ff1DwIdeal,
  frame_Ff1DwRefIdeal,
  frame_Ff1Bwd,
  frame_Ff1BwdIdeal,
  frame_Ff1BwdRefIdeal,
  frame_OutBwd,
  frame_OutBwdIdeal,
  frame_OutBwdRefIdeal,
  frame_OutDw,
  frame_OutDwIdeal,
  frame_OutDwRefIdeal,
  frame_InDw,
  frame_InDwIdeal,
  frame_InDwRefIdeal,
  frame_Ff1,
  frame_Ff1Ideal,
  frame_Ff1RefIdeal,
  frame_OutProj,
  frame_OutProjIdeal,
  frame_OutProjRefIdeal,
  frame_ProjXbc,
  frame_ProjXbcIdeal,
  frame_ProjXbcRefIdeal,
  frame_ProjUzdt,
  frame_ProjUzdtIdeal,
  frame_ProjUzdtRefIdeal,
  frame_PoolFwd,
  frame_PoolFwdIdeal,
  fun m ρ _ => frame_PoolFwdIdeal m ρ trivial,
  frame_PoolFwdRefIdeal,
  fun m ρ _ => frame_PoolFwdRefIdeal m ρ trivial,
  frame_InputGrad,
  frame_InputGradIdeal,
  frame_InputGradRefIdeal,
  frame_ChipSum,
  frame_ChipSumIdeal,
  frame_ChipSumRefIdeal,
  frame_Adamw,
  frame_AdamwIdeal,
  frame_AdamwRefIdeal,
  trivial,
  algebraic,
  trivial,
  Cert.Ff2BwdIdeal.Done.value,
  trivial,
  Cert.Ff2DwIdeal.Done.value,
  trivial,
  Cert.Ff1DwIdeal.Done.value,
  trivial,
  Cert.Ff1BwdIdeal.Done.value,
  trivial,
  Cert.OutBwdIdeal.Done.value,
  trivial,
  Cert.OutDwIdeal.Done.value,
  trivial,
  Cert.InDwIdeal.Done.value,
  trivial,
  Cert.Ff1Ideal.Done.value,
  trivial,
  Cert.OutProjIdeal.Done.value,
  trivial,
  Cert.ProjXbcIdeal.Done.value,
  trivial,
  Cert.ProjUzdtIdeal.Done.value,
  trivial,
  Cert.PoolFwdIdeal.Done.value,
  trivial,
  Cert.InputGradIdeal.Done.value,
  trivial,
  Cert.ChipSumIdeal.Done.value,
  trivial,
  Cert.AdamwIdeal.Done.value⟩

end Cert.Proof

end
